-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_rows_in_table_finite [hPre_rows_in_table_finite : Cert.Pre_rows_in_table_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_ReferenceIdeal_rows_in_table_finite [hPre_rows_in_table_finite : Cert.Pre_rows_in_table_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_rows_in_table_finite [hKernelIdeal : Cert.KernelIdeal.Facts] [hPre_rows_in_table_finite : Cert.Pre_rows_in_table_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_table_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_rows_in_table_finite [hReferenceIdeal : Cert.ReferenceIdeal.Facts] [hPre_rows_in_table_finite : Cert.Pre_rows_in_table_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_rows_in_table_finite [hKernelIdeal : Cert.KernelIdeal.Facts] [hReferenceIdeal : Cert.ReferenceIdeal.Facts] [hPre_rows_in_table_finite : Cert.Pre_rows_in_table_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_table_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v52_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v155) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_rows_in_table : Cert.Pre_rows_in_table.Facts) (hPre_rows_in_table_finite : Cert.Pre_rows_in_table_finite.Facts),
    quiescent_Kernel (hKernel := hKernel) (hPre_rows_in_table := hPre_rows_in_table)
    ∧ quiescent_KernelIdeal (hKernelIdeal := hKernelIdeal) (hPre_rows_in_table := hPre_rows_in_table)
    ∧ quiescent_KernelIdeal_pre_rows_in_table_finite (hKernelIdeal := hKernelIdeal) (hPre_rows_in_table_finite := hPre_rows_in_table_finite)
    ∧ quiescent_ReferenceIdeal (hReferenceIdeal := hReferenceIdeal) (hPre_rows_in_table := hPre_rows_in_table)
    ∧ quiescent_ReferenceIdeal_pre_rows_in_table_finite (hReferenceIdeal := hReferenceIdeal) (hPre_rows_in_table_finite := hPre_rows_in_table_finite)
    ∧ preserves_Kernel_KernelIdeal
    ∧ algebraic_KernelIdeal_ReferenceIdeal_pre_rows_in_table_finite (hKernelIdeal := hKernelIdeal) (hReferenceIdeal := hReferenceIdeal) (hPre_rows_in_table_finite := hPre_rows_in_table_finite)
-- ==== Pre_rows_in_table.lean ====
abbrev S2x3x4096 : Shape := ⟨3, ![2, 3, 4096]⟩
abbrev S2x64x4096 : Shape := ⟨3, ![2, 64, 4096]⟩
abbrev S2x4096x16 : Shape := ⟨3, ![2, 4096, 16]⟩
abbrev S128x131 : Shape := ⟨2, ![128, 131]⟩
abbrev S128 : Shape := ⟨1, ![128]⟩
abbrev S128x128 : Shape := ⟨2, ![128, 128]⟩
abbrev S128x259 : Shape := ⟨2, ![128, 259]⟩
abbrev S_ : Shape := ⟨0, ![]⟩

class Facts : Prop where
  bcast_S_S2x4096x16 : S_.BroadcastsInDim S2x4096x16 (![] : Fin 0 → Fin S2x4096x16.rank)
  reducesTo_S2x4096x16_S_d0_1_2 : S2x4096x16.ReducesTo [0, 1, 2] S_
  h_S_ : 0 < S_.numel

variable [Facts]

def fn {F : FTy → Type} [FloatOps F] (main_arg0 : FVec F S2x3x4096 .f32) (main_arg1 : FVec F S2x3x4096 .f32) (main_arg2 : FVec F S2x64x4096 .f32) (main_arg3 : FVec F S2x64x4096 .f32) (main_arg4 : IVec S2x4096x16 32) (main_arg5 : IVec S2x4096x16 32) (main_arg6 : FVec F S128x131 .f32) (main_arg7 : FVec F S128 .f32) (main_arg8 : FVec F S128x128 .f32) (main_arg9 : FVec F S128 .f32) (main_arg10 : FVec F S128x128 .f32) (main_arg11 : FVec F S128 .f32) (main_arg12 : FVec F S128x259 .f32) (main_arg13 : FVec F S128 .f32) (main_arg14 : FVec F S128x128 .f32) (main_arg15 : FVec F S128 .f32) : IVec S_ 1 :=
  let main_c : IVec S_ 32 := constantI S_ 32 0#32
  let main_v0 : IVec S2x4096x16 32 := broadcastInDim S2x4096x16 ![] bcast_S_S2x4096x16 main_c
  let main_v1 : IVec S2x4096x16 1 := cmpi .sge main_arg4 main_v0
  let main_c_0 : IVec S_ 32 := constantI S_ 32 8192#32
  let main_v2 : IVec S2x4096x16 32 := broadcastInDim S2x4096x16 ![] bcast_S_S2x4096x16 main_c_0
  let main_v3 : IVec S2x4096x16 1 := cmpi .slt main_arg4 main_v2
  let main_v4 : IVec S2x4096x16 1 := andi main_v1 main_v3
  let main_c_1 : IVec S_ 1 := constantI S_ 1 1#1
  let main_v5 : IVec S_ 1 := (fun x v => Host.reduce IntOp.andi x v reducesTo_S2x4096x16_S_d0_1_2 h_S_) main_v4 main_c_1
  let main_c_2 : IVec S_ 32 := constantI S_ 32 0#32
  let main_v6 : IVec S2x4096x16 32 := broadcastInDim S2x4096x16 ![] bcast_S_S2x4096x16 main_c_2
  let main_v7 : IVec S2x4096x16 1 := cmpi .sge main_arg5 main_v6
  let main_c_3 : IVec S_ 32 := constantI S_ 32 8192#32
  let main_v8 : IVec S2x4096x16 32 := broadcastInDim S2x4096x16 ![] bcast_S_S2x4096x16 main_c_3
  let main_v9 : IVec S2x4096x16 1 := cmpi .slt main_arg5 main_v8
  let main_v10 : IVec S2x4096x16 1 := andi main_v7 main_v9
  let main_c_4 : IVec S_ 1 := constantI S_ 1 1#1
  let main_v11 : IVec S_ 1 := (fun x v => Host.reduce IntOp.andi x v reducesTo_S2x4096x16_S_d0_1_2 h_S_) main_v10 main_c_4
  let main_v12 : IVec S_ 1 := andi main_v5 main_v11
  main_v12
-- ==== Pre_rows_in_table_finite.lean ====
abbrev S2x3x4096 : Shape := ⟨3, ![2, 3, 4096]⟩
abbrev S2x64x4096 : Shape := ⟨3, ![2, 64, 4096]⟩
abbrev S2x4096x16 : Shape := ⟨3, ![2, 4096, 16]⟩
abbrev S128x131 : Shape := ⟨2, ![128, 131]⟩
abbrev S128 : Shape := ⟨1, ![128]⟩
abbrev S128x128 : Shape := ⟨2, ![128, 128]⟩
abbrev S128x259 : Shape := ⟨2, ![128, 259]⟩
abbrev S_ : Shape := ⟨0, ![]⟩
abbrev S128x3 : Shape := ⟨2, ![128, 3]⟩

class Facts : Prop where
  bcast_S_S2x4096x16 : S_.BroadcastsInDim S2x4096x16 (![] : Fin 0 → Fin S2x4096x16.rank)
  reducesTo_S2x4096x16_S_d0_1_2 : S2x4096x16.ReducesTo [0, 1, 2] S_
  h_S_ : 0 < S_.numel
  bcast_S_S2x3x4096 : S_.BroadcastsInDim S2x3x4096 (![] : Fin 0 → Fin S2x3x4096.rank)
  reducesTo_S2x3x4096_S_d0_1_2 : S2x3x4096.ReducesTo [0, 1, 2] S_
  slices_S128x131_S128x3_0_128 : S128x131.Slices ![0, 128] S128x3
  bcast_S_S128x3 : S_.BroadcastsInDim S128x3 (![] : Fin 0 → Fin S128x3.rank)
  reducesTo_S128x3_S_d0_1 : S128x3.ReducesTo [0, 1] S_
  slices_S128x259_S128x3_0_256 : S128x259.Slices ![0, 256] S128x3

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg1 : FVec F S2x3x4096 .f32) (main_arg6 : FVec F S128x131 .f32) (main_arg12 : FVec F S128x259 .f32) (main_v12 : IVec S_ 1) (main_v15 : IVec S2x3x4096 1) (main_c_5 : IVec S_ 1) : IVec S_ 1 :=
  let main_v16 : IVec S_ 1 := (fun x v => Host.reduce IntOp.andi x v reducesTo_S2x3x4096_S_d0_1_2 h_S_) main_v15 main_c_5
  let main_v17 : IVec S_ 1 := andi main_v12 main_v16
  let main_v18 : FVec F S2x3x4096 .f32 := Host.absf main_arg1
  let main_cst_6 : FVec F S_ .f32 := constant S_ .f32 0x7F800000#32
  let main_v19 : FVec F S2x3x4096 .f32 := broadcastInDim S2x3x4096 ![] bcast_S_S2x3x4096 main_cst_6
  let main_v20 : IVec S2x3x4096 1 := cmpf .olt main_v18 main_v19
  let main_c_7 : IVec S_ 1 := constantI S_ 1 1#1
  let main_v21 : IVec S_ 1 := (fun x v => Host.reduce IntOp.andi x v reducesTo_S2x3x4096_S_d0_1_2 h_S_) main_v20 main_c_7
  let main_v22 : IVec S_ 1 := andi main_v17 main_v21
  let main_v23 : FVec F S128x3 .f32 := (extractStridedSlice S128x3 ![0, 128] · slices_S128x131_S128x3_0_128) main_arg6
  let main_v24 : FVec F S128x3 .f32 := Host.absf main_v23
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v22 main_v27
  let main_v29 : FVec F S128x3 .f32 := (extractStridedSlice S128x3 ![0, 256] · slices_S128x259_S128x3_0_256) main_arg12
  let main_v30 : FVec F S128x3 .f32 := Host.absf main_v29
  let main_cst_10 : FVec F S_ .f32 := constant S_ .f32 0x7F800000#32
  let main_v31 : FVec F S128x3 .f32 := broadcastInDim S128x3 ![] bcast_S_S128x3 main_cst_10
  let main_v32 : IVec S128x3 1 := cmpf .olt main_v30 main_v31
  let main_c_11 : IVec S_ 1 := constantI S_ 1 1#1
  let main_v33 : IVec S_ 1 := (fun x v => Host.reduce IntOp.andi x v reducesTo_S128x3_S_d0_1 h_S_) main_v32 main_c_11
  fn_part2 (F := F) main_v28 main_v33

def fn {F : FTy → Type} [FloatOps F] (main_arg0 : FVec F S2x3x4096 .f32) (main_arg1 : FVec F S2x3x4096 .f32) (main_arg2 : FVec F S2x64x4096 .f32) (main_arg3 : FVec F S2x64x4096 .f32) (main_arg4 : IVec S2x4096x16 32) (main_arg5 : IVec S2x4096x16 32) (main_arg6 : FVec F S128x131 .f32) (main_arg7 : FVec F S128 .f32) (main_arg8 : FVec F S128x128 .f32) (main_arg9 : FVec F S128 .f32) (main_arg10 : FVec F S128x128 .f32) (main_arg11 : FVec F S128 .f32) (main_arg12 : FVec F S128x259 .f32) (main_arg13 : FVec F S128 .f32) (main_arg14 : FVec F S128x128 .f32) (main_arg15 : FVec F S128 .f32) : IVec S_ 1 :=
  let main_c : IVec S_ 32 := constantI S_ 32 0#32
  let main_v0 : IVec S2x4096x16 32 := broadcastInDim S2x4096x16 ![] bcast_S_S2x4096x16 main_c
  let main_v1 : IVec S2x4096x16 1 := cmpi .sge main_arg4 main_v0
  let main_c_0 : IVec S_ 32 := constantI S_ 32 8192#32
  let main_v2 : IVec S2x4096x16 32 := broadcastInDim S2x4096x16 ![] bcast_S_S2x4096x16 main_c_0
  let main_v3 : IVec S2x4096x16 1 := cmpi .slt main_arg4 main_v2
  let main_v4 : IVec S2x4096x16 1 := andi main_v1 main_v3
  let main_c_1 : IVec S_ 1 := constantI S_ 1 1#1
  let main_v5 : IVec S_ 1 := (fun x v => Host.reduce IntOp.andi x v reducesTo_S2x4096x16_S_d0_1_2 h_S_) main_v4 main_c_1
  let main_c_2 : IVec S_ 32 := constantI S_ 32 0#32
  let main_v6 : IVec S2x4096x16 32 := broadcastInDim S2x4096x16 ![] bcast_S_S2x4096x16 main_c_2
  let main_v7 : IVec S2x4096x16 1 := cmpi .sge main_arg5 main_v6
  let main_c_3 : IVec S_ 32 := constantI S_ 32 8192#32
  let main_v8 : IVec S2x4096x16 32 := broadcastInDim S2x4096x16 ![] bcast_S_S2x4096x16 main_c_3
  let main_v9 : IVec S2x4096x16 1 := cmpi .slt main_arg5 main_v8
  let main_v10 : IVec S2x4096x16 1 := andi main_v7 main_v9
  let main_c_4 : IVec S_ 1 := constantI S_ 1 1#1
  let main_v11 : IVec S_ 1 := (fun x v => Host.reduce IntOp.andi x v reducesTo_S2x4096x16_S_d0_1_2 h_S_) main_v10 main_c_4
  let main_v12 : IVec S_ 1 := andi main_v5 main_v11
  let main_v13 : FVec F S2x3x4096 .f32 := Host.absf main_arg0
  let main_cst : FVec F S_ .f32 := constant S_ .f32 0x7F800000#32
  let main_v14 : FVec F S2x3x4096 .f32 := broadcastInDim S2x3x4096 ![] bcast_S_S2x3x4096 main_cst
  let main_v15 : IVec S2x3x4096 1 := cmpf .olt main_v13 main_v14
  let main_c_5 : IVec S_ 1 := constantI S_ 1 1#1
  fn_part1 (F := F) main_arg1 main_arg6 main_arg12 main_v12 main_v15 main_c_5
-- ==== Kernel.lean ====
abbrev S2x3x4096 : Shape := ⟨3, ![2, 3, 4096]⟩
abbrev S2x64x4096 : Shape := ⟨3, ![2, 64, 4096]⟩
abbrev S2x4096x16 : Shape := ⟨3, ![2, 4096, 16]⟩
abbrev S128x131 : Shape := ⟨2, ![128, 131]⟩
abbrev S128 : Shape := ⟨1, ![128]⟩
abbrev S128x128 : Shape := ⟨2, ![128, 128]⟩
abbrev S128x259 : Shape := ⟨2, ![128, 259]⟩
abbrev S2x4096x3 : Shape := ⟨3, ![2, 4096, 3]⟩
abbrev S2x4096x64 : Shape := ⟨3, ![2, 4096, 64]⟩
abbrev S128x64 : Shape := ⟨2, ![128, 64]⟩
abbrev S64x128 : Shape := ⟨2, ![64, 128]⟩
abbrev S128x3 : Shape := ⟨2, ![128, 3]⟩
abbrev S3x128 : Shape := ⟨2, ![3, 128]⟩
abbrev S1x128 : Shape := ⟨2, ![1, 128]⟩
abbrev S2x4096x128 : Shape := ⟨3, ![2, 4096, 128]⟩
abbrev S1x1024x64 : Shape := ⟨3, ![1, 1024, 64]⟩
abbrev S1x1024x3 : Shape := ⟨3, ![1, 1024, 3]⟩
abbrev S1x1024x128 : Shape := ⟨3, ![1, 1024, 128]⟩
abbrev S1024x64 : Shape := ⟨2, ![1024, 64]⟩
abbrev S1024x128 : Shape := ⟨2, ![1024, 128]⟩
abbrev S1024x3 : Shape := ⟨2, ![1024, 3]⟩
abbrev S1024x1 : Shape := ⟨2, ![1024, 1]⟩
abbrev S8192x128 : Shape := ⟨2, ![8192, 128]⟩
abbrev S1x131072 : Shape := ⟨2, ![1, 131072]⟩
abbrev S131072x128 : Shape := ⟨2, ![131072, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x128x128 : Shape := ⟨3, ![1, 128, 128]⟩
abbrev S2x65536x128 : Shape := ⟨3, ![2, 65536, 128]⟩
abbrev S2x128x4096 : Shape := ⟨3, ![2, 128, 4096]⟩
abbrev S1x4096x128 : Shape := ⟨3, ![1, 4096, 128]⟩
abbrev S1x256x128 : Shape := ⟨3, ![1, 256, 128]⟩
abbrev S1x128x256 : Shape := ⟨3, ![1, 128, 256]⟩
abbrev S4096x128 : Shape := ⟨2, ![4096, 128]⟩
abbrev S256x128 : Shape := ⟨2, ![256, 128]⟩
abbrev S256x16x128 : Shape := ⟨3, ![256, 16, 128]⟩
abbrev S256x1x128 : Shape := ⟨3, ![256, 1, 128]⟩
abbrev S128x256 : Shape := ⟨2, ![128, 256]⟩

abbrev nBuf : Table → Nat
  | .hbm => 75
  | .local .tc .vmem => 82
  | .local .scVector .vmem => 6
  | _ => 0

abbrev bufTy : (tb : Table) → Fin (nBuf tb) → BufTy
  | .hbm, ⟨0, _⟩ => ⟨S2x3x4096, .f32⟩
  | .hbm, ⟨1, _⟩ => ⟨S2x3x4096, .f32⟩
  | .hbm, ⟨2, _⟩ => ⟨S2x64x4096, .f32⟩
  | .hbm, ⟨3, _⟩ => ⟨S2x64x4096, .f32⟩
  | .hbm, ⟨4, _⟩ => ⟨S2x4096x16, .i32⟩
  | .hbm, ⟨5, _⟩ => ⟨S2x4096x16, .i32⟩
  | .hbm, ⟨6, _⟩ => ⟨S128x131, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x259, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S2x4096x3, .f32⟩
  | .hbm, ⟨17, _⟩ => ⟨S2x4096x3, .f32⟩
  | .hbm, ⟨18, _⟩ => ⟨S2x4096x64, .f32⟩
  | .hbm, ⟨19, _⟩ => ⟨S2x4096x64, .f32⟩
  | .hbm, ⟨20, _⟩ => ⟨S128x64, .f32⟩
  | .hbm, ⟨21, _⟩ => ⟨S64x128, .f32⟩
  | .hbm, ⟨22, _⟩ => ⟨S128x64, .f32⟩
  | .hbm, ⟨23, _⟩ => ⟨S64x128, .f32⟩
  | .hbm, ⟨24, _⟩ => ⟨S128x3, .f32⟩
  | .hbm, ⟨25, _⟩ => ⟨S3x128, .f32⟩
  | .hbm, ⟨26, _⟩ => ⟨S1x128, .f32⟩
  | .hbm, ⟨27, _⟩ => ⟨S2x4096x128, .f32⟩
  | .hbm, ⟨28, _⟩ => ⟨S2x4096x128, .f32⟩
  | .hbm, ⟨29, _⟩ => ⟨S8192x128, .f32⟩
  | .hbm, ⟨30, _⟩ => ⟨S1x131072, .i32⟩
  | .hbm, ⟨31, _⟩ => ⟨S131072x128, .f32⟩
  | .hbm, ⟨32, _⟩ => ⟨S128x128, .f32⟩
  | .hbm, ⟨33, _⟩ => ⟨S1x128, .f32⟩
  | .hbm, ⟨34, _⟩ => ⟨S128x128, .f32⟩
  | .hbm, ⟨35, _⟩ => ⟨S1x128, .f32⟩
  | .hbm, ⟨36, _⟩ => ⟨S2x65536x128, .f32⟩
  | .hbm, ⟨37, _⟩ => ⟨S2x4096x128, .f32⟩
  | .hbm, ⟨38, _⟩ => ⟨S2x128x4096, .f32⟩
  | .hbm, ⟨39, _⟩ => ⟨S128x64, .f32⟩
  | .hbm, ⟨40, _⟩ => ⟨S64x128, .f32⟩
  | .hbm, ⟨41, _⟩ => ⟨S128x64, .f32⟩
  | .hbm, ⟨42, _⟩ => ⟨S64x128, .f32⟩
  | .hbm, ⟨43, _⟩ => ⟨S128x3, .f32⟩
  | .hbm, ⟨44, _⟩ => ⟨S3x128, .f32⟩
  | .hbm, ⟨45, _⟩ => ⟨S1x128, .f32⟩
  | .hbm, ⟨46, _⟩ => ⟨S2x4096x128, .f32⟩
  | .hbm, ⟨47, _⟩ => ⟨S2x4096x128, .f32⟩
  | .hbm, ⟨48, _⟩ => ⟨S8192x128, .f32⟩
  | .hbm, ⟨49, _⟩ => ⟨S1x131072, .i32⟩
  | .hbm, ⟨50, _⟩ => ⟨S131072x128, .f32⟩
  | .hbm, ⟨51, _⟩ => ⟨S128x128, .f32⟩
  | .hbm, ⟨52, _⟩ => ⟨S1x128, .f32⟩
  | .hbm, ⟨53, _⟩ => ⟨S128x128, .f32⟩
  | .hbm, ⟨54, _⟩ => ⟨S1x128, .f32⟩
  | .hbm, ⟨55, _⟩ => ⟨S2x65536x128, .f32⟩
  | .hbm, ⟨56, _⟩ => ⟨S2x4096x128, .f32⟩
  | .hbm, ⟨57, _⟩ => ⟨S2x128x4096, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x3, .f32⟩
  | .hbm, ⟨63, _⟩ => ⟨S3x128, .f32⟩
  | .hbm, ⟨64, _⟩ => ⟨S1x128, .f32⟩
  | .hbm, ⟨65, _⟩ => ⟨S2x4096x128, .f32⟩
  | .hbm, ⟨66, _⟩ => ⟨S2x4096x128, .f32⟩
  | .hbm, ⟨67, _⟩ => ⟨S8192x128, .f32⟩
  | .hbm, ⟨68, _⟩ => ⟨S1x131072, .i32⟩
  | .hbm, ⟨69, _⟩ => ⟨S131072x128, .f32⟩
  | .hbm, ⟨70, _⟩ => ⟨S128x128, .f32⟩
  | .hbm, ⟨71, _⟩ => ⟨S1x128, .f32⟩
  | .hbm, ⟨72, _⟩ => ⟨S2x65536x128, .f32⟩
  | .hbm, ⟨73, _⟩ => ⟨S2x4096x128, .f32⟩
  | .hbm, ⟨74, _⟩ => ⟨S2x128x4096, .f32⟩
  | .local .tc .vmem, ⟨0, _⟩ => ⟨S1x1024x64, .f32⟩
  | .local .tc .vmem, ⟨1, _⟩ => ⟨S1x1024x64, .f32⟩
  | .local .tc .vmem, ⟨2, _⟩ => ⟨S1x1024x64, .f32⟩
  | .local .tc .vmem, ⟨3, _⟩ => ⟨S1x1024x64, .f32⟩
  | .local .tc .vmem, ⟨4, _⟩ => ⟨S1x1024x3, .f32⟩
  | .local .tc .vmem, ⟨5, _⟩ => ⟨S1x1024x3, .f32⟩
  | .local .tc .vmem, ⟨6, _⟩ => ⟨S1x1024x3, .f32⟩
  | .local .tc .vmem, ⟨7, _⟩ => ⟨S1x1024x3, .f32⟩
  | .local .tc .vmem, ⟨8, _⟩ => ⟨S64x128, .f32⟩
  | .local .tc .vmem, ⟨9, _⟩ => ⟨S64x128, .f32⟩
  | .local .tc .vmem, ⟨10, _⟩ => ⟨S3x128, .f32⟩
  | .local .tc .vmem, ⟨11, _⟩ => ⟨S1x128, .f32⟩
  | .local .tc .vmem, ⟨12, _⟩ => ⟨S1x1024x128, .f32⟩
  | .local .tc .vmem, ⟨13, _⟩ => ⟨S1x1024x128, .f32⟩
  | .local .tc .vmem, ⟨14, _⟩ => ⟨S1x1024x128, .f32⟩
  | .local .tc .vmem, ⟨15, _⟩ => ⟨S1x1024x128, .f32⟩
  | .local .tc .vmem, ⟨16, _⟩ => ⟨S1x4096x128, .f32⟩
  | .local .tc .vmem, ⟨17, _⟩ => ⟨S1x4096x128, .f32⟩
  | .local .tc .vmem, ⟨18, _⟩ => ⟨S1x256x128, .f32⟩
  | .local .tc .vmem, ⟨19, _⟩ => ⟨S1x256x128, .f32⟩
  | .local .tc .vmem, ⟨20, _⟩ => ⟨S128x128, .f32⟩
  | .local .tc .vmem, ⟨21, _⟩ => ⟨S1x128, .f32⟩
  | .local .tc .vmem, ⟨22, _⟩ => ⟨S128x128, .f32⟩
  | .local .tc .vmem, ⟨23, _⟩ => ⟨S1x128, .f32⟩
  | .local .tc .vmem, ⟨24, _⟩ => ⟨S1x256x128, .f32⟩
  | .local .tc .vmem, ⟨25, _⟩ => ⟨S1x256x128, .f32⟩
  | .local .tc .vmem, ⟨26, _⟩ => ⟨S1x128x256, .f32⟩
  | .local .tc .vmem, ⟨27, _⟩ => ⟨S1x128x256, .f32⟩
  | .local .tc .vmem, ⟨28, _⟩ => ⟨S1x1024x64, .f32⟩
  | .local .tc .vmem, ⟨29, _⟩ => ⟨S1x1024x64, .f32⟩
  | .local .tc .vmem, ⟨30, _⟩ => ⟨S1x1024x64, .f32⟩
  | .local .tc .vmem, ⟨31, _⟩ => ⟨S1x1024x64, .f32⟩
  | .local .tc .vmem, ⟨32, _⟩ => ⟨S1x1024x3, .f32⟩
  | .local .tc .vmem, ⟨33, _⟩ => ⟨S1x1024x3, .f32⟩
  | .local .tc .vmem, ⟨34, _⟩ => ⟨S1x1024x3, .f32⟩
  | .local .tc .vmem, ⟨35, _⟩ => ⟨S1x1024x3, .f32⟩
  | .local .tc .vmem, ⟨36, _⟩ => ⟨S64x128, .f32⟩
  | .local .tc .vmem, ⟨37, _⟩ => ⟨S64x128, .f32⟩
  | .local .tc .vmem, ⟨38, _⟩ => ⟨S3x128, .f32⟩
  | .local .tc .vmem, ⟨39, _⟩ => ⟨S1x128, .f32⟩
  | .local .tc .vmem, ⟨40, _⟩ => ⟨S1x1024x128, .f32⟩
  | .local .tc .vmem, ⟨41, _⟩ => ⟨S1x1024x128, .f32⟩
  | .local .tc .vmem, ⟨42, _⟩ => ⟨S1x1024x128, .f32⟩
  | .local .tc .vmem, ⟨43, _⟩ => ⟨S1x1024x128, .f32⟩
  | .local .tc .vmem, ⟨44, _⟩ => ⟨S1x4096x128, .f32⟩
  | .local .tc .vmem, ⟨45, _⟩ => ⟨S1x4096x128, .f32⟩
  | .local .tc .vmem, ⟨46, _⟩ => ⟨S1x256x128, .f32⟩
  | .local .tc .vmem, ⟨47, _⟩ => ⟨S1x256x128, .f32⟩
  | .local .tc .vmem, ⟨48, _⟩ => ⟨S128x128, .f32⟩
  | .local .tc .vmem, ⟨49, _⟩ => ⟨S1x128, .f32⟩
  | .local .tc .vmem, ⟨50, _⟩ => ⟨S128x128, .f32⟩
  | .local .tc .vmem, ⟨51, _⟩ => ⟨S1x128, .f32⟩
  | .local .tc .vmem, ⟨52, _⟩ => ⟨S1x256x128, .f32⟩
  | .local .tc .vmem, ⟨53, _⟩ => ⟨S1x256x128, .f32⟩
  | .local .tc .vmem, ⟨54, _⟩ => ⟨S1x128x256, .f32⟩
  | .local .tc .vmem, ⟨55, _⟩ => ⟨S1x128x256, .f32⟩
  | .local .tc .vmem, ⟨56, _⟩ => ⟨S1x1024x128, .f32⟩
  | .local .tc .vmem, ⟨57, _⟩ => ⟨S1x1024x128, .f32⟩
  | .local .tc .vmem, ⟨58, _⟩ => ⟨S1x1024x128, .f32⟩
  | .local .tc .vmem, ⟨59, _⟩ => ⟨S1x1024x128, .f32⟩
  | .local .tc .vmem, ⟨60, _⟩ => ⟨S1x1024x3, .f32⟩
  | .local .tc .vmem, ⟨61, _⟩ => ⟨S1x1024x3, .f32⟩
  | .local .tc .vmem, ⟨62, _⟩ => ⟨S1x1024x3, .f32⟩
  | .local .tc .vmem, ⟨63, _⟩ => ⟨S1x1024x3, .f32⟩
  | .local .tc .vmem, ⟨64, _⟩ => ⟨S128x128, .f32⟩
  | .local .tc .vmem, ⟨65, _⟩ => ⟨S128x128, .f32⟩
  | .local .tc .vmem, ⟨66, _⟩ => ⟨S3x128, .f32⟩
  | .local .tc .vmem, ⟨67, _⟩ => ⟨S1x128, .f32⟩
  | .local .tc .vmem, ⟨68, _⟩ => ⟨S1x1024x128, .f32⟩
  | .local .tc .vmem, ⟨69, _⟩ => ⟨S1x1024x128, .f32⟩
  | .local .tc .vmem, ⟨70, _⟩ => ⟨S1x1024x128, .f32⟩
  | .local .tc .vmem, ⟨71, _⟩ => ⟨S1x1024x128, .f32⟩
  | .local .tc .vmem, ⟨72, _⟩ => ⟨S1x4096x128, .f32⟩
  | .local .tc .vmem, ⟨73, _⟩ => ⟨S1x4096x128, .f32⟩
  | .local .tc .vmem, ⟨74, _⟩ => ⟨S1x256x128, .f32⟩
  | .local .tc .vmem, ⟨75, _⟩ => ⟨S1x256x128, .f32⟩
  | .local .tc .vmem, ⟨76, _⟩ => ⟨S128x128, .f32⟩
  | .local .tc .vmem, ⟨77, _⟩ => ⟨S1x128, .f32⟩
  | .local .tc .vmem, ⟨78, _⟩ => ⟨S1x256x128, .f32⟩
  | .local .tc .vmem, ⟨79, _⟩ => ⟨S1x256x128, .f32⟩
  | .local .tc .vmem, ⟨80, _⟩ => ⟨S1x128x256, .f32⟩
  | .local .tc .vmem, ⟨81, _⟩ => ⟨S1x128x256, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | _, _ => ⟨S2x3x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => false
  | ⟨50, _⟩ => false
  | ⟨51, _⟩ => false
  | ⟨52, _⟩ => false
  | ⟨53, _⟩ => false
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => false
  | ⟨83, _⟩ => false
  | ⟨84, _⟩ => false
  | ⟨85, _⟩ => false
  | ⟨86, _⟩ => false
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTables nBuf rfl bufTy 4 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_v12_scv : Ref sig .scVector := ⟨.hbm, 29, rfl⟩
abbrev main_v13_scv : Ref sig .scVector := ⟨.hbm, 30, rfl⟩
abbrev main_v14_scv : Ref sig .scVector := ⟨.hbm, 31, rfl⟩
abbrev main_v29_scv : Ref sig .scVector := ⟨.hbm, 48, rfl⟩
abbrev main_v30_scv : Ref sig .scVector := ⟨.hbm, 49, rfl⟩
abbrev main_v31_scv : Ref sig .scVector := ⟨.hbm, 50, rfl⟩
abbrev main_v46_scv : Ref sig .scVector := ⟨.hbm, 67, rfl⟩
abbrev main_v47_scv : Ref sig .scVector := ⟨.hbm, 68, rfl⟩
abbrev main_v48_scv : Ref sig .scVector := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc5_stg7_0 : Ref sig .tc := ⟨.vmem, 54, rfl⟩
abbrev cc5_stg7_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc6_stg8_0 : Ref sig .tc := ⟨.vmem, 68, rfl⟩
abbrev cc6_stg8_1 : Ref sig .tc := ⟨.vmem, 69, rfl⟩
abbrev cc6_stg9_0 : Ref sig .tc := ⟨.vmem, 70, rfl⟩
abbrev cc6_stg9_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg4_1 : Ref sig .tc := ⟨.vmem, 79, rfl⟩
abbrev cc8_stg5_0 : Ref sig .tc := ⟨.vmem, 80, rfl⟩
abbrev cc8_stg5_1 : Ref sig .tc := ⟨.vmem, 81, rfl⟩
abbrev cc1_scoped0 : Ref sig .scVector := ⟨.vmem, 0, rfl⟩
abbrev cc1_scoped2 : Ref sig .scVector := ⟨.vmem, 1, rfl⟩
abbrev cc4_scoped0 : Ref sig .scVector := ⟨.vmem, 2, rfl⟩
abbrev cc4_scoped2 : Ref sig .scVector := ⟨.vmem, 3, rfl⟩
abbrev cc7_scoped0 : Ref sig .scVector := ⟨.vmem, 4, rfl⟩
abbrev cc7_scoped2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem8_1 : DmaSem sig := 46
abbrev cc3_sem9_0 : DmaSem sig := 47
abbrev cc3_sem9_1 : DmaSem sig := 48
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem6_1 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem3_1 : DmaSem sig := 73
abbrev cc6_sem4_0 : DmaSem sig := 74
abbrev cc6_sem5_0 : DmaSem sig := 75
abbrev cc6_sem6_0 : DmaSem sig := 76
abbrev cc6_sem7_0 : DmaSem sig := 77
abbrev cc6_sem8_0 : DmaSem sig := 78
abbrev cc6_sem8_1 : DmaSem sig := 79
abbrev cc6_sem9_0 : DmaSem sig := 80
abbrev cc6_sem9_1 : DmaSem sig := 81
abbrev cc8_sem0_0 : DmaSem sig := 87
abbrev cc8_sem0_1 : DmaSem sig := 88
abbrev cc8_sem1_0 : DmaSem sig := 89
abbrev cc8_sem1_1 : DmaSem sig := 90
abbrev cc8_sem2_0 : DmaSem sig := 91
abbrev cc8_sem3_0 : DmaSem sig := 92
abbrev cc8_sem4_0 : DmaSem sig := 93
abbrev cc8_sem4_1 : DmaSem sig := 94
abbrev cc8_sem5_0 : DmaSem sig := 95
abbrev cc8_sem5_1 : DmaSem sig := 96
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x131072.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x131072.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S131072x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S131072x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x131072.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x131072.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S131072x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S131072x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S131072x128.size a)
theorem k1_off19_inb : ∀ (i : grid1.Coords) (v33_4_r0 : BitVec 32) (k1_hw5 : k1_chk5 i v33_4_r0), ∀ a, (k1_off19 i v33_4_r0) a + S128x128.size a ≤ S131072x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x128x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S3x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1x1024x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S1x1024x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨2, ![2, 16], ![false, false]⟩

def k4_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k4_off2 (i : grid4.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k4_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k4_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k4_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k4_cond1 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k4_off5 (i : grid4.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k4_off6 (arg6_r0 : BitVec 32) : Fin 1 → Nat :=
  let c2_i32_99_r0 : BitVec 32 := 2#32
  let v144_r0 : BitVec 32 := Scalar.remui arg6_r0 c2_i32_99_r0
  ![v144_r0.toNat]
def k4_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k4_cond2 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k4_off8 (i : grid4.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k4_off9 (arg7_r0 : BitVec 32) : Fin 1 → Nat :=
  let c2_i32_100_r0 : BitVec 32 := 2#32
  let v145_r0 : BitVec 32 := Scalar.remui arg7_r0 c2_i32_100_r0
  ![v145_r0.toNat]
def k4_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k4_chk2 (arg8_r0 : BitVec 32) : Prop :=
  (∀ a, (k4_off10 arg8_r0) a + S1x128x128.size a ≤ S2x128x128.size a)
theorem k4_off10_inb : ∀ (arg8_r0 : BitVec 32) (k4_hw2 : k4_chk2 arg8_r0), ∀ a, (k4_off10 arg8_r0) a + S1x128x128.size a ≤ S2x128x128.size a := fun arg8_r0 k4_hw2 => k4_hw2

def k4_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k4_chk3 (arg7_r0 : BitVec 32) : Prop :=
  (∀ a, (k4_off11 arg7_r0) a + S1x1x128.size a ≤ S2x1x128.size a)
theorem k4_off11_inb : ∀ (arg7_r0 : BitVec 32) (k4_hw3 : k4_chk3 arg7_r0), ∀ a, (k4_off11 arg7_r0) a + S1x1x128.size a ≤ S2x1x128.size a := fun arg7_r0 k4_hw3 => k4_hw3

def k4_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k4_cond5 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k4_off13 (i : grid4.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k4_off14 (arg8_r0 : BitVec 32) : Fin 1 → Nat :=
  let c2_i32_99_r0 : BitVec 32 := 2#32
  let v144_r0 : BitVec 32 := Scalar.remui arg8_r0 c2_i32_99_r0
  ![v144_r0.toNat]
def k4_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k4_cond7 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k4_off16 (i : grid4.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k4_off17 (arg9_r0 : BitVec 32) : Fin 1 → Nat :=
  let c2_i32_99_r0 : BitVec 32 := 2#32
  let v144_r0 : BitVec 32 := Scalar.remui arg9_r0 c2_i32_99_r0
  ![v144_r0.toNat]

def k4_chk1 (i : grid4.Coords) (k4_t1 : Fin k4_t1_loop.trips) (arg6_r0 : BitVec 32) (arg7_r0 : BitVec 32) (arg8_r0 : BitVec 32) (arg9_r0 : BitVec 32) (arg10_r0 : BitVec 32) : Prop :=
  (∀ (k4_h1 : k4_cond1 i k4_t1 arg10_r0 = 1#1), ∀ a, (k4_off4 arg6_r0) a + S1x1x128.size a ≤ S2x1x128.size a) ∧
  (∀ (k4_h1 : k4_cond1 i k4_t1 arg10_r0 = 1#1), ∀ a, (k4_off5 i arg10_r0) a + S1x128.size a ≤ S1x131072.size a) ∧
  (∀ (k4_h1 : k4_cond1 i k4_t1 arg10_r0 = 1#1), ∀ a, (k4_off6 arg6_r0) a + S1.size a ≤ S2.size a) ∧
  (∀ (k4_h2 : k4_cond2 i k4_t1 arg10_r0 = 1#1), ∀ a, (k4_off7 arg7_r0) a + S1x1x128.size a ≤ S2x1x128.size a) ∧
  (∀ (k4_h2 : k4_cond2 i k4_t1 arg10_r0 = 1#1), ∀ a, (k4_off8 i arg10_r0) a + S1x128.size a ≤ S1x131072.size a) ∧
  (∀ (k4_h2 : k4_cond2 i k4_t1 arg10_r0 = 1#1), ∀ a, (k4_off9 arg7_r0) a + S1.size a ≤ S2.size a) ∧
  (∀ (k4_h5 : k4_cond5 i k4_t1 arg10_r0 = 1#1), ∀ a, (k4_off12 arg8_r0) a + S1x128x128.size a ≤ S2x128x128.size a) ∧
  (∀ (k4_h5 : k4_cond5 i k4_t1 arg10_r0 = 1#1), ∀ a, (k4_off13 i arg10_r0) a + S128x128.size a ≤ S131072x128.size a) ∧
  (∀ (k4_h5 : k4_cond5 i k4_t1 arg10_r0 = 1#1), ∀ a, (k4_off14 arg8_r0) a + S1.size a ≤ S2.size a) ∧
  (∀ (k4_h7 : k4_cond7 i k4_t1 arg10_r0 = 1#1), ∀ a, (k4_off15 arg9_r0) a + S1x128x128.size a ≤ S2x128x128.size a) ∧
  (∀ (k4_h7 : k4_cond7 i k4_t1 arg10_r0 = 1#1), ∀ a, (k4_off16 i arg10_r0) a + S128x128.size a ≤ S131072x128.size a) ∧
  (∀ (k4_h7 : k4_cond7 i k4_t1 arg10_r0 = 1#1), ∀ a, (k4_off17 arg9_r0) a + S1.size a ≤ S2.size a)
theorem k4_off4_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off4 arg6_r0) a + S1x1x128.size a ≤ S2x1x128.size a := fun i k4_t1 arg6_r0 arg7_r0 arg8_r0 arg9_r0 arg10_r0 k4_hw1 k4_h1 => k4_hw1.1 k4_h1
theorem k4_off5_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off5 i arg10_r0) a + S1x128.size a ≤ S1x131072.size a := fun i k4_t1 arg6_r0 arg7_r0 arg8_r0 arg9_r0 arg10_r0 k4_hw1 k4_h1 => k4_hw1.2.1 k4_h1
theorem k4_off6_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off6 arg6_r0) a + S1.size a ≤ S2.size a := fun i k4_t1 arg6_r0 arg7_r0 arg8_r0 arg9_r0 arg10_r0 k4_hw1 k4_h1 => k4_hw1.2.2.1 k4_h1
theorem k4_off7_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off7 arg7_r0) a + S1x1x128.size a ≤ S2x1x128.size a := fun i k4_t1 arg6_r0 arg7_r0 arg8_r0 arg9_r0 arg10_r0 k4_hw1 k4_h2 => k4_hw1.2.2.2.1 k4_h2
theorem k4_off8_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off8 i arg10_r0) a + S1x128.size a ≤ S1x131072.size a := fun i k4_t1 arg6_r0 arg7_r0 arg8_r0 arg9_r0 arg10_r0 k4_hw1 k4_h2 => k4_hw1.2.2.2.2.1 k4_h2
theorem k4_off9_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off9 arg7_r0) a + S1.size a ≤ S2.size a := fun i k4_t1 arg6_r0 arg7_r0 arg8_r0 arg9_r0 arg10_r0 k4_hw1 k4_h2 => k4_hw1.2.2.2.2.2.1 k4_h2
theorem k4_off12_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off12 arg8_r0) a + S1x128x128.size a ≤ S2x128x128.size a := fun i k4_t1 arg6_r0 arg7_r0 arg8_r0 arg9_r0 arg10_r0 k4_hw1 k4_h5 => k4_hw1.2.2.2.2.2.2.1 k4_h5
theorem k4_off13_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off13 i arg10_r0) a + S128x128.size a ≤ S131072x128.size a := fun i k4_t1 arg6_r0 arg7_r0 arg8_r0 arg9_r0 arg10_r0 k4_hw1 k4_h5 => k4_hw1.2.2.2.2.2.2.2.1 k4_h5
theorem k4_off14_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off14 arg8_r0) a + S1.size a ≤ S2.size a := fun i k4_t1 arg6_r0 arg7_r0 arg8_r0 arg9_r0 arg10_r0 k4_hw1 k4_h5 => k4_hw1.2.2.2.2.2.2.2.2.1 k4_h5
theorem k4_off15_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off15 arg9_r0) a + S1x128x128.size a ≤ S2x128x128.size a := fun i k4_t1 arg6_r0 arg7_r0 arg8_r0 arg9_r0 arg10_r0 k4_hw1 k4_h7 => k4_hw1.2.2.2.2.2.2.2.2.2.1 k4_h7
theorem k4_off16_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off16 i arg10_r0) a + S128x128.size a ≤ S131072x128.size a := fun i k4_t1 arg6_r0 arg7_r0 arg8_r0 arg9_r0 arg10_r0 k4_hw1 k4_h7 => k4_hw1.2.2.2.2.2.2.2.2.2.2.1 k4_h7
theorem k4_off17_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off17 arg9_r0) a + S1.size a ≤ S2.size a := fun i k4_t1 arg6_r0 arg7_r0 arg8_r0 arg9_r0 arg10_r0 k4_hw1 k4_h7 => k4_hw1.2.2.2.2.2.2.2.2.2.2.2 k4_h7

def k4_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k4_off19 (i : grid4.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k4_chk5 (i : grid4.Coords) (v33_4_r0 : BitVec 32) : Prop :=
  (∀ a, (k4_off19 i v33_4_r0) a + S128x128.size a ≤ S131072x128.size a)
theorem k4_off19_inb : ∀ (i : grid4.Coords) (v33_4_r0 : BitVec 32) (k4_hw5 : k4_chk5 i v33_4_r0), ∀ a, (k4_off19 i v33_4_r0) a + S128x128.size a ≤ S131072x128.size a := fun i v33_4_r0 k4_hw5 => k4_hw5

def k4_off20 (v33_3_r0 : BitVec 32) : Fin 1 → Nat :=
  let c2_i32_46_r0 : BitVec 32 := 2#32
  let v54_r0 : BitVec 32 := Scalar.remui v33_3_r0 c2_i32_46_r0
  ![v54_r0.toNat]
def k4_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k4_chk4 (v33_3_r0 : BitVec 32) : Prop :=
  (∀ a, (k4_off18 v33_3_r0) a + S1x128x128.size a ≤ S2x128x128.size a) ∧
  (∀ a, (k4_off20 v33_3_r0) a + S1.size a ≤ S2.size a) ∧
  (∀ a, (k4_off21 v33_3_r0) a + S1x128x128.size a ≤ S2x128x128.size a)
theorem k4_off18_inb : ∀ (v33_3_r0 : BitVec 32) (k4_hw4 : k4_chk4 v33_3_r0), ∀ a, (k4_off18 v33_3_r0) a + S1x128x128.size a ≤ S2x128x128.size a := fun v33_3_r0 k4_hw4 => k4_hw4.1
theorem k4_off20_inb : ∀ (v33_3_r0 : BitVec 32) (k4_hw4 : k4_chk4 v33_3_r0), ∀ a, (k4_off20 v33_3_r0) a + S1.size a ≤ S2.size a := fun v33_3_r0 k4_hw4 => k4_hw4.2.1
theorem k4_off21_inb : ∀ (v33_3_r0 : BitVec 32) (k4_hw4 : k4_chk4 v33_3_r0), ∀ a, (k4_off21 v33_3_r0) a + S1x128x128.size a ≤ S2x128x128.size a := fun v33_3_r0 k4_hw4 => k4_hw4.2.2

abbrev grid5 : Pipeline.Grid := ⟨2, ![2, 16], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1x256x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x128x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨2, ![2, 4], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_9 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x1024x3 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x1024x3 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S3x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, false]

abbrev stage6_8 : Fin 2 → Memref sig .tc .vmem S1x1024x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true]

abbrev stage6_9 : Fin 2 → Memref sig .tc .vmem S1x1024x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true, true]

abbrev grid7 : Pipeline.Grid := ⟨2, ![2, 16], ![false, false]⟩

def k7_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k7_off2 (i : grid7.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k7_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k7_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k7_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k7_cond1 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k7_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k7_off5 (i : grid7.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k7_off6 (arg6_r0 : BitVec 32) : Fin 1 → Nat :=
  let c2_i32_99_r0 : BitVec 32 := 2#32
  let v144_r0 : BitVec 32 := Scalar.remui arg6_r0 c2_i32_99_r0
  ![v144_r0.toNat]
def k7_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k7_cond2 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k7_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k7_off8 (i : grid7.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k7_off9 (arg7_r0 : BitVec 32) : Fin 1 → Nat :=
  let c2_i32_100_r0 : BitVec 32 := 2#32
  let v145_r0 : BitVec 32 := Scalar.remui arg7_r0 c2_i32_100_r0
  ![v145_r0.toNat]
def k7_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k7_chk2 (arg8_r0 : BitVec 32) : Prop :=
  (∀ a, (k7_off10 arg8_r0) a + S1x128x128.size a ≤ S2x128x128.size a)
theorem k7_off10_inb : ∀ (arg8_r0 : BitVec 32) (k7_hw2 : k7_chk2 arg8_r0), ∀ a, (k7_off10 arg8_r0) a + S1x128x128.size a ≤ S2x128x128.size a := fun arg8_r0 k7_hw2 => k7_hw2

def k7_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k7_chk3 (arg7_r0 : BitVec 32) : Prop :=
  (∀ a, (k7_off11 arg7_r0) a + S1x1x128.size a ≤ S2x1x128.size a)
theorem k7_off11_inb : ∀ (arg7_r0 : BitVec 32) (k7_hw3 : k7_chk3 arg7_r0), ∀ a, (k7_off11 arg7_r0) a + S1x1x128.size a ≤ S2x1x128.size a := fun arg7_r0 k7_hw3 => k7_hw3

def k7_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k7_cond5 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k7_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k7_off13 (i : grid7.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k7_off14 (arg8_r0 : BitVec 32) : Fin 1 → Nat :=
  let c2_i32_99_r0 : BitVec 32 := 2#32
  let v144_r0 : BitVec 32 := Scalar.remui arg8_r0 c2_i32_99_r0
  ![v144_r0.toNat]
def k7_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k7_cond7 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k7_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k7_off16 (i : grid7.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k7_off17 (arg9_r0 : BitVec 32) : Fin 1 → Nat :=
  let c2_i32_99_r0 : BitVec 32 := 2#32
  let v144_r0 : BitVec 32 := Scalar.remui arg9_r0 c2_i32_99_r0
  ![v144_r0.toNat]

def k7_chk1 (i : grid7.Coords) (k7_t1 : Fin k7_t1_loop.trips) (arg6_r0 : BitVec 32) (arg7_r0 : BitVec 32) (arg8_r0 : BitVec 32) (arg9_r0 : BitVec 32) (arg10_r0 : BitVec 32) : Prop :=
  (∀ (k7_h1 : k7_cond1 i k7_t1 arg10_r0 = 1#1), ∀ a, (k7_off4 arg6_r0) a + S1x1x128.size a ≤ S2x1x128.size a) ∧
  (∀ (k7_h1 : k7_cond1 i k7_t1 arg10_r0 = 1#1), ∀ a, (k7_off5 i arg10_r0) a + S1x128.size a ≤ S1x131072.size a) ∧
  (∀ (k7_h1 : k7_cond1 i k7_t1 arg10_r0 = 1#1), ∀ a, (k7_off6 arg6_r0) a + S1.size a ≤ S2.size a) ∧
  (∀ (k7_h2 : k7_cond2 i k7_t1 arg10_r0 = 1#1), ∀ a, (k7_off7 arg7_r0) a + S1x1x128.size a ≤ S2x1x128.size a) ∧
  (∀ (k7_h2 : k7_cond2 i k7_t1 arg10_r0 = 1#1), ∀ a, (k7_off8 i arg10_r0) a + S1x128.size a ≤ S1x131072.size a) ∧
  (∀ (k7_h2 : k7_cond2 i k7_t1 arg10_r0 = 1#1), ∀ a, (k7_off9 arg7_r0) a + S1.size a ≤ S2.size a) ∧
  (∀ (k7_h5 : k7_cond5 i k7_t1 arg10_r0 = 1#1), ∀ a, (k7_off12 arg8_r0) a + S1x128x128.size a ≤ S2x128x128.size a) ∧
  (∀ (k7_h5 : k7_cond5 i k7_t1 arg10_r0 = 1#1), ∀ a, (k7_off13 i arg10_r0) a + S128x128.size a ≤ S131072x128.size a) ∧
  (∀ (k7_h5 : k7_cond5 i k7_t1 arg10_r0 = 1#1), ∀ a, (k7_off14 arg8_r0) a + S1.size a ≤ S2.size a) ∧
  (∀ (k7_h7 : k7_cond7 i k7_t1 arg10_r0 = 1#1), ∀ a, (k7_off15 arg9_r0) a + S1x128x128.size a ≤ S2x128x128.size a) ∧
  (∀ (k7_h7 : k7_cond7 i k7_t1 arg10_r0 = 1#1), ∀ a, (k7_off16 i arg10_r0) a + S128x128.size a ≤ S131072x128.size a) ∧
  (∀ (k7_h7 : k7_cond7 i k7_t1 arg10_r0 = 1#1), ∀ a, (k7_off17 arg9_r0) a + S1.size a ≤ S2.size a)
theorem k7_off4_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h1 : k7_cond1 i k7_t1 arg10_r0 = 1#1), ∀ a, (k7_off4 arg6_r0) a + S1x1x128.size a ≤ S2x1x128.size a := fun i k7_t1 arg6_r0 arg7_r0 arg8_r0 arg9_r0 arg10_r0 k7_hw1 k7_h1 => k7_hw1.1 k7_h1
theorem k7_off5_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h1 : k7_cond1 i k7_t1 arg10_r0 = 1#1), ∀ a, (k7_off5 i arg10_r0) a + S1x128.size a ≤ S1x131072.size a := fun i k7_t1 arg6_r0 arg7_r0 arg8_r0 arg9_r0 arg10_r0 k7_hw1 k7_h1 => k7_hw1.2.1 k7_h1
theorem k7_off6_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h1 : k7_cond1 i k7_t1 arg10_r0 = 1#1), ∀ a, (k7_off6 arg6_r0) a + S1.size a ≤ S2.size a := fun i k7_t1 arg6_r0 arg7_r0 arg8_r0 arg9_r0 arg10_r0 k7_hw1 k7_h1 => k7_hw1.2.2.1 k7_h1
theorem k7_off7_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h2 : k7_cond2 i k7_t1 arg10_r0 = 1#1), ∀ a, (k7_off7 arg7_r0) a + S1x1x128.size a ≤ S2x1x128.size a := fun i k7_t1 arg6_r0 arg7_r0 arg8_r0 arg9_r0 arg10_r0 k7_hw1 k7_h2 => k7_hw1.2.2.2.1 k7_h2
theorem k7_off8_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h2 : k7_cond2 i k7_t1 arg10_r0 = 1#1), ∀ a, (k7_off8 i arg10_r0) a + S1x128.size a ≤ S1x131072.size a := fun i k7_t1 arg6_r0 arg7_r0 arg8_r0 arg9_r0 arg10_r0 k7_hw1 k7_h2 => k7_hw1.2.2.2.2.1 k7_h2
theorem k7_off9_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h2 : k7_cond2 i k7_t1 arg10_r0 = 1#1), ∀ a, (k7_off9 arg7_r0) a + S1.size a ≤ S2.size a := fun i k7_t1 arg6_r0 arg7_r0 arg8_r0 arg9_r0 arg10_r0 k7_hw1 k7_h2 => k7_hw1.2.2.2.2.2.1 k7_h2
theorem k7_off12_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h5 : k7_cond5 i k7_t1 arg10_r0 = 1#1), ∀ a, (k7_off12 arg8_r0) a + S1x128x128.size a ≤ S2x128x128.size a := fun i k7_t1 arg6_r0 arg7_r0 arg8_r0 arg9_r0 arg10_r0 k7_hw1 k7_h5 => k7_hw1.2.2.2.2.2.2.1 k7_h5
theorem k7_off13_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h5 : k7_cond5 i k7_t1 arg10_r0 = 1#1), ∀ a, (k7_off13 i arg10_r0) a + S128x128.size a ≤ S131072x128.size a := fun i k7_t1 arg6_r0 arg7_r0 arg8_r0 arg9_r0 arg10_r0 k7_hw1 k7_h5 => k7_hw1.2.2.2.2.2.2.2.1 k7_h5
theorem k7_off14_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h5 : k7_cond5 i k7_t1 arg10_r0 = 1#1), ∀ a, (k7_off14 arg8_r0) a + S1.size a ≤ S2.size a := fun i k7_t1 arg6_r0 arg7_r0 arg8_r0 arg9_r0 arg10_r0 k7_hw1 k7_h5 => k7_hw1.2.2.2.2.2.2.2.2.1 k7_h5
theorem k7_off15_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h7 : k7_cond7 i k7_t1 arg10_r0 = 1#1), ∀ a, (k7_off15 arg9_r0) a + S1x128x128.size a ≤ S2x128x128.size a := fun i k7_t1 arg6_r0 arg7_r0 arg8_r0 arg9_r0 arg10_r0 k7_hw1 k7_h7 => k7_hw1.2.2.2.2.2.2.2.2.2.1 k7_h7
theorem k7_off16_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h7 : k7_cond7 i k7_t1 arg10_r0 = 1#1), ∀ a, (k7_off16 i arg10_r0) a + S128x128.size a ≤ S131072x128.size a := fun i k7_t1 arg6_r0 arg7_r0 arg8_r0 arg9_r0 arg10_r0 k7_hw1 k7_h7 => k7_hw1.2.2.2.2.2.2.2.2.2.2.1 k7_h7
theorem k7_off17_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h7 : k7_cond7 i k7_t1 arg10_r0 = 1#1), ∀ a, (k7_off17 arg9_r0) a + S1.size a ≤ S2.size a := fun i k7_t1 arg6_r0 arg7_r0 arg8_r0 arg9_r0 arg10_r0 k7_hw1 k7_h7 => k7_hw1.2.2.2.2.2.2.2.2.2.2.2 k7_h7

def k7_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k7_off19 (i : grid7.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k7_chk5 (i : grid7.Coords) (v33_4_r0 : BitVec 32) : Prop :=
  (∀ a, (k7_off19 i v33_4_r0) a + S128x128.size a ≤ S131072x128.size a)
theorem k7_off19_inb : ∀ (i : grid7.Coords) (v33_4_r0 : BitVec 32) (k7_hw5 : k7_chk5 i v33_4_r0), ∀ a, (k7_off19 i v33_4_r0) a + S128x128.size a ≤ S131072x128.size a := fun i v33_4_r0 k7_hw5 => k7_hw5

def k7_off20 (v33_3_r0 : BitVec 32) : Fin 1 → Nat :=
  let c2_i32_46_r0 : BitVec 32 := 2#32
  let v54_r0 : BitVec 32 := Scalar.remui v33_3_r0 c2_i32_46_r0
  ![v54_r0.toNat]
def k7_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k7_chk4 (v33_3_r0 : BitVec 32) : Prop :=
  (∀ a, (k7_off18 v33_3_r0) a + S1x128x128.size a ≤ S2x128x128.size a) ∧
  (∀ a, (k7_off20 v33_3_r0) a + S1.size a ≤ S2.size a) ∧
  (∀ a, (k7_off21 v33_3_r0) a + S1x128x128.size a ≤ S2x128x128.size a)
theorem k7_off18_inb : ∀ (v33_3_r0 : BitVec 32) (k7_hw4 : k7_chk4 v33_3_r0), ∀ a, (k7_off18 v33_3_r0) a + S1x128x128.size a ≤ S2x128x128.size a := fun v33_3_r0 k7_hw4 => k7_hw4.1
theorem k7_off20_inb : ∀ (v33_3_r0 : BitVec 32) (k7_hw4 : k7_chk4 v33_3_r0), ∀ a, (k7_off20 v33_3_r0) a + S1.size a ≤ S2.size a := fun v33_3_r0 k7_hw4 => k7_hw4.2.1
theorem k7_off21_inb : ∀ (v33_3_r0 : BitVec 32) (k7_hw4 : k7_chk4 v33_3_r0), ∀ a, (k7_off21 v33_3_r0) a + S1x128x128.size a ≤ S2x128x128.size a := fun v33_3_r0 k7_hw4 => k7_hw4.2.2

abbrev grid8 : Pipeline.Grid := ⟨2, ![2, 16], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_5 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage8_0 : Fin 2 → Memref sig .tc .vmem S1x4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x256x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x256x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev stage8_5 : Fin 2 → Memref sig .tc .vmem S1x128x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S2x3x4096 : Shape := ⟨3, ![2, 3, 4096]⟩
abbrev S2x64x4096 : Shape := ⟨3, ![2, 64, 4096]⟩
abbrev S2x4096x16 : Shape := ⟨3, ![2, 4096, 16]⟩
abbrev S128x131 : Shape := ⟨2, ![128, 131]⟩
abbrev S128 : Shape := ⟨1, ![128]⟩
abbrev S128x128 : Shape := ⟨2, ![128, 128]⟩
abbrev S128x259 : Shape := ⟨2, ![128, 259]⟩
abbrev S2x4096x3 : Shape := ⟨3, ![2, 4096, 3]⟩
abbrev S2x4096x64 : Shape := ⟨3, ![2, 4096, 64]⟩
abbrev S8192x3 : Shape := ⟨2, ![8192, 3]⟩
abbrev S_ : Shape := ⟨0, ![]⟩
abbrev S2x4096x16x1 : Shape := ⟨4, ![2, 4096, 16, 1]⟩
abbrev S2x4096x16x3 : Shape := ⟨4, ![2, 4096, 16, 3]⟩
abbrev S2x4096x1x3 : Shape := ⟨4, ![2, 4096, 1, 3]⟩
abbrev S8192x64 : Shape := ⟨2, ![8192, 64]⟩
abbrev S2x4096x16x64 : Shape := ⟨4, ![2, 4096, 16, 64]⟩
abbrev S2x4096x1x64 : Shape := ⟨4, ![2, 4096, 1, 64]⟩
abbrev S2x4096x16x131 : Shape := ⟨4, ![2, 4096, 16, 131]⟩
abbrev S2x4096x16x128 : Shape := ⟨4, ![2, 4096, 16, 128]⟩
abbrev S1x1x1x128 : Shape := ⟨4, ![1, 1, 1, 128]⟩
abbrev S2x4096x128 : Shape := ⟨3, ![2, 4096, 128]⟩
abbrev S2x128x4096 : Shape := ⟨3, ![2, 128, 4096]⟩
abbrev S8192x128 : Shape := ⟨2, ![8192, 128]⟩
abbrev S2x4096x1x128 : Shape := ⟨4, ![2, 4096, 1, 128]⟩
abbrev S2x4096x16x259 : Shape := ⟨4, ![2, 4096, 16, 259]⟩

abbrev nBuf : Space → Nat
  | .hbm => 203
  | .vmem => 0
  | .smem => 0
  | _ => 0

abbrev hbmTy0_0 (i : Nat) : BufTy := match i % 128 with
  | 0 => ⟨S2x3x4096, .f32⟩
  | 1 => ⟨S2x3x4096, .f32⟩
  | 2 => ⟨S2x64x4096, .f32⟩
  | 3 => ⟨S2x64x4096, .f32⟩
  | 4 => ⟨S2x4096x16, .i32⟩
  | 5 => ⟨S2x4096x16, .i32⟩
  | 6 => ⟨S128x131, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x259, .f32⟩
  | 13 => ⟨S128, .f32⟩
  | 14 => ⟨S128x128, .f32⟩
  | 15 => ⟨S128, .f32⟩
  | 16 => ⟨S2x4096x3, .f32⟩
  | 17 => ⟨S2x4096x3, .f32⟩
  | 18 => ⟨S2x4096x64, .f32⟩
  | 19 => ⟨S2x4096x64, .f32⟩
  | 20 => ⟨S8192x3, .f32⟩
  | 21 => ⟨S_, .i32⟩
  | 22 => ⟨S2x4096x16, .i32⟩
  | 23 => ⟨S2x4096x16, .i1⟩
  | 24 => ⟨S_, .i32⟩
  | 25 => ⟨S2x4096x16, .i32⟩
  | 26 => ⟨S2x4096x16, .i32⟩
  | 27 => ⟨S2x4096x16, .i32⟩
  | 28 => ⟨S2x4096x16x1, .i32⟩
  | 29 => ⟨S2x4096x16x3, .f32⟩
  | 30 => ⟨S2x4096x1x3, .f32⟩
  | 31 => ⟨S2x4096x16x3, .f32⟩
  | 32 => ⟨S2x4096x16x3, .f32⟩
  | 33 => ⟨S8192x64, .f32⟩
  | 34 => ⟨S_, .i32⟩
  | 35 => ⟨S2x4096x16, .i32⟩
  | 36 => ⟨S2x4096x16, .i1⟩
  | 37 => ⟨S_, .i32⟩
  | 38 => ⟨S2x4096x16, .i32⟩
  | 39 => ⟨S2x4096x16, .i32⟩
  | 40 => ⟨S2x4096x16, .i32⟩
  | 41 => ⟨S2x4096x16x1, .i32⟩
  | 42 => ⟨S2x4096x16x64, .f32⟩
  | 43 => ⟨S2x4096x1x64, .f32⟩
  | 44 => ⟨S2x4096x16x64, .f32⟩
  | 45 => ⟨S2x4096x16x131, .f32⟩
  | 46 => ⟨S2x4096x16x128, .f32⟩
  | 47 => ⟨S1x1x1x128, .f32⟩
  | 48 => ⟨S2x4096x16x128, .f32⟩
  | 49 => ⟨S2x4096x16x128, .f32⟩
  | 50 => ⟨S_, .f32⟩
  | 51 => ⟨S2x4096x16x128, .f32⟩
  | 52 => ⟨S2x4096x16x128, .i1⟩
  | 53 => ⟨S_, .f32⟩
  | 54 => ⟨S2x4096x16x128, .f32⟩
  | 55 => ⟨S2x4096x16x128, .f32⟩
  | 56 => ⟨S2x4096x16x128, .f32⟩
  | 57 => ⟨S2x4096x16x128, .f32⟩
  | 58 => ⟨S1x1x1x128, .f32⟩
  | 59 => ⟨S2x4096x16x128, .f32⟩
  | 60 => ⟨S2x4096x16x128, .f32⟩
  | 61 => ⟨S_, .f32⟩
  | 62 => ⟨S2x4096x16x128, .f32⟩
  | 63 => ⟨S2x4096x16x128, .i1⟩
  | 64 => ⟨S_, .f32⟩
  | 65 => ⟨S2x4096x16x128, .f32⟩
  | 66 => ⟨S2x4096x16x128, .f32⟩
  | 67 => ⟨S2x4096x16x128, .f32⟩
  | 68 => ⟨S2x4096x16x128, .f32⟩
  | 69 => ⟨S1x1x1x128, .f32⟩
  | 70 => ⟨S2x4096x16x128, .f32⟩
  | 71 => ⟨S2x4096x16x128, .f32⟩
  | 72 => ⟨S_, .f32⟩
  | 73 => ⟨S2x4096x16x128, .f32⟩
  | 74 => ⟨S2x4096x16x128, .i1⟩
  | 75 => ⟨S_, .f32⟩
  | 76 => ⟨S2x4096x16x128, .f32⟩
  | 77 => ⟨S2x4096x16x128, .f32⟩
  | 78 => ⟨S2x4096x16x128, .f32⟩
  | 79 => ⟨S_, .f32⟩
  | 80 => ⟨S2x4096x128, .f32⟩
  | 81 => ⟨S2x128x4096, .f32⟩
  | 82 => ⟨S2x4096x3, .f32⟩
  | 83 => ⟨S2x4096x3, .f32⟩
  | 84 => ⟨S2x4096x64, .f32⟩
  | 85 => ⟨S2x4096x64, .f32⟩
  | 86 => ⟨S8192x3, .f32⟩
  | 87 => ⟨S_, .i32⟩
  | 88 => ⟨S2x4096x16, .i32⟩
  | 89 => ⟨S2x4096x16, .i1⟩
  | 90 => ⟨S_, .i32⟩
  | 91 => ⟨S2x4096x16, .i32⟩
  | 92 => ⟨S2x4096x16, .i32⟩
  | 93 => ⟨S2x4096x16, .i32⟩
  | 94 => ⟨S2x4096x16x1, .i32⟩
  | 95 => ⟨S2x4096x16x3, .f32⟩
  | 96 => ⟨S2x4096x1x3, .f32⟩
  | 97 => ⟨S2x4096x16x3, .f32⟩
  | 98 => ⟨S2x4096x16x3, .f32⟩
  | 99 => ⟨S8192x64, .f32⟩
  | 100 => ⟨S_, .i32⟩
  | 101 => ⟨S2x4096x16, .i32⟩
  | 102 => ⟨S2x4096x16, .i1⟩
  | 103 => ⟨S_, .i32⟩
  | 104 => ⟨S2x4096x16, .i32⟩
  | 105 => ⟨S2x4096x16, .i32⟩
  | 106 => ⟨S2x4096x16, .i32⟩
  | 107 => ⟨S2x4096x16x1, .i32⟩
  | 108 => ⟨S2x4096x16x64, .f32⟩
  | 109 => ⟨S2x4096x1x64, .f32⟩
  | 110 => ⟨S2x4096x16x64, .f32⟩
  | 111 => ⟨S2x4096x16x131, .f32⟩
  | 112 => ⟨S2x4096x16x128, .f32⟩
  | 113 => ⟨S1x1x1x128, .f32⟩
  | 114 => ⟨S2x4096x16x128, .f32⟩
  | 115 => ⟨S2x4096x16x128, .f32⟩
  | 116 => ⟨S_, .f32⟩
  | 117 => ⟨S2x4096x16x128, .f32⟩
  | 118 => ⟨S2x4096x16x128, .i1⟩
  | 119 => ⟨S_, .f32⟩
  | 120 => ⟨S2x4096x16x128, .f32⟩
  | 121 => ⟨S2x4096x16x128, .f32⟩
  | 122 => ⟨S2x4096x16x128, .f32⟩
  | 123 => ⟨S2x4096x16x128, .f32⟩
  | 124 => ⟨S1x1x1x128, .f32⟩
  | 125 => ⟨S2x4096x16x128, .f32⟩
  | 126 => ⟨S2x4096x16x128, .f32⟩
  | 127 => ⟨S_, .f32⟩
  | _ => ⟨S2x3x4096, .f32⟩

abbrev hbmTy0_1 (i : Nat) : BufTy := match i % 128 with
  | 0 => ⟨S2x4096x16x128, .f32⟩
  | 1 => ⟨S2x4096x16x128, .i1⟩
  | 2 => ⟨S_, .f32⟩
  | 3 => ⟨S2x4096x16x128, .f32⟩
  | 4 => ⟨S2x4096x16x128, .f32⟩
  | 5 => ⟨S2x4096x16x128, .f32⟩
  | 6 => ⟨S2x4096x16x128, .f32⟩
  | 7 => ⟨S1x1x1x128, .f32⟩
  | 8 => ⟨S2x4096x16x128, .f32⟩
  | 9 => ⟨S2x4096x16x128, .f32⟩
  | 10 => ⟨S_, .f32⟩
  | 11 => ⟨S2x4096x16x128, .f32⟩
  | 12 => ⟨S2x4096x16x128, .i1⟩
  | 13 => ⟨S_, .f32⟩
  | 14 => ⟨S2x4096x16x128, .f32⟩
  | 15 => ⟨S2x4096x16x128, .f32⟩
  | 16 => ⟨S2x4096x16x128, .f32⟩
  | 17 => ⟨S_, .f32⟩
  | 18 => ⟨S2x4096x128, .f32⟩
  | 19 => ⟨S2x128x4096, .f32⟩
  | 20 => ⟨S2x4096x3, .f32⟩
  | 21 => ⟨S2x4096x3, .f32⟩
  | 22 => ⟨S2x4096x128, .f32⟩
  | 23 => ⟨S2x4096x128, .f32⟩
  | 24 => ⟨S8192x3, .f32⟩
  | 25 => ⟨S_, .i32⟩
  | 26 => ⟨S2x4096x16, .i32⟩
  | 27 => ⟨S2x4096x16, .i1⟩
  | 28 => ⟨S_, .i32⟩
  | 29 => ⟨S2x4096x16, .i32⟩
  | 30 => ⟨S2x4096x16, .i32⟩
  | 31 => ⟨S2x4096x16, .i32⟩
  | 32 => ⟨S2x4096x16x1, .i32⟩
  | 33 => ⟨S2x4096x16x3, .f32⟩
  | 34 => ⟨S2x4096x1x3, .f32⟩
  | 35 => ⟨S2x4096x16x3, .f32⟩
  | 36 => ⟨S2x4096x16x3, .f32⟩
  | 37 => ⟨S8192x128, .f32⟩
  | 38 => ⟨S_, .i32⟩
  | 39 => ⟨S2x4096x16, .i32⟩
  | 40 => ⟨S2x4096x16, .i1⟩
  | 41 => ⟨S_, .i32⟩
  | 42 => ⟨S2x4096x16, .i32⟩
  | 43 => ⟨S2x4096x16, .i32⟩
  | 44 => ⟨S2x4096x16, .i32⟩
  | 45 => ⟨S2x4096x16x1, .i32⟩
  | 46 => ⟨S2x4096x16x128, .f32⟩
  | 47 => ⟨S2x4096x1x128, .f32⟩
  | 48 => ⟨S2x4096x16x128, .f32⟩
  | 49 => ⟨S2x4096x16x259, .f32⟩
  | 50 => ⟨S2x4096x16x128, .f32⟩
  | 51 => ⟨S1x1x1x128, .f32⟩
  | 52 => ⟨S2x4096x16x128, .f32⟩
  | 53 => ⟨S2x4096x16x128, .f32⟩
  | 54 => ⟨S_, .f32⟩
  | 55 => ⟨S2x4096x16x128, .f32⟩
  | 56 => ⟨S2x4096x16x128, .i1⟩
  | 57 => ⟨S_, .f32⟩
  | 58 => ⟨S2x4096x16x128, .f32⟩
  | 59 => ⟨S2x4096x16x128, .f32⟩
  | 60 => ⟨S2x4096x16x128, .f32⟩
  | 61 => ⟨S2x4096x16x128, .f32⟩
  | 62 => ⟨S1x1x1x128, .f32⟩
  | 63 => ⟨S2x4096x16x128, .f32⟩
  | 64 => ⟨S2x4096x16x128, .f32⟩
  | 65 => ⟨S_, .f32⟩
  | 66 => ⟨S2x4096x16x128, .f32⟩
  | 67 => ⟨S2x4096x16x128, .i1⟩
  | 68 => ⟨S_, .f32⟩
  | 69 => ⟨S2x4096x16x128, .f32⟩
  | 70 => ⟨S2x4096x16x128, .f32⟩
  | 71 => ⟨S2x4096x16x128, .f32⟩
  | 72 => ⟨S_, .f32⟩
  | 73 => ⟨S2x4096x128, .f32⟩
  | 74 => ⟨S2x128x4096, .f32⟩
  | _ => ⟨S2x3x4096, .f32⟩

abbrev hbmTy (i : Nat) : BufTy := match i / 128 with
  | 0 => hbmTy0_0 i
  | 1 => hbmTy0_1 i
  | _ => ⟨S2x3x4096, .f32⟩

abbrev bufTy : (tb : Table) → Fin (tcTables nBuf tb) → BufTy
  | .hbm, ⟨i, _⟩ => hbmTy i
  | _, _ => ⟨S2x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_9 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_cst_14 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_15 : Ref sig .tc := ⟨.hbm, 127, rfl⟩
abbrev main_v94 : Ref sig .tc := ⟨.hbm, 128, rfl⟩
abbrev main_v95 : Ref sig .tc := ⟨.hbm, 129, rfl⟩
abbrev main_cst_16 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_17 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_19 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_20 : Ref sig .tc := ⟨.hbm, 153, rfl⟩
abbrev main_v115 : Ref sig .tc := ⟨.hbm, 154, rfl⟩
abbrev main_v116 : Ref sig .tc := ⟨.hbm, 155, rfl⟩
abbrev main_c_21 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_22 : Ref sig .tc := ⟨.hbm, 166, rfl⟩
abbrev main_v126 : Ref sig .tc := ⟨.hbm, 167, rfl⟩
abbrev main_v127 : Ref sig .tc := ⟨.hbm, 168, rfl⟩
abbrev main_c_23 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_24 : Ref sig .tc := ⟨.hbm, 182, rfl⟩
abbrev main_v140 : Ref sig .tc := ⟨.hbm, 183, rfl⟩
abbrev main_v141 : Ref sig .tc := ⟨.hbm, 184, rfl⟩
abbrev main_cst_25 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_26 : Ref sig .tc := ⟨.hbm, 193, rfl⟩
abbrev main_v149 : Ref sig .tc := ⟨.hbm, 194, rfl⟩
abbrev main_v150 : Ref sig .tc := ⟨.hbm, 195, rfl⟩
abbrev main_cst_27 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_28 : Ref sig .tc := ⟨.hbm, 200, rfl⟩
abbrev main_v154 : Ref sig .tc := ⟨.hbm, 201, rfl⟩
abbrev main_v155 : Ref sig .tc := ⟨.hbm, 202, rfl⟩

abbrev nD : Nat := 1
abbrev τ : Topo := Topo.v7x

variable {F : FTy → Type} [FloatOps F]
-- ==== Proof.Words.lean ====
/-
  The words a task of the gather carries from trip to trip of its loop, in closed form: before trip `t` it has issued
  `min (t + 1) 32` fetches of offset blocks, waited for `t` of them, issued `t` write-outs, waited for `t - 1` of those,
  and stands at block `t` of its 32. From these: which regions each trip runs, the offsets its slices start at, and the
  side conditions it assumes.
-/
module

public import proofs.«01_k».proof.Defs
public import proofs.«01_k».proof.Proof.Gen.Kernel
public import proofs.«01_k».proof.Proof.Gen.Kernel.Skeleton

@[expose] public section

set_option Elab.async false

namespace Cert.Kernel.Words

open Cert.Kernel Cert.Kernel.Gen Idealize.ShloMosaic

/-- The first row of the task's 4096 rows. -/
abbrev base (i : grid1.Coords) : ℕ := 4096 * (i 1).val + 65536 * (i 0).val

/-- The number of the task's first block, as the program computes it. -/
abbrev first (i : grid1.Coords) : BitVec 32 :=
  Scalar.muli (Scalar.addi (Scalar.addi 0#32 (Scalar.muli (BitVec.ofNat 32 (i 1).val) 1#32)) (Scalar.muli (BitVec.ofNat 32 (i 0).val) 16#32)) 32#32

abbrev w6 (t : ℕ) : BitVec 32 := BitVec.ofNat 32 (min (t + 1) 32)
abbrev w7 (t : ℕ) : BitVec 32 := BitVec.ofNat 32 t
abbrev w9 (t : ℕ) : BitVec 32 := BitVec.ofNat 32 (t - 1)
abbrev w10 (t : ℕ) : BitVec 32 := BitVec.ofNat 32 (t % 32)

/-- The carried words before trip `t`. -/
abbrev carried (t : ℕ) : BitVec 32 × BitVec 32 × BitVec 32 × BitVec 32 × BitVec 32 := (w6 t, w7 t, w7 t, w9 t, w10 t)

theorem trips_eq : k1_t1_loop.trips = 32 := by decide +kernel

theorem chk1 : ∀ (i : grid1.Coords) (t : Fin k1_t1_loop.trips), k1_chk1 i t (w6 t) (w7 t) (w7 t) (w9 t) (w10 t) := by decide +kernel
theorem chk2 : ∀ t : Fin k1_t1_loop.trips, k1_chk2 (w7 t) := by decide +kernel
theorem chk3 : ∀ t : Fin k1_t1_loop.trips, k1_chk3 (w7 t) := by decide +kernel
theorem chk4 : k1_chk4 (w9 32) := by decide +kernel
theorem chk5 : ∀ i : grid1.Coords, k1_chk5 i (w10 32) := by decide +kernel

theorem cond1 : ∀ (i : grid1.Coords) (t : Fin k1_t1_loop.trips), k1_cond1 i t (w10 t) = 1#1 ↔ t.val < 31 := by decide +kernel
theorem cond2 : ∀ (i : grid1.Coords) (t : Fin k1_t1_loop.trips), k1_cond2 i t (w10 t) = 1#1 := by decide +kernel
theorem cond5 : ∀ (i : grid1.Coords) (t : Fin k1_t1_loop.trips), k1_cond5 i t (w10 t) = 1#1 := by decide +kernel
theorem cond7 : ∀ (i : grid1.Coords) (t : Fin k1_t1_loop.trips), k1_cond7 i t (w10 t) = 1#1 ↔ 0 < t.val := by decide +kernel

/-! ## The next offset block's fetch, `t < 31` -/
theorem off4 : ∀ t : Fin k1_t1_loop.trips, t.val < 31 → k1_off4 (w6 t) = ![(t.val + 1) % 2, 0, 0] := by decide +kernel
theorem off5 : ∀ (i : grid1.Coords) (t : Fin k1_t1_loop.trips), t.val < 31 → k1_off5 i (w10 t) = ![0, base i + 128 * (t.val + 1)] := by decide +kernel
theorem off6 : ∀ t : Fin k1_t1_loop.trips, t.val < 31 → k1_off6 (w6 t) = ![(t.val + 1) % 2] := by decide +kernel
/-! ## The wait for this one -/
theorem off7 : ∀ t : Fin k1_t1_loop.trips, k1_off7 (w7 t) = ![t.val % 2, 0, 0] := by decide +kernel
theorem off9 : ∀ t : Fin k1_t1_loop.trips, k1_off9 (w7 t) = ![t.val % 2] := by decide +kernel
/-! ## The gather -/
theorem off10 : ∀ t : Fin k1_t1_loop.trips, k1_off10 (w7 t) = ![t.val % 2, 0, 0] := by decide +kernel
theorem off11 : ∀ t : Fin k1_t1_loop.trips, k1_off11 (w7 t) = ![t.val % 2, 0, 0] := by decide +kernel
/-! ## The write-out -/
theorem off12 : ∀ t : Fin k1_t1_loop.trips, k1_off12 (w7 t) = ![t.val % 2, 0, 0] := by decide +kernel
theorem off13 : ∀ (i : grid1.Coords) (t : Fin k1_t1_loop.trips), k1_off13 i (w10 t) = ![base i + 128 * t.val, 0] := by decide +kernel
theorem off14 : ∀ t : Fin k1_t1_loop.trips, k1_off14 (w7 t) = ![t.val % 2] := by decide +kernel
/-! ## The waits for the write-outs -/
theorem off17 : ∀ t : Fin k1_t1_loop.trips, 0 < t.val → k1_off17 (w9 t) = ![(t.val + 1) % 2] := by decide +kernel
theorem off20 : k1_off20 (w9 32) = ![1] := by decide +kernel

/-- The words a trip yields are those before the next. -/
theorem next : ∀ (i : grid1.Coords) (t : Fin k1_t1_loop.trips),
    let v4 : BitVec 32 := first i
    let arg6 : BitVec 32 := w6 t
    let arg7 : BitVec 32 := w7 t
    let arg8 : BitVec 32 := w7 t
    let arg9 : BitVec 32 := w9 t
    let arg10 : BitVec 32 := w10 t
    let arg5 : BitVec 32 := Scf.iv 0#32 1#32 t
    let v64 : BitVec 1 := Scalar.cmpi .eq arg5 0#32
    let v65 : BitVec 1 := Scalar.cmpi .eq arg5 31#32
    let v66 : BitVec 32 := Scalar.addi arg10 v4
    let v67 : BitVec 32 := Scalar.subi arg10 1#32
    let v68 : BitVec 32 := Scalar.select 1#1 v67 arg10
    let v69 : BitVec 1 := Scalar.cmpi .eq v68 4294967295#32
    let v70 : BitVec 32 := Scalar.select v69 31#32 v68
    let v71 : BitVec 32 := Scalar.addi v70 v4
    let v72 : BitVec 32 := Scalar.addi arg10 1#32
    let v73 : BitVec 32 := Scalar.select 1#1 v72 arg10
    let v74 : BitVec 1 := Scalar.cmpi .eq v73 32#32
    let v75 : BitVec 32 := Scalar.select v74 0#32 v73
    let v76 : BitVec 32 := Scalar.addi v75 v4
    let v82 : BitVec 1 := Scalar.cmpi .ne v66 v76
    let v83 : BitVec 1 := Scalar.cmpi .sge arg5 31#32
    let v84 : BitVec 1 := Scalar.xori v83 1#1
    let v85 : BitVec 1 := Scalar.andi v82 v84
    let v89 : BitVec 1 := Scalar.andi v85 1#1
    let v116 : BitVec 1 := Scalar.ori (Scalar.cmpi .ne v66 v76) v65
    let v130 : BitVec 1 := Scalar.andi (Scalar.cmpi .ne v66 v71) (Scalar.xori v64 1#1)
    let v141 : BitVec 32 := Scalar.select 1#1 (Scalar.addi arg10 1#32) arg10
    (Scalar.select v89 (Scalar.addi arg6 1#32) arg6, Scalar.select v116 (Scalar.addi arg7 1#32) arg7,
      Scalar.select (Scalar.andi v116 1#1) (Scalar.addi arg8 1#32) arg8, Scalar.select (Scalar.andi v130 1#1) (Scalar.addi arg9 1#32) arg9,
      Scalar.select (Scalar.cmpi .eq v141 32#32) 0#32 v141) = carried (t.val + 1) := by decide +kernel

end Cert.Kernel.Words

end
-- ==== Proof.Slots.lean ====
/-
  The pieces of memory one task of the gather works on, by the coordinates of the memref they lie in: the two slots of
  each of its staging buffers, the columns of the offset list, the rows of the result; the views the program forms of
  them; and the transfers between them, each with what it delivers at its wait.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.ValueLayout
public import Idealize.ShloMosaic.Lib.Tactic

@[expose] public section

noncomputable section

namespace Cert.Kernel.Slots

open Cert.Kernel Cert.Kernel.Gen Cert.Kernel.Words

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

/-! ## The pieces -/

/-- Slot `p` of the offsets' staging buffer, of the rows' staging buffer. -/
def lane0 (p : ℕ) : Finset S2x1x128.Idx := Finset.univ.filter fun j => (j 0).val = p
def lane2 (p : ℕ) : Finset S2x128x128.Idx := Finset.univ.filter fun j => (j 0).val = p
/-- Columns `a` to `b` of the offset list; rows `a` to `b` of the result. -/
def cols (a b : ℕ) : Finset S1x131072.Idx := Finset.univ.filter fun j => a ≤ (j 1).val ∧ (j 1).val < b
def rowsOf (a b : ℕ) : Finset S131072x128.Idx := Finset.univ.filter fun j => a ≤ (j 0).val ∧ (j 0).val < b

theorem mem_lane0 {p : ℕ} {j : S2x1x128.Idx} : j ∈ lane0 p ↔ (j 0).val = p := by simp [lane0]
theorem mem_lane2 {p : ℕ} {j : S2x128x128.Idx} : j ∈ lane2 p ↔ (j 0).val = p := by simp [lane2]
theorem mem_cols {a b : ℕ} {j : S1x131072.Idx} : j ∈ cols a b ↔ a ≤ (j 1).val ∧ (j 1).val < b := by simp [cols]
theorem mem_rowsOf {a b : ℕ} {j : S131072x128.Idx} : j ∈ rowsOf a b ↔ a ≤ (j 0).val ∧ (j 0).val < b := by simp [rowsOf]

section Views

variable {κ : Kind} {sp : Space} {e : EltTy}

abbrev slot0 (m : Memref sig κ sp S2x1x128 e) (off : Fin 3 → ℕ) (inb : ∀ a, off a + S1x1x128.size a ≤ S2x1x128.size a) :
    Memref sig κ sp S1x128 e :=
  (m.slice (Rect.unit (s := S2x1x128) off S1x1x128.size inb) (fun _ => rfl)).squeeze S1x128 squeezes_S1x1x128_S1x128
abbrev slot2 (m : Memref sig κ sp S2x128x128 e) (off : Fin 3 → ℕ) (inb : ∀ a, off a + S1x128x128.size a ≤ S2x128x128.size a) :
    Memref sig κ sp S128x128 e :=
  (m.slice (Rect.unit (s := S2x128x128) off S1x128x128.size inb) (fun _ => rfl)).squeeze S128x128 squeezes_S1x128x128_S128x128
abbrev list0 (m : Memref sig κ sp S2x1x128 e) (off : Fin 3 → ℕ) (inb : ∀ a, off a + S1x1x128.size a ≤ S2x1x128.size a) :
    Memref sig κ sp S128 e :=
  ((slot0 m off inb).slice (Rect.unit (s := S1x128) ![0, 0] S1x128.size inb_S1x128_S1x128_0_0) (fun _ => rfl)).squeeze S128 squeezes_S1x128_S128
abbrev colsAt (m : Memref sig κ sp S1x131072 e) (off : Fin 2 → ℕ) (inb : ∀ a, off a + S1x128.size a ≤ S1x131072.size a) :
    Memref sig κ sp S1x128 e :=
  m.slice (Rect.unit (s := S1x131072) off S1x128.size inb) (fun _ => rfl)
abbrev rowsAt (m : Memref sig κ sp S131072x128 e) (off : Fin 2 → ℕ) (inb : ∀ a, off a + S128x128.size a ≤ S131072x128.size a) :
    Memref sig κ sp S128x128 e :=
  m.slice (Rect.unit (s := S131072x128) off S128x128.size inb) (fun _ => rfl)
abbrev allOf (m : Memref sig κ sp S8192x128 e) : Memref sig κ sp S8192x128 e :=
  m.slice (Rect.unit (s := S8192x128) ![0, 0] S8192x128.size inb_S8192x128_S8192x128_0_0) (fun _ => rfl)

theorem set_slot0 (m : Memref sig κ sp S2x1x128 e) {off : Fin 3 → ℕ} {inb} {p : ℕ} (h : off = ![p, 0, 0]) :
    (slot0 m off inb).view.set = m.view.setOn (lane0 p) := by
  show ((m.view.slice (Rect.unit (s := S2x1x128) off S1x1x128.size inb)).reshape S1x128 squeezes_S1x1x128_S1x128.numel_eq).set = _
  rw [View.set_reshape, View.set_slice, View.setOn]
  refine congrArg (Finset.map m.view.emb) (Finset.ext fun j => ?_)
  rw [Rect.mem_set_unit, mem_lane0]
  subst h
  have h1 : (j 1).val < 1 := (j 1).isLt
  constructor
  · intro hj
    have h0 : p ≤ (j 0).val ∧ (j 0).val < p + 1 := hj 0
    omega
  · intro hj a
    match a with
    | 0 => show p ≤ (j 0).val ∧ (j 0).val < p + 1; omega
    | 1 => show 0 ≤ (j 1).val ∧ (j 1).val < 0 + 1; omega
    | 2 => show 0 ≤ (j 2).val ∧ (j 2).val < 0 + 128; exact ⟨Nat.zero_le _, lt_of_lt_of_eq (j 2).isLt rfl⟩
theorem set_slot2 (m : Memref sig κ sp S2x128x128 e) {off : Fin 3 → ℕ} {inb} {p : ℕ} (h : off = ![p, 0, 0]) :
    (slot2 m off inb).view.set = m.view.setOn (lane2 p) := by
  show ((m.view.slice (Rect.unit (s := S2x128x128) off S1x128x128.size inb)).reshape S128x128 squeezes_S1x128x128_S128x128.numel_eq).set = _
  rw [View.set_reshape, View.set_slice, View.setOn]
  refine congrArg (Finset.map m.view.emb) (Finset.ext fun j => ?_)
  rw [Rect.mem_set_unit, mem_lane2]
  subst h
  constructor
  · intro hj
    have h0 : p ≤ (j 0).val ∧ (j 0).val < p + 1 := hj 0
    omega
  · intro hj a
    match a with
    | 0 => show p ≤ (j 0).val ∧ (j 0).val < p + 1; omega
    | 1 => show 0 ≤ (j 1).val ∧ (j 1).val < 0 + 128; exact ⟨Nat.zero_le _, lt_of_lt_of_eq (j 1).isLt rfl⟩
    | 2 => show 0 ≤ (j 2).val ∧ (j 2).val < 0 + 128; exact ⟨Nat.zero_le _, lt_of_lt_of_eq (j 2).isLt rfl⟩
theorem set_colsAt (m : Memref sig κ sp S1x131072 e) {off : Fin 2 → ℕ} {inb} {n : ℕ} (h : off = ![0, n]) :
    (colsAt m off inb).view.set = m.view.setOn (cols n (n + 128)) := by
  show (m.view.slice (Rect.unit (s := S1x131072) off S1x128.size inb)).set = _
  rw [View.set_slice, View.setOn]
  refine congrArg (Finset.map m.view.emb) (Finset.ext fun j => ?_)
  rw [Rect.mem_set_unit, mem_cols]
  subst h
  constructor
  · intro hj; exact hj 1
  · intro hj a
    match a with
    | 0 => show 0 ≤ (j 0).val ∧ (j 0).val < 0 + 1; exact ⟨Nat.zero_le _, lt_of_lt_of_eq (j 0).isLt rfl⟩
    | 1 => exact hj
theorem set_rowsAt (m : Memref sig κ sp S131072x128 e) {off : Fin 2 → ℕ} {inb} {n : ℕ} (h : off = ![n, 0]) :
    (rowsAt m off inb).view.set = m.view.setOn (rowsOf n (n + 128)) := by
  show (m.view.slice (Rect.unit (s := S131072x128) off S128x128.size inb)).set = _
  rw [View.set_slice, View.setOn]
  refine congrArg (Finset.map m.view.emb) (Finset.ext fun j => ?_)
  rw [Rect.mem_set_unit, mem_rowsOf]
  subst h
  constructor
  · intro hj; exact hj 0
  · intro hj a
    match a with
    | 0 => exact hj
    | 1 => show 0 ≤ (j 1).val ∧ (j 1).val < 0 + 128; exact ⟨Nat.zero_le _, lt_of_lt_of_eq (j 1).isLt rfl⟩
theorem set_list0 (m : Memref sig κ sp S2x1x128 e) {off : Fin 3 → ℕ} {inb} :
    (list0 m off inb).view.set = (slot0 m off inb).view.set := by
  show (((slot0 m off inb).view.slice (Rect.unit (s := S1x128) ![0, 0] S1x128.size inb_S1x128_S1x128_0_0)).reshape S128 squeezes_S1x128_S128.numel_eq).set = _
  rw [View.set_reshape, View.set_slice, View.set]
  refine congrArg (Finset.map (slot0 m off inb).view.emb) (Finset.ext fun j => ?_)
  rw [Rect.mem_set_unit]
  refine ⟨fun _ => Finset.mem_univ _, fun _ a => ?_⟩
  match a with
  | 0 => show 0 ≤ (j 0).val ∧ (j 0).val < 0 + 1; exact ⟨Nat.zero_le _, lt_of_lt_of_eq (j 0).isLt rfl⟩
  | 1 => show 0 ≤ (j 1).val ∧ (j 1).val < 0 + 128; exact ⟨Nat.zero_le _, lt_of_lt_of_eq (j 1).isLt rfl⟩
theorem set_allOf (m : Memref sig κ sp S8192x128 e) : (allOf m).view.set = m.view.set := by
  show (m.view.slice (Rect.unit (s := S8192x128) ![0, 0] S8192x128.size inb_S8192x128_S8192x128_0_0)).set = _
  rw [View.set_slice, View.set]
  refine congrArg (Finset.map m.view.emb) (Finset.ext fun j => ?_)
  rw [Rect.mem_set_unit]
  refine ⟨fun _ => Finset.mem_univ _, fun _ a => ?_⟩
  match a with
  | 0 => show 0 ≤ (j 0).val ∧ (j 0).val < 0 + 8192; exact ⟨Nat.zero_le _, lt_of_lt_of_eq (j 0).isLt rfl⟩
  | 1 => show 0 ≤ (j 1).val ∧ (j 1).val < 0 + 128; exact ⟨Nat.zero_le _, lt_of_lt_of_eq (j 1).isLt rfl⟩

variable {Val : EltTy → Type}

/-- What each view reads, through the memref it is formed of. -/
theorem read_slot0 (m : Memref sig κ sp S2x1x128 e) {off : Fin 3 → ℕ} {inb} (f : m.view.ty.Contents Val) (x : S1x128.Idx) :
    (slot0 m off inb).view.read Val f x
      = m.view.read Val f ((Rect.unit (s := S2x1x128) off S1x1x128.size inb).emb (Shape.reshapeEquiv squeezes_S1x1x128_S1x128.numel_eq x)) := rfl
theorem read_slot2 (m : Memref sig κ sp S2x128x128 e) {off : Fin 3 → ℕ} {inb} (f : m.view.ty.Contents Val) (x : S128x128.Idx) :
    (slot2 m off inb).view.read Val f x
      = m.view.read Val f ((Rect.unit (s := S2x128x128) off S1x128x128.size inb).emb (Shape.reshapeEquiv squeezes_S1x128x128_S128x128.numel_eq x)) := rfl
theorem read_list0 (m : Memref sig κ sp S2x1x128 e) {off : Fin 3 → ℕ} {inb} (f : m.view.ty.Contents Val) (x : S128.Idx) :
    (list0 m off inb).view.read Val f x
      = (slot0 m off inb).view.read Val f ((Rect.unit (s := S1x128) ![0, 0] S1x128.size inb_S1x128_S1x128_0_0).emb
          (Shape.reshapeEquiv squeezes_S1x128_S128.numel_eq x)) := rfl
theorem read_colsAt (m : Memref sig κ sp S1x131072 e) {off : Fin 2 → ℕ} {inb} (f : m.view.ty.Contents Val) (x : S1x128.Idx) :
    (colsAt m off inb).view.read Val f x = m.view.read Val f ((Rect.unit (s := S1x131072) off S1x128.size inb).emb x) := rfl
theorem read_rowsAt (m : Memref sig κ sp S131072x128 e) {off : Fin 2 → ℕ} {inb} (f : m.view.ty.Contents Val) (x : S128x128.Idx) :
    (rowsAt m off inb).view.read Val f x = m.view.read Val f ((Rect.unit (s := S131072x128) off S128x128.size inb).emb x) := rfl
theorem read_allOf (m : Memref sig κ sp S8192x128 e) (f : m.view.ty.Contents Val) (x : S8192x128.Idx) :
    (allOf m).view.read Val f x = m.view.read Val f x := by
  show m.view.read Val f ((Rect.unit (s := S8192x128) ![0, 0] S8192x128.size inb_S8192x128_S8192x128_0_0).emb x) = _
  congr 1; funext a
  apply Fin.ext
  match a with
  | 0 => simp
  | 1 => simp

end Views

/-! ## Where a slot's index lies -/

/-- An index of slot `p` is `(p, 0, k)` at the slot's own `(0, k)`, -/
theorem emb_slot0 {off : Fin 3 → ℕ} {inb : ∀ a, off a + S1x1x128.size a ≤ S2x1x128.size a} {p : ℕ} (h : off = ![p, 0, 0]) (x : S2x1x128.Idx) (hx : (x 0).val = p) :
    (Rect.unit (s := S2x1x128) off S1x1x128.size inb).emb (Shape.reshapeEquiv squeezes_S1x1x128_S1x128.numel_eq (ix2 (x 1) (x 2))) = x := by
  rw [show Shape.reshapeEquiv squeezes_S1x1x128_S1x128.numel_eq (ix2 (x 1) (x 2)) = ix3 (⟨0, Nat.one_pos⟩ : Fin 1) (x 1) (x 2) from
    reshapeEquiv_ix2_1ab _ _ _]
  subst h
  funext a; apply Fin.ext
  match a with
  | 0 => simp [ix3, hx]
  | 1 => simp [ix3]
  | 2 => simp [ix3]
/-- and likewise of the rows' staging buffer. -/
theorem emb_slot2 {off : Fin 3 → ℕ} {inb : ∀ a, off a + S1x128x128.size a ≤ S2x128x128.size a} {p : ℕ} (h : off = ![p, 0, 0]) (x : S2x128x128.Idx) (hx : (x 0).val = p) :
    (Rect.unit (s := S2x128x128) off S1x128x128.size inb).emb (Shape.reshapeEquiv squeezes_S1x128x128_S128x128.numel_eq (ix2 (x 1) (x 2))) = x := by
  rw [show Shape.reshapeEquiv squeezes_S1x128x128_S128x128.numel_eq (ix2 (x 1) (x 2)) = ix3 (⟨0, Nat.one_pos⟩ : Fin 1) (x 1) (x 2) from
    reshapeEquiv_ix2_1ab _ _ _]
  subst h
  funext a; apply Fin.ext
  match a with
  | 0 => simp [ix3, hx]
  | 1 => simp [ix3]
  | 2 => simp [ix3]

/-! ## The semaphores of a pair -/

/-- Semaphore `p` of a pair. -/
def semAt (v : DmaSems sig S2) (p : ℕ) : DmaSem sig := v.ix fun a => match a with | (0 : Fin 1) => (⟨p % 2, Nat.mod_lt _ Nat.two_pos⟩ : Fin 2)

theorem sem_at (v : DmaSems sig S2) {off : Fin 1 → ℕ} {inb : ∀ a, off a + S1.size a ≤ S2.size a} {p : ℕ} (h : off = ![p]) :
    ((v.slice (Rect.unit (s := S2) off S1.size inb)).squeeze S_ squeezes_S1_S_).sem = semAt v p := by
  subst h
  have hp : p + 1 ≤ 2 := inb 0
  unfold semAt SemArray.sem
  rw [SemArray.ix_squeeze, SemArray.ix_slice]
  congr 1; funext a; apply Fin.ext
  match a with
  | 0 =>
    have : (Shape.reshapeEquiv squeezes_S1_S_.numel_eq (fun i : Fin 0 => i.elim0) (0 : Fin 1)).val < 1 := Fin.isLt _
    simp only [Rect.emb_apply]
    show p + 1 * _ = p % 2
    rw [Nat.mod_eq_of_lt (by omega)]; omega

end Cert.Kernel.Slots

end
-- ==== Proof.Moves.lean ====
/-
  The transfers of one task of the gather, over memrefs given as variables: the fetch of a block of the offset list into
  a slot, the indexed copy of the rows it names, the write-out of a slot's rows, and the waits — each from the pieces
  it takes, with the pieces and the contents its wait brings back.
-/
module

public import proofs.«01_k».proof.Proof.Slots

@[expose] public section

noncomputable section

namespace Cert.Kernel.Moves

open Cert.Kernel Cert.Kernel.Gen Cert.Kernel.Words Cert.Kernel.Slots

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## Contents -/

section Contents

variable {κ : Kind}
variable (tab : Memref sig κ .hbm S8192x128 .f32) (lst : Memref sig κ .hbm S1x131072 .i32) (out : Memref sig κ .hbm S131072x128 .f32)
variable (st0 : Memref sig κ .vmem S2x1x128 .i32) (st2 : Memref sig κ .vmem S2x128x128 .f32)

/-- Slot `p` of the offsets' staging buffer holds the 128 offsets from `n` on. -/
def HasList (fl : lst.view.ty.Contents (Elt F)) (n p : ℕ) (f : st0.view.ty.Contents (Elt F)) : Prop :=
  ∀ (x : S2x1x128.Idx) (y : S1x131072.Idx), (x 0).val = p → (y 1).val = n + (x 2).val →
    st0.view.read (Elt F) f x = lst.view.read (Elt F) fl y

/-- Slot `p` of the rows' staging buffer holds rows `n` to `n + 128` of `G`. -/
def HasRows (G : S131072x128.Idx → Elt F .f32) (n p : ℕ) (f : st2.view.ty.Contents (Elt F)) : Prop :=
  ∀ (x : S2x128x128.Idx) (y : S131072x128.Idx), (x 0).val = p → (y 0).val = n + (x 1).val → (y 1).val = (x 2).val →
    st2.view.read (Elt F) f x = G y

/-- The rows of the table that the offsets name. -/
def gathered (ft : tab.view.ty.Contents (Elt F)) (fl : lst.view.ty.Contents (Elt F))
    (hl : ∀ y, (lst.view.read (Elt F) fl y : BitVec 32).toNat < 8192) : S131072x128.Idx → Elt F .f32 :=
  fun y => tab.view.read (Elt F) ft (ix2 (n0 := 8192) (n1 := 128) ⟨(lst.view.read (Elt F) fl (ix2 (n0 := 1) (n1 := 131072) 0 (y 0)) : BitVec 32).toNat, hl _⟩ (y 1))

theorem hasList_write {fl : lst.view.ty.Contents (Elt F)} {f : st0.view.ty.Contents (Elt F)} {n p : ℕ}
    {offS : Fin 2 → ℕ} {inbS} {offD : Fin 3 → ℕ} {inbD} (hS : offS = ![0, n]) (hD : offD = ![p, 0, 0]) :
    HasList lst st0 fl n p ((slot0 st0 offD inbD).view.write (Elt F) f ((colsAt lst offS inbS).view.read (Elt F) fl) Finset.univ) := by
  intro x y hx hy
  conv_lhs => rw [← emb_slot0 (inb := inbD) hD x hx]
  refine (read_slot0 st0 (off := offD) (inb := inbD) _ (ix2 (n0 := 1) (n1 := 128) (x 1) (x 2))).symm.trans ?_
  rw [View.read_write_univ, read_colsAt]
  congr 1
  subst hS
  funext a; apply Fin.ext
  match a with
  | 0 =>
    have h0 : (y 0).val < 1 := (y 0).isLt
    have h1 : (x 1).val < 1 := (x 1).isLt
    rw [Rect.emb_apply]
    show 0 + 1 * (x 1).val = (y 0).val
    omega
  | 1 =>
    rw [Rect.emb_apply]
    show n + 1 * (x 2).val = (y 1).val
    omega

/-- What the list the indexed copy reads holds: the slot's words. -/
theorem read_list (f : st0.view.ty.Contents (Elt F)) {p : ℕ} {off : Fin 3 → ℕ} {inb} (h : off = ![p, 0, 0]) (x : S128.Idx) :
    ∃ z : S2x1x128.Idx, (z 0).val = p ∧ (z 2).val = (x 0).val ∧ (list0 st0 off inb).view.read (Elt F) f x = st0.view.read (Elt F) f z := by
  have hx : (x 0).val < 128 := (x 0).isLt
  have e1 : Shape.reshapeEquiv squeezes_S1x128_S128.numel_eq x = ix2 (n0 := 1) (n1 := 128) 0 (x 0) :=
    Shape.reshapeEquiv_eq_of_rowMajor _ (by
      rw [Shape.rowMajor_val_two, Shape.rowMajor_val_one]
      show 0 * 128 + (x 0).val = (x 0).val
      omega)
  have e2 : (Rect.unit (s := S1x128) ![0, 0] S1x128.size inb_S1x128_S1x128_0_0).emb (ix2 (n0 := 1) (n1 := 128) 0 (x 0)) = ix2 (n0 := 1) (n1 := 128) 0 (x 0) := by
    funext a; apply Fin.ext
    match a with
    | 0 => rw [Rect.emb_apply]; rfl
    | 1 => rw [Rect.emb_apply]; show 0 + 1 * (x 0).val = (x 0).val; omega
  have hp : p + 1 ≤ 2 := by have := inb 0; rw [h] at this; exact this
  refine ⟨ix3 (n0 := 2) (n1 := 1) (n2 := 128) ⟨p, by omega⟩ 0 (x 0), rfl, rfl, ?_⟩
  rw [read_list0, e1, e2, read_slot0]
  congr 1
  exact emb_slot0 (inb := inb) h (ix3 (n0 := 2) (n1 := 1) (n2 := 128) ⟨p, by omega⟩ 0 (x 0)) rfl

theorem list_lt {fl : lst.view.ty.Contents (Elt F)} (hl : ∀ y, (lst.view.read (Elt F) fl y : BitVec 32).toNat < 8192)
    {f : st0.view.ty.Contents (Elt F)} {n p : ℕ} (hn : n + 128 ≤ 131072) (hf : HasList lst st0 fl n p f)
    {off : Fin 3 → ℕ} {inb} (h : off = ![p, 0, 0]) :
    ∀ x, ((list0 st0 off inb).view.read (Elt F) f x : BitVec 32).toNat < S8192x128.size gathers_S8192x128_S128x128.axis := by
  intro x
  have hx : (x 0).val < 128 := (x 0).isLt
  obtain ⟨z, hz0, hz2, hz⟩ := read_list st0 f (inb := inb) h x
  rw [hz, hf z (ix2 (n0 := 1) (n1 := 131072) 0 ⟨n + (x 0).val, by omega⟩) hz0 (by show n + (x 0).val = n + (z 2).val; omega)]
  exact hl _

theorem hasRows_write {ft : tab.view.ty.Contents (Elt F)} {fl : lst.view.ty.Contents (Elt F)}
    (hl : ∀ y, (lst.view.read (Elt F) fl y : BitVec 32).toNat < 8192)
    {f : st0.view.ty.Contents (Elt F)} {g : st2.view.ty.Contents (Elt F)} {n p p' : ℕ} (hn : n + 128 ≤ 131072) (hf : HasList lst st0 fl n p f)
    {off : Fin 3 → ℕ} {inb} (h : off = ![p, 0, 0]) {off' : Fin 3 → ℕ} {inb'} (h' : off' = ![p', 0, 0]) (hm : S128.numel = S128x128.size gathers_S8192x128_S128x128.axis') (hin) :
    HasRows st2 (gathered tab lst ft fl hl) n p'
      ((slot2 st2 off' inb').view.write (Elt F) g
        (SparseCore.gatherPayload gathers_S8192x128_S128x128 ((allOf tab).view.read (Elt F) ft)
          (SparseCore.rows ((list0 st0 off inb).view.read (Elt F) f) hm hin)) Finset.univ) := by
  intro x y hx hy hy1
  have hx1 : (x 1).val < 128 := (x 1).isLt
  conv_lhs => rw [← emb_slot2 (inb := inb') h' x hx]
  refine (read_slot2 st2 (off := off') (inb := inb') _ (ix2 (n0 := 128) (n1 := 128) (x 1) (x 2))).symm.trans ?_
  rw [View.read_write_univ]
  unfold SparseCore.gatherPayload gathered
  rw [read_allOf]
  congr 1
  have hrow : (SparseCore.rows ((list0 st0 off inb).view.read (Elt F) f) hm hin (x 1)).val
      = (lst.view.read (Elt F) fl (ix2 (n0 := 1) (n1 := 131072) 0 (y 0)) : BitVec 32).toNat := by
    unfold SparseCore.rows
    show ((list0 st0 off inb).view.read (Elt F) f (S128.rowMajor.symm _) : BitVec 32).toNat = _
    obtain ⟨z, hz0, hz2, hz⟩ := read_list st0 f (inb := inb) h (S128.rowMajor.symm ((x 1).cast hm.symm))
    refine (congrArg BitVec.toNat hz).trans ?_
    rw [hf z (ix2 (n0 := 1) (n1 := 131072) 0 (y 0)) hz0 ?_]
    rw [hz2]
    have e : ((S128.rowMajor.symm ((x 1).cast hm.symm)) 0).val = (x 1).val := by
      have := Shape.rowMajor_val_one (S128.rowMajor.symm ((x 1).cast hm.symm))
      rw [Equiv.apply_symm_apply] at this
      exact this.symm
    rw [e]; exact hy
  funext a; apply Fin.ext
  match a with
  | 0 =>
    refine (congrArg Fin.val (Shape.Gathers.idx_axis gathers_S8192x128_S128x128 _ (ix2 (n0 := 128) (n1 := 128) (x 1) (x 2)))).trans ?_
    exact hrow
  | 1 =>
    refine (Shape.Gathers.idx_of_ne gathers_S8192x128_S128x128 _ (ix2 (n0 := 128) (n1 := 128) (x 1) (x 2)) 1 (by decide)).trans ?_
    exact hy1.symm

/-- The write-out of a slot that holds rows `n` to `n + 128` of `G` leaves the result's rows `n` to `n + 128` at `G`. -/
theorem out_write {G : S131072x128.Idx → Elt F .f32} {fo fo' : out.view.ty.Contents (Elt F)} {f : st2.view.ty.Contents (Elt F)} {n p : ℕ}
    (hf : HasRows st2 G n p f) {offS : Fin 3 → ℕ} {inbS} {offD : Fin 2 → ℕ} {inbD} (hS : offS = ![p, 0, 0]) (hD : offD = ![n, 0]) :
    ∀ i ∈ out.view.setOn (rowsOf n (n + 128)),
      (rowsAt out offD inbD).view.write (Elt F) fo' ((slot2 st2 offS inbS).view.read (Elt F) f) Finset.univ i
        = out.view.write (Elt F) fo G Finset.univ i := by
  intro i hi
  rw [← set_rowsAt out (inb := inbD) hD] at hi
  obtain ⟨x, -, rfl⟩ := Finset.mem_map.mp hi
  rw [View.write_emb_of_mem _ _ (Finset.mem_univ x)]
  refine Eq.trans ?_ (View.write_emb_of_mem (v := out.view) (Val := Elt F) fo G (Finset.mem_univ ((Rect.unit (s := S131072x128) offD S128x128.size inbD).emb x))).symm
  congr 1
  have hp : p + 1 ≤ 2 := by have := inbS 0; rw [hS] at this; exact this
  have e := emb_slot2 (inb := inbS) hS (ix3 (n0 := 2) (n1 := 128) (n2 := 128) ⟨p, by omega⟩ (x 0) (x 1)) rfl
  rw [show x = ix2 (n0 := 128) (n1 := 128) (x 0) (x 1) from eq_ix2 x, read_slot2]
  refine (congrArg (st2.view.read (Elt F) f) e).trans ?_
  refine hf _ _ rfl ?_ ?_
  · subst hD
    rw [Rect.emb_apply]
    show n + 1 * (x 0).val = n + (x 0).val
    omega
  · subst hD
    rw [Rect.emb_apply]
    show 0 + 1 * (x 1).val = (x 1).val
    omega

end Contents

/-! ## The transfers -/

section Steps

variable {Ix : Type} [DecidableEq Ix] {U : Type} [URA U] [CountersIn U]

local notation "𝕄" => MT nD τ sig Ix (Elt F) ℕ U ℕ

variable {Λ : Labels} (defs : Defs nD τ sig (Elt F) Λ) (𝒱 : Variants) (c : Thread nD τ) (ι : Ix) (bd : Option 𝒱.V) {α : Type}
variable (tab : Memref sig c.2.kind .hbm S8192x128 .f32) (lst : Memref sig c.2.kind .hbm S1x131072 .i32) (out : Memref sig c.2.kind .hbm S131072x128 .f32)
variable (st0 : Memref sig c.2.kind .vmem S2x1x128 .i32) (st2 : Memref sig c.2.kind .vmem S2x128x128 .f32)

/-- Slot `p` of the offsets' staging buffer, at some contents; of the rows'. -/
abbrev inAny (p : ℕ) : sProp 𝕄 := iprop(∃ f, st0.view.loc c ↦[st0.view.setOn (lane0 p)]{fullShare} f)
abbrev outAny (p : ℕ) : sProp 𝕄 := iprop(∃ f, st2.view.loc c ↦[st2.view.setOn (lane2 p)]{fullShare} f)
/-- Slot `p` holding the offsets from `n` on; the rows `n` to `n + 128` of `G`. -/
abbrev inHas (fl : lst.view.ty.Contents (Elt F)) (n p : ℕ) : sProp 𝕄 :=
  iprop(∃ f, ⌜HasList lst st0 fl n p f⌝ ∗ (st0.view.loc c ↦[st0.view.setOn (lane0 p)]{fullShare} f))
abbrev outHas (G : S131072x128.Idx → Elt F .f32) (n p : ℕ) : sProp 𝕄 :=
  iprop(∃ f, ⌜HasRows st2 G n p f⌝ ∗ (st2.view.loc c ↦[st2.view.setOn (lane2 p)]{fullShare} f))
/-- A share of columns `a` to `b` of the offset list. -/
abbrev listPts (fl : lst.view.ty.Contents (Elt F)) (q : PosShare TreeShare) (A : Finset S1x131072.Idx) : sProp 𝕄 :=
  lst.view.loc c ↦[lst.view.setOn A]{q} fl
abbrev outPts (f : out.view.ty.Contents (Elt F)) (A : Finset S131072x128.Idx) : sProp 𝕄 :=
  out.view.loc c ↦[out.view.setOn A]{fullShare} f

/-- The amounts the transfers' semaphores count. -/
abbrev credIn : ℕ := (slot0 st0 ![0, 0, 0] (by decide)).view.dmaCredit
abbrev credGather : ℕ := (slot2 st2 ![0, 0, 0] (by decide)).view.dmaCredit
abbrev credOut : ℕ := (rowsAt out ![0, 0] (by decide)).view.dmaCredit

/-- The fetch of the offsets from `n` on into slot `p`, in flight. -/
abbrev Fetching (fl : lst.view.ty.Contents (Elt F)) (q : PosShare TreeShare) (v : DmaSems sig S2) (n p : ℕ) : sProp 𝕄 :=
  Transfers.Flight countersEmb c (.dma (semAt v p)) ι (credIn c st0)
    iprop(inHas c lst st0 fl n p ∗ listPts c lst fl q (cols n (n + 128)))
/-- The write-out of slot `p` to the rows from `n` on, in flight. -/
abbrev Writing (fo : out.view.ty.Contents (Elt F)) (G : S131072x128.Idx → Elt F .f32) (v : DmaSems sig S2) (n p : ℕ) : sProp 𝕄 :=
  Transfers.Flight countersEmb c (.dma (semAt v p)) ι (credOut c out)
    iprop(outPts c out (out.view.write (Elt F) fo G Finset.univ) (rowsOf n (n + 128)) ∗ outAny c st2 p)

theorem wp_fetch (fl : lst.view.ty.Contents (Elt F)) (q : PosShare TreeShare) (v : DmaSems sig S2) {n p : ℕ}
    {offS : Fin 2 → ℕ} {inbS : ∀ a, offS a + S1x128.size a ≤ S1x131072.size a} {offD : Fin 3 → ℕ} {inbD : ∀ a, offD a + S1x1x128.size a ≤ S2x1x128.size a} {sem : DmaSem sig} (hS : offS = ![0, n]) (hD : offD = ![p, 0, 0]) (hsem : sem = semAt v p)
    {hsrc : (colsAt lst offS inbS).view.WordExact} {hdst : (slot0 st0 offD inbD).view.WordExact}
    {hty : DmaTarget.Typed (nD := nD) .hbm (.dma sem) (.here (slot0 st0 offD inbD))} {k : PUnit.{1} → Prog (TpuEff nD τ sig (Elt F) Λ c.2) α} {Q : α → sProp 𝕄} :
    (iprop(listPts c lst fl q (cols n (n + 128)) ∗ inAny c st0 p ∗ semVal (c, .dma (semAt v p)) 0) : sProp 𝕄)
      ⊢ iprop((Fetching c ι lst st0 fl q v n p -∗ wp frame (wpE defs 𝒱 c bd) Set.univ (k ⟨⟩) Q)
          -∗ wp frame (wpE defs 𝒱 c bd) Set.univ (.op (.enqueueDma (colsAt lst offS inbS) (.here (slot0 st0 offD inbD)) (.dma sem) hsrc hdst hty) k) Q) := by
  subst hsem
  iintro ⟨Hl, ⟨%f, Hs⟩, Hv⟩ Hk
  have eS := set_colsAt lst (inb := inbS) hS
  have eD := set_slot0 st0 (inb := inbD) hD
  iapply (Transfers.wp_dmaLocal countersEmb 𝒱 c bd (src := colsAt lst offS inbS) (dst := slot0 st0 offD inbD) (via := .same)
    (Sd := st0.view.setOn (lane0 p)) (fs := fl) (fd := f) (q := q) ι (credIn c st0) rfl
    (View.dmaCredit_pos _ (by decide)) (le_of_eq eD)) $$ [Hl Hs Hv]
  · isplitl [Hl]; · rw [eS]; iexact Hl
    isplitl [Hs]; · iexact Hs
    iexact Hv
  iintro Hfl
  iapply Hk
  have hpost : iprop((st0.view.loc c ↦[st0.view.setOn (lane0 p)]{fullShare} (slot0 st0 offD inbD).view.write (Elt F) f ((colsAt lst offS inbS).view.read (Elt F) fl) Finset.univ)
        ∗ (lst.view.loc c ↦[(colsAt lst offS inbS).view.set]{q} fl))
      ⊢ (iprop(inHas c lst st0 fl n p ∗ listPts c lst fl q (cols n (n + 128))) : sProp 𝕄) := by
    rw [eS]
    iintro ⟨Hs, Hl⟩
    isplitl [Hs]
    · iexists _; isplitr
      swap; · iexact Hs
      ipureintro; exact hasList_write lst st0 hS hD
    · iexact Hl
  iapply (Transfers.Flight_mono countersEmb c hpost) $$ Hfl

theorem wp_writeOut (fo : out.view.ty.Contents (Elt F)) {G : S131072x128.Idx → Elt F .f32} (v : DmaSems sig S2) {n p : ℕ}
    {offS : Fin 3 → ℕ} {inbS : ∀ a, offS a + S1x128x128.size a ≤ S2x128x128.size a} {offD : Fin 2 → ℕ} {inbD : ∀ a, offD a + S128x128.size a ≤ S131072x128.size a}
    {sem : DmaSem sig} (hS : offS = ![p, 0, 0]) (hD : offD = ![n, 0]) (hsem : sem = semAt v p)
    {hsrc : (slot2 st2 offS inbS).view.WordExact} {hdst : (rowsAt out offD inbD).view.WordExact}
    {hty : DmaTarget.Typed (nD := nD) .vmem (.dma sem) (.here (rowsAt out offD inbD))} {k : PUnit.{1} → Prog (TpuEff nD τ sig (Elt F) Λ c.2) α} {Q : α → sProp 𝕄} :
    (iprop(outHas c st2 G n p ∗ outPts c out fo (rowsOf n (n + 128)) ∗ semVal (c, .dma (semAt v p)) 0) : sProp 𝕄)
      ⊢ iprop((Writing c ι out st2 fo G v n p -∗ wp frame (wpE defs 𝒱 c bd) Set.univ (k ⟨⟩) Q)
          -∗ wp frame (wpE defs 𝒱 c bd) Set.univ (.op (.enqueueDma (slot2 st2 offS inbS) (.here (rowsAt out offD inbD)) (.dma sem) hsrc hdst hty) k) Q) := by
  subst hsem
  iintro ⟨⟨%f, %hf, Hs⟩, Ho, Hv⟩ Hk
  have eS := set_slot2 st2 (inb := inbS) hS
  have eD := set_rowsAt out (inb := inbD) hD
  iapply (Transfers.wp_dmaLocal countersEmb 𝒱 c bd (src := slot2 st2 offS inbS) (dst := rowsAt out offD inbD) (via := .same)
    (Sd := out.view.setOn (rowsOf n (n + 128))) (fs := f) (fd := fo) (q := fullShare) ι (credOut c out) rfl
    (View.dmaCredit_pos _ (by decide)) (le_of_eq eD)) $$ [Hs Ho Hv]
  · isplitl [Hs]; · rw [eS]; iexact Hs
    isplitl [Ho]; · iexact Ho
    iexact Hv
  iintro Hfl
  iapply Hk
  have hpost : iprop((out.view.loc c ↦[out.view.setOn (rowsOf n (n + 128))]{fullShare}
          (rowsAt out offD inbD).view.write (Elt F) fo ((slot2 st2 offS inbS).view.read (Elt F) f) Finset.univ)
        ∗ (st2.view.loc c ↦[(slot2 st2 offS inbS).view.set]{fullShare} f))
      ⊢ (iprop(outPts c out (out.view.write (Elt F) fo G Finset.univ) (rowsOf n (n + 128)) ∗ outAny c st2 p) : sProp 𝕄) := by
    rw [eS]
    iintro ⟨Ho, Hs⟩
    isplitl [Ho]
    · iapply (Entails.of_eq (pointsTo_congr (out_write out st2 (fo := fo) hf (inbS := inbS) (inbD := inbD) hS hD))) $$ Ho
    · iexists _; iexact Hs
  iapply (Transfers.Flight_mono countersEmb c hpost) $$ Hfl

/-- What the task owes, its waits so far recorded. -/
abbrev Owing (O : CellTallies nD τ sig Ix) (W : Waits sig Ix) : sProp 𝕄 := iprop(∃ W', ⌜∀ p ∈ W', p ∈ W ∨ p.2 = ι⌝ ∗ owes c O W')

theorem wp_await {sp sp' : Space} {s s' : Shape} {e e' : EltTy} {κ' : Kind} {srcw : Memref sig c.2.kind sp' s' e'} {dstw : Memref sig κ' sp s e}
    {hsrc : srcw.view.WordExact} {hdst : dstw.view.WordExact} {sem sem' : DmaSem sig} (hsem : sem = sem') {N : ℕ} (hN : dstw.view.dmaCredit = N)
    {D : sProp 𝕄} {O : CellTallies nD τ sig Ix} {W : Waits sig Ix} {k : PUnit.{1} → Prog (TpuEff nD τ sig (Elt F) Λ c.2) α} {Q : α → sProp 𝕄} :
    (iprop(Transfers.MayWaits c ι O ∗ Transfers.Flight countersEmb c (.dma sem') ι N D ∗ Owing c ι O W) : sProp 𝕄)
      ⊢ iprop((iprop(D ∗ semVal (c, .dma sem') 0 ∗ Owing c ι O W) -∗ wp frame (wpE defs 𝒱 c bd) Set.univ (k ⟨⟩) Q)
          -∗ wp frame (wpE defs 𝒱 c bd) Set.univ (.op (.waitDma2 sem srcw dstw hsrc hdst) k) Q) := by
  subst hsem
  iintro ⟨Hmw, Hfl, %W', %hW', HO⟩ Hk
  iapply (Transfers.wp_waitLocalO countersEmb 𝒱 c bd ι hN) $$ [Hfl HO Hmw]
  · isplitl [Hfl]; · iexact Hfl
    isplitl [HO]; · iexact HO
    iapply (Transfers.MayWaits.elim (SemLoc.dma sem)) $$ Hmw
  iintro ⟨HD, Hv, HO⟩
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

/-- The indexed copy and its wait: slot `p'` of the rows' staging buffer ends at the rows slot `p` of the offsets' names. -/
theorem wp_gather {ft : tab.view.ty.Contents (Elt F)} {fl : lst.view.ty.Contents (Elt F)} (hl : ∀ y, (lst.view.read (Elt F) fl y : BitVec 32).toNat < 8192)
    (q : PosShare TreeShare) {n p p' : ℕ} (hn : n + 128 ≤ 131072)
    {off : Fin 3 → ℕ} {inb : ∀ a, off a + S1x1x128.size a ≤ S2x1x128.size a} {off' : Fin 3 → ℕ} {inb' : ∀ a, off' a + S1x128x128.size a ≤ S2x128x128.size a}
    {inb'' : ∀ a, off' a + S1x128x128.size a ≤ S2x128x128.size a} (h : off = ![p, 0, 0]) (h' : off' = ![p', 0, 0]) {hm : S128.numel = S128x128.size gathers_S8192x128_S128x128.axis'} {sem : DmaSem sig}
    (hN : ∀ inb, ∑ j, ((slot2 st2 off' inb).slice (S128x128.rowRect gathers_S8192x128_S128x128.axis' j) (S128x128.stride_rowRect gathers_S8192x128_S128x128.axis' j)).view.dmaCredit
      = (slot2 st2 off' inb).view.dmaCredit)
    {hp : c.2.kind = .scVector} {hsrc : (allOf tab).view.WordExact} {he : (EltTy.f32).bits = 32} {hsp : Space.hbm = .hbm ∨ Space.hbm = .shared} {hr : S8192x128.StreamRows 0}
    {hsrc' : (allOf tab).view.WordExact} {hdst' : (slot2 st2 off' inb'').view.WordExact}
    {O : CellTallies nD τ sig Ix} {W : Waits sig Ix} {k : PUnit.{1} → Prog (TpuEff nD τ sig (Elt F) Λ c.2) α} {Q : α → sProp 𝕄} :
    (iprop(Transfers.MayWaits c ι O ∗ (tab.view.loc c ↦[tab.view.set]{q} ft) ∗ inHas c lst st0 fl n p ∗ outAny c st2 p' ∗ semVal (c, .dma sem) 0 ∗ Owing c ι O W) : sProp 𝕄)
      ⊢ iprop((iprop((tab.view.loc c ↦[tab.view.set]{q} ft) ∗ inAny c st0 p ∗ outHas c st2 (gathered tab lst ft fl hl) n p' ∗ semVal (c, .dma sem) 0 ∗ Owing c ι O W)
              -∗ wp frame (wpE defs 𝒱 c bd) Set.univ (k ⟨⟩) Q)
          -∗ wp frame (wpE defs 𝒱 c bd) Set.univ
            (SparseCore.enqueueIndirectGather hp (allOf tab) (slot2 st2 off' inb') gathers_S8192x128_S128x128 (list0 st0 off inb) hm sem hsrc he hsp hr >>= fun _ =>
              .op (.waitDma2 sem (allOf tab) (slot2 st2 off' inb'') hsrc' hdst') k) Q) := by
  iintro ⟨Hmw, Ht, ⟨%f, %hf, Hs⟩, ⟨%g, Hr⟩, Hv, HO⟩ Hk
  have eL := (set_list0 st0 (inb := inb)).trans (set_slot0 st0 (inb := inb) h)
  have eR := set_slot2 st2 (inb := inb') h'
  have eT := set_allOf tab
  have hin := list_lt lst st0 hl hn hf (inb := inb) h
  iapply (SparseCore.wp_indirectGatherLocal countersEmb 𝒱 c bd (src := allOf tab) (dst := slot2 st2 off' inb') (hg := gathers_S8192x128_S128x128) (offs := list0 st0 off inb)
    (fs := ft) (fd := g) (fo := f) (q := q) (qo := fullShare) ι _ (hN _) (by decide) hin) $$ [Ht Hr Hs Hv]
  · isplitl [Ht]; · rw [eT]; iexact Ht
    isplitl [Hr]; · rw [eR]; iexact Hr
    isplitl [Hs]; · rw [eL]; iexact Hs
    iexact Hv
  iintro Hfl
  iapply (wp_await defs 𝒱 c ι bd (sem' := sem) rfl (N := (slot2 st2 off' inb').view.dmaCredit) rfl) $$ [Hmw Hfl HO]
  · isplitl [Hmw]; · iexact Hmw
    isplitl [Hfl]; · iexact Hfl
    iexact HO
  iintro ⟨⟨Hr, Ht, Hs⟩, Hv, HO⟩
  iapply Hk
  isplitl [Ht]; · rw [← eT]; iexact Ht
  isplitl [Hs]; · iexists f; rw [← eL]; iexact Hs
  isplitl [Hr]
  · iexists _; isplitr
    swap; · rw [← eR]; iexact Hr
    ipureintro; exact hasRows_write tab lst st0 st2 hl hn hf h h' hm hin
  isplitl [Hv]; · iexact Hv
  iexact HO

end Steps

end Cert.Kernel.Moves

end
-- ==== Proof.Trip.lean ====
/-
  One trip of a task's loop, over memrefs given as variables: the fetch of the next block of offsets is issued, this
  one's awaited; the rows it names are copied in and their write-out issued; the write-out of the block before is
  awaited. What the task holds before trip `t` is `Ins t` and `Outs t`, the values with them.
-/
module

public import proofs.«01_k».proof.Proof.Moves

@[expose] public section

noncomputable section

namespace Cert.Kernel.Trip

open Cert.Kernel Cert.Kernel.Gen Cert.Kernel.Words Cert.Kernel.Slots Cert.Kernel.Moves

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {Ix : Type} [DecidableEq Ix] {U : Type} [URA U] [CountersIn U]

local notation "𝕄" => MT nD τ sig Ix (Elt F) ℕ U ℕ

abbrev cV (i : grid1.Coords) : Fin τ.nSC := (i 0).castLE hcore1
abbrev jV (i : grid1.Coords) : Fin τ.nSub := (i 1).castLE hsub1
abbrev thr (d : Dev nD) (i : grid1.Coords) : Thread nD τ := V d (cV i) (jV i)

/-- Part of what a view shows leaves the rest, and comes back to it. -/
theorem on_split {sp : Space} {s : Shape} {e : EltTy} (c : Thread nD τ) (v : View sig c.2.kind sp s e) (f : Buf (Elt F) (v.loc c)) (q : PosShare TreeShare)
    {A B : Finset s.Idx} (h : A ⊆ B) :
    (v.loc c ↦[v.setOn B]{q} f : sProp 𝕄) ⊣⊢ iprop((v.loc c ↦[v.setOn A]{q} f) ∗ (v.loc c ↦[v.setOn (B \ A)]{q} f)) := by
  have e : v.setOn (B \ A) = v.setOn B \ v.setOn A := Finset.map_sdiff _ _
  rw [e]
  exact pointsTo_split_subset (Finset.map_subset_map.mpr h)

section Body

variable (d : Dev nD) (i : grid1.Coords) (ι : Ix)
variable (tab : Memref sig .scVector .hbm S8192x128 .f32) (htab : tab.IsWhole) (lst : Memref sig .scVector .hbm S1x131072 .i32) (hlst : lst.IsWhole)
variable (out : Memref sig .scVector .hbm S131072x128 .f32) (hout : out.IsWhole)
variable (st0 : Memref sig .scVector .vmem S2x1x128 .i32) (hst0 : st0.IsWhole) (vi : DmaSems sig S2)
variable (st2 : Memref sig .scVector .vmem S2x128x128 .f32) (hst2 : st2.IsWhole) (vo : DmaSems sig S2) (vg : DmaSems sig S_)
variable (ft : tab.view.ty.Contents (Elt F)) (fl : lst.view.ty.Contents (Elt F)) (fo : out.view.ty.Contents (Elt F)) (q : PosShare TreeShare)
variable (G : S131072x128.Idx → Elt F .f32)

/-- The columns lent to the fetch of block `t`. -/
def lent (t : ℕ) : Finset S1x131072.Idx := if t < 32 then cols (base i + 128 * t) (base i + 128 * t + 128) else ∅
/-- The slot of block `t`: its fetch in flight, or, past the last block, the slot free. -/
def Next (t : ℕ) : sProp 𝕄 :=
  if t < 32 then Fetching (thr d i) ι lst st0 fl q vi (base i + 128 * t) (t % 2)
  else iprop(inAny (thr d i) st0 (t % 2) ∗ semVal (thr d i, .dma (semAt vi (t % 2))) 0)
/-- The offsets' side before trip `t`. -/
def Ins (t : ℕ) : sProp 𝕄 :=
  iprop(listPts (thr d i) lst fl q (Finset.univ \ lent i t) ∗ Next d i ι lst st0 vi fl q t
    ∗ inAny (thr d i) st0 ((t + 1) % 2) ∗ semVal (thr d i, .dma (semAt vi ((t + 1) % 2))) 0)
/-- The slot of block `t - 1`: its write-out in flight, or, before the first, the slot free. -/
def Prev (t : ℕ) : sProp 𝕄 :=
  if 0 < t then Writing (thr d i) ι out st2 fo G vo (base i + 128 * (t - 1)) ((t + 1) % 2)
  else iprop(outAny (thr d i) st2 ((t + 1) % 2) ∗ semVal (thr d i, .dma (semAt vo ((t + 1) % 2))) 0)
/-- The result's rows before trip `t`: those written, those to write, and the slot of the block before. -/
def Rows (t : ℕ) : sProp 𝕄 :=
  iprop(outPts (thr d i) out (out.view.write (Elt F) fo G Finset.univ) (rowsOf (base i) (base i + 128 * (t - 1)))
    ∗ outPts (thr d i) out fo (rowsOf (base i + 128 * t) (base i + 4096))
    ∗ semVal (thr d i, .dma (semAt vo (t % 2))) 0 ∗ Prev d i ι out st2 vo fo G t)

omit [FloatOps F] in
theorem mod_two (t : ℕ) : (t + 1 + 1) % 2 = t % 2 := by omega

/-! ## The statements up to the next block's fetch -/

/-- What those statements hand on. -/
abbrev R1 (t : Fin k1_t1_loop.trips) : Type :=
  Σ' (_ : k1_chk3 (w7 t)) (_ : k1_chk2 (w7 t)) (_ : k1_chk1 i t (w6 t) (w7 t) (w7 t) (w9 t) (w10 t)) (_ : BitVec 32) (_ : BitVec 1) (_ : BitVec 1)
    (_ : BitVec 32) (_ : BitVec 32) (_ : BitVec 32) (_ : BitVec 32), BitVec 1

/-- The words those statements compute. -/
def r1 (t : Fin k1_t1_loop.trips) : R1 i t :=
  let arg5 : BitVec 32 := Scf.iv 0#32 1#32 t
  let v66 : BitVec 32 := Scalar.addi (w10 t) (first i)
  let v68 : BitVec 32 := Scalar.select 1#1 (Scalar.subi (w10 t) 1#32) (w10 t)
  let v71 : BitVec 32 := Scalar.addi (Scalar.select (Scalar.cmpi .eq v68 4294967295#32) 31#32 v68) (first i)
  let v73 : BitVec 32 := Scalar.select 1#1 (Scalar.addi (w10 t) 1#32) (w10 t)
  let v76 : BitVec 32 := Scalar.addi (Scalar.select (Scalar.cmpi .eq v73 32#32) 0#32 v73) (first i)
  let v85 : BitVec 1 := Scalar.andi (Scalar.cmpi .ne v66 v76) (Scalar.xori (Scalar.cmpi .sge arg5 31#32) 1#1)
  ⟨chk3 t, chk2 t, chk1 i t, arg5, Scalar.cmpi .eq arg5 0#32, Scalar.cmpi .eq arg5 31#32, v66, v71, v76,
    Scalar.select (Scalar.andi v85 1#1) (Scalar.addi (w6 t) 1#32) (w6 t), Scalar.cmpi .ne v66 v71⟩

omit [FloatOps F] in
theorem lent_of_lt {t : ℕ} (h : t < 32) : lent i t = cols (base i + 128 * t) (base i + 128 * t + 128) := if_pos h
omit [FloatOps F] in
theorem lent_of_not {t : ℕ} (h : ¬t < 32) : lent i t = ∅ := if_neg h
omit [FloatOps F] in
theorem lent_disjoint (t : ℕ) : lent i (t + 1) ⊆ Finset.univ \ lent i t := by
  intro j hj
  rw [Finset.mem_sdiff]
  refine ⟨Finset.mem_univ _, fun h => ?_⟩
  unfold lent at hj h
  split at hj
  · rw [if_pos (by omega)] at h
    have := mem_cols.mp hj; have := mem_cols.mp h; omega
  · exact absurd hj (Finset.notMem_empty _)

theorem part1_spec (𝒱 : Variants) (bd : Option 𝒱.V) (t : Fin k1_t1_loop.trips) {α : Type} {kk : R1 i t → Prog (TpuEff nD τ sig (Elt F) Λ₀ (.scVector (cV i) (jV i))) α} {Q : α → sProp 𝕄} :
    (iprop(Ins d i ι lst st0 vi fl q t) : sProp 𝕄)
      ⊢ iprop((iprop(listPts (thr d i) lst fl q ((Finset.univ \ lent i t) \ lent i (t + 1)) ∗ Next d i ι lst st0 vi fl q t ∗ Next d i ι lst st0 vi fl q (t + 1))
          -∗ wp frame (wpE (defs₀ (F := F)) 𝒱 (thr d i) bd) Set.univ (kk (r1 i t)) Q)
        -∗ wp frame (wpE (defs₀ (F := F)) 𝒱 (thr d i) bd) Set.univ
            (k1_part1 i tab htab lst hlst out hout st0 hst0 vi st2 hst2 vo vg (first i) 0#32 1#32 t (w6 t) (w7 t) (w7 t) (w9 t) (w10 t) >>= kk) Q) := by
  have h1 := chk1 i t
  have h2 := chk2 t
  have h3 := chk3 t
  rw [k1_part1_eq_skeleton]; unfold k1_part1_skel
  unfold Ins
  iintro ⟨Hl, Hn, Hs, Hv⟩ Hk
  by_cases h31 : t.val < 31
  · have hc := (cond1 i t).mpr h31
    sl_exec
    ihave Hl' := (on_split (thr d i) lst.view fl q (lent_disjoint i t)).1 $$ Hl
    icases Hl' with ⟨Hn', Hl⟩
    rw [lent_of_lt i (show t.val + 1 < 32 by omega)]
    iapply (wp_fetch defs₀ 𝒱 (thr d i) ι bd lst st0 fl q vi (off5 i t h31) (off4 t h31) (sem_at vi (off6 t h31))) $$ [Hn' Hs Hv]
    · isplitl [Hn']; · iexact Hn'
      isplitl [Hs]; · iexact Hs
      iexact Hv
    iintro Hf
    sl_exec
    iapply Hk
    isplitl [Hl]; · iexact Hl
    isplitl [Hn]; · iexact Hn
    rw [Next, if_pos (show t.val + 1 < 32 by omega)]
    iexact Hf
  · have hc := fun h => h31 ((cond1 i t).mp h)
    sl_exec
    iapply Hk
    rw [lent_of_not i (show ¬t.val + 1 < 32 by omega), Finset.sdiff_empty]
    isplitl [Hl]; · iexact Hl
    isplitl [Hn]; · iexact Hn
    rw [Next, if_neg (show ¬t.val + 1 < 32 by omega)]
    isplitl [Hs]; · iexact Hs
    iexact Hv

/-! ## The wait for this block's offsets, the indexed copy -/

theorem part2_spec (𝒱 : Variants) (bd : Option 𝒱.V) (hl : ∀ y, (lst.view.read (Elt F) fl y : BitVec 32).toNat < 8192)
    (hN : ∀ off inb, ∑ j, ((slot2 st2 off inb).slice (S128x128.rowRect gathers_S8192x128_S128x128.axis' j) (S128x128.stride_rowRect gathers_S8192x128_S128x128.axis' j)).view.dmaCredit
      = (slot2 st2 off inb).view.dmaCredit)
    {O : CellTallies nD τ sig Ix} {W : Waits sig Ix}
    (t : Fin k1_t1_loop.trips) (v64 v65 : BitVec 1) (a5 v66 v71 v76 : BitVec 32) (v96 : BitVec 1)
    {α : Type} {kk : PUnit.{1} → Prog (TpuEff nD τ sig (Elt F) Λ₀ (.scVector (cV i) (jV i))) α} {Q : α → sProp 𝕄} :
    (iprop(Transfers.MayWaits (thr d i) ι O
        ∗ (listPts (thr d i) lst fl q ((Finset.univ \ lent i t) \ lent i (t + 1)) ∗ Next d i ι lst st0 vi fl q t ∗ Next d i ι lst st0 vi fl q (t + 1))
        ∗ (tab.view.loc (thr d i) ↦[tab.view.set]{q} ft) ∗ outAny (thr d i) st2 (t % 2) ∗ semVal (thr d i, .dma vg.sem) 0 ∗ Owing (thr d i) ι O W) : sProp 𝕄)
      ⊢ iprop((iprop(Ins d i ι lst st0 vi fl q (t + 1) ∗ (tab.view.loc (thr d i) ↦[tab.view.set]{q} ft)
            ∗ outHas (thr d i) st2 (gathered tab lst ft fl hl) (base i + 128 * t) (t % 2) ∗ semVal (thr d i, .dma vg.sem) 0 ∗ Owing (thr d i) ι O W)
          -∗ wp frame (wpE (defs₀ (F := F)) 𝒱 (thr d i) bd) Set.univ (kk ⟨⟩) Q)
        -∗ wp frame (wpE (defs₀ (F := F)) 𝒱 (thr d i) bd) Set.univ
            (k1_part2 i tab htab lst hlst out hout st0 hst0 vi st2 hst2 vo vg t (w6 t) (w7 t) (w7 t) (w9 t) (w10 t) (chk3 t) (chk2 t) (chk1 i t) a5 v64 v65 v66 v71 v76 v96 >>= kk) Q) := by
  have ht : t.val < 32 := lt_of_lt_of_eq t.isLt trips_eq
  have hb : base i + 128 * t.val + 128 ≤ 131072 := by
    have h0 : (i 0).val < 2 := (i 0).isLt
    have h1 : (i 1).val < 16 := (i 1).isLt
    show 4096 * (i 1).val + 65536 * (i 0).val + 128 * t.val + 128 ≤ 131072
    omega
  rw [k1_part2_eq_skeleton]; unfold k1_part2_skel
  have hc := cond2 i t
  rw [show Next d i ι lst st0 vi fl q t = (_ : sProp 𝕄) from if_pos ht]
  iintro ⟨#Hmw, ⟨Hl, Hn, Hn'⟩, Ht, Ho, Hv, HO⟩ Hk
  sl_exec
  iapply (wp_await defs₀ 𝒱 (thr d i) ι bd (srcw := colsAt lst (k1_off8 i (w10 t)) (k1_off8_inb i t (w6 t) (w7 t) (w7 t) (w9 t) (w10 t) (chk1 i t) hc))
    (dstw := slot0 st0 (k1_off7 (w7 t)) (k1_off7_inb i t (w6 t) (w7 t) (w7 t) (w9 t) (w10 t) (chk1 i t) hc)) (sem_at vi (off9 t)) (N := credIn (thr d i) st0) rfl) $$ [Hn HO]
  · isplitr; · iexact Hmw
    isplitl [Hn]; · iexact Hn
    iexact HO
  iintro ⟨⟨Hs, Hlt⟩, Hvi, HO⟩
  sl_exec
  iapply (wp_gather defs₀ 𝒱 (thr d i) ι bd tab lst st0 st2 (ft := ft) hl q hb (off11 t) (off10 t) (hN _)) $$ [Ht Hs Ho Hv HO]
  · isplitr; · iexact Hmw
    isplitl [Ht]; · iexact Ht
    isplitl [Hs]; · iexact Hs
    isplitl [Ho]; · iexact Ho
    isplitl [Hv]; · iexact Hv
    iexact HO
  iintro ⟨Ht, Hs, Ho, Hv, HO⟩
  dsimp only [Prog.bind]
  rw [ite_self]
  iapply Hk
  isplitl [Hl Hlt Hn' Hs Hvi]
  · unfold Ins
    rw [mod_two]
    isplitl [Hl Hlt]
    · have hsub : lent i t ⊆ Finset.univ \ lent i (t + 1) := by
        intro j hj
        exact Finset.mem_sdiff.mpr ⟨Finset.mem_univ _, fun h => (Finset.mem_sdiff.mp (lent_disjoint i t h)).2 hj⟩
      iapply (on_split (thr d i) lst.view fl q hsub).2
      rw [sdiff_right_comm, lent_of_lt i ht]
      isplitl [Hlt]; · iexact Hlt
      iexact Hl
    isplitl [Hn']; · iexact Hn'
    isplitl [Hs]; · iexact Hs
    iexact Hvi
  isplitl [Ht]; · iexact Ht
  isplitl [Ho]; · iexact Ho
  isplitl [Hv]; · iexact Hv
  iexact HO

/-! ## The whole trip -/

/-- What the task holds before trip `t`. -/
def Held (hl : ∀ y, (lst.view.read (Elt F) fl y : BitVec 32).toNat < 8192) (O : CellTallies nD τ sig Ix) (W : Waits sig Ix) (t : ℕ) : sProp 𝕄 :=
  iprop(Ins d i ι lst st0 vi fl q t ∗ (tab.view.loc (thr d i) ↦[tab.view.set]{q} ft) ∗ outAny (thr d i) st2 (t % 2) ∗ semVal (thr d i, .dma vg.sem) 0
    ∗ Owing (thr d i) ι O W ∗ Rows d i ι out st2 vo fo (gathered tab lst ft fl hl) t)

omit [FloatOps F] in
theorem rows_sub (a b c e : ℕ) (h1 : a ≤ b) (h2 : c ≤ e) : rowsOf b c ⊆ rowsOf a e := by
  intro j hj
  have := mem_rowsOf.mp hj
  exact mem_rowsOf.mpr ⟨by omega, by omega⟩
omit [FloatOps F] in
theorem rows_diff_low (a b e : ℕ) (h : a ≤ b) : rowsOf a e \ rowsOf a b = rowsOf b e := by
  ext j
  rw [Finset.mem_sdiff, mem_rowsOf, mem_rowsOf, mem_rowsOf]
  omega

/-- Rows done and the block after them are rows done. -/
theorem rows_join (f : out.view.ty.Contents (Elt F)) (a b e : ℕ) (h1 : a ≤ b) (h2 : b ≤ e) :
    (iprop(outPts (thr d i) out f (rowsOf a b) ∗ outPts (thr d i) out f (rowsOf b e)) : sProp 𝕄) ⊢ outPts (thr d i) out f (rowsOf a e) := by
  rw [← rows_diff_low a b e h1]
  exact (on_split (thr d i) out.view f fullShare (rows_sub a a b e le_rfl h2)).2

theorem trip (𝒱 : Variants) (bd : Option 𝒱.V) (hl : ∀ y, (lst.view.read (Elt F) fl y : BitVec 32).toNat < 8192)
    (hN : ∀ off inb, ∑ j, ((slot2 st2 off inb).slice (S128x128.rowRect gathers_S8192x128_S128x128.axis' j) (S128x128.stride_rowRect gathers_S8192x128_S128x128.axis' j)).view.dmaCredit
      = (slot2 st2 off inb).view.dmaCredit)
    {O : CellTallies nD τ sig Ix} {W : Waits sig Ix} (t : Fin k1_t1_loop.trips) :
    (iprop(Transfers.MayWaits (thr d i) ι O ∗ Held d i ι tab lst out st0 vi st2 vo vg ft fl fo q hl O W t) : sProp 𝕄)
      ⊢ wp frame (wpE (defs₀ (F := F)) 𝒱 (thr d i) bd) Set.univ
          (k1_t1_body i tab htab lst hlst out hout st0 hst0 vi st2 hst2 vo vg (first i) t (carried t))
          fun acc => iprop(⌜acc = carried (t + 1)⌝ ∗ Held d i ι tab lst out st0 vi st2 vo vg ft fl fo q hl O W (t + 1)) := by
  have ht : t.val < 32 := lt_of_lt_of_eq t.isLt trips_eq
  have h1 := chk1 i t
  unfold k1_t1_body Held Rows
  iintro ⟨#Hmw, Hin, Ht, Ho, Hv, HO, Hdone, Htodo, Hvo, Hprev⟩
  iapply (part1_spec d i ι tab htab lst hlst out hout st0 hst0 vi st2 hst2 vo vg fl q 𝒱 bd t) $$ Hin
  iintro Hin
  iapply (part2_spec d i ι tab htab lst hlst out hout st0 hst0 vi st2 hst2 vo vg ft fl q 𝒱 bd hl hN t) $$ [Hin Ht Ho Hv HO]
  · isplitr; · iexact Hmw
    isplitl [Hin]; · iexact Hin
    isplitl [Ht]; · iexact Ht
    isplitl [Ho]; · iexact Ho
    isplitl [Hv]; · iexact Hv
    iexact HO
  iintro ⟨Hin, Ht, Ho, Hv, HO⟩
  have hc5 := cond5 i t
  sl_exec
  have hPrev : (Prev d i ι out st2 vo fo (gathered tab lst ft fl hl) (t.val + 1) : sProp 𝕄) = Writing (thr d i) ι out st2 fo (gathered tab lst ft fl hl) vo (base i + 128 * t.val) (t.val % 2) := by
    unfold Prev
    rw [if_pos (Nat.succ_pos _), Nat.add_sub_cancel, mod_two]
  have hnext : base i + 128 * t.val + 128 = base i + 128 * (t.val + 1) := by omega
  have hb : base i + 128 * t.val + 128 ≤ base i + 4096 := by omega
  ihave Htd := (on_split (thr d i) out.view fo fullShare (rows_sub (base i + 128 * t.val) (base i + 128 * t.val) (base i + 128 * t.val + 128) (base i + 4096) le_rfl hb)).1 $$ Htodo
  icases Htd with ⟨Hblk, Htodo⟩
  iapply (wp_writeOut defs₀ 𝒱 (thr d i) ι bd out st2 fo vo (off12 t) (off13 i t) (sem_at vo (off14 t))) $$ [Ho Hblk Hvo]
  · isplitl [Ho]; · iexact Ho
    isplitl [Hblk]; · iexact Hblk
    iexact Hvo
  iintro Hw
  ihave Htodo := (Entails.of_eq (congrArg (fun A => outPts (thr d i) out fo A)
    ((rows_diff_low (base i + 128 * t.val) (base i + 128 * t.val + 128) (base i + 4096) (by omega)).trans (by rw [hnext])))) $$ Htodo
  rw [hPrev, Nat.add_sub_cancel]
  by_cases h0 : 0 < t.val
  · have hc7 := (cond7 i t).mpr h0
    ihave Hprev := (Entails.of_eq (show Prev d i ι out st2 vo fo (gathered tab lst ft fl hl) t.val = _ from if_pos h0)) $$ Hprev
    sl_exec
    iapply (wp_await defs₀ 𝒱 (thr d i) ι bd (srcw := slot2 st2 (k1_off15 (w9 t)) (k1_off15_inb i t (w6 t) (w7 t) (w7 t) (w9 t) (w10 t) h1 hc7))
      (dstw := rowsAt out (k1_off16 i (w10 t)) (k1_off16_inb i t (w6 t) (w7 t) (w7 t) (w9 t) (w10 t) h1 hc7)) (sem_at vo (off17 t h0)) (N := credOut (thr d i) out) rfl) $$ [Hprev HO]
    · isplitr; · iexact Hmw
      isplitl [Hprev]; · iexact Hprev
      iexact HO
    iintro ⟨⟨Hblk, Hfree⟩, Hvf, HO⟩
    sl_exec
    sl_step
    ihave Hdone := (rows_join d i out _ (base i) (base i + 128 * (t.val - 1)) (base i + 128 * t.val) (by omega) (by omega)) $$ [Hdone Hblk]
    · isplitl [Hdone]; · iexact Hdone
      rw [show base i + 128 * t.val = base i + 128 * (t.val - 1) + 128 by omega]; iexact Hblk
    isplitr; · ipureintro; exact next i t
    isplitl [Hin]; · iexact Hin
    isplitl [Ht]; · iexact Ht
    isplitl [Hfree]; · iexact Hfree
    isplitl [Hv]; · iexact Hv
    isplitl [HO]; · iexact HO
    isplitl [Hdone]; · iexact Hdone
    isplitl [Htodo]; · iexact Htodo
    isplitl [Hvf]; · iexact Hvf
    iexact Hw
  · have hc7 := fun h => h0 ((cond7 i t).mp h)
    ihave Hprev := (Entails.of_eq (show Prev d i ι out st2 vo fo (gathered tab lst ft fl hl) t.val = _ from if_neg h0)) $$ Hprev
    icases Hprev with ⟨Hfree, Hvf⟩
    sl_exec
    sl_step
    rw [show t.val - 1 = t.val by omega]
    isplitr; · ipureintro; exact next i t
    isplitl [Hin]; · iexact Hin
    isplitl [Ht]; · iexact Ht
    isplitl [Hfree]; · iexact Hfree
    isplitl [Hv]; · iexact Hv
    isplitl [HO]; · iexact HO
    isplitl [Hdone]; · iexact Hdone
    isplitl [Htodo]; · iexact Htodo
    isplitl [Hvf]; · iexact Hvf
    iexact Hw

end Body

end Cert.Kernel.Trip

end
-- ==== Proof.Kern.lean ====
/-
  One task of the gather, over memrefs given as variables: the first fetch, the loop at the invariant of
  Trip.lean, the wait for the last write-out. It ends with the task's 4096 rows of the result at the rows of the table
  that its offsets name, and everything else as it found it.
-/
module

public import proofs.«01_k».proof.Proof.Trip

@[expose] public section

noncomputable section

namespace Cert.Kernel.Kern

open Cert.Kernel Cert.Kernel.Gen Cert.Kernel.Words Cert.Kernel.Slots Cert.Kernel.Moves Cert.Kernel.Trip

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {Ix : Type} [DecidableEq Ix] {U : Type} [URA U] [CountersIn U]

local notation "𝕄" => MT nD τ sig Ix (Elt F) ℕ U ℕ

variable (d : Dev nD) (i : grid1.Coords) (ι : Ix)
variable (tab : Memref sig .scVector .hbm S8192x128 .f32) (htab : tab.IsWhole) (lst : Memref sig .scVector .hbm S1x131072 .i32) (hlst : lst.IsWhole)
variable (out : Memref sig .scVector .hbm S131072x128 .f32) (hout : out.IsWhole)
variable (st0 : Memref sig .scVector .vmem S2x1x128 .i32) (hst0 : st0.IsWhole) (vi : DmaSems sig S2)
variable (st2 : Memref sig .scVector .vmem S2x128x128 .f32) (hst2 : st2.IsWhole) (vo : DmaSems sig S2) (vg : DmaSems sig S_)
variable (ft : tab.view.ty.Contents (Elt F)) (fl : lst.view.ty.Contents (Elt F)) (fo : out.view.ty.Contents (Elt F)) (q : PosShare TreeShare)

/-- The scratch slots, at some contents, and the semaphores at zero. -/
def Scratch : sProp 𝕄 :=
  iprop((inAny (thr d i) st0 0 ∗ inAny (thr d i) st0 1) ∗ (outAny (thr d i) st2 0 ∗ outAny (thr d i) st2 1)
    ∗ (semVal (thr d i, .dma (semAt vi 0)) 0 ∗ semVal (thr d i, .dma (semAt vi 1)) 0)
    ∗ (semVal (thr d i, .dma (semAt vo 0)) 0 ∗ semVal (thr d i, .dma (semAt vo 1)) 0) ∗ semVal (thr d i, .dma vg.sem) 0)

omit [FloatOps F] in
theorem out_none (f : out.view.ty.Contents (Elt F)) (a b : ℕ) (h : b ≤ a) : (outPts (thr d i) out f (rowsOf a b) : sProp 𝕄) = iprop(emp) := by
  have e : rowsOf a b = ∅ := by
    ext j
    rw [mem_rowsOf]
    exact iff_of_false (by omega) (Finset.notMem_empty _)
  rw [outPts, e, show out.view.setOn ∅ = ∅ from Finset.map_empty _]
  exact pointsTo_empty

/-- The loop's invariant at its last trip's end, spelt out. -/
theorem held_end (hl : ∀ y, (lst.view.read (Elt F) fl y : BitVec 32).toNat < 8192) (O : CellTallies nD τ sig Ix) (W : Waits sig Ix) :
    (Held d i ι tab lst out st0 vi st2 vo vg ft fl fo q hl O W 32 : sProp 𝕄)
      = iprop((listPts (thr d i) lst fl q Finset.univ ∗ (inAny (thr d i) st0 0 ∗ semVal (thr d i, .dma (semAt vi 0)) 0)
          ∗ inAny (thr d i) st0 1 ∗ semVal (thr d i, .dma (semAt vi 1)) 0) ∗ (tab.view.loc (thr d i) ↦[tab.view.set]{q} ft) ∗ outAny (thr d i) st2 0
        ∗ semVal (thr d i, .dma vg.sem) 0 ∗ Owing (thr d i) ι O W
        ∗ outPts (thr d i) out (out.view.write (Elt F) fo (gathered tab lst ft fl hl) Finset.univ) (rowsOf (base i) (base i + 128 * 31))
        ∗ outPts (thr d i) out fo (rowsOf (base i + 128 * 32) (base i + 4096)) ∗ semVal (thr d i, .dma (semAt vo 0)) 0
        ∗ Writing (thr d i) ι out st2 fo (gathered tab lst ft fl hl) vo (base i + 128 * 31) 1) := by
  unfold Held Ins Rows Next Prev
  rw [if_neg (by omega), if_pos (by omega), lent_of_not i (by omega), Finset.sdiff_empty]

/-- What stays at hand through a run: a copy of what may be copied. -/
theorem wp_keep (𝒱 : Variants) (c : Thread nD τ) (bd : Option 𝒱.V) {α : Type} {R A : sProp 𝕄} [BI.Persistent R] {e : Prog (TpuEff nD τ sig (Elt F) Λ₀ c.2) α} {Q : α → sProp 𝕄}
    (h : iprop(R ∗ A) ⊢ wp frame (wpE (defs₀ (F := F)) 𝒱 c bd) Set.univ e Q) :
    iprop(R ∗ A) ⊢ wp frame (wpE (defs₀ (F := F)) 𝒱 c bd) Set.univ e fun a => iprop(R ∗ Q a) := by
  iintro ⟨#HR, HA⟩
  iapply (wp_frame_l frame (wpE (defs₀ (F := F)) 𝒱 c bd) Set.univ (p := e) (Q := Q) (R := R))
  isplitr; · iexact HR
  iapply h
  isplitr; · iexact HR
  iexact HA

theorem kern_spec (𝒱 : Variants) (bd : Option 𝒱.V) (hl : ∀ y, (lst.view.read (Elt F) fl y : BitVec 32).toNat < 8192)
    (hN : ∀ off inb, ∑ j, ((slot2 st2 off inb).slice (S128x128.rowRect gathers_S8192x128_S128x128.axis' j) (S128x128.stride_rowRect gathers_S8192x128_S128x128.axis' j)).view.dmaCredit
      = (slot2 st2 off inb).view.dmaCredit)
    {O : CellTallies nD τ sig Ix} {W : Waits sig Ix} :
    (iprop(Transfers.MayWaits (thr d i) ι O ∗ listPts (thr d i) lst fl q Finset.univ ∗ (tab.view.loc (thr d i) ↦[tab.view.set]{q} ft)
        ∗ outPts (thr d i) out fo (rowsOf (base i) (base i + 4096)) ∗ Scratch d i st0 vi st2 vo vg ∗ Owing (thr d i) ι O W) : sProp 𝕄)
      ⊢ wp frame (wpE (defs₀ (F := F)) 𝒱 (thr d i) bd) Set.univ
          (cc1_kern i tab htab lst hlst out hout st0 hst0 vi st2 hst2 vo vg)
          fun _ => iprop((listPts (thr d i) lst fl q Finset.univ ∗ (tab.view.loc (thr d i) ↦[tab.view.set]{q} ft)
            ∗ outPts (thr d i) out (out.view.write (Elt F) fo (gathered tab lst ft fl hl) Finset.univ) (rowsOf (base i) (base i + 4096)))
            ∗ Scratch d i st0 vi st2 vo vg ∗ Owing (thr d i) ι O W) := by
  rw [cc1_kern_eq_skeleton]; unfold cc1_kern_skel
  rw [k1_part3_eq_skeleton, k1_part4_eq_skeleton]; unfold k1_part3_skel k1_part4_skel Scratch
  iintro ⟨#Hmw, Hl, Ht, Ho, ⟨⟨Hi0, Hi1⟩, ⟨Hr0, Hr1⟩, ⟨Hvi0, Hvi1⟩, ⟨Hvo0, Hvo1⟩, Hvg⟩, HO⟩
  sl_exec
  ihave Hl' := (on_split (thr d i) lst.view fl q (Finset.subset_univ (lent i 0))).1 $$ Hl
  icases Hl' with ⟨Hl0, Hl⟩
  ihave Hl0 := (Entails.of_eq (congrArg (fun A => listPts (thr d i) lst fl q A) (lent_of_lt i (t := 0) (by omega)))) $$ Hl0
  iapply (wp_fetch defs₀ 𝒱 (thr d i) ι bd lst st0 fl q vi (n := base i + 128 * 0) (k1_off2_eq i) k1_off1_eq (sem_at vi k1_off3_eq)) $$ [Hl0 Hi0 Hvi0]
  · isplitl [Hl0]; · iexact Hl0
    isplitl [Hi0]; · iexact Hi0
    iexact Hvi0
  iintro Hf
  sl_exec
  rw [wp_bind]
  sl_for (fun t acc => iprop(Transfers.MayWaits (thr d i) ι O ∗ ⌜acc = carried t⌝ ∗ Held d i ι tab lst out st0 vi st2 vo vg ft fl fo q hl O W t)) $$ [Hl Ht Ho Hf Hi1 Hr0 Hr1 Hvi1 Hvo0 Hvo1 Hvg HO]
  case region =>
    intro t acc
    iintro ⟨#Hmw', %hacc, HH⟩
    subst hacc
    iapply (wp_keep (F := F) 𝒱 (thr d i) bd (R := Transfers.MayWaits (thr d i) ι O) (trip d i ι tab htab lst hlst out hout st0 hst0 vi st2 hst2 vo vg ft fl fo q 𝒱 bd hl hN t))
    isplitr; · iexact Hmw'
    iexact HH
  · isplitr; · iexact Hmw
    isplitr; · ipureintro; rfl
    unfold Held Ins Rows Next Prev
    rw [if_pos (by omega), if_neg (by omega)]
    isplitl [Hl Hf Hi1 Hvi1]
    · isplitl [Hl]; · iexact Hl
      isplitl [Hf]; · iexact Hf
      isplitl [Hi1]; · iexact Hi1
      iexact Hvi1
    isplitl [Ht]; · iexact Ht
    isplitl [Hr0]; · iexact Hr0
    isplitl [Hvg]; · iexact Hvg
    isplitl [HO]; · iexact HO
    isplitr; · rw [out_none d i out _ (base i) (base i + 128 * (0 - 1)) (by omega)]; iempintro
    isplitl [Ho]; · iexact Ho
    isplitl [Hvo0]; · iexact Hvo0
    isplitl [Hr1]; · iexact Hr1
    iexact Hvo1
  iintro %acc ⟨-, %hacc, HH⟩
  have hacc' : acc = carried 32 := hacc.trans (congrArg carried trips_eq)
  subst hacc'
  ihave HH := (Entails.of_eq ((congrArg (Held d i ι tab lst out st0 vi st2 vo vg ft fl fo q hl O W) trips_eq).trans (held_end d i ι tab lst out st0 vi st2 vo vg ft fl fo q hl O W))) $$ HH
  icases HH with ⟨⟨Hl, ⟨Hi0, Hvi0⟩, Hi1, Hvi1⟩, Ht, Hr0, Hvg, HO, Hdone, -, Hvo0, Hw⟩
  rw [← wp_bind]
  have h4 := chk4
  have h5 := chk5 i
  sl_exec
  iapply (wp_await defs₀ 𝒱 (thr d i) ι bd (srcw := slot2 st2 (k1_off21 (w9 32)) (k1_off21_inb (w9 32) h4))
    (dstw := rowsAt out (k1_off19 i (w10 32)) (k1_off19_inb i (w10 32) h5)) (sem_at vo off20) (N := credOut (thr d i) out) rfl) $$ [Hw HO]
  · isplitr; · iexact Hmw
    isplitl [Hw]; · iexact Hw
    iexact HO
  iintro ⟨⟨Hblk, Hr1⟩, Hvo1, HO⟩
  sl_step
  isplitl [Hl Ht Hdone Hblk]
  · isplitl [Hl]; · iexact Hl
    isplitl [Ht]; · iexact Ht
    iapply (rows_join d i out _ (base i) (base i + 128 * 31) (base i + 4096) (by omega) (by omega))
    isplitl [Hdone]; · iexact Hdone
    iexact Hblk
  isplitr [HO]
  · isplitl [Hi0 Hi1]
    · isplitl [Hi0]; · iexact Hi0
      iexact Hi1
    isplitl [Hr0 Hr1]
    · isplitl [Hr0]; · iexact Hr0
      iexact Hr1
    isplitl [Hvi0 Hvi1]
    · isplitl [Hvi0]; · iexact Hvi0
      iexact Hvi1
    isplitl [Hvo0 Hvo1]
    · isplitl [Hvo0]; · iexact Hvo0
      iexact Hvo1
    iexact Hvg
  iexact HO

end Cert.Kernel.Kern

end
-- ==== Proof.Setup.lean ====
/-
  The program as the launch theorem sees it: its labels, the SparseCore's part of it and the ghost state of a proof of it.
-/
module

public import proofs.«01_k».proof.Proof.Gen.Kernel
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Kernel.Setup

open Cert.Kernel Cert.Kernel.Gen

open Idealize.ShloMosaic
open Idealize.ShloMosaic.SparseCore.Cfg (HIx)
open Idealize.SL Idealize.SL.RA Idealize.SL.Sem
open Idealize.ShloMosaic.Rounds

variable {F : FTy → Type}

abbrev ΛP : Labels := Pipeline.Sig Λ₀ (Fin 6) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by match q with | 0 => rfl | 1 => rfl | 2 => rfl⟩

abbrev UH : Type := URounds (GSem nD τ sig) ℕ
abbrev UP : Type := URounds (GSem nD τ sig) Unit
abbrev UU : Type := UH × (UP × Counters)

abbrev EH : Emb UH (MT nD τ sig (HIx 3) (Elt F) ℕ UU ℕ) := embL

end Cert.Kernel.Setup

end
-- ==== Proof.Tile.lean ====
/-
  The gather's task on its subcore: the scratch and the semaphores it names are the subcore's own, and what Kern.lean
  proves of the body over memrefs given as variables holds at the arrays and the scratch it is launched on.
-/
module

public import proofs.«01_k».proof.Proof.Kern
public import proofs.«01_k».proof.Proof.Setup
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Kernel.Tile

open Cert.Kernel Cert.Kernel.Gen Cert.Kernel.Words Cert.Kernel.Slots Cert.Kernel.Moves Cert.Kernel.Trip Cert.Kernel.Kern Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-- One call of the gather: the arrays it is launched on, its scratch and its semaphores. -/
structure Site where
  tab : Memref sig .scVector .hbm S8192x128 .f32
  htab : tab.IsWhole
  lst : Memref sig .scVector .hbm S1x131072 .i32
  hlst : lst.IsWhole
  out : Memref sig .scVector .hbm S131072x128 .f32
  hout : out.IsWhole
  st0 : Memref sig .scVector .vmem S2x1x128 .i32
  hst0 : st0.IsWhole
  vi : DmaSems sig S2
  st2 : Memref sig .scVector .vmem S2x128x128 .f32
  hst2 : st2.IsWhole
  vo : DmaSems sig S2
  vg : DmaSems sig S_

/-- The five semaphores the task names. -/
abbrev Site.sems (s : Site) : List (DmaSem sig) := [semAt s.vi 0, semAt s.vi 1, semAt s.vo 0, semAt s.vo 1, s.vg.sem]

/-- The scratch and the semaphores are the subcore's own and different from each other; the credits of a block of rows add
    up to the block's. -/
structure Site.Ok (s : Site) : Prop where
  ne : s.st2.view.ref ≠ s.st0.view.ref
  own0 : ∀ c j, ((Proc.scVector c j).devRef s.st0.view.ref : DevRef τ sig).owner = .proc (.scVector c j)
  own2 : ∀ c j, ((Proc.scVector c j).devRef s.st2.view.ref : DevRef τ sig).owner = .proc (.scVector c j)
  sems : s.sems.Nodup
  isScoped : ∀ p ∈ s.sems, (SemLoc.dma p : SemLoc sig).isScoped .scVector = true
  credits : ∀ off inb, ∑ j, ((slot2 s.st2 off inb).slice (S128x128.rowRect gathers_S8192x128_S128x128.axis' j) (S128x128.stride_rowRect gathers_S8192x128_S128x128.axis' j)).view.dmaCredit
    = (slot2 s.st2 off inb).view.dmaCredit

/-! ## The two slots of a staging buffer are the buffer -/

section Halves

variable {Ix : Type} [DecidableEq Ix] {U : Type} [URA U]
local notation "𝕄'" => MT nD τ sig Ix (Elt F) ℕ U ℕ

/-- A view's array is two disjoint parts of it, whatever each part holds. -/
theorem halves {sp : Space} {s : Shape} {e : EltTy} (c : Thread nD τ) (v : View sig c.2.kind sp s e) {A B : Finset s.Idx} (hd : Disjoint A B) (hu : A ∪ B = Finset.univ) :
    (iprop(∃ f, v.loc c ↦[v.set]{fullShare} f) : sProp 𝕄')
      ⊣⊢ iprop((∃ f, v.loc c ↦[v.setOn A]{fullShare} f) ∗ ∃ f, v.loc c ↦[v.setOn B]{fullShare} f) := by
  have hs : v.set = v.setOn A ∪ v.setOn B := by
    rw [← View.setOn_univ, ← hu]
    exact Finset.map_union _ _
  have hd' : Disjoint (v.setOn A) (v.setOn B) := (Finset.disjoint_map _).mpr hd
  rw [hs]
  constructor
  · iintro ⟨%f, H⟩
    ihave H := (pointsTo_union hd').1 $$ H
    icases H with ⟨HA, HB⟩
    isplitl [HA]
    · iexists f; iexact HA
    · iexists f; iexact HB
  · iintro ⟨⟨%f, HA⟩, %g, HB⟩
    iexists _
    iapply (pointsTo_join hd')
    isplitl [HA]; · iexact HA
    iexact HB

end Halves

theorem lane0_disjoint : Disjoint (lane0 0) (lane0 1) := Finset.disjoint_left.mpr fun j h h' => by
  have := mem_lane0.mp h; have := mem_lane0.mp h'; omega
theorem lane0_cover : lane0 0 ∪ lane0 1 = Finset.univ := by
  ext j
  have h : (j 0).val < 2 := (j 0).isLt
  rw [Finset.mem_union, mem_lane0, mem_lane0]
  exact iff_of_true (by omega) (Finset.mem_univ _)
theorem lane2_disjoint : Disjoint (lane2 0) (lane2 1) := Finset.disjoint_left.mpr fun j h h' => by
  have := mem_lane2.mp h; have := mem_lane2.mp h'; omega
theorem lane2_cover : lane2 0 ∪ lane2 1 = Finset.univ := by
  ext j
  have h : (j 0).val < 2 := (j 0).isLt
  rw [Finset.mem_union, mem_lane2, mem_lane2]
  exact iff_of_true (by omega) (Finset.mem_univ _)

/-! ## The subcore's own -/

section Own

variable (s : Site) (d : Dev nD) (L : grid1.Coords)

abbrev cell (p : DmaSem sig) : GSem nD τ sig := (thr d L, .dma p)

/-- The rest of the subcore's semaphores. -/
def restCells : Finset (GSem nD τ sig) :=
  (((((ownCells (thr d L)).erase (cell d L (semAt s.vi 0))).erase (cell d L (semAt s.vi 1))).erase (cell d L (semAt s.vo 0))).erase
    (cell d L (semAt s.vo 1))).erase (cell d L s.vg.sem)

theorem cell_ne {p p' : DmaSem sig} (h : p ≠ p') : cell d L p ≠ cell d L p' := fun e => h (by
  have e' := congrArg Prod.snd e
  exact SemLoc.dma.inj e')

variable {s} (hs : s.Ok)

include hs in
theorem mem_own {p : DmaSem sig} (hp : p ∈ s.sems) : cell d L p ∈ ownCells (thr d L) :=
  (mem_ownCells (g := cell d L p)).mpr ⟨rfl, hs.isScoped p hp⟩

include hs in
theorem ownSems0_V :
    (ownSems0 (thr d L) : sProp 𝕄)
      = iprop(semVal (cell d L (semAt s.vi 0)) 0 ∗ semVal (cell d L (semAt s.vi 1)) 0 ∗ semVal (cell d L (semAt s.vo 0)) 0
          ∗ semVal (cell d L (semAt s.vo 1)) 0 ∗ semVal (cell d L s.vg.sem) 0 ∗ bigSep (restCells s d L) fun g => semVal g 0) := by
  unfold SparseCore.Cfg.ownSems0 restCells
  have hn := hs.sems
  simp only [Site.sems, List.nodup_cons, List.mem_cons, not_or, List.not_mem_nil, not_false_eq_true, and_true, List.nodup_nil] at hn
  obtain ⟨⟨a1, a2, a3, a4⟩, ⟨b2, b3, b4⟩, ⟨c3, c4⟩, d4⟩ := hn
  rw [SparseCore.bigSep_erase' (mem_own d L hs (p := semAt s.vi 0) (by simp)),
    SparseCore.bigSep_erase' (Finset.mem_erase.mpr ⟨cell_ne d L (Ne.symm a1), mem_own d L hs (p := semAt s.vi 1) (by simp)⟩),
    SparseCore.bigSep_erase' (Finset.mem_erase.mpr ⟨cell_ne d L (Ne.symm b2), Finset.mem_erase.mpr ⟨cell_ne d L (Ne.symm a2), mem_own d L hs (p := semAt s.vo 0) (by simp)⟩⟩),
    SparseCore.bigSep_erase' (Finset.mem_erase.mpr ⟨cell_ne d L (Ne.symm c3), Finset.mem_erase.mpr ⟨cell_ne d L (Ne.symm b3), Finset.mem_erase.mpr ⟨cell_ne d L (Ne.symm a3), mem_own d L hs (p := semAt s.vo 1) (by simp)⟩⟩⟩),
    SparseCore.bigSep_erase' (Finset.mem_erase.mpr ⟨cell_ne d L (Ne.symm d4), Finset.mem_erase.mpr ⟨cell_ne d L (Ne.symm c4), Finset.mem_erase.mpr ⟨cell_ne d L (Ne.symm b4), Finset.mem_erase.mpr ⟨cell_ne d L (Ne.symm a4), mem_own d L hs (p := s.vg.sem) (by simp)⟩⟩⟩⟩)]

variable (s) in
/-- The rest of the subcore's buffers. -/
def restRefs : Finset (DevRef τ sig) :=
  ((ownRefs (τ := τ) (.scVector (cV L) (jV L))).erase ((Proc.scVector (cV L) (jV L)).devRef s.st0.view.ref)).erase ((Proc.scVector (cV L) (jV L)).devRef s.st2.view.ref)

include hs in
theorem ownBufs_V :
    (ownBufs (thr d L) : sProp 𝕄)
      = iprop((∃ f, s.st0.view.loc (thr d L) ↦{fullShare} f) ∗ (∃ f, s.st2.view.loc (thr d L) ↦{fullShare} f)
          ∗ bigSep (restRefs s L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef s.st0.view.ref) (hs.own0 _ _))).trans ?_
  rw [SparseCore.bigSep_erase' (Finset.mem_erase.mpr ⟨fun e => absurd (Proc.devRef_injective _ e) hs.ne,
    SparseCore.Cfg.mem_ownRefs_of_owner (p := Proc.scVector (cV L) (jV L)) (b := (Proc.scVector (cV L) (jV L)).devRef s.st2.view.ref) (hs.own2 _ _)⟩)]

variable (s) in
theorem scratch_eq :
    (Scratch d L s.st0 s.vi s.st2 s.vo s.vg : sProp 𝕄)
      ⊣⊢ iprop(((∃ f, s.st0.view.loc (thr d L) ↦{fullShare} f) ∗ (∃ f, s.st2.view.loc (thr d L) ↦{fullShare} f))
          ∗ semVal (cell d L (semAt s.vi 0)) 0 ∗ semVal (cell d L (semAt s.vi 1)) 0 ∗ semVal (cell d L (semAt s.vo 0)) 0
          ∗ semVal (cell d L (semAt s.vo 1)) 0 ∗ semVal (cell d L s.vg.sem) 0) := by
  have e0 := halves (F := F) (Ix := HIx 3) (U := UU) (thr d L) s.st0.view lane0_disjoint lane0_cover
  have e2 := halves (F := F) (Ix := HIx 3) (U := UU) (thr d L) s.st2.view lane2_disjoint lane2_cover
  rw [s.hst0.set_eq_univ] at e0
  rw [s.hst2.set_eq_univ] at e2
  unfold Scratch
  constructor
  · iintro ⟨⟨Hi0, Hi1⟩, ⟨Hr0, Hr1⟩, ⟨Ha, Hb⟩, ⟨Hc, Hd⟩, He⟩
    isplitl [Hi0 Hi1 Hr0 Hr1]
    · isplitl [Hi0 Hi1]
      · iapply e0.2; isplitl [Hi0]; · iexact Hi0
        iexact Hi1
      · iapply e2.2; isplitl [Hr0]; · iexact Hr0
        iexact Hr1
    isplitl [Ha]; · iexact Ha
    isplitl [Hb]; · iexact Hb
    isplitl [Hc]; · iexact Hc
    isplitl [Hd]; · iexact Hd
    iexact He
  · iintro ⟨⟨Hi, Hr⟩, Ha, Hb, Hc, Hd, He⟩
    ihave Hi := e0.1 $$ Hi
    ihave Hr := e2.1 $$ Hr
    isplitl [Hi]; · iexact Hi
    isplitl [Hr]; · iexact Hr
    isplitl [Ha Hb]
    · isplitl [Ha]; · iexact Ha
      iexact Hb
    isplitl [Hc Hd]
    · isplitl [Hc]; · iexact Hc
      iexact Hd
    iexact He

end Own

/-! ## The task -/

variable [FloatOps F]

section Task

variable (s : Site) (d : Dev nD) (L : grid1.Coords)
variable (ft : s.tab.view.ty.Contents (Elt F)) (fl : s.lst.view.ty.Contents (Elt F)) (fo : s.out.view.ty.Contents (Elt F))

/-- What the result holds at the end: each row the table's row that the offset there names. -/
def rowsGathered (hl : ∀ y, (s.lst.view.read (Elt F) fl y : BitVec 32).toNat < 8192) : s.out.view.ty.Contents (Elt F) :=
  s.out.view.write (Elt F) fo (gathered (F := F) s.tab s.lst ft fl hl) Finset.univ

/-- What a task takes: its share of the table and of the offsets, its rows of the result. -/
abbrev taskPts (q : PosShare TreeShare) (f : s.out.view.ty.Contents (Elt F)) : sProp 𝕄 :=
  iprop((s.lst.view.loc (thr d L) ↦{q} fl) ∗ (s.tab.view.loc (thr d L) ↦{q} ft)
    ∗ (s.out.view.loc (thr d L) ↦[s.out.view.setOn (rowsOf (base L) (base L + 4096))]{fullShare} f))

theorem tile_body (hs : s.Ok) (hF : (K (F := F)).Facts) (q : PosShare TreeShare) (hl : ∀ y, (s.lst.view.read (Elt F) fl y : BitVec 32).toNat < 8192)
    (O : CellTallies nD τ sig (HIx 3)) (W : Waits sig (HIx 3)) (hO : ∀ g, O g none = 0) :
    iprop(levAts (K (F := F)).L (K (F := F)).lev ∗ emp ∗ taskPts s d L ft fl q fo
        ∗ scopedBufs (thr d L) ∗ scopedSems0 (thr d L) ∗ owes (thr d L) O W)
      ⊢ wp frame (wpE (defs₀ (F := F)) 𝒱₀ (thr d L) none) Set.univ
          (cc1_kern L s.tab s.htab s.lst s.hlst s.out s.hout
            s.st0 s.hst0 s.vi s.st2 s.hst2 s.vo s.vg)
          fun _ => iprop(taskPts s d L ft fl q (rowsGathered s ft fl fo hl)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V d L hs, ownBufs_V d L hs]
  have hk := kern_spec (F := F) (U := UU) d L (default : HIx 3) s.tab s.htab s.lst s.hlst s.out s.hout
            s.st0 s.hst0 s.vi s.st2 s.hst2 s.vo s.vg ft fl fo q 𝒱₀ none hl hs.credits (O := O) (W := W)
  have hlist : (s.lst.view.setOn Finset.univ : Finset _) = Finset.univ := (View.setOn_univ _).trans s.hlst.set_eq_univ
  have htab : (s.tab.view.set : Finset _) = Finset.univ := s.htab.set_eq_univ
  iintro ⟨#Hlv, -, ⟨Hl, Ht, Ho⟩, ⟨Hi, Hr, Hbufs⟩, ⟨Ha, Hb, Hc, Hd, He, Hsems⟩, HO⟩
  ihave Hmw := (show levAts (K (F := F)).L (K (F := F)).lev ⊢ Transfers.MayWaits (thr d L) (default : HIx 3) O from
    (K (F := F)).mayWaits_none (thr := thr d L) hO) $$ Hlv
  ihave Hl' := (Entails.of_eq (show (s.lst.view.loc (thr d L) ↦{q} fl : sProp 𝕄) = listPts (thr d L) s.lst fl q Finset.univ by unfold listPts; rw [hlist])) $$ Hl
  ihave Ht' := (Entails.of_eq (show (s.tab.view.loc (thr d L) ↦{q} ft : sProp 𝕄) = (s.tab.view.loc (thr d L) ↦[s.tab.view.set]{q} ft) by rw [htab])) $$ Ht
  ihave Hs := (scratch_eq (F := F) s d L).2 $$ [Hi Hr Ha Hb Hc Hd He]
  · isplitl [Hi Hr]
    · isplitl [Hi]; · iexact Hi
      iexact Hr
    isplitl [Ha]; · iexact Ha
    isplitl [Hb]; · iexact Hb
    isplitl [Hc]; · iexact Hc
    isplitl [Hd]; · iexact Hd
    iexact He
  iapply (wp_mono frame (wpE (defs₀ (F := F)) 𝒱₀ (thr d L) none) Set.univ (Q := fun _ => iprop(((listPts (thr d L) s.lst fl q Finset.univ ∗ (s.tab.view.loc (thr d L) ↦[s.tab.view.set]{q} ft)
      ∗ outPts (thr d L) s.out (rowsGathered s ft fl fo hl) (rowsOf (base L) (base L + 4096)))
      ∗ Scratch d L s.st0 s.vi s.st2 s.vo s.vg ∗ Owing (thr d L) (default : HIx 3) O W) ∗ ((bigSep (restRefs s L) fun b => iprop(∃ f, ((d, b) : Loc nD τ sig) ↦{fullShare} f)) ∗ bigSep (restCells s d L) fun g => semVal g 0))) ?_)
  · intro _
    iintro ⟨⟨⟨Hl, Ht, Ho⟩, Hs, %W', %hW', HO⟩, Hbufs, Hsems⟩
    ihave Hs := (scratch_eq (F := F) s d L).1 $$ Hs
    icases Hs with ⟨⟨Hi, Hr⟩, Ha, Hb, Hc, Hd, He⟩
    ihave Hl := (Entails.of_eq (show listPts (thr d L) s.lst fl q Finset.univ = (s.lst.view.loc (thr d L) ↦{q} fl : sProp 𝕄) by unfold listPts; rw [hlist])) $$ Hl
    ihave Ht := (Entails.of_eq (show (s.tab.view.loc (thr d L) ↦[s.tab.view.set]{q} ft) = (s.tab.view.loc (thr d L) ↦{q} ft : sProp 𝕄) by rw [htab])) $$ Ht
    isplitl [Hl Ht Ho]
    · isplitl [Hl]; · iexact Hl
      isplitl [Ht]; · iexact Ht
      iexact Ho
    isplitl [Hi Hr Hbufs]
    · isplitl [Hi]; · iexact Hi
      isplitl [Hr]; · iexact Hr
      iexact Hbufs
    isplitl [Ha Hb Hc Hd He Hsems]
    · isplitl [Ha]; · iexact Ha
      isplitl [Hb]; · iexact Hb
      isplitl [Hc]; · iexact Hc
      isplitl [Hd]; · iexact Hd
      isplitl [He]; · iexact He
      iexact Hsems
    iexists W'; isplitr
    · ipureintro; exact hW'
    iexact HO
  iapply (BIBase.Entails.trans (sep_mono_left hk) (wp_frame_r frame (wpE (defs₀ (F := F)) 𝒱₀ (thr d L) none) Set.univ))
  isplitr [Hbufs Hsems]
  · isplitl [Hmw]; · iexact Hmw
    isplitl [Hl']; · iexact Hl'
    isplitl [Ht']; · iexact Ht'
    isplitl [Ho]; · iexact Ho
    isplitl [Hs]; · iexact Hs
    iexists W; isplitr
    · ipureintro; exact fun p hp => .inl hp
    iexact HO
  isplitl [Hbufs]; · iexact Hbufs
  iexact Hsems

end Task

end Cert.Kernel.Tile

end
-- ==== Proof.Prep.lean ====
/-
  The body that prepares the query part and the table of a call on features of 64 channels: what it leaves in each block.
-/
module

public import proofs.«01_k».proof.Proof.Setup
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Kernel.Prep

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## What the body leaves in each output window -/

abbrev r_0 : Rect S3x128 := Rect.unit (s := S3x128) ![0, 0] S3x128.size inb_S3x128_S3x128_0_0
abbrev r_1 : Rect S1x1024x64 := Rect.unit (s := S1x1024x64) ![0, 0, 0] S1x1024x64.size inb_S1x1024x64_S1x1024x64_0_0_0
abbrev r_2 : Rect S64x128 := Rect.unit (s := S64x128) ![0, 0] S64x128.size inb_S64x128_S64x128_0_0
abbrev r_3 : Rect S1x1024x3 := Rect.unit (s := S1x1024x3) ![0, 0, 0] S1x1024x3.size inb_S1x1024x3_S1x1024x3_0_0_0
abbrev r_4 : Rect S1x128 := Rect.unit (s := S1x128) ![0, 0] S1x128.size inb_S1x128_S1x128_0_0
abbrev r_5 : Rect S1x1024x128 := Rect.unit (s := S1x1024x128) ![0, 0, 0] S1x1024x128.size inb_S1x1024x128_S1x1024x128_0_0_0

/-- What the body stores in output window 8, of the input blocks. -/
def pay_8 (x0 : Vec F S1x1024x64 .f32) (x1 : Vec F S1x1024x64 .f32) (x2 : Vec F S1x1024x3 .f32) (x3 : Vec F S1x1024x3 .f32) (x4 : Vec F S64x128 .f32) (x5 : Vec F S64x128 .f32) (x6 : Vec F S3x128 .f32) (x7 : Vec F S1x128 .f32) : Vec F S1x1024x128 .f32 :=
  k0_pay1 (k0_pay4 (View.ld x6 r_0) (View.ld x0 r_1) (View.ld x4 r_2) (View.ld x2 r_3) (View.ld x7 r_4))

/-- Output window 8 after the body: its one store, which covers it. -/
def out_8 (x0 : Vec F S1x1024x64 .f32) (x1 : Vec F S1x1024x64 .f32) (x2 : Vec F S1x1024x3 .f32) (x3 : Vec F S1x1024x3 .f32) (x4 : Vec F S64x128 .f32) (x5 : Vec F S64x128 .f32) (x6 : Vec F S3x128 .f32) (x7 : Vec F S1x128 .f32) : Vec F S1x1024x128 .f32 :=
  View.canon [⟨r_5, pay_8 x0 x1 x2 x3 x4 x5 x6 x7⟩]

theorem cover_8 (p0 : Vec F S1x1024x128 .f32) (y : S1x1024x128.Idx) :
    ∃ pc ∈ ([⟨r_5, p0⟩] : List (View.Piece (Elt F) S1x1024x128 .f32)), y ∈ pc.1.set :=
  View.cover_of_tiled [⟨r_5, p0⟩] S1x1024x128.size (by rfl) y

/-- What the body stores in output window 9, of the input blocks. -/
def pay_9 (x0 : Vec F S1x1024x64 .f32) (x1 : Vec F S1x1024x64 .f32) (x2 : Vec F S1x1024x3 .f32) (x3 : Vec F S1x1024x3 .f32) (x4 : Vec F S64x128 .f32) (x5 : Vec F S64x128 .f32) (x6 : Vec F S3x128 .f32) (x7 : Vec F S1x128 .f32) : Vec F S1x1024x128 .f32 :=
  k0_pay2 (k0_pay3 (View.ld x6 r_0)) (k0_pay5 (View.ld x1 r_1)) (View.ld x5 r_2) (View.ld x3 r_3)

/-- Output window 9 after the body: its one store, which covers it. -/
def out_9 (x0 : Vec F S1x1024x64 .f32) (x1 : Vec F S1x1024x64 .f32) (x2 : Vec F S1x1024x3 .f32) (x3 : Vec F S1x1024x3 .f32) (x4 : Vec F S64x128 .f32) (x5 : Vec F S64x128 .f32) (x6 : Vec F S3x128 .f32) (x7 : Vec F S1x128 .f32) : Vec F S1x1024x128 .f32 :=
  View.canon [⟨r_5, pay_9 x0 x1 x2 x3 x4 x5 x6 x7⟩]

theorem cover_9 (p0 : Vec F S1x1024x128 .f32) (y : S1x1024x128.Idx) :
    ∃ pc ∈ ([⟨r_5, p0⟩] : List (View.Piece (Elt F) S1x1024x128 .f32)), y ∈ pc.1.set :=
  View.cover_of_tiled [⟨r_5, p0⟩] S1x1024x128.size (by rfl) y

/-! ## The body -/

set_option maxHeartbeats 1000000 in
/-- The body on whole staging buffers that hold `x` when it starts: it leaves its inputs as they were and each output at
    what `out` says of them, and nothing else is touched. -/
theorem sound (c : Dev nD) (E : Set ℕ) (i : grid0.Coords) (arg2 : Memref sig .tc .vmem S1x1024x64 .f32) (harg2 : arg2.IsWhole) (arg3 : Memref sig .tc .vmem S1x1024x64 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1024x128 .f32) (harg10 : arg10.IsWhole) (arg11 : Memref sig .tc .vmem S1x1024x128 .f32) (harg11 : arg11.IsWhole)
    (x0 : Vec F S1x1024x64 .f32) (x1 : Vec F S1x1024x64 .f32) (x2 : Vec F S1x1024x3 .f32) (x3 : Vec F S1x1024x3 .f32) (x4 : Vec F S64x128 .f32) (x5 : Vec F S64x128 .f32) (x6 : Vec F S3x128 .f32) (x7 : Vec F S1x128 .f32)
    {y0 : Vec F S1x1024x64 .f32 → Vec F S1x1024x64 .f32} {y1 : Vec F S1x1024x64 .f32 → Vec F S1x1024x64 .f32} {y2 : Vec F S1x1024x3 .f32 → Vec F S1x1024x3 .f32} {y3 : Vec F S1x1024x3 .f32 → Vec F S1x1024x3 .f32} {y4 : Vec F S64x128 .f32 → Vec F S64x128 .f32} {y5 : Vec F S64x128 .f32 → Vec F S64x128 .f32} {y6 : Vec F S3x128 .f32 → Vec F S3x128 .f32} {y7 : Vec F S1x128 .f32 → Vec F S1x128 .f32} {y8 : Vec F S1x1024x128 .f32 → Vec F S1x1024x128 .f32} {y9 : Vec F S1x1024x128 .f32 → Vec F S1x1024x128 .f32}
    (h0 : ∀ d, y0 d = x0) (h1 : ∀ d, y1 d = x1) (h2 : ∀ d, y2 d = x2) (h3 : ∀ d, y3 d = x3) (h4 : ∀ d, y4 d = x4) (h5 : ∀ d, y5 d = x5) (h6 : ∀ d, y6 d = x6) (h7 : ∀ d, y7 d = x7) (A B : sProp 𝕄) :
    iprop(A ∗ B
        ∗ (∃ d, owns (c : Thread nD τ) arg2 fullShare (y0 d))
        ∗ (∃ d, owns (c : Thread nD τ) arg3 fullShare (y1 d))
        ∗ (∃ d, owns (c : Thread nD τ) arg4 fullShare (y2 d))
        ∗ (∃ d, owns (c : Thread nD τ) arg5 fullShare (y3 d))
        ∗ (∃ d, owns (c : Thread nD τ) arg6 fullShare (y4 d))
        ∗ (∃ d, owns (c : Thread nD τ) arg7 fullShare (y5 d))
        ∗ (∃ d, owns (c : Thread nD τ) arg8 fullShare (y6 d))
        ∗ (∃ d, owns (c : Thread nD τ) arg9 fullShare (y7 d))
        ∗ (∃ d, owns (c : Thread nD τ) arg10 fullShare (y8 d))
        ∗ (∃ d, owns (c : Thread nD τ) arg11 fullShare (y9 d)))
      ⊢ wp frame (wpE (defs₀ (F := F)) Variants.none c none) E (cc0__prep_body i arg2 harg2 arg3 harg3 arg4 harg4 arg5 harg5 arg6 harg6 arg7 harg7 arg8 harg8 arg9 harg9 arg10 harg10 arg11 harg11) fun _ =>
      iprop(A ∗ B
        ∗ owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare (out_8 x0 x1 x2 x3 x4 x5 x6 x7)
        ∗ owns (c : Thread nD τ) arg11 fullShare (out_9 x0 x1 x2 x3 x4 x5 x6 x7)) := by
  simp only [h0, h1, h2, h3, h4, h5, h6, h7]
  simp only [cc0__prep_body_eq_skeleton]; unfold cc0__prep_body_skel
  simp only [k0_part1_eq_skeleton]
  unfold owns
  iintro ⟨HA, HB, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, -, H9⟩⟩
  subst hf0 hf1 hf2 hf3 hf4 hf5 hf6 hf7
  sl_exec
  sl_step
  isplitl [HA]; · iexact HA
  isplitl [HB]; · iexact HB
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_8 _)
  iexists _; isplitr
  swap; · iexact H9
  ipureintro
  exact View.read_writes_eq_canon _ _ _ (cover_9 _)

end Cert.Kernel.Prep

end
-- ==== Proof.PrepWide.lean ====
/-
  The body that prepares the query part and the table of a call on features of 128 channels: what it leaves in each block.
-/
module

public import proofs.«01_k».proof.Proof.Setup
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Kernel.PrepWide

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## What the body leaves in each output window -/

abbrev r_0 : Rect S3x128 := Rect.unit (s := S3x128) ![0, 0] S3x128.size inb_S3x128_S3x128_0_0
abbrev r_1 : Rect S1x1024x128 := Rect.unit (s := S1x1024x128) ![0, 0, 0] S1x1024x128.size inb_S1x1024x128_S1x1024x128_0_0_0
abbrev r_2 : Rect S128x128 := Rect.unit (s := S128x128) ![0, 0] S128x128.size inb_S128x128_S128x128_0_0
abbrev r_3 : Rect S1x1024x3 := Rect.unit (s := S1x1024x3) ![0, 0, 0] S1x1024x3.size inb_S1x1024x3_S1x1024x3_0_0_0
abbrev r_4 : Rect S1x128 := Rect.unit (s := S1x128) ![0, 0] S1x128.size inb_S1x128_S1x128_0_0

/-- What the body stores in output window 8, of the input blocks. -/
def pay_8 (x0 : Vec F S1x1024x128 .f32) (x1 : Vec F S1x1024x128 .f32) (x2 : Vec F S1x1024x3 .f32) (x3 : Vec F S1x1024x3 .f32) (x4 : Vec F S128x128 .f32) (x5 : Vec F S128x128 .f32) (x6 : Vec F S3x128 .f32) (x7 : Vec F S1x128 .f32) : Vec F S1x1024x128 .f32 :=
  k6_pay1 (k6_pay4 (View.ld x6 r_0) (View.ld x0 r_1) (View.ld x4 r_2) (View.ld x2 r_3) (View.ld x7 r_4))

/-- Output window 8 after the body: its one store, which covers it. -/
def out_8 (x0 : Vec F S1x1024x128 .f32) (x1 : Vec F S1x1024x128 .f32) (x2 : Vec F S1x1024x3 .f32) (x3 : Vec F S1x1024x3 .f32) (x4 : Vec F S128x128 .f32) (x5 : Vec F S128x128 .f32) (x6 : Vec F S3x128 .f32) (x7 : Vec F S1x128 .f32) : Vec F S1x1024x128 .f32 :=
  View.canon [⟨r_1, pay_8 x0 x1 x2 x3 x4 x5 x6 x7⟩]

theorem cover_8 (p0 : Vec F S1x1024x128 .f32) (y : S1x1024x128.Idx) :
    ∃ pc ∈ ([⟨r_1, p0⟩] : List (View.Piece (Elt F) S1x1024x128 .f32)), y ∈ pc.1.set :=
  View.cover_of_tiled [⟨r_1, p0⟩] S1x1024x128.size (by rfl) y

/-- What the body stores in output window 9, of the input blocks. -/
def pay_9 (x0 : Vec F S1x1024x128 .f32) (x1 : Vec F S1x1024x128 .f32) (x2 : Vec F S1x1024x3 .f32) (x3 : Vec F S1x1024x3 .f32) (x4 : Vec F S128x128 .f32) (x5 : Vec F S128x128 .f32) (x6 : Vec F S3x128 .f32) (x7 : Vec F S1x128 .f32) : Vec F S1x1024x128 .f32 :=
  k6_pay2 (k6_pay3 (View.ld x6 r_0)) (k6_pay5 (View.ld x1 r_1)) (View.ld x5 r_2) (View.ld x3 r_3)

/-- Output window 9 after the body: its one store, which covers it. -/
def out_9 (x0 : Vec F S1x1024x128 .f32) (x1 : Vec F S1x1024x128 .f32) (x2 : Vec F S1x1024x3 .f32) (x3 : Vec F S1x1024x3 .f32) (x4 : Vec F S128x128 .f32) (x5 : Vec F S128x128 .f32) (x6 : Vec F S3x128 .f32) (x7 : Vec F S1x128 .f32) : Vec F S1x1024x128 .f32 :=
  View.canon [⟨r_1, pay_9 x0 x1 x2 x3 x4 x5 x6 x7⟩]

theorem cover_9 (p0 : Vec F S1x1024x128 .f32) (y : S1x1024x128.Idx) :
    ∃ pc ∈ ([⟨r_1, p0⟩] : List (View.Piece (Elt F) S1x1024x128 .f32)), y ∈ pc.1.set :=
  View.cover_of_tiled [⟨r_1, p0⟩] S1x1024x128.size (by rfl) y

/-! ## The body -/

set_option maxHeartbeats 1000000 in
/-- The body on whole staging buffers that hold `x` when it starts: it leaves its inputs as they were and each output at
    what `out` says of them, and nothing else is touched. -/
theorem sound (c : Dev nD) (E : Set ℕ) (i : grid6.Coords) (arg2 : Memref sig .tc .vmem S1x1024x128 .f32) (harg2 : arg2.IsWhole) (arg3 : Memref sig .tc .vmem S1x1024x128 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1024x128 .f32) (harg10 : arg10.IsWhole) (arg11 : Memref sig .tc .vmem S1x1024x128 .f32) (harg11 : arg11.IsWhole)
    (x0 : Vec F S1x1024x128 .f32) (x1 : Vec F S1x1024x128 .f32) (x2 : Vec F S1x1024x3 .f32) (x3 : Vec F S1x1024x3 .f32) (x4 : Vec F S128x128 .f32) (x5 : Vec F S128x128 .f32) (x6 : Vec F S3x128 .f32) (x7 : Vec F S1x128 .f32)
    {y0 : Vec F S1x1024x128 .f32 → Vec F S1x1024x128 .f32} {y1 : Vec F S1x1024x128 .f32 → Vec F S1x1024x128 .f32} {y2 : Vec F S1x1024x3 .f32 → Vec F S1x1024x3 .f32} {y3 : Vec F S1x1024x3 .f32 → Vec F S1x1024x3 .f32} {y4 : Vec F S128x128 .f32 → Vec F S128x128 .f32} {y5 : Vec F S128x128 .f32 → Vec F S128x128 .f32} {y6 : Vec F S3x128 .f32 → Vec F S3x128 .f32} {y7 : Vec F S1x128 .f32 → Vec F S1x128 .f32} {y8 : Vec F S1x1024x128 .f32 → Vec F S1x1024x128 .f32} {y9 : Vec F S1x1024x128 .f32 → Vec F S1x1024x128 .f32}
    (h0 : ∀ d, y0 d = x0) (h1 : ∀ d, y1 d = x1) (h2 : ∀ d, y2 d = x2) (h3 : ∀ d, y3 d = x3) (h4 : ∀ d, y4 d = x4) (h5 : ∀ d, y5 d = x5) (h6 : ∀ d, y6 d = x6) (h7 : ∀ d, y7 d = x7) (A B : sProp 𝕄) :
    iprop(A ∗ B
        ∗ (∃ d, owns (c : Thread nD τ) arg2 fullShare (y0 d))
        ∗ (∃ d, owns (c : Thread nD τ) arg3 fullShare (y1 d))
        ∗ (∃ d, owns (c : Thread nD τ) arg4 fullShare (y2 d))
        ∗ (∃ d, owns (c : Thread nD τ) arg5 fullShare (y3 d))
        ∗ (∃ d, owns (c : Thread nD τ) arg6 fullShare (y4 d))
        ∗ (∃ d, owns (c : Thread nD τ) arg7 fullShare (y5 d))
        ∗ (∃ d, owns (c : Thread nD τ) arg8 fullShare (y6 d))
        ∗ (∃ d, owns (c : Thread nD τ) arg9 fullShare (y7 d))
        ∗ (∃ d, owns (c : Thread nD τ) arg10 fullShare (y8 d))
        ∗ (∃ d, owns (c : Thread nD τ) arg11 fullShare (y9 d)))
      ⊢ wp frame (wpE (defs₀ (F := F)) Variants.none c none) E (cc6__prep_body i arg2 harg2 arg3 harg3 arg4 harg4 arg5 harg5 arg6 harg6 arg7 harg7 arg8 harg8 arg9 harg9 arg10 harg10 arg11 harg11) fun _ =>
      iprop(A ∗ B
        ∗ owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare (out_8 x0 x1 x2 x3 x4 x5 x6 x7)
        ∗ owns (c : Thread nD τ) arg11 fullShare (out_9 x0 x1 x2 x3 x4 x5 x6 x7)) := by
  simp only [h0, h1, h2, h3, h4, h5, h6, h7]
  simp only [cc6__prep_body_eq_skeleton]; unfold cc6__prep_body_skel
  simp only [k6_part1_eq_skeleton]
  unfold owns
  iintro ⟨HA, HB, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, -, H9⟩⟩
  subst hf0 hf1 hf2 hf3 hf4 hf5 hf6 hf7
  sl_exec
  sl_step
  isplitl [HA]; · iexact HA
  isplitl [HB]; · iexact HB
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_8 _)
  iexists _; isplitr
  swap; · iexact H9
  ipureintro
  exact View.read_writes_eq_canon _ _ _ (cover_9 _)

end Cert.Kernel.PrepWide

end
-- ==== Proof.Mlp.lean ====
/-
  The body that runs two layers on every neighbour and takes the greatest over the neighbours: what it leaves in each block.
-/
module

public import proofs.«01_k».proof.Proof.Setup
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Kernel.Mlp

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## What the body leaves in each output window -/

abbrev r_0 : Rect S1x4096x128 := Rect.unit (s := S1x4096x128) ![0, 0, 0] S1x4096x128.size inb_S1x4096x128_S1x4096x128_0_0_0
abbrev r_1 : Rect S1x256x128 := Rect.unit (s := S1x256x128) ![0, 0, 0] S1x256x128.size inb_S1x256x128_S1x256x128_0_0_0
abbrev r_2 : Rect S128x128 := Rect.unit (s := S128x128) ![0, 0] S128x128.size inb_S128x128_S128x128_0_0
abbrev r_3 : Rect S1x128 := Rect.unit (s := S1x128) ![0, 0] S1x128.size inb_S1x128_S1x128_0_0
abbrev r_4 : Rect S1x128x256 := Rect.unit (s := S1x128x256) ![0, 0, 0] S1x128x256.size inb_S1x128x256_S1x128x256_0_0_0

/-- What the body stores in output window 6, of the input blocks. -/
def pay_6 (x0 : Vec F S1x4096x128 .f32) (x1 : Vec F S1x256x128 .f32) (x2 : Vec F S128x128 .f32) (x3 : Vec F S1x128 .f32) (x4 : Vec F S128x128 .f32) (x5 : Vec F S1x128 .f32) : Vec F S1x256x128 .f32 :=
  k2_pay2 (k2_pay4 (View.ld x0 r_0) (View.ld x1 r_1) (View.ld x2 r_2) (View.ld x3 r_3) (View.ld x4 r_2) (View.ld x5 r_3)) (Scalar.ofBits .f32 0x00000000#32)

/-- Output window 6 after the body: its one store, which covers it. -/
def out_6 (x0 : Vec F S1x4096x128 .f32) (x1 : Vec F S1x256x128 .f32) (x2 : Vec F S128x128 .f32) (x3 : Vec F S1x128 .f32) (x4 : Vec F S128x128 .f32) (x5 : Vec F S1x128 .f32) : Vec F S1x256x128 .f32 :=
  View.canon [⟨r_1, pay_6 x0 x1 x2 x3 x4 x5⟩]

theorem cover_6 (p0 : Vec F S1x256x128 .f32) (y : S1x256x128.Idx) :
    ∃ pc ∈ ([⟨r_1, p0⟩] : List (View.Piece (Elt F) S1x256x128 .f32)), y ∈ pc.1.set :=
  View.cover_of_tiled [⟨r_1, p0⟩] S1x256x128.size (by rfl) y

/-- What the body stores in output window 7, of the input blocks. -/
def pay_7 (x0 : Vec F S1x4096x128 .f32) (x1 : Vec F S1x256x128 .f32) (x2 : Vec F S128x128 .f32) (x3 : Vec F S1x128 .f32) (x4 : Vec F S128x128 .f32) (x5 : Vec F S1x128 .f32) : Vec F S1x128x256 .f32 :=
  k2_pay3 (k2_pay4 (View.ld x0 r_0) (View.ld x1 r_1) (View.ld x2 r_2) (View.ld x3 r_3) (View.ld x4 r_2) (View.ld x5 r_3)) (Scalar.ofBits .f32 0x00000000#32)

/-- Output window 7 after the body: its one store, which covers it. -/
def out_7 (x0 : Vec F S1x4096x128 .f32) (x1 : Vec F S1x256x128 .f32) (x2 : Vec F S128x128 .f32) (x3 : Vec F S1x128 .f32) (x4 : Vec F S128x128 .f32) (x5 : Vec F S1x128 .f32) : Vec F S1x128x256 .f32 :=
  View.canon [⟨r_4, pay_7 x0 x1 x2 x3 x4 x5⟩]

theorem cover_7 (p0 : Vec F S1x128x256 .f32) (y : S1x128x256.Idx) :
    ∃ pc ∈ ([⟨r_4, p0⟩] : List (View.Piece (Elt F) S1x128x256 .f32)), y ∈ pc.1.set :=
  View.cover_of_tiled [⟨r_4, p0⟩] S1x128x256.size (by rfl) y

/-! ## The body -/

set_option maxHeartbeats 1000000 in
/-- The body on whole staging buffers that hold `x` when it starts: it leaves its inputs as they were and each output at
    what `out` says of them, and nothing else is touched. -/
theorem sound (c : Dev nD) (E : Set ℕ) (i : grid2.Coords) (arg2 : Memref sig .tc .vmem S1x4096x128 .f32) (harg2 : arg2.IsWhole) (arg3 : Memref sig .tc .vmem S1x256x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x256x128 .f32) (harg8 : arg8.IsWhole) (arg9 : Memref sig .tc .vmem S1x128x256 .f32) (harg9 : arg9.IsWhole)
    (x0 : Vec F S1x4096x128 .f32) (x1 : Vec F S1x256x128 .f32) (x2 : Vec F S128x128 .f32) (x3 : Vec F S1x128 .f32) (x4 : Vec F S128x128 .f32) (x5 : Vec F S1x128 .f32)
    {y0 : Vec F S1x4096x128 .f32 → Vec F S1x4096x128 .f32} {y1 : Vec F S1x256x128 .f32 → Vec F S1x256x128 .f32} {y2 : Vec F S128x128 .f32 → Vec F S128x128 .f32} {y3 : Vec F S1x128 .f32 → Vec F S1x128 .f32} {y4 : Vec F S128x128 .f32 → Vec F S128x128 .f32} {y5 : Vec F S1x128 .f32 → Vec F S1x128 .f32} {y6 : Vec F S1x256x128 .f32 → Vec F S1x256x128 .f32} {y7 : Vec F S1x128x256 .f32 → Vec F S1x128x256 .f32}
    (h0 : ∀ d, y0 d = x0) (h1 : ∀ d, y1 d = x1) (h2 : ∀ d, y2 d = x2) (h3 : ∀ d, y3 d = x3) (h4 : ∀ d, y4 d = x4) (h5 : ∀ d, y5 d = x5) (A B : sProp 𝕄) :
    iprop(A ∗ B
        ∗ (∃ d, owns (c : Thread nD τ) arg2 fullShare (y0 d))
        ∗ (∃ d, owns (c : Thread nD τ) arg3 fullShare (y1 d))
        ∗ (∃ d, owns (c : Thread nD τ) arg4 fullShare (y2 d))
        ∗ (∃ d, owns (c : Thread nD τ) arg5 fullShare (y3 d))
        ∗ (∃ d, owns (c : Thread nD τ) arg6 fullShare (y4 d))
        ∗ (∃ d, owns (c : Thread nD τ) arg7 fullShare (y5 d))
        ∗ (∃ d, owns (c : Thread nD τ) arg8 fullShare (y6 d))
        ∗ (∃ d, owns (c : Thread nD τ) arg9 fullShare (y7 d)))
      ⊢ wp frame (wpE (defs₀ (F := F)) Variants.none c none) E (cc2__mlp_body i arg2 harg2 arg3 harg3 arg4 harg4 arg5 harg5 arg6 harg6 arg7 harg7 arg8 harg8 arg9 harg9) fun _ =>
      iprop(A ∗ B
        ∗ owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (out_6 x0 x1 x2 x3 x4 x5)
        ∗ owns (c : Thread nD τ) arg9 fullShare (out_7 x0 x1 x2 x3 x4 x5)) := by
  simp only [h0, h1, h2, h3, h4, h5]
  simp only [cc2__mlp_body_eq_skeleton]; unfold cc2__mlp_body_skel
  simp only [k2_part1_eq_skeleton]
  unfold owns
  iintro ⟨HA, HB, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩⟩
  subst hf0 hf1 hf2 hf3 hf4 hf5
  sl_exec
  sl_step
  isplitl [HA]; · iexact HA
  isplitl [HB]; · iexact HB
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_6 _)
  iexists _; isplitr
  swap; · iexact H7
  ipureintro
  exact View.read_writes_eq_canon _ _ _ (cover_7 _)

end Cert.Kernel.Mlp

end
-- ==== Proof.MlpOne.lean ====
/-
  The body that runs one layer on every neighbour and takes the greatest over the neighbours: what it leaves in each block.
-/
module

public import proofs.«01_k».proof.Proof.Setup
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Kernel.MlpOne

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## What the body leaves in each output window -/

abbrev r_0 : Rect S1x4096x128 := Rect.unit (s := S1x4096x128) ![0, 0, 0] S1x4096x128.size inb_S1x4096x128_S1x4096x128_0_0_0
abbrev r_1 : Rect S1x256x128 := Rect.unit (s := S1x256x128) ![0, 0, 0] S1x256x128.size inb_S1x256x128_S1x256x128_0_0_0
abbrev r_2 : Rect S128x128 := Rect.unit (s := S128x128) ![0, 0] S128x128.size inb_S128x128_S128x128_0_0
abbrev r_3 : Rect S1x128 := Rect.unit (s := S1x128) ![0, 0] S1x128.size inb_S1x128_S1x128_0_0
abbrev r_4 : Rect S1x128x256 := Rect.unit (s := S1x128x256) ![0, 0, 0] S1x128x256.size inb_S1x128x256_S1x128x256_0_0_0

/-- What the body stores in output window 4, of the input blocks. -/
def pay_4 (x0 : Vec F S1x4096x128 .f32) (x1 : Vec F S1x256x128 .f32) (x2 : Vec F S128x128 .f32) (x3 : Vec F S1x128 .f32) : Vec F S1x256x128 .f32 :=
  k8_pay3 (View.ld x0 r_0) (View.ld x1 r_1) (View.ld x2 r_2) (View.ld x3 r_3)

/-- Output window 4 after the body: its one store, which covers it. -/
def out_4 (x0 : Vec F S1x4096x128 .f32) (x1 : Vec F S1x256x128 .f32) (x2 : Vec F S128x128 .f32) (x3 : Vec F S1x128 .f32) : Vec F S1x256x128 .f32 :=
  View.canon [⟨r_1, pay_4 x0 x1 x2 x3⟩]

theorem cover_4 (p0 : Vec F S1x256x128 .f32) (y : S1x256x128.Idx) :
    ∃ pc ∈ ([⟨r_1, p0⟩] : List (View.Piece (Elt F) S1x256x128 .f32)), y ∈ pc.1.set :=
  View.cover_of_tiled [⟨r_1, p0⟩] S1x256x128.size (by rfl) y

/-- What the body stores in output window 5, of the input blocks. -/
def pay_5 (x0 : Vec F S1x4096x128 .f32) (x1 : Vec F S1x256x128 .f32) (x2 : Vec F S128x128 .f32) (x3 : Vec F S1x128 .f32) : Vec F S1x128x256 .f32 :=
  k8_pay1 (k8_pay4 (View.ld x0 r_0) (View.ld x1 r_1) (View.ld x2 r_2) (View.ld x3 r_3))

/-- Output window 5 after the body: its one store, which covers it. -/
def out_5 (x0 : Vec F S1x4096x128 .f32) (x1 : Vec F S1x256x128 .f32) (x2 : Vec F S128x128 .f32) (x3 : Vec F S1x128 .f32) : Vec F S1x128x256 .f32 :=
  View.canon [⟨r_4, pay_5 x0 x1 x2 x3⟩]

theorem cover_5 (p0 : Vec F S1x128x256 .f32) (y : S1x128x256.Idx) :
    ∃ pc ∈ ([⟨r_4, p0⟩] : List (View.Piece (Elt F) S1x128x256 .f32)), y ∈ pc.1.set :=
  View.cover_of_tiled [⟨r_4, p0⟩] S1x128x256.size (by rfl) y

/-! ## The body -/

set_option maxHeartbeats 1000000 in
/-- The body on whole staging buffers that hold `x` when it starts: it leaves its inputs as they were and each output at
    what `out` says of them, and nothing else is touched. -/
theorem sound (c : Dev nD) (E : Set ℕ) (i : grid8.Coords) (arg2 : Memref sig .tc .vmem S1x4096x128 .f32) (harg2 : arg2.IsWhole) (arg3 : Memref sig .tc .vmem S1x256x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256x128 .f32) (harg6 : arg6.IsWhole) (arg7 : Memref sig .tc .vmem S1x128x256 .f32) (harg7 : arg7.IsWhole)
    (x0 : Vec F S1x4096x128 .f32) (x1 : Vec F S1x256x128 .f32) (x2 : Vec F S128x128 .f32) (x3 : Vec F S1x128 .f32)
    {y0 : Vec F S1x4096x128 .f32 → Vec F S1x4096x128 .f32} {y1 : Vec F S1x256x128 .f32 → Vec F S1x256x128 .f32} {y2 : Vec F S128x128 .f32 → Vec F S128x128 .f32} {y3 : Vec F S1x128 .f32 → Vec F S1x128 .f32} {y4 : Vec F S1x256x128 .f32 → Vec F S1x256x128 .f32} {y5 : Vec F S1x128x256 .f32 → Vec F S1x128x256 .f32}
    (h0 : ∀ d, y0 d = x0) (h1 : ∀ d, y1 d = x1) (h2 : ∀ d, y2 d = x2) (h3 : ∀ d, y3 d = x3) (A B : sProp 𝕄) :
    iprop(A ∗ B
        ∗ (∃ d, owns (c : Thread nD τ) arg2 fullShare (y0 d))
        ∗ (∃ d, owns (c : Thread nD τ) arg3 fullShare (y1 d))
        ∗ (∃ d, owns (c : Thread nD τ) arg4 fullShare (y2 d))
        ∗ (∃ d, owns (c : Thread nD τ) arg5 fullShare (y3 d))
        ∗ (∃ d, owns (c : Thread nD τ) arg6 fullShare (y4 d))
        ∗ (∃ d, owns (c : Thread nD τ) arg7 fullShare (y5 d)))
      ⊢ wp frame (wpE (defs₀ (F := F)) Variants.none c none) E (cc8__mlp_body i arg2 harg2 arg3 harg3 arg4 harg4 arg5 harg5 arg6 harg6 arg7 harg7) fun _ =>
      iprop(A ∗ B
        ∗ owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare (out_4 x0 x1 x2 x3)
        ∗ owns (c : Thread nD τ) arg7 fullShare (out_5 x0 x1 x2 x3)) := by
  simp only [h0, h1, h2, h3]
  simp only [cc8__mlp_body_eq_skeleton]; unfold cc8__mlp_body_skel
  simp only [k8_part1_eq_skeleton]
  unfold owns
  iintro ⟨HA, HB, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  subst hf0 hf1 hf2 hf3
  sl_exec
  sl_step
  isplitl [HA]; · iexact HA
  isplitl [HB]; · iexact HB
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_4 _)
  iexists _; isplitr
  swap; · iexact H5
  ipureintro
  exact View.read_writes_eq_canon _ _ _ (cover_5 _)

end Cert.Kernel.MlpOne

end
-- ==== Proof.Bodies.lean ====
/-
  The second stage runs the first one's bodies, and every stage runs the same gather: the text is the same each time.
-/
module

public import proofs.«01_k».proof.Proof.Gen.Kernel

@[expose] public section

set_option maxRecDepth 100000
set_option maxHeartbeats 0

namespace Cert.Kernel.Bodies

open Cert.Kernel
open Idealize.ShloMosaic

variable {F : FTy → Type} [FloatOps F]

theorem kern_four : @cc4_kern F _ = @cc1_kern F _ := rfl
theorem kern_seven : @cc7_kern F _ = @cc1_kern F _ := rfl
theorem prep_three : @cc3__prep_body F _ _ = @cc0__prep_body F _ _ := rfl
theorem mlp_five : @cc5__mlp_body F _ _ = @cc2__mlp_body F _ _ := rfl

end Cert.Kernel.Bodies
-- ==== Proof.Calls.lean ====
/-
  The six TensorCore calls: the data each pipeline runs its body with, and that the body meets it.
-/
module

public import proofs.«01_k».proof.Proof.Prep
public import proofs.«01_k».proof.Proof.PrepWide
public import proofs.«01_k».proof.Proof.Mlp
public import proofs.«01_k».proof.Proof.MlpOne
public import proofs.«01_k».proof.Proof.Bodies
public import proofs.«01_k».proof.Proof.Gen.Kernel.Points
public import proofs.«01_k».proof.Proof.Gen.Kernel.Launch
public import Idealize.ShloMosaic.Lib.Pipeline.RegionArraysS

@[expose] public section

set_option maxRecDepth 16384

noncomputable section

namespace Cert.Kernel.Calls

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## Any of the calls -/

section Any

variable {cfg : Cfg sig Λ₀}

variable (cfg) in
/-- Window `w`'s block at point `t`, off the array the valuation gives. -/
def iblk (V : Valuation τ sig (Elt F)) (w : Fin cfg.W) (t : Fin cfg.N) : ((cfg.win w).xblock (cfg.grid.coords t)).Idx → Elt F (cfg.win w).elt :=
  ((cfg.win w).blk t).view.read (Elt F) (V (Proc.devRef .tc (Pipeline.arrRef cfg.spec w)))

variable (cfg) in
/-- A call's data: the arrays as the valuation has them, what the body leaves in each window, and the thread's debts, the
    same throughout. -/
def datOf (V : Valuation τ sig (Elt F)) (O : CellTallies nD τ sig (HIx 3)) (Rec : Set (SemLoc sig × HIx 3))
    (left : (w : Fin cfg.W) → Fin cfg.N → (cfg.win w).block.Idx → Elt F (cfg.win w).elt) (c : Dev nD) : Dat τ (Elt F) (HIx 3) ℕ UU ℕ cfg c where
  A w := V (Proc.devRef .tc (Pipeline.arrRef cfg.spec w))
  after := left
  Φ _ := Pipeline.scopedRest (Cfg.spec cfg) c
  q _ := fullShare
  owed _ := O
  recorded _ := Rec

variable (V : Valuation τ sig (Elt F)) (O : CellTallies nD τ sig (HIx 3)) (Rec : Set (SemLoc sig × HIx 3))
  (left : (w : Fin cfg.W) → Fin cfg.N → (cfg.win w).block.Idx → Elt F (cfg.win w).elt) (c : Dev nD)

theorem share_datOf (w : Fin cfg.W) : (datOf cfg V O Rec left c).share w = fullShare :=
  (datOf cfg V O Rec left c).share_full (fun _ => rfl) w

/-- An input window holds its block at every point, fetched there or not. -/
theorem found (w : Fin cfg.W) (hw : (cfg.win w).isOut = false) (hlive : ∀ i, cfg.idle w i = false)
    (hclip : ∀ t t' : Fin cfg.N, (cfg.win w).index t = (cfg.win w).index t' → (cfg.win w).clip (cfg.grid.coords t) = (cfg.win w).clip (cfg.grid.coords t'))
    (hkeep : ∀ t, (cfg.win w).cut (cfg.grid.coords t) (left w t) = iblk cfg V w t) (t : Fin cfg.N) (d : (cfg.win w).block.Idx → Elt F (cfg.win w).elt) :
    (datOf cfg V O Rec left c).before w t d = (cfg.win w).fill (cfg.grid.coords t) d (iblk cfg V w t) :=
  (datOf cfg V O Rec left c).before_in_eq_fetched w hw hlive hclip hkeep t d

end Any

variable (V : Valuation τ sig (Elt F)) (O : CellTallies nD τ sig (HIx 3)) (Rec : Set (SemLoc sig × HIx 3))

/-! ## The first stage -/

namespace PrepA

/-- What the body leaves in each window's block at a point. -/
def left : (w : Fin cfg0.W) → Fin cfg0.N → (cfg0.win w).block.Idx → Elt F (cfg0.win w).elt
  | ⟨0, _⟩, t => iblk cfg0 V 0 t
  | ⟨1, _⟩, t => iblk cfg0 V 1 t
  | ⟨2, _⟩, t => iblk cfg0 V 2 t
  | ⟨3, _⟩, t => iblk cfg0 V 3 t
  | ⟨4, _⟩, t => iblk cfg0 V 4 t
  | ⟨5, _⟩, t => iblk cfg0 V 5 t
  | ⟨6, _⟩, t => iblk cfg0 V 6 t
  | ⟨7, _⟩, t => iblk cfg0 V 7 t
  | ⟨8, _⟩, t => Prep.out_8 (iblk cfg0 V 0 t) (iblk cfg0 V 1 t) (iblk cfg0 V 2 t) (iblk cfg0 V 3 t) (iblk cfg0 V 4 t) (iblk cfg0 V 5 t) (iblk cfg0 V 6 t) (iblk cfg0 V 7 t)
  | ⟨9, _⟩, t => Prep.out_9 (iblk cfg0 V 0 t) (iblk cfg0 V 1 t) (iblk cfg0 V 2 t) (iblk cfg0 V 3 t) (iblk cfg0 V 4 t) (iblk cfg0 V 5 t) (iblk cfg0 V 6 t) (iblk cfg0 V 7 t)

/-- The data the pipeline runs the call with. -/
def dat (c : Dev nD) : Dat τ (Elt F) (HIx 3) ℕ UU ℕ cfg0 c := datOf cfg0 V O Rec (left V) c

theorem before (c : Dev nD) (t : Fin cfg0.N) :
    (∀ d, (dat V O Rec c).before 0 t d = iblk cfg0 V 0 t) ∧ (∀ d, (dat V O Rec c).before 1 t d = iblk cfg0 V 1 t) ∧ (∀ d, (dat V O Rec c).before 2 t d = iblk cfg0 V 2 t) ∧ (∀ d, (dat V O Rec c).before 3 t d = iblk cfg0 V 3 t) ∧ (∀ d, (dat V O Rec c).before 4 t d = iblk cfg0 V 4 t) ∧ (∀ d, (dat V O Rec c).before 5 t d = iblk cfg0 V 5 t) ∧ (∀ d, (dat V O Rec c).before 6 t d = iblk cfg0 V 6 t) ∧ (∀ d, (dat V O Rec c).before 7 t d = iblk cfg0 V 7 t) :=
  ⟨found V O Rec (left V) c 0 rfl (fun _ => rfl) (fun _ _ _ => rfl) (fun _ => by dsimp only [left]) t, found V O Rec (left V) c 1 rfl (fun _ => rfl) (fun _ _ _ => rfl) (fun _ => by dsimp only [left]) t, found V O Rec (left V) c 2 rfl (fun _ => rfl) (fun _ _ _ => rfl) (fun _ => by dsimp only [left]) t, found V O Rec (left V) c 3 rfl (fun _ => rfl) (fun _ _ _ => rfl) (fun _ => by dsimp only [left]) t, found V O Rec (left V) c 4 rfl (fun _ => rfl) (fun _ _ _ => rfl) (fun _ => by dsimp only [left]) t, found V O Rec (left V) c 5 rfl (fun _ => rfl) (fun _ _ _ => rfl) (fun _ => by dsimp only [left]) t, found V O Rec (left V) c 6 rfl (fun _ => rfl) (fun _ _ _ => rfl) (fun _ => by dsimp only [left]) t, found V O Rec (left V) c 7 rfl (fun _ => rfl) (fun _ _ _ => rfl) (fun _ => by dsimp only [left]) t⟩
theorem after_0 (c : Dev nD) (t : Fin cfg0.N) : (dat V O Rec c).after 0 t = iblk cfg0 V 0 t := by dsimp only [dat, datOf, left]
theorem after_1 (c : Dev nD) (t : Fin cfg0.N) : (dat V O Rec c).after 1 t = iblk cfg0 V 1 t := by dsimp only [dat, datOf, left]
theorem after_2 (c : Dev nD) (t : Fin cfg0.N) : (dat V O Rec c).after 2 t = iblk cfg0 V 2 t := by dsimp only [dat, datOf, left]
theorem after_3 (c : Dev nD) (t : Fin cfg0.N) : (dat V O Rec c).after 3 t = iblk cfg0 V 3 t := by dsimp only [dat, datOf, left]
theorem after_4 (c : Dev nD) (t : Fin cfg0.N) : (dat V O Rec c).after 4 t = iblk cfg0 V 4 t := by dsimp only [dat, datOf, left]
theorem after_5 (c : Dev nD) (t : Fin cfg0.N) : (dat V O Rec c).after 5 t = iblk cfg0 V 5 t := by dsimp only [dat, datOf, left]
theorem after_6 (c : Dev nD) (t : Fin cfg0.N) : (dat V O Rec c).after 6 t = iblk cfg0 V 6 t := by dsimp only [dat, datOf, left]
theorem after_7 (c : Dev nD) (t : Fin cfg0.N) : (dat V O Rec c).after 7 t = iblk cfg0 V 7 t := by dsimp only [dat, datOf, left]
theorem after_8 (c : Dev nD) (t : Fin cfg0.N) : (dat V O Rec c).after 8 t = Prep.out_8 (iblk cfg0 V 0 t) (iblk cfg0 V 1 t) (iblk cfg0 V 2 t) (iblk cfg0 V 3 t) (iblk cfg0 V 4 t) (iblk cfg0 V 5 t) (iblk cfg0 V 6 t) (iblk cfg0 V 7 t) := by dsimp only [dat, datOf, left]
theorem after_9 (c : Dev nD) (t : Fin cfg0.N) : (dat V O Rec c).after 9 t = Prep.out_9 (iblk cfg0 V 0 t) (iblk cfg0 V 1 t) (iblk cfg0 V 2 t) (iblk cfg0 V 3 t) (iblk cfg0 V 4 t) (iblk cfg0 V 5 t) (iblk cfg0 V 6 t) (iblk cfg0 V 7 t) := by dsimp only [dat, datOf, left]

theorem row (t : Fin cfg0.N) : defs₀ (F := F) .tc cfg0.body (cfg0.bodyArgs t (cfg0.slots t)) = bodyAt0 t := by rfl

theorem body (c : Dev nD) : BodyObligation (dat (F := F) V O Rec c) (defs₀ (F := F)) Variants.none none Set.univ := fun t => by
  obtain ⟨h0, h1, h2, h3, h4, h5, h6, h7⟩ := before V O Rec c t
  rw [bigSep_W0, bigSep_W0, row]
  unfold bodyAt0
  refine triple_restated (P := _) (Q := _) ?_ rfl .rfl fun _ => .rfl
  simp only [h0, h1, h2, h3, h4, h5, h6, h7]
  rw [show (dat V O Rec c).Φ t.succ = (dat V O Rec c).Φ t.castSucc from rfl,
    show (dat V O Rec c).owesAt none t.succ = (dat V O Rec c).owesAt none t.castSucc from rfl, after_0, after_1, after_2, after_3, after_4, after_5, after_6, after_7, after_8, after_9]
  exact Prep.sound c Set.univ (grid0.coords t) _ _ _ _ _ _ _ _ _ _ _ _ _ _ _ _ _ _ _ _ (iblk cfg0 V 0 t) (iblk cfg0 V 1 t) (iblk cfg0 V 2 t) (iblk cfg0 V 3 t) (iblk cfg0 V 4 t) (iblk cfg0 V 5 t) (iblk cfg0 V 6 t) (iblk cfg0 V 7 t) (fun _ => rfl) (fun _ => rfl) (fun _ => rfl) (fun _ => rfl) (fun _ => rfl) (fun _ => rfl) (fun _ => rfl) (fun _ => rfl) _ _

end PrepA

/-! ## The first stage's layers -/

namespace MlpA

/-- What the body leaves in each window's block at a point. -/
def left : (w : Fin cfg2.W) → Fin cfg2.N → (cfg2.win w).block.Idx → Elt F (cfg2.win w).elt
  | ⟨0, _⟩, t => iblk cfg2 V 0 t
  | ⟨1, _⟩, t => iblk cfg2 V 1 t
  | ⟨2, _⟩, t => iblk cfg2 V 2 t
  | ⟨3, _⟩, t => iblk cfg2 V 3 t
  | ⟨4, _⟩, t => iblk cfg2 V 4 t
  | ⟨5, _⟩, t => iblk cfg2 V 5 t
  | ⟨6, _⟩, t => Mlp.out_6 (iblk cfg2 V 0 t) (iblk cfg2 V 1 t) (iblk cfg2 V 2 t) (iblk cfg2 V 3 t) (iblk cfg2 V 4 t) (iblk cfg2 V 5 t)
  | ⟨7, _⟩, t => Mlp.out_7 (iblk cfg2 V 0 t) (iblk cfg2 V 1 t) (iblk cfg2 V 2 t) (iblk cfg2 V 3 t) (iblk cfg2 V 4 t) (iblk cfg2 V 5 t)

/-- The data the pipeline runs the call with. -/
def dat (c : Dev nD) : Dat τ (Elt F) (HIx 3) ℕ UU ℕ cfg2 c := datOf cfg2 V O Rec (left V) c

theorem before (c : Dev nD) (t : Fin cfg2.N) :
    (∀ d, (dat V O Rec c).before 0 t d = iblk cfg2 V 0 t) ∧ (∀ d, (dat V O Rec c).before 1 t d = iblk cfg2 V 1 t) ∧ (∀ d, (dat V O Rec c).before 2 t d = iblk cfg2 V 2 t) ∧ (∀ d, (dat V O Rec c).before 3 t d = iblk cfg2 V 3 t) ∧ (∀ d, (dat V O Rec c).before 4 t d = iblk cfg2 V 4 t) ∧ (∀ d, (dat V O Rec c).before 5 t d = iblk cfg2 V 5 t) :=
  ⟨found V O Rec (left V) c 0 rfl (fun _ => rfl) (fun _ _ _ => rfl) (fun _ => by dsimp only [left]) t, found V O Rec (left V) c 1 rfl (fun _ => rfl) (fun _ _ _ => rfl) (fun _ => by dsimp only [left]) t, found V O Rec (left V) c 2 rfl (fun _ => rfl) (fun _ _ _ => rfl) (fun _ => by dsimp only [left]) t, found V O Rec (left V) c 3 rfl (fun _ => rfl) (fun _ _ _ => rfl) (fun _ => by dsimp only [left]) t, found V O Rec (left V) c 4 rfl (fun _ => rfl) (fun _ _ _ => rfl) (fun _ => by dsimp only [left]) t, found V O Rec (left V) c 5 rfl (fun _ => rfl) (fun _ _ _ => rfl) (fun _ => by dsimp only [left]) t⟩
theorem after_0 (c : Dev nD) (t : Fin cfg2.N) : (dat V O Rec c).after 0 t = iblk cfg2 V 0 t := by dsimp only [dat, datOf, left]
theorem after_1 (c : Dev nD) (t : Fin cfg2.N) : (dat V O Rec c).after 1 t = iblk cfg2 V 1 t := by dsimp only [dat, datOf, left]
theorem after_2 (c : Dev nD) (t : Fin cfg2.N) : (dat V O Rec c).after 2 t = iblk cfg2 V 2 t := by dsimp only [dat, datOf, left]
theorem after_3 (c : Dev nD) (t : Fin cfg2.N) : (dat V O Rec c).after 3 t = iblk cfg2 V 3 t := by dsimp only [dat, datOf, left]
theorem after_4 (c : Dev nD) (t : Fin cfg2.N) : (dat V O Rec c).after 4 t = iblk cfg2 V 4 t := by dsimp only [dat, datOf, left]
theorem after_5 (c : Dev nD) (t : Fin cfg2.N) : (dat V O Rec c).after 5 t = iblk cfg2 V 5 t := by dsimp only [dat, datOf, left]
theorem after_6 (c : Dev nD) (t : Fin cfg2.N) : (dat V O Rec c).after 6 t = Mlp.out_6 (iblk cfg2 V 0 t) (iblk cfg2 V 1 t) (iblk cfg2 V 2 t) (iblk cfg2 V 3 t) (iblk cfg2 V 4 t) (iblk cfg2 V 5 t) := by dsimp only [dat, datOf, left]
theorem after_7 (c : Dev nD) (t : Fin cfg2.N) : (dat V O Rec c).after 7 t = Mlp.out_7 (iblk cfg2 V 0 t) (iblk cfg2 V 1 t) (iblk cfg2 V 2 t) (iblk cfg2 V 3 t) (iblk cfg2 V 4 t) (iblk cfg2 V 5 t) := by dsimp only [dat, datOf, left]

theorem row (t : Fin cfg2.N) : defs₀ (F := F) .tc cfg2.body (cfg2.bodyArgs t (cfg2.slots t)) = bodyAt2 t := by rfl

theorem body (c : Dev nD) : BodyObligation (dat (F := F) V O Rec c) (defs₀ (F := F)) Variants.none none Set.univ := fun t => by
  obtain ⟨h0, h1, h2, h3, h4, h5⟩ := before V O Rec c t
  rw [bigSep_W2, bigSep_W2, row]
  unfold bodyAt2
  refine triple_restated (P := _) (Q := _) ?_ rfl .rfl fun _ => .rfl
  simp only [h0, h1, h2, h3, h4, h5]
  rw [show (dat V O Rec c).Φ t.succ = (dat V O Rec c).Φ t.castSucc from rfl,
    show (dat V O Rec c).owesAt none t.succ = (dat V O Rec c).owesAt none t.castSucc from rfl, after_0, after_1, after_2, after_3, after_4, after_5, after_6, after_7]
  exact Mlp.sound c Set.univ (grid2.coords t) _ _ _ _ _ _ _ _ _ _ _ _ _ _ _ _ (iblk cfg2 V 0 t) (iblk cfg2 V 1 t) (iblk cfg2 V 2 t) (iblk cfg2 V 3 t) (iblk cfg2 V 4 t) (iblk cfg2 V 5 t) (fun _ => rfl) (fun _ => rfl) (fun _ => rfl) (fun _ => rfl) (fun _ => rfl) (fun _ => rfl) _ _

end MlpA

/-! ## The second stage -/

namespace PrepB

/-- What the body leaves in each window's block at a point. -/
def left : (w : Fin cfg3.W) → Fin cfg3.N → (cfg3.win w).block.Idx → Elt F (cfg3.win w).elt
  | ⟨0, _⟩, t => iblk cfg3 V 0 t
  | ⟨1, _⟩, t => iblk cfg3 V 1 t
  | ⟨2, _⟩, t => iblk cfg3 V 2 t
  | ⟨3, _⟩, t => iblk cfg3 V 3 t
  | ⟨4, _⟩, t => iblk cfg3 V 4 t
  | ⟨5, _⟩, t => iblk cfg3 V 5 t
  | ⟨6, _⟩, t => iblk cfg3 V 6 t
  | ⟨7, _⟩, t => iblk cfg3 V 7 t
  | ⟨8, _⟩, t => Prep.out_8 (iblk cfg3 V 0 t) (iblk cfg3 V 1 t) (iblk cfg3 V 2 t) (iblk cfg3 V 3 t) (iblk cfg3 V 4 t) (iblk cfg3 V 5 t) (iblk cfg3 V 6 t) (iblk cfg3 V 7 t)
  | ⟨9, _⟩, t => Prep.out_9 (iblk cfg3 V 0 t) (iblk cfg3 V 1 t) (iblk cfg3 V 2 t) (iblk cfg3 V 3 t) (iblk cfg3 V 4 t) (iblk cfg3 V 5 t) (iblk cfg3 V 6 t) (iblk cfg3 V 7 t)

/-- The data the pipeline runs the call with. -/
def dat (c : Dev nD) : Dat τ (Elt F) (HIx 3) ℕ UU ℕ cfg3 c := datOf cfg3 V O Rec (left V) c

theorem before (c : Dev nD) (t : Fin cfg3.N) :
    (∀ d, (dat V O Rec c).before 0 t d = iblk cfg3 V 0 t) ∧ (∀ d, (dat V O Rec c).before 1 t d = iblk cfg3 V 1 t) ∧ (∀ d, (dat V O Rec c).before 2 t d = iblk cfg3 V 2 t) ∧ (∀ d, (dat V O Rec c).before 3 t d = iblk cfg3 V 3 t) ∧ (∀ d, (dat V O Rec c).before 4 t d = iblk cfg3 V 4 t) ∧ (∀ d, (dat V O Rec c).before 5 t d = iblk cfg3 V 5 t) ∧ (∀ d, (dat V O Rec c).before 6 t d = iblk cfg3 V 6 t) ∧ (∀ d, (dat V O Rec c).before 7 t d = iblk cfg3 V 7 t) :=
  ⟨found V O Rec (left V) c 0 rfl (fun _ => rfl) (fun _ _ _ => rfl) (fun _ => by dsimp only [left]) t, found V O Rec (left V) c 1 rfl (fun _ => rfl) (fun _ _ _ => rfl) (fun _ => by dsimp only [left]) t, found V O Rec (left V) c 2 rfl (fun _ => rfl) (fun _ _ _ => rfl) (fun _ => by dsimp only [left]) t, found V O Rec (left V) c 3 rfl (fun _ => rfl) (fun _ _ _ => rfl) (fun _ => by dsimp only [left]) t, found V O Rec (left V) c 4 rfl (fun _ => rfl) (fun _ _ _ => rfl) (fun _ => by dsimp only [left]) t, found V O Rec (left V) c 5 rfl (fun _ => rfl) (fun _ _ _ => rfl) (fun _ => by dsimp only [left]) t, found V O Rec (left V) c 6 rfl (fun _ => rfl) (fun _ _ _ => rfl) (fun _ => by dsimp only [left]) t, found V O Rec (left V) c 7 rfl (fun _ => rfl) (fun _ _ _ => rfl) (fun _ => by dsimp only [left]) t⟩
theorem after_0 (c : Dev nD) (t : Fin cfg3.N) : (dat V O Rec c).after 0 t = iblk cfg3 V 0 t := by dsimp only [dat, datOf, left]
theorem after_1 (c : Dev nD) (t : Fin cfg3.N) : (dat V O Rec c).after 1 t = iblk cfg3 V 1 t := by dsimp only [dat, datOf, left]
theorem after_2 (c : Dev nD) (t : Fin cfg3.N) : (dat V O Rec c).after 2 t = iblk cfg3 V 2 t := by dsimp only [dat, datOf, left]
theorem after_3 (c : Dev nD) (t : Fin cfg3.N) : (dat V O Rec c).after 3 t = iblk cfg3 V 3 t := by dsimp only [dat, datOf, left]
theorem after_4 (c : Dev nD) (t : Fin cfg3.N) : (dat V O Rec c).after 4 t = iblk cfg3 V 4 t := by dsimp only [dat, datOf, left]
theorem after_5 (c : Dev nD) (t : Fin cfg3.N) : (dat V O Rec c).after 5 t = iblk cfg3 V 5 t := by dsimp only [dat, datOf, left]
theorem after_6 (c : Dev nD) (t : Fin cfg3.N) : (dat V O Rec c).after 6 t = iblk cfg3 V 6 t := by dsimp only [dat, datOf, left]
theorem after_7 (c : Dev nD) (t : Fin cfg3.N) : (dat V O Rec c).after 7 t = iblk cfg3 V 7 t := by dsimp only [dat, datOf, left]
theorem after_8 (c : Dev nD) (t : Fin cfg3.N) : (dat V O Rec c).after 8 t = Prep.out_8 (iblk cfg3 V 0 t) (iblk cfg3 V 1 t) (iblk cfg3 V 2 t) (iblk cfg3 V 3 t) (iblk cfg3 V 4 t) (iblk cfg3 V 5 t) (iblk cfg3 V 6 t) (iblk cfg3 V 7 t) := by dsimp only [dat, datOf, left]
theorem after_9 (c : Dev nD) (t : Fin cfg3.N) : (dat V O Rec c).after 9 t = Prep.out_9 (iblk cfg3 V 0 t) (iblk cfg3 V 1 t) (iblk cfg3 V 2 t) (iblk cfg3 V 3 t) (iblk cfg3 V 4 t) (iblk cfg3 V 5 t) (iblk cfg3 V 6 t) (iblk cfg3 V 7 t) := by dsimp only [dat, datOf, left]

theorem row (t : Fin cfg3.N) : defs₀ (F := F) .tc cfg3.body (cfg3.bodyArgs t (cfg3.slots t)) = bodyAt3 t := by rfl

theorem body (c : Dev nD) : BodyObligation (dat (F := F) V O Rec c) (defs₀ (F := F)) Variants.none none Set.univ := fun t => by
  obtain ⟨h0, h1, h2, h3, h4, h5, h6, h7⟩ := before V O Rec c t
  rw [bigSep_W3, bigSep_W3, row]
  unfold bodyAt3
  rw [Bodies.prep_three]
  refine triple_restated (P := _) (Q := _) ?_ rfl .rfl fun _ => .rfl
  simp only [h0, h1, h2, h3, h4, h5, h6, h7]
  rw [show (dat V O Rec c).Φ t.succ = (dat V O Rec c).Φ t.castSucc from rfl,
    show (dat V O Rec c).owesAt none t.succ = (dat V O Rec c).owesAt none t.castSucc from rfl, after_0, after_1, after_2, after_3, after_4, after_5, after_6, after_7, after_8, after_9]
  exact Prep.sound c Set.univ (grid3.coords t) _ _ _ _ _ _ _ _ _ _ _ _ _ _ _ _ _ _ _ _ (iblk cfg3 V 0 t) (iblk cfg3 V 1 t) (iblk cfg3 V 2 t) (iblk cfg3 V 3 t) (iblk cfg3 V 4 t) (iblk cfg3 V 5 t) (iblk cfg3 V 6 t) (iblk cfg3 V 7 t) (fun _ => rfl) (fun _ => rfl) (fun _ => rfl) (fun _ => rfl) (fun _ => rfl) (fun _ => rfl) (fun _ => rfl) (fun _ => rfl) _ _

end PrepB

/-! ## The second stage's layers -/

namespace MlpB

/-- What the body leaves in each window's block at a point. -/
def left : (w : Fin cfg5.W) → Fin cfg5.N → (cfg5.win w).block.Idx → Elt F (cfg5.win w).elt
  | ⟨0, _⟩, t => iblk cfg5 V 0 t
  | ⟨1, _⟩, t => iblk cfg5 V 1 t
  | ⟨2, _⟩, t => iblk cfg5 V 2 t
  | ⟨3, _⟩, t => iblk cfg5 V 3 t
  | ⟨4, _⟩, t => iblk cfg5 V 4 t
  | ⟨5, _⟩, t => iblk cfg5 V 5 t
  | ⟨6, _⟩, t => Mlp.out_6 (iblk cfg5 V 0 t) (iblk cfg5 V 1 t) (iblk cfg5 V 2 t) (iblk cfg5 V 3 t) (iblk cfg5 V 4 t) (iblk cfg5 V 5 t)
  | ⟨7, _⟩, t => Mlp.out_7 (iblk cfg5 V 0 t) (iblk cfg5 V 1 t) (iblk cfg5 V 2 t) (iblk cfg5 V 3 t) (iblk cfg5 V 4 t) (iblk cfg5 V 5 t)

/-- The data the pipeline runs the call with. -/
def dat (c : Dev nD) : Dat τ (Elt F) (HIx 3) ℕ UU ℕ cfg5 c := datOf cfg5 V O Rec (left V) c

theorem before (c : Dev nD) (t : Fin cfg5.N) :
    (∀ d, (dat V O Rec c).before 0 t d = iblk cfg5 V 0 t) ∧ (∀ d, (dat V O Rec c).before 1 t d = iblk cfg5 V 1 t) ∧ (∀ d, (dat V O Rec c).before 2 t d = iblk cfg5 V 2 t) ∧ (∀ d, (dat V O Rec c).before 3 t d = iblk cfg5 V 3 t) ∧ (∀ d, (dat V O Rec c).before 4 t d = iblk cfg5 V 4 t) ∧ (∀ d, (dat V O Rec c).before 5 t d = iblk cfg5 V 5 t) :=
  ⟨found V O Rec (left V) c 0 rfl (fun _ => rfl) (fun _ _ _ => rfl) (fun _ => by dsimp only [left]) t, found V O Rec (left V) c 1 rfl (fun _ => rfl) (fun _ _ _ => rfl) (fun _ => by dsimp only [left]) t, found V O Rec (left V) c 2 rfl (fun _ => rfl) (fun _ _ _ => rfl) (fun _ => by dsimp only [left]) t, found V O Rec (left V) c 3 rfl (fun _ => rfl) (fun _ _ _ => rfl) (fun _ => by dsimp only [left]) t, found V O Rec (left V) c 4 rfl (fun _ => rfl) (fun _ _ _ => rfl) (fun _ => by dsimp only [left]) t, found V O Rec (left V) c 5 rfl (fun _ => rfl) (fun _ _ _ => rfl) (fun _ => by dsimp only [left]) t⟩
theorem after_0 (c : Dev nD) (t : Fin cfg5.N) : (dat V O Rec c).after 0 t = iblk cfg5 V 0 t := by dsimp only [dat, datOf, left]
theorem after_1 (c : Dev nD) (t : Fin cfg5.N) : (dat V O Rec c).after 1 t = iblk cfg5 V 1 t := by dsimp only [dat, datOf, left]
theorem after_2 (c : Dev nD) (t : Fin cfg5.N) : (dat V O Rec c).after 2 t = iblk cfg5 V 2 t := by dsimp only [dat, datOf, left]
theorem after_3 (c : Dev nD) (t : Fin cfg5.N) : (dat V O Rec c).after 3 t = iblk cfg5 V 3 t := by dsimp only [dat, datOf, left]
theorem after_4 (c : Dev nD) (t : Fin cfg5.N) : (dat V O Rec c).after 4 t = iblk cfg5 V 4 t := by dsimp only [dat, datOf, left]
theorem after_5 (c : Dev nD) (t : Fin cfg5.N) : (dat V O Rec c).after 5 t = iblk cfg5 V 5 t := by dsimp only [dat, datOf, left]
theorem after_6 (c : Dev nD) (t : Fin cfg5.N) : (dat V O Rec c).after 6 t = Mlp.out_6 (iblk cfg5 V 0 t) (iblk cfg5 V 1 t) (iblk cfg5 V 2 t) (iblk cfg5 V 3 t) (iblk cfg5 V 4 t) (iblk cfg5 V 5 t) := by dsimp only [dat, datOf, left]
theorem after_7 (c : Dev nD) (t : Fin cfg5.N) : (dat V O Rec c).after 7 t = Mlp.out_7 (iblk cfg5 V 0 t) (iblk cfg5 V 1 t) (iblk cfg5 V 2 t) (iblk cfg5 V 3 t) (iblk cfg5 V 4 t) (iblk cfg5 V 5 t) := by dsimp only [dat, datOf, left]

theorem row (t : Fin cfg5.N) : defs₀ (F := F) .tc cfg5.body (cfg5.bodyArgs t (cfg5.slots t)) = bodyAt5 t := by rfl

theorem body (c : Dev nD) : BodyObligation (dat (F := F) V O Rec c) (defs₀ (F := F)) Variants.none none Set.univ := fun t => by
  obtain ⟨h0, h1, h2, h3, h4, h5⟩ := before V O Rec c t
  rw [bigSep_W5, bigSep_W5, row]
  unfold bodyAt5
  rw [Bodies.mlp_five]
  refine triple_restated (P := _) (Q := _) ?_ rfl .rfl fun _ => .rfl
  simp only [h0, h1, h2, h3, h4, h5]
  rw [show (dat V O Rec c).Φ t.succ = (dat V O Rec c).Φ t.castSucc from rfl,
    show (dat V O Rec c).owesAt none t.succ = (dat V O Rec c).owesAt none t.castSucc from rfl, after_0, after_1, after_2, after_3, after_4, after_5, after_6, after_7]
  exact Mlp.sound c Set.univ (grid5.coords t) _ _ _ _ _ _ _ _ _ _ _ _ _ _ _ _ (iblk cfg5 V 0 t) (iblk cfg5 V 1 t) (iblk cfg5 V 2 t) (iblk cfg5 V 3 t) (iblk cfg5 V 4 t) (iblk cfg5 V 5 t) (fun _ => rfl) (fun _ => rfl) (fun _ => rfl) (fun _ => rfl) (fun _ => rfl) (fun _ => rfl) _ _

end MlpB

/-! ## The third stage -/

namespace PrepC

/-- What the body leaves in each window's block at a point. -/
def left : (w : Fin cfg6.W) → Fin cfg6.N → (cfg6.win w).block.Idx → Elt F (cfg6.win w).elt
  | ⟨0, _⟩, t => iblk cfg6 V 0 t
  | ⟨1, _⟩, t => iblk cfg6 V 1 t
  | ⟨2, _⟩, t => iblk cfg6 V 2 t
  | ⟨3, _⟩, t => iblk cfg6 V 3 t
  | ⟨4, _⟩, t => iblk cfg6 V 4 t
  | ⟨5, _⟩, t => iblk cfg6 V 5 t
  | ⟨6, _⟩, t => iblk cfg6 V 6 t
  | ⟨7, _⟩, t => iblk cfg6 V 7 t
  | ⟨8, _⟩, t => PrepWide.out_8 (iblk cfg6 V 0 t) (iblk cfg6 V 1 t) (iblk cfg6 V 2 t) (iblk cfg6 V 3 t) (iblk cfg6 V 4 t) (iblk cfg6 V 5 t) (iblk cfg6 V 6 t) (iblk cfg6 V 7 t)
  | ⟨9, _⟩, t => PrepWide.out_9 (iblk cfg6 V 0 t) (iblk cfg6 V 1 t) (iblk cfg6 V 2 t) (iblk cfg6 V 3 t) (iblk cfg6 V 4 t) (iblk cfg6 V 5 t) (iblk cfg6 V 6 t) (iblk cfg6 V 7 t)

/-- The data the pipeline runs the call with. -/
def dat (c : Dev nD) : Dat τ (Elt F) (HIx 3) ℕ UU ℕ cfg6 c := datOf cfg6 V O Rec (left V) c

theorem before (c : Dev nD) (t : Fin cfg6.N) :
    (∀ d, (dat V O Rec c).before 0 t d = iblk cfg6 V 0 t) ∧ (∀ d, (dat V O Rec c).before 1 t d = iblk cfg6 V 1 t) ∧ (∀ d, (dat V O Rec c).before 2 t d = iblk cfg6 V 2 t) ∧ (∀ d, (dat V O Rec c).before 3 t d = iblk cfg6 V 3 t) ∧ (∀ d, (dat V O Rec c).before 4 t d = iblk cfg6 V 4 t) ∧ (∀ d, (dat V O Rec c).before 5 t d = iblk cfg6 V 5 t) ∧ (∀ d, (dat V O Rec c).before 6 t d = iblk cfg6 V 6 t) ∧ (∀ d, (dat V O Rec c).before 7 t d = iblk cfg6 V 7 t) :=
  ⟨found V O Rec (left V) c 0 rfl (fun _ => rfl) (fun _ _ _ => rfl) (fun _ => by dsimp only [left]) t, found V O Rec (left V) c 1 rfl (fun _ => rfl) (fun _ _ _ => rfl) (fun _ => by dsimp only [left]) t, found V O Rec (left V) c 2 rfl (fun _ => rfl) (fun _ _ _ => rfl) (fun _ => by dsimp only [left]) t, found V O Rec (left V) c 3 rfl (fun _ => rfl) (fun _ _ _ => rfl) (fun _ => by dsimp only [left]) t, found V O Rec (left V) c 4 rfl (fun _ => rfl) (fun _ _ _ => rfl) (fun _ => by dsimp only [left]) t, found V O Rec (left V) c 5 rfl (fun _ => rfl) (fun _ _ _ => rfl) (fun _ => by dsimp only [left]) t, found V O Rec (left V) c 6 rfl (fun _ => rfl) (fun _ _ _ => rfl) (fun _ => by dsimp only [left]) t, found V O Rec (left V) c 7 rfl (fun _ => rfl) (fun _ _ _ => rfl) (fun _ => by dsimp only [left]) t⟩
theorem after_0 (c : Dev nD) (t : Fin cfg6.N) : (dat V O Rec c).after 0 t = iblk cfg6 V 0 t := by dsimp only [dat, datOf, left]
theorem after_1 (c : Dev nD) (t : Fin cfg6.N) : (dat V O Rec c).after 1 t = iblk cfg6 V 1 t := by dsimp only [dat, datOf, left]
theorem after_2 (c : Dev nD) (t : Fin cfg6.N) : (dat V O Rec c).after 2 t = iblk cfg6 V 2 t := by dsimp only [dat, datOf, left]
theorem after_3 (c : Dev nD) (t : Fin cfg6.N) : (dat V O Rec c).after 3 t = iblk cfg6 V 3 t := by dsimp only [dat, datOf, left]
theorem after_4 (c : Dev nD) (t : Fin cfg6.N) : (dat V O Rec c).after 4 t = iblk cfg6 V 4 t := by dsimp only [dat, datOf, left]
theorem after_5 (c : Dev nD) (t : Fin cfg6.N) : (dat V O Rec c).after 5 t = iblk cfg6 V 5 t := by dsimp only [dat, datOf, left]
theorem after_6 (c : Dev nD) (t : Fin cfg6.N) : (dat V O Rec c).after 6 t = iblk cfg6 V 6 t := by dsimp only [dat, datOf, left]
theorem after_7 (c : Dev nD) (t : Fin cfg6.N) : (dat V O Rec c).after 7 t = iblk cfg6 V 7 t := by dsimp only [dat, datOf, left]
theorem after_8 (c : Dev nD) (t : Fin cfg6.N) : (dat V O Rec c).after 8 t = PrepWide.out_8 (iblk cfg6 V 0 t) (iblk cfg6 V 1 t) (iblk cfg6 V 2 t) (iblk cfg6 V 3 t) (iblk cfg6 V 4 t) (iblk cfg6 V 5 t) (iblk cfg6 V 6 t) (iblk cfg6 V 7 t) := by dsimp only [dat, datOf, left]
theorem after_9 (c : Dev nD) (t : Fin cfg6.N) : (dat V O Rec c).after 9 t = PrepWide.out_9 (iblk cfg6 V 0 t) (iblk cfg6 V 1 t) (iblk cfg6 V 2 t) (iblk cfg6 V 3 t) (iblk cfg6 V 4 t) (iblk cfg6 V 5 t) (iblk cfg6 V 6 t) (iblk cfg6 V 7 t) := by dsimp only [dat, datOf, left]

theorem row (t : Fin cfg6.N) : defs₀ (F := F) .tc cfg6.body (cfg6.bodyArgs t (cfg6.slots t)) = bodyAt6 t := by rfl

theorem body (c : Dev nD) : BodyObligation (dat (F := F) V O Rec c) (defs₀ (F := F)) Variants.none none Set.univ := fun t => by
  obtain ⟨h0, h1, h2, h3, h4, h5, h6, h7⟩ := before V O Rec c t
  rw [bigSep_W6, bigSep_W6, row]
  unfold bodyAt6
  refine triple_restated (P := _) (Q := _) ?_ rfl .rfl fun _ => .rfl
  simp only [h0, h1, h2, h3, h4, h5, h6, h7]
  rw [show (dat V O Rec c).Φ t.succ = (dat V O Rec c).Φ t.castSucc from rfl,
    show (dat V O Rec c).owesAt none t.succ = (dat V O Rec c).owesAt none t.castSucc from rfl, after_0, after_1, after_2, after_3, after_4, after_5, after_6, after_7, after_8, after_9]
  exact PrepWide.sound c Set.univ (grid6.coords t) _ _ _ _ _ _ _ _ _ _ _ _ _ _ _ _ _ _ _ _ (iblk cfg6 V 0 t) (iblk cfg6 V 1 t) (iblk cfg6 V 2 t) (iblk cfg6 V 3 t) (iblk cfg6 V 4 t) (iblk cfg6 V 5 t) (iblk cfg6 V 6 t) (iblk cfg6 V 7 t) (fun _ => rfl) (fun _ => rfl) (fun _ => rfl) (fun _ => rfl) (fun _ => rfl) (fun _ => rfl) (fun _ => rfl) (fun _ => rfl) _ _

end PrepC

/-! ## The third stage's layer -/

namespace MlpC

/-- What the body leaves in each window's block at a point. -/
def left : (w : Fin cfg8.W) → Fin cfg8.N → (cfg8.win w).block.Idx → Elt F (cfg8.win w).elt
  | ⟨0, _⟩, t => iblk cfg8 V 0 t
  | ⟨1, _⟩, t => iblk cfg8 V 1 t
  | ⟨2, _⟩, t => iblk cfg8 V 2 t
  | ⟨3, _⟩, t => iblk cfg8 V 3 t
  | ⟨4, _⟩, t => MlpOne.out_4 (iblk cfg8 V 0 t) (iblk cfg8 V 1 t) (iblk cfg8 V 2 t) (iblk cfg8 V 3 t)
  | ⟨5, _⟩, t => MlpOne.out_5 (iblk cfg8 V 0 t) (iblk cfg8 V 1 t) (iblk cfg8 V 2 t) (iblk cfg8 V 3 t)

/-- The data the pipeline runs the call with. -/
def dat (c : Dev nD) : Dat τ (Elt F) (HIx 3) ℕ UU ℕ cfg8 c := datOf cfg8 V O Rec (left V) c

theorem before (c : Dev nD) (t : Fin cfg8.N) :
    (∀ d, (dat V O Rec c).before 0 t d = iblk cfg8 V 0 t) ∧ (∀ d, (dat V O Rec c).before 1 t d = iblk cfg8 V 1 t) ∧ (∀ d, (dat V O Rec c).before 2 t d = iblk cfg8 V 2 t) ∧ (∀ d, (dat V O Rec c).before 3 t d = iblk cfg8 V 3 t) :=
  ⟨found V O Rec (left V) c 0 rfl (fun _ => rfl) (fun _ _ _ => rfl) (fun _ => by dsimp only [left]) t, found V O Rec (left V) c 1 rfl (fun _ => rfl) (fun _ _ _ => rfl) (fun _ => by dsimp only [left]) t, found V O Rec (left V) c 2 rfl (fun _ => rfl) (fun _ _ _ => rfl) (fun _ => by dsimp only [left]) t, found V O Rec (left V) c 3 rfl (fun _ => rfl) (fun _ _ _ => rfl) (fun _ => by dsimp only [left]) t⟩
theorem after_0 (c : Dev nD) (t : Fin cfg8.N) : (dat V O Rec c).after 0 t = iblk cfg8 V 0 t := by dsimp only [dat, datOf, left]
theorem after_1 (c : Dev nD) (t : Fin cfg8.N) : (dat V O Rec c).after 1 t = iblk cfg8 V 1 t := by dsimp only [dat, datOf, left]
theorem after_2 (c : Dev nD) (t : Fin cfg8.N) : (dat V O Rec c).after 2 t = iblk cfg8 V 2 t := by dsimp only [dat, datOf, left]
theorem after_3 (c : Dev nD) (t : Fin cfg8.N) : (dat V O Rec c).after 3 t = iblk cfg8 V 3 t := by dsimp only [dat, datOf, left]
theorem after_4 (c : Dev nD) (t : Fin cfg8.N) : (dat V O Rec c).after 4 t = MlpOne.out_4 (iblk cfg8 V 0 t) (iblk cfg8 V 1 t) (iblk cfg8 V 2 t) (iblk cfg8 V 3 t) := by dsimp only [dat, datOf, left]
theorem after_5 (c : Dev nD) (t : Fin cfg8.N) : (dat V O Rec c).after 5 t = MlpOne.out_5 (iblk cfg8 V 0 t) (iblk cfg8 V 1 t) (iblk cfg8 V 2 t) (iblk cfg8 V 3 t) := by dsimp only [dat, datOf, left]

theorem row (t : Fin cfg8.N) : defs₀ (F := F) .tc cfg8.body (cfg8.bodyArgs t (cfg8.slots t)) = bodyAt8 t := by rfl

theorem body (c : Dev nD) : BodyObligation (dat (F := F) V O Rec c) (defs₀ (F := F)) Variants.none none Set.univ := fun t => by
  obtain ⟨h0, h1, h2, h3⟩ := before V O Rec c t
  rw [bigSep_W8, bigSep_W8, row]
  unfold bodyAt8
  refine triple_restated (P := _) (Q := _) ?_ rfl .rfl fun _ => .rfl
  simp only [h0, h1, h2, h3]
  rw [show (dat V O Rec c).Φ t.succ = (dat V O Rec c).Φ t.castSucc from rfl,
    show (dat V O Rec c).owesAt none t.succ = (dat V O Rec c).owesAt none t.castSucc from rfl, after_0, after_1, after_2, after_3, after_4, after_5]
  exact MlpOne.sound c Set.univ (grid8.coords t) _ _ _ _ _ _ _ _ _ _ _ _ (iblk cfg8 V 0 t) (iblk cfg8 V 1 t) (iblk cfg8 V 2 t) (iblk cfg8 V 3 t) (fun _ => rfl) (fun _ => rfl) (fun _ => rfl) (fun _ => rfl) _ _

end MlpC

end Cert.Kernel.Calls

end
-- ==== Proof.Region.lean ====
/-
  The TensorCore calls inside the program that also launches the SparseCore: each takes the buffers outside the scopes
  at a valuation and leaves them at the valuation its pipeline makes of it, the thread's debts to the SparseCore untouched.
-/
module

public import proofs.«01_k».proof.Proof.Calls
public import Idealize.ShloMosaic.Lib.Pipeline.RegionArrays
public import Idealize.ShloMosaic.Lib.Pipeline.FrameTail

@[expose] public section

set_option maxRecDepth 16384

noncomputable section

namespace Cert.Kernel.Region

open Cert.Kernel Cert.Kernel.Gen Cert.Kernel.Setup Cert.Kernel.Calls

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within held_sub_split held_congr)
open Idealize.ShloMosaic.Tactic
open Idealize.ShloMosaic.Pipeline (Dat Cfg Window BodyObligation BodyObligationLoose cellOf pin arrRef arrRefs afterRegion afterRegion_arr ucRefs scopedRest cellsGhost toksInit)

variable {F : FTy → Type}

local notation "𝕄" => MT nD τ sig (HIx 3) (Elt F) ℕ UU ℕ

variable [FloatOps F]

/-- No call takes a table. -/
abbrev adm (p : Fin 6) : (pcfgs (F := F) p).Adm := (cfgs p).toPCfg_adm

/-- Where the calls' own protocol lives among the ghost state. -/
abbrev EP : Emb UP 𝕄 := (Emb.inl : Emb UP (UP × Counters)).trans embR

theorem cells_inj : Function.Injective (cellOf (nD := nD) (τ := τ) (pin (pcfgs (F := F)) adm)) := cellOf_inj

/-- The waits recorded at a level at most `b`. -/
def recs (b : ℕ) (c : Dev nD) : Set (SemLoc sig × HIx 3) := {x | (K (F := F)).lev (T c, x.1) x.2 ≤ b}

/-- The calls' data from one valuation at the entry. -/
def dats (V : Valuation τ sig (Elt F)) (O : CellTallies nD τ sig (HIx 3)) (b : ℕ) :
    (p : Fin 6) → (c : Dev nD) → Dat τ (Elt F) (HIx 3) ℕ UU ℕ (pin (pcfgs (F := F)) adm p) c
  | ⟨0, _⟩, c => PrepA.dat V O (recs (F := F) b c) c
  | ⟨1, _⟩, c => MlpA.dat V O (recs (F := F) b c) c
  | ⟨2, _⟩, c => PrepB.dat V O (recs (F := F) b c) c
  | ⟨3, _⟩, c => MlpB.dat V O (recs (F := F) b c) c
  | ⟨4, _⟩, c => PrepC.dat V O (recs (F := F) b c) c
  | ⟨5, _⟩, c => MlpC.dat V O (recs (F := F) b c) c

/-- The valuation call `p` leaves. -/
abbrev after (p : Fin 6) (V : Valuation τ sig (Elt F)) (O : CellTallies nD τ sig (HIx 3)) (b : ℕ) (c : Dev nD) : Valuation τ sig (Elt F) :=
  afterRegion (dats V O b p c) V

/-- What call `p`'s proof takes of its data. -/
structure Good (p : Fin 6) (V : Valuation τ sig (Elt F)) (O : CellTallies nD τ sig (HIx 3)) (b : ℕ) : Prop where
  kit : Pipeline.PLaunchFacts (nD := nD) (τ := τ) (pcfgs (F := F)) p
  body : ∀ c, BodyObligationLoose (dats V O b p c) (defs₀ (F := F)) Variants.none none Set.univ
  owed : ∀ c t, (dats V O b p c).owed t = O
  recorded : ∀ c t, (dats V O b p c).recorded t = recs (F := F) b c
  share : ∀ c w, (dats V O b p c).share w = fullShare
  inv : ∀ c t, (dats V O b p c).Φ t = scopedRest (pin (pcfgs (F := F)) adm p).spec c
  arr : ∀ c w, (dats V O b p c).A w = V (Proc.devRef .tc (arrRef (pin (pcfgs (F := F)) adm p).spec w))

theorem share_0 (V : Valuation τ sig (Elt F)) (O : CellTallies nD τ sig (HIx 3)) (R : Set (SemLoc sig × HIx 3)) (c : Dev nD) (w : Fin cfg0.W) :
    (PrepA.dat V O R c).share w = fullShare := share_datOf V O R (PrepA.left V) c w

theorem inv_0 (V : Valuation τ sig (Elt F)) (O : CellTallies nD τ sig (HIx 3)) (R : Set (SemLoc sig × HIx 3)) (c : Dev nD) (t : Fin (cfg0.N + 1)) :
    (PrepA.dat V O R c).Φ t = scopedRest (Cfg.spec cfg0) c := by
  dsimp only [PrepA.dat, datOf]

theorem good_0 (V : Valuation τ sig (Elt F)) (O : CellTallies nD τ sig (HIx 3)) (b : ℕ) : Good 0 V O b where
  kit := by exact launch0.toP
  body c := by exact (PrepA.body V O (recs (F := F) b c) c).loose
  owed c t := by rfl
  recorded c t := by rfl
  share c w := by exact share_0 V O (recs (F := F) b c) c w
  inv c t := by exact inv_0 V O (recs (F := F) b c) c t
  arr c w := by rfl

theorem share_1 (V : Valuation τ sig (Elt F)) (O : CellTallies nD τ sig (HIx 3)) (R : Set (SemLoc sig × HIx 3)) (c : Dev nD) (w : Fin cfg2.W) :
    (MlpA.dat V O R c).share w = fullShare := share_datOf V O R (MlpA.left V) c w

theorem inv_1 (V : Valuation τ sig (Elt F)) (O : CellTallies nD τ sig (HIx 3)) (R : Set (SemLoc sig × HIx 3)) (c : Dev nD) (t : Fin (cfg2.N + 1)) :
    (MlpA.dat V O R c).Φ t = scopedRest (Cfg.spec cfg2) c := by
  dsimp only [MlpA.dat, datOf]

theorem good_1 (V : Valuation τ sig (Elt F)) (O : CellTallies nD τ sig (HIx 3)) (b : ℕ) : Good 1 V O b where
  kit := by exact launch2.toP
  body c := by exact (MlpA.body V O (recs (F := F) b c) c).loose
  owed c t := by rfl
  recorded c t := by rfl
  share c w := by exact share_1 V O (recs (F := F) b c) c w
  inv c t := by exact inv_1 V O (recs (F := F) b c) c t
  arr c w := by rfl

theorem share_2 (V : Valuation τ sig (Elt F)) (O : CellTallies nD τ sig (HIx 3)) (R : Set (SemLoc sig × HIx 3)) (c : Dev nD) (w : Fin cfg3.W) :
    (PrepB.dat V O R c).share w = fullShare := share_datOf V O R (PrepB.left V) c w

theorem inv_2 (V : Valuation τ sig (Elt F)) (O : CellTallies nD τ sig (HIx 3)) (R : Set (SemLoc sig × HIx 3)) (c : Dev nD) (t : Fin (cfg3.N + 1)) :
    (PrepB.dat V O R c).Φ t = scopedRest (Cfg.spec cfg3) c := by
  dsimp only [PrepB.dat, datOf]

theorem good_2 (V : Valuation τ sig (Elt F)) (O : CellTallies nD τ sig (HIx 3)) (b : ℕ) : Good 2 V O b where
  kit := by exact launch3.toP
  body c := by exact (PrepB.body V O (recs (F := F) b c) c).loose
  owed c t := by rfl
  recorded c t := by rfl
  share c w := by exact share_2 V O (recs (F := F) b c) c w
  inv c t := by exact inv_2 V O (recs (F := F) b c) c t
  arr c w := by rfl

theorem share_3 (V : Valuation τ sig (Elt F)) (O : CellTallies nD τ sig (HIx 3)) (R : Set (SemLoc sig × HIx 3)) (c : Dev nD) (w : Fin cfg5.W) :
    (MlpB.dat V O R c).share w = fullShare := share_datOf V O R (MlpB.left V) c w

theorem inv_3 (V : Valuation τ sig (Elt F)) (O : CellTallies nD τ sig (HIx 3)) (R : Set (SemLoc sig × HIx 3)) (c : Dev nD) (t : Fin (cfg5.N + 1)) :
    (MlpB.dat V O R c).Φ t = scopedRest (Cfg.spec cfg5) c := by
  dsimp only [MlpB.dat, datOf]

theorem good_3 (V : Valuation τ sig (Elt F)) (O : CellTallies nD τ sig (HIx 3)) (b : ℕ) : Good 3 V O b where
  kit := by exact launch5.toP
  body c := by exact (MlpB.body V O (recs (F := F) b c) c).loose
  owed c t := by rfl
  recorded c t := by rfl
  share c w := by exact share_3 V O (recs (F := F) b c) c w
  inv c t := by exact inv_3 V O (recs (F := F) b c) c t
  arr c w := by rfl

theorem share_4 (V : Valuation τ sig (Elt F)) (O : CellTallies nD τ sig (HIx 3)) (R : Set (SemLoc sig × HIx 3)) (c : Dev nD) (w : Fin cfg6.W) :
    (PrepC.dat V O R c).share w = fullShare := share_datOf V O R (PrepC.left V) c w

theorem inv_4 (V : Valuation τ sig (Elt F)) (O : CellTallies nD τ sig (HIx 3)) (R : Set (SemLoc sig × HIx 3)) (c : Dev nD) (t : Fin (cfg6.N + 1)) :
    (PrepC.dat V O R c).Φ t = scopedRest (Cfg.spec cfg6) c := by
  dsimp only [PrepC.dat, datOf]

theorem good_4 (V : Valuation τ sig (Elt F)) (O : CellTallies nD τ sig (HIx 3)) (b : ℕ) : Good 4 V O b where
  kit := by exact launch6.toP
  body c := by exact (PrepC.body V O (recs (F := F) b c) c).loose
  owed c t := by rfl
  recorded c t := by rfl
  share c w := by exact share_4 V O (recs (F := F) b c) c w
  inv c t := by exact inv_4 V O (recs (F := F) b c) c t
  arr c w := by rfl

theorem share_5 (V : Valuation τ sig (Elt F)) (O : CellTallies nD τ sig (HIx 3)) (R : Set (SemLoc sig × HIx 3)) (c : Dev nD) (w : Fin cfg8.W) :
    (MlpC.dat V O R c).share w = fullShare := share_datOf V O R (MlpC.left V) c w

theorem inv_5 (V : Valuation τ sig (Elt F)) (O : CellTallies nD τ sig (HIx 3)) (R : Set (SemLoc sig × HIx 3)) (c : Dev nD) (t : Fin (cfg8.N + 1)) :
    (MlpC.dat V O R c).Φ t = scopedRest (Cfg.spec cfg8) c := by
  dsimp only [MlpC.dat, datOf]

theorem good_5 (V : Valuation τ sig (Elt F)) (O : CellTallies nD τ sig (HIx 3)) (b : ℕ) : Good 5 V O b where
  kit := by exact launch8.toP
  body c := by exact (MlpC.body V O (recs (F := F) b c) c).loose
  owed c t := by rfl
  recorded c t := by rfl
  share c w := by exact share_5 V O (recs (F := F) b c) c w
  inv c t := by exact inv_5 V O (recs (F := F) b c) c t
  arr c w := by rfl

/-- A buffer the call does not write is as it was. -/
theorem after_keep {p : Fin 6} {V : Valuation τ sig (Elt F)} {O : CellTallies nD τ sig (HIx 3)} {b : ℕ} (g : Good p V O b) (c : Dev nD)
    {x y : Ref sig .tc} (hL : ∀ w, ((pin (pcfgs (F := F)) adm p).win w).isOut = true → arrRef (pin (pcfgs (F := F)) adm p).spec w = x ∨ arrRef (pin (pcfgs (F := F)) adm p).spec w = y)
    {r : Ref sig .tc} (hx : r ≠ x) (hy : r ≠ y) : after p V O b c (Proc.devRef .tc r) = V (Proc.devRef .tc r) := by
  by_cases hw : ∃ w, r = arrRef (pin (pcfgs (F := F)) adm p).spec w
  · obtain ⟨w, rfl⟩ := hw
    have hin : ((pin (pcfgs (F := F)) adm p).win w).isOut = false := by
      cases ho : ((pin (pcfgs (F := F)) adm p).win w).isOut with
      | false => rfl
      | true => exact absurd (hL w ho) (not_or.mpr ⟨hx, hy⟩)
    exact (afterRegion_arr (dats V O b p c) V g.kit.win.arr_inj w).trans (((dats V O b p c).arrAt_in w hin _).trans (g.arr c w))
  · exact Pipeline.afterRegion_of_not_arr (dats V O b p c) V (fun w e => hw ⟨w, e⟩)

/-- The call's arrays and the rest of the buffers outside the scopes. -/
theorem held_arrays {p : Fin 6} {V : Valuation τ sig (Elt F)} {O : CellTallies nD τ sig (HIx 3)} {b : ℕ} (g : Good p V O b) (c : Dev nD)
    (n : ℕ) (W : Valuation τ sig (Elt F))
    (hW : ∀ w, (dats V O b p c).arrAt w n = W (Proc.devRef .tc (arrRef (pin (pcfgs (F := F)) adm p).spec w)))
    (hV : ∀ r ∈ ucRefs τ sig \ arrRefs (τ := τ) (pcfgs (F := F) p).spec, W r = V r) :
    (held (T c) (ucRefs τ sig) W : sProp 𝕄)
      = iprop((dats V O b p c).arrays ((dats V O b p c).arrAt · n) ∗ held (T c) (ucRefs τ sig \ arrRefs (τ := τ) (pcfgs (F := F) p).spec) V) := by
  rw [Pipeline.arrays_held (pcfgs (F := F)) adm (dats V O b) p g.kit c (g.share c) _ W hW, ← held_congr (T c) hV]
  exact held_sub_split (T c) (Pipeline.arrRefs_sub_ucRefs _ g.kit.win.arr_unscoped) W

/-- The call inside the program: entered from the buffers outside the scopes at `V`, the thread owing `O`, all of it at
    levels above `b`; left with the buffers at what the pipeline makes of them and the thread owing the same. -/
def seg {p : Fin 6} {V : Valuation τ sig (Elt F)} {O : CellTallies nD τ sig (HIx 3)} {b : ℕ} (g : Good p V O b)
    (hO : ∀ x i, 0 < O x i → b < (K (F := F)).lev x i) :
    Pipeline.RegionSeg (pcfgs (F := F)) adm (dats V O b) none (defs₀ (F := F)) Variants.none (K (F := F)).L (K (F := F)).lev p where
  win := g.kit.to₀.win
  block_pos := g.kit.block_pos
  stage_whole := g.kit.stage_whole
  K := PEmpty
  osem k := k.elim
  ho := Pipeline.OwnSemFacts.none _
  hbody := g.body
  hwaits c := Pipeline.cellsWaits_of_cut (pin (pcfgs (F := F)) adm) (dats V O b) none p c b O (g.owed c)
    (fun _ _ => Finset.mem_univ _) (fun _ _ => Nat.zero_le _) (fun x i h => ⟨Finset.mem_univ _, hO x i h⟩)
  pre c := iprop(held (T c) (ucRefs τ sig) V ∗ ∃ W, ⌜(K (F := F)).WBelow (T c) W b⌝ ∗ owes (T c) O W)
  post c := iprop(held (T c) (ucRefs τ sig) (after p V O b c) ∗ ∃ W, ⌜(K (F := F)).WBelow (T c) W b⌝ ∗ owes (T c) O W)
  X _ := iprop(emp)
  Y _ := iprop(emp)
  Z c := held (T c) (ucRefs τ sig \ arrRefs (τ := τ) (pcfgs (F := F) p).spec) V
  hentry c := by
    rw [Pipeline.ownSems0_none, Pipeline.prefHeld_of_none _ rfl]
    iintro ⟨⟨Hh, %W, %hW, HO⟩, -, -⟩
    ihave H := (Entails.of_eq (held_arrays g c 0 V (fun w => by exact g.arr c w) fun _ _ => rfl)) $$ Hh
    icases H with ⟨Ha, Hr⟩
    imodintro
    isplitl [Ha]; · iexact Ha
    isplitr; · iempintro
    isplitl [HO]
    · unfold Dat.owesAt Pipeline.owesWithin Dat.bound
      rw [g.owed c 0, g.recorded c]
      iexists W; isplitr; · ipureintro; exact fun x hx => Or.inl (hW x hx)
      iexact HO
    isplitr; · iempintro
    iexact Hr
  hin c := by
    rw [g.inv c]
    iintro ⟨-, -, H⟩
    iexact H
  hout c := by
    rw [g.inv c, Pipeline.ownSems0_none]
    iintro H
    isplitr; · iempintro
    isplitr; · iempintro
    iexact H
  hexit c := by
    unfold Dat.owesAt Pipeline.owesWithin Dat.bound
    rw [g.owed c, g.recorded c]
    iintro ⟨Ha, ⟨%W, %hW, HO⟩, -, Hr⟩
    imodintro
    isplitl [Ha Hr]
    · iapply (Entails.of_eq (held_arrays g c (pin (pcfgs (F := F)) adm p).N (after p V O b c)
        (fun w => (afterRegion_arr (dats V O b p c) V g.kit.win.arr_inj w).symm)
        (fun r hr => Pipeline.afterRegion_off (dats V O b p c) V _ r hr)).symm)
      isplitl [Ha]; · iexact Ha
      iexact Hr
    iexists W
    isplitr
    · ipureintro
      intro x hx
      rcases hW hx with h | ⟨w, s, rfl⟩
      · exact h
      · exact Nat.zero_le _
    iexact HO

/-! ## The program's steps on the TensorCore, over the buffers outside the scopes -/

/-- The instance of call `p`'s proof at the debts before SparseCore call `n`. -/
abbrev afterAt (p : Fin 6) (V : Valuation τ sig (Elt F)) (n : ℕ) (d : Dev nD) : Valuation τ sig (Elt F) :=
  after p V ((K (F := F)).Otc d n) (8 * n) d

theorem debt_above (d : Dev nD) (n : ℕ) : ∀ x i, 0 < (K (F := F)).Otc d n x i → 8 * n < (K (F := F)).lev x i :=
  fun _ _ h => SparseCore.Cfg.lev_of_Otc_pos h

/-- A call of the pipelines' program is a call of the whole program. -/
theorem wp_lifted (p : Fin 6) (d : Dev nD) (Q : PUnit → sProp 𝕄) :
    wp frame (wpE (D (F := F)) 𝒱 (T d) none) Set.univ (Prog.op (.customCall (Pipeline.entry p) ()) fun _ => .ret ⟨⟩) Q
      ⊢ wp frame (wpE ((K (F := F)).defs (D (F := F))) 𝒱 (T d) none) Set.univ (Prog.lift (.customCall (SparseCore.inner (Pipeline.entry p)) ())) Q := by
  have h := (K (F := F)).wp_liftProg (D (F := F)) 𝒱 (T d) Set.univ none (Prog.op (.customCall (Pipeline.entry p) ()) fun _ => .ret ⟨⟩) Q
  exact h

/-- The buffers outside the scopes at a valuation, and the thread's debts. -/
abbrev st (V : Valuation τ sig (Elt F)) (n : ℕ) (d : Dev nD) : sProp 𝕄 :=
  iprop(held (T d) (ucRefs τ sig) V ∗ ∃ W, ⌜(K (F := F)).WBelow (T d) W (8 * n)⌝ ∗ owes (T d) ((K (F := F)).Otc d n) W)

theorem wp_entry {p : Fin 6} {V : Valuation τ sig (Elt F)} {n : ℕ} {d : Dev nD} (g : Good p V ((K (F := F)).Otc d n) (8 * n)) (Q : PUnit → sProp 𝕄) :
    iprop((iprop(boundary (T d) ∗ st (afterAt p V n d) n d) -∗ wp frame (wpE (D (F := F)) 𝒱 (T d) none) Set.univ (.ret ⟨⟩) Q)
        ∗ boundary (T d) ∗ st V n d
        ∗ levAts (K (F := F)).L (K (F := F)).lev ∗ cellsGhost (pin (pcfgs (F := F)) adm) EP p d ∗ toksInit (pin (pcfgs (F := F)) adm) EP p d)
      ⊢ wp frame (wpE (D (F := F)) 𝒱 (T d) none) Set.univ (Prog.op (.customCall (Pipeline.entry p) ()) fun _ => .ret ⟨⟩) Q := by
  have h := Pipeline.RegionSeg.wp (pcfgs (F := F)) adm (dats V ((K (F := F)).Otc d n) (8 * n)) none cells_inj EP (defs₀ (F := F)) Variants.none
    (K (F := F)).L (K (F := F)).lev (seg g (debt_above d n)) d none (fun _ h => absurd h (Option.not_mem_none _)) (fun _ => .ret ⟨⟩) Q
  exact h

/-- A TensorCore call between the SparseCore calls. -/
theorem wp_tc {p : Fin 6} {V : Valuation τ sig (Elt F)} {n : ℕ} {d : Dev nD} (g : Good p V ((K (F := F)).Otc d n) (8 * n))
    (P : (K (F := F)).Pay (nD := nD) (Val := Elt F) (Name := ℕ) (U := UU)) (κ : GSem nD τ sig → ℕ) (Q : PUnit → sProp 𝕄) :
    iprop((K (F := F)).ctx EH P κ ∗ (K (F := F)).tcSt EH d n ∗ boundary (T d) ∗ held (T d) (ucRefs τ sig) V
        ∗ cellsGhost (pin (pcfgs (F := F)) adm) EP p d ∗ toksInit (pin (pcfgs (F := F)) adm) EP p d)
      ⊢ iprop((((K (F := F)).tcSt EH d n ∗ boundary (T d) ∗ held (T d) (ucRefs τ sig) (afterAt p V n d)) -∗ Q ⟨⟩)
        -∗ wp frame (wpE ((K (F := F)).defs (D (F := F))) 𝒱 (T d) none) Set.univ (Prog.lift (.customCall (SparseCore.inner (Pipeline.entry p)) ())) Q) := by
  unfold SparseCore.Cfg.tcSt
  iintro ⟨#Hctx, ⟨HO, Hst⟩, Hb, Hh, Hg, Ht⟩ Hk
  ihave Hla := (SparseCore.Cfg.ctx_levAts (K := K (F := F)) (EH := EH) (P := P) κ) $$ Hctx
  iapply (wp_lifted p d Q)
  iapply (wp_entry g Q)
  isplitl [Hk Hst]
  · iintro ⟨Hb, Hh, HO⟩
    rw [wp_ret]; imodintro
    iapply Hk
    isplitl [HO Hst]
    · isplitl [HO]; · iexact HO
      iexact Hst
    isplitl [Hb]; · iexact Hb
    iexact Hh
  isplitl [Hb]; · iexact Hb
  isplitl [Hh HO]
  · isplitl [Hh]; · iexact Hh
    iexact HO
  isplitl [Hla]; · iexact Hla
  isplitl [Hg]; · iexact Hg
  iexact Ht

theorem uc_mem {a : Ref sig .tc} (h : a.isScoped = false) : (Proc.devRef .tc a : DevRef τ sig) ∈ ucRefs τ sig :=
  Finset.mem_filter.mpr ⟨StableHlo.devRef_mem_tcRefs _, fun h' => Bool.false_ne_true (h.symm.trans h')⟩

theorem uc_two {a b : Ref sig .tc} (ha : a.isScoped = false) (hb : b.isScoped = false) :
    ({Proc.devRef .tc a, Proc.devRef .tc b} : Finset (DevRef τ sig)) ⊆ ucRefs τ sig := by
  intro x hx
  rcases Finset.mem_insert.mp hx with rfl | hx
  · exact uc_mem ha
  · rw [Finset.mem_singleton.mp hx]; exact uc_mem hb

/-- A host operation. -/
theorem wp_host {op : HloOp τ sig (Elt F)} (hS : op.bufs ⊆ ucRefs τ sig) (hf : op.fresh = ∅) {V : Valuation τ sig (Elt F)} {d : Dev nD} (Q : PUnit → sProp 𝕄) :
    iprop(boundary (T d) ∗ held (T d) (ucRefs τ sig) V)
      ⊢ iprop(((boundary (T d) ∗ held (T d) (ucRefs τ sig) (op.result V)) -∗ Q ⟨⟩)
        -∗ wp frame (wpE ((K (F := F)).defs (D (F := F))) 𝒱 (T d) none) Set.univ (hlo rfl op (fun _ => .ret ⟨⟩)) Q) := by
  iintro H Hk
  iapply (wp_hlo_within 𝒱 (T d) none Set.univ (op := op) (S := ucRefs τ sig) hS (V := V) hf) $$ H
  iintro H
  rw [wp_ret]; imodintro
  iapply Hk; iexact H

/-! ## The same as steps of a proof of the program -/

variable (P : (K (F := F)).Pay (nD := nD) (Val := Elt F) (Name := ℕ) (U := UU)) (κ : GSem nD τ sig → ℕ)

/-- Between two steps: `n` of the gathers done, the buffers at `V`, and `R` besides. -/
abbrev At (n : ℕ) (d : Dev nD) (V : Valuation τ sig (Elt F)) (R : sProp 𝕄) : sProp 𝕄 :=
  iprop((K (F := F)).ctx EH P κ ∗ (K (F := F)).tcSt EH d n ∗ boundary (T d) ∗ held (T d) (ucRefs τ sig) V ∗ R)

/-- What a TensorCore call takes at the launch. -/
abbrev Gh (p : Fin 6) (d : Dev nD) : sProp 𝕄 :=
  iprop(cellsGhost (pin (pcfgs (F := F)) adm) EP p d ∗ toksInit (pin (pcfgs (F := F)) adm) EP p d)

variable {P κ} {n : ℕ} {d : Dev nD} {V V' : Valuation τ sig (Elt F)}

theorem step_host {R : sProp 𝕄} {Q : PUnit → sProp 𝕄} {op : HloOp τ sig (Elt F)} (hS : op.bufs ⊆ ucRefs τ sig) (hf : op.fresh = ∅) (h : At P κ n d (op.result V) R ⊢ Q PUnit.unit) :
    At P κ n d V R ⊢ wp frame (wpE ((K (F := F)).defs (D (F := F))) 𝒱 (T d) none) Set.univ (hlo rfl op (fun _ => .ret PUnit.unit)) Q := by
  iintro ⟨Hctx, Hst, Hb, Hheld, HR⟩
  iapply (wp_host (op := op) hS hf) $$ [Hb Hheld]
  · isplitl [Hb]; · iexact Hb
    iexact Hheld
  iintro ⟨Hb, Hheld⟩
  iapply h
  isplitl [Hctx]; · iexact Hctx
  isplitl [Hst]; · iexact Hst
  isplitl [Hb]; · iexact Hb
  isplitl [Hheld]; · iexact Hheld
  iexact HR

theorem step_tc {R : sProp 𝕄} {Q : PUnit → sProp 𝕄} {p : Fin 6} (g : Good p V ((K (F := F)).Otc d n) (8 * n)) (h : At P κ n d (afterAt p V n d) R ⊢ Q PUnit.unit) :
    At P κ n d V iprop(Gh (F := F) p d ∗ R)
      ⊢ wp frame (wpE ((K (F := F)).defs (D (F := F))) 𝒱 (T d) none) Set.univ (Prog.lift (.customCall (SparseCore.inner (Pipeline.entry p)) ())) Q := by
  iintro ⟨#Hctx, Hst, Hb, Hheld, ⟨Hg, Ht⟩, HR⟩
  iapply (wp_tc g P κ) $$ [Hst Hb Hheld Hg Ht]
  · isplitr; · iexact Hctx
    isplitl [Hst]; · iexact Hst
    isplitl [Hb]; · iexact Hb
    isplitl [Hheld]; · iexact Hheld
    isplitl [Hg]; · iexact Hg
    iexact Ht
  iintro ⟨Hst, Hb, Hheld⟩
  iapply h
  isplitr; · iexact Hctx
  isplitl [Hst]; · iexact Hst
  isplitl [Hb]; · iexact Hb
  isplitl [Hheld]; · iexact Hheld
  iexact HR

/-- A gather: it takes the buffers of `S` apart among the subcores, and puts them together again. -/
theorem step_sc {R : sProp 𝕄} {Q : PUnit → sProp 𝕄} (q : Fin 3) {S : Finset (DevRef τ sig)} (hS : S ⊆ ucRefs τ sig)
    (hst : held (T d) S V ⊢ bigSep Finset.univ fun c : Fin ((K (F := F)).nCore q) => P.st q d c)
    (hdn : (bigSep Finset.univ fun c : Fin ((K (F := F)).nCore q) => P.dn q d c) ⊢ held (T d) S V')
    (hoff : ∀ b ∈ ucRefs τ sig \ S, V' b = V b) (h : At P κ (q.val + 1) d V' R ⊢ Q PUnit.unit) :
    At P κ q.val d V R ⊢ wp frame (wpE ((K (F := F)).defs (D (F := F))) 𝒱 (T d) none) Set.univ ((K (F := F)).run d q) Q := by
  iintro ⟨#Hctx, Hst, Hb, Hheld, HR⟩
  ihave Hh := (Entails.of_eq (held_sub_split (T d) hS V)) $$ Hheld
  icases Hh with ⟨HS, Hoff⟩
  iapply ((K (F := F)).wp_run (D (F := F)) 𝒱 (EH := EH) (P := P) κ d q) $$ [Hst Hb HS Hoff HR]
  isplitr; · iexact Hctx
  isplitl [Hst]; · iexact Hst
  isplitl [HS]; · iapply hst; iexact HS
  iintro ⟨Hst, Hdn⟩
  iapply h
  isplitr; · iexact Hctx
  isplitl [Hst]; · iexact Hst
  isplitl [Hb]; · iexact Hb
  isplitl [Hdn Hoff]
  · iapply (Entails.of_eq (held_sub_split (T d) hS V').symm)
    isplitl [Hdn]; · iapply hdn; iexact Hdn
    iapply (Entails.of_eq (held_congr (T d) hoff).symm)
    iexact Hoff
  iexact HR

end Cert.Kernel.Region

end
-- ==== Proof.Sites.lean ====
/-
  The three gathers: the arrays and the scratch each is launched on, what each hands its subcores and what comes back, and
  that the subcores meet it.
-/
module

public import proofs.«01_k».proof.Proof.Tile
public import proofs.«01_k».proof.Proof.Region

@[expose] public section

set_option maxRecDepth 16384

noncomputable section

namespace Cert.Kernel.Sites

open Cert.Kernel Cert.Kernel.Gen Cert.Kernel.Words Cert.Kernel.Slots Cert.Kernel.Moves Cert.Kernel.Trip Cert.Kernel.Kern Cert.Kernel.Setup Cert.Kernel.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 3) (Elt F) ℕ UU ℕ

/-! ## The subcores, their rows of the result and their shares -/

def coordsV (c : Fin (grid1.bound 0)) (s : Fin (grid1.bound 1)) : grid1.Coords :=
  fun | 0 => c | 1 => s | ⟨_ + 2, h⟩ => absurd h (Nat.not_lt.2 (Nat.le_add_left _ _))

abbrev Sub : Type := Fin 2 × Fin 16
abbrev tile (p : Sub) : grid1.Coords := coordsV p.1 p.2

theorem base_tile (p : Sub) : base (tile p) = 4096 * p.2.val + 65536 * p.1.val := rfl

abbrev rows (p : Sub) : Finset S131072x128.Idx := rowsOf (base (tile p)) (base (tile p) + 4096)

theorem rows_disjoint : ∀ p ∈ (Finset.univ : Finset Sub), ∀ p' ∈ (Finset.univ : Finset Sub), p ≠ p' → Disjoint (rows p) (rows p') := by
  intro p _ p' _ h
  refine Finset.disjoint_left.mpr fun j hj hj' => h ?_
  have h1 := mem_rowsOf.mp hj
  have h2 := mem_rowsOf.mp hj'
  rw [base_tile] at h1 h2
  have := p.2.isLt
  have := p'.2.isLt
  exact Prod.ext (Fin.ext (by omega)) (Fin.ext (by omega))

theorem rows_cover : (Finset.univ : Finset Sub).biUnion rows = Finset.univ := by
  ext j
  have hj : (j 0).val < 131072 := (j 0).isLt
  refine iff_of_true (Finset.mem_biUnion.mpr ⟨(⟨(j 0).val / 65536, by omega⟩, ⟨(j 0).val % 65536 / 4096, by omega⟩), Finset.mem_univ _, mem_rowsOf.mpr ?_⟩) (Finset.mem_univ _)
  rw [base_tile]
  show 4096 * ((j 0).val % 65536 / 4096) + 65536 * ((j 0).val / 65536) ≤ (j 0).val ∧ _ < 4096 * ((j 0).val % 65536 / 4096) + 65536 * ((j 0).val / 65536) + 4096
  omega

/-- A subcore's share of the table and of the offsets. -/
def share (p : Sub) : PosShare TreeShare := ShareLeaves.leaf 5 fullShare ((finProdFinEquiv : Sub ≃ Fin (2 * 16)) p)

theorem shares {ℓ : Loc nD τ sig} (f : Buf (Elt F) ℓ) :
    (ℓ ↦{fullShare} f : sProp 𝕄) = bigSep Finset.univ fun p : Sub => ℓ ↦{share p} f := by
  rw [ShareLeaves.pointsTo_leaves Finset.univ f 5 fullShare]
  exact bigSep_univ_equiv (finProdFinEquiv : Sub ≃ Fin (2 * 16)) fun i : Fin (2 ^ 5) => (ℓ ↦{ShareLeaves.leaf 5 fullShare i} f : sProp 𝕄)

/-! ## What a gather hands over -/

/-- What a gather's arrays hold when it starts. -/
structure Data (F : FTy → Type) (s : Site) where
  ft : Dev nD → s.tab.view.ty.Contents (Elt F)
  fl : Dev nD → s.lst.view.ty.Contents (Elt F)
  fo : Dev nD → s.out.view.ty.Contents (Elt F)
  inTable : ∀ d y, (s.lst.view.read (Elt F) (fl d) y : BitVec 32).toNat < 8192

/-- What its result holds when it is done. -/
def Data.want [FloatOps F] {s : Site} (A : Data F s) (d : Dev nD) : s.out.view.ty.Contents (Elt F) := rowsGathered s (A.ft d) (A.fl d) (A.fo d) (A.inTable d)

/-- A subcore's part of the arrays. -/
abbrev part {s : Site} (A : Data F s) (f : Dev nD → s.out.view.ty.Contents (Elt F)) (d : Dev nD) (p : Sub) : sProp 𝕄 :=
  taskPts s d (tile p) (A.ft d) (A.fl d) (share p) (f d)

theorem cast_all {n k : ℕ} (hn : n = 2) (hk : k = 16) (f : Sub → sProp 𝕄) :
    (bigSep Finset.univ fun c : Fin n => bigSep Finset.univ fun i : Fin k => f (Fin.cast hn c, Fin.cast hk i))
      = bigSep Finset.univ fun c : Fin 2 => bigSep Finset.univ fun i : Fin 16 => f (c, i) := by
  subst hn; subst hk; rfl

theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The first gather's arrays -/

namespace A

def site : Site where
  tab := Memref.whole main_v12_scv
  htab := Memref.isWhole_whole _
  lst := Memref.whole main_v13_scv
  hlst := Memref.isWhole_whole _
  out := Memref.whole main_v14_scv
  hout := Memref.isWhole_whole _
  st0 := Memref.whole cc1_scoped0
  hst0 := Memref.isWhole_whole _
  vi := cc1_scoped1
  st2 := Memref.whole cc1_scoped2
  hst2 := Memref.isWhole_whole _
  vo := cc1_scoped3
  vg := cc1_scoped4

theorem credits : ∑ j, ((slot2 (Memref.whole cc1_scoped2) ![0, 0, 0] (by decide)).slice (S128x128.rowRect gathers_S8192x128_S128x128.axis' j) (S128x128.stride_rowRect gathers_S8192x128_S128x128.axis' j)).view.dmaCredit
    = (slot2 (Memref.whole cc1_scoped2) ![0, 0, 0] (by decide)).view.dmaCredit := by decide

theorem ok : site.Ok where
  ne := by unfold site; decide
  own0 _ _ := rfl
  own2 _ _ := rfl
  sems := by unfold site; decide
  isScoped := by unfold site; decide
  credits off inb := by
    have h := credits
    exact h

abbrev t' : DevRef τ sig := Proc.devRef .tc (main_v12 : Ref sig .tc)
abbrev l' : DevRef τ sig := Proc.devRef .tc (main_v13 : Ref sig .tc)
abbrev o' : DevRef τ sig := Proc.devRef .tc (main_v14 : Ref sig .tc)
abbrev refs : Finset (DevRef τ sig) := {l', t', o'}

theorem refs_sub : refs ⊆ Pipeline.ucRefs τ sig := by
  intro x hx
  rcases Finset.mem_insert.mp hx with rfl | hx
  · exact Region.uc_mem rfl
  · exact Region.uc_two rfl rfl hx

theorem taskPts_eq (d : Dev nD) (p : Sub) (ft : S8192x128.Idx → Elt F .f32) (fl : S1x131072.Idx → Elt F .i32) (q : PosShare TreeShare) (f : S131072x128.Idx → Elt F .f32) :
    (taskPts (F := F) site d (tile p) ft fl q f : sProp 𝕄)
      = iprop((((d, l') : Loc nD τ sig) ↦{q} fl) ∗ (((d, t') : Loc nD τ sig) ↦{q} ft) ∗ (((d, o') : Loc nD τ sig) ↦[rows p]{fullShare} f)) := by
  have h : (site.out.view.setOn (rows p) : Finset S131072x128.Idx) = rows p := Finset.map_refl
  unfold taskPts
  rw [h]
  rfl

/-- The three arrays whole are the subcores' parts. -/
theorem parts (d : Dev nD) (ft : S8192x128.Idx → Elt F .f32) (fl : S1x131072.Idx → Elt F .i32) (f : S131072x128.Idx → Elt F .f32) :
    (bigSep Finset.univ fun c : Fin 2 => bigSep Finset.univ fun i : Fin 16 => (taskPts (F := F) site d (tile (c, i)) ft fl (share (c, i)) f : sProp 𝕄))
      = iprop((((d, l') : Loc nD τ sig) ↦{fullShare} fl) ∗ (((d, t') : Loc nD τ sig) ↦{fullShare} ft) ∗ (((d, o') : Loc nD τ sig) ↦{fullShare} f)) := by
  simp only [taskPts_eq]
  rw [shares (ℓ := (d, l')) fl, shares (ℓ := (d, t')) ft,
    show (((d, o') : Loc nD τ sig) ↦{fullShare} f : sProp 𝕄) = bigSep Finset.univ fun p : Sub => ((d, o') : Loc nD τ sig) ↦[rows p]{fullShare} f from by
      rw [← pointsTo_biUnion Finset.univ (ℓ := ((d, o') : Loc nD τ sig)) rows rows_disjoint, rows_cover]; try rfl,
    ← bigSep_sep', ← bigSep_sep', bigSep_univ_prod]

theorem held_refs (d : Dev nD) (W : Valuation τ sig (Elt F)) {ft : S8192x128.Idx → Elt F .f32} {fl : S1x131072.Idx → Elt F .i32} {fo : S131072x128.Idx → Elt F .f32}
    (ht : W t' = ft) (hl : W l' = fl) (ho : W o' = fo) :
    (held (T d) refs W : sProp 𝕄)
      = bigSep Finset.univ fun c : Fin 2 => bigSep Finset.univ fun i : Fin 16 => (taskPts (F := F) site d (tile (c, i)) ft fl (share (c, i)) fo : sProp 𝕄) := by
  rw [parts, ← ht, ← hl, ← ho]
  unfold held refs
  rw [SparseCore.bigSep_insert' (by decide), SparseCore.bigSep_insert' (by decide), bigSep_singleton]

end A

/-! ## The second gather's arrays -/

namespace B

def site : Site where
  tab := Memref.whole main_v29_scv
  htab := Memref.isWhole_whole _
  lst := Memref.whole main_v30_scv
  hlst := Memref.isWhole_whole _
  out := Memref.whole main_v31_scv
  hout := Memref.isWhole_whole _
  st0 := Memref.whole cc4_scoped0
  hst0 := Memref.isWhole_whole _
  vi := cc4_scoped1
  st2 := Memref.whole cc4_scoped2
  hst2 := Memref.isWhole_whole _
  vo := cc4_scoped3
  vg := cc4_scoped4

theorem credits : ∑ j, ((slot2 (Memref.whole cc4_scoped2) ![0, 0, 0] (by decide)).slice (S128x128.rowRect gathers_S8192x128_S128x128.axis' j) (S128x128.stride_rowRect gathers_S8192x128_S128x128.axis' j)).view.dmaCredit
    = (slot2 (Memref.whole cc4_scoped2) ![0, 0, 0] (by decide)).view.dmaCredit := by decide

theorem ok : site.Ok where
  ne := by unfold site; decide
  own0 _ _ := rfl
  own2 _ _ := rfl
  sems := by unfold site; decide
  isScoped := by unfold site; decide
  credits off inb := by
    have h := credits
    exact h

abbrev t' : DevRef τ sig := Proc.devRef .tc (main_v29 : Ref sig .tc)
abbrev l' : DevRef τ sig := Proc.devRef .tc (main_v30 : Ref sig .tc)
abbrev o' : DevRef τ sig := Proc.devRef .tc (main_v31 : Ref sig .tc)
abbrev refs : Finset (DevRef τ sig) := {l', t', o'}

theorem refs_sub : refs ⊆ Pipeline.ucRefs τ sig := by
  intro x hx
  rcases Finset.mem_insert.mp hx with rfl | hx
  · exact Region.uc_mem rfl
  · exact Region.uc_two rfl rfl hx

theorem taskPts_eq (d : Dev nD) (p : Sub) (ft : S8192x128.Idx → Elt F .f32) (fl : S1x131072.Idx → Elt F .i32) (q : PosShare TreeShare) (f : S131072x128.Idx → Elt F .f32) :
    (taskPts (F := F) site d (tile p) ft fl q f : sProp 𝕄)
      = iprop((((d, l') : Loc nD τ sig) ↦{q} fl) ∗ (((d, t') : Loc nD τ sig) ↦{q} ft) ∗ (((d, o') : Loc nD τ sig) ↦[rows p]{fullShare} f)) := by
  have h : (site.out.view.setOn (rows p) : Finset S131072x128.Idx) = rows p := Finset.map_refl
  unfold taskPts
  rw [h]
  rfl

/-- The three arrays whole are the subcores' parts. -/
theorem parts (d : Dev nD) (ft : S8192x128.Idx → Elt F .f32) (fl : S1x131072.Idx → Elt F .i32) (f : S131072x128.Idx → Elt F .f32) :
    (bigSep Finset.univ fun c : Fin 2 => bigSep Finset.univ fun i : Fin 16 => (taskPts (F := F) site d (tile (c, i)) ft fl (share (c, i)) f : sProp 𝕄))
      = iprop((((d, l') : Loc nD τ sig) ↦{fullShare} fl) ∗ (((d, t') : Loc nD τ sig) ↦{fullShare} ft) ∗ (((d, o') : Loc nD τ sig) ↦{fullShare} f)) := by
  simp only [taskPts_eq]
  rw [shares (ℓ := (d, l')) fl, shares (ℓ := (d, t')) ft,
    show (((d, o') : Loc nD τ sig) ↦{fullShare} f : sProp 𝕄) = bigSep Finset.univ fun p : Sub => ((d, o') : Loc nD τ sig) ↦[rows p]{fullShare} f from by
      rw [← pointsTo_biUnion Finset.univ (ℓ := ((d, o') : Loc nD τ sig)) rows rows_disjoint, rows_cover]; try rfl,
    ← bigSep_sep', ← bigSep_sep', bigSep_univ_prod]

theorem held_refs (d : Dev nD) (W : Valuation τ sig (Elt F)) {ft : S8192x128.Idx → Elt F .f32} {fl : S1x131072.Idx → Elt F .i32} {fo : S131072x128.Idx → Elt F .f32}
    (ht : W t' = ft) (hl : W l' = fl) (ho : W o' = fo) :
    (held (T d) refs W : sProp 𝕄)
      = bigSep Finset.univ fun c : Fin 2 => bigSep Finset.univ fun i : Fin 16 => (taskPts (F := F) site d (tile (c, i)) ft fl (share (c, i)) fo : sProp 𝕄) := by
  rw [parts, ← ht, ← hl, ← ho]
  unfold held refs
  rw [SparseCore.bigSep_insert' (by decide), SparseCore.bigSep_insert' (by decide), bigSep_singleton]

end B

/-! ## The third gather's arrays -/

namespace C

def site : Site where
  tab := Memref.whole main_v46_scv
  htab := Memref.isWhole_whole _
  lst := Memref.whole main_v47_scv
  hlst := Memref.isWhole_whole _
  out := Memref.whole main_v48_scv
  hout := Memref.isWhole_whole _
  st0 := Memref.whole cc7_scoped0
  hst0 := Memref.isWhole_whole _
  vi := cc7_scoped1
  st2 := Memref.whole cc7_scoped2
  hst2 := Memref.isWhole_whole _
  vo := cc7_scoped3
  vg := cc7_scoped4

theorem credits : ∑ j, ((slot2 (Memref.whole cc7_scoped2) ![0, 0, 0] (by decide)).slice (S128x128.rowRect gathers_S8192x128_S128x128.axis' j) (S128x128.stride_rowRect gathers_S8192x128_S128x128.axis' j)).view.dmaCredit
    = (slot2 (Memref.whole cc7_scoped2) ![0, 0, 0] (by decide)).view.dmaCredit := by decide

theorem ok : site.Ok where
  ne := by unfold site; decide
  own0 _ _ := rfl
  own2 _ _ := rfl
  sems := by unfold site; decide
  isScoped := by unfold site; decide
  credits off inb := by
    have h := credits
    exact h

abbrev t' : DevRef τ sig := Proc.devRef .tc (main_v46 : Ref sig .tc)
abbrev l' : DevRef τ sig := Proc.devRef .tc (main_v47 : Ref sig .tc)
abbrev o' : DevRef τ sig := Proc.devRef .tc (main_v48 : Ref sig .tc)
abbrev refs : Finset (DevRef τ sig) := {l', t', o'}

theorem refs_sub : refs ⊆ Pipeline.ucRefs τ sig := by
  intro x hx
  rcases Finset.mem_insert.mp hx with rfl | hx
  · exact Region.uc_mem rfl
  · exact Region.uc_two rfl rfl hx

theorem taskPts_eq (d : Dev nD) (p : Sub) (ft : S8192x128.Idx → Elt F .f32) (fl : S1x131072.Idx → Elt F .i32) (q : PosShare TreeShare) (f : S131072x128.Idx → Elt F .f32) :
    (taskPts (F := F) site d (tile p) ft fl q f : sProp 𝕄)
      = iprop((((d, l') : Loc nD τ sig) ↦{q} fl) ∗ (((d, t') : Loc nD τ sig) ↦{q} ft) ∗ (((d, o') : Loc nD τ sig) ↦[rows p]{fullShare} f)) := by
  have h : (site.out.view.setOn (rows p) : Finset S131072x128.Idx) = rows p := Finset.map_refl
  unfold taskPts
  rw [h]
  rfl

/-- The three arrays whole are the subcores' parts. -/
theorem parts (d : Dev nD) (ft : S8192x128.Idx → Elt F .f32) (fl : S1x131072.Idx → Elt F .i32) (f : S131072x128.Idx → Elt F .f32) :
    (bigSep Finset.univ fun c : Fin 2 => bigSep Finset.univ fun i : Fin 16 => (taskPts (F := F) site d (tile (c, i)) ft fl (share (c, i)) f : sProp 𝕄))
      = iprop((((d, l') : Loc nD τ sig) ↦{fullShare} fl) ∗ (((d, t') : Loc nD τ sig) ↦{fullShare} ft) ∗ (((d, o') : Loc nD τ sig) ↦{fullShare} f)) := by
  simp only [taskPts_eq]
  rw [shares (ℓ := (d, l')) fl, shares (ℓ := (d, t')) ft,
    show (((d, o') : Loc nD τ sig) ↦{fullShare} f : sProp 𝕄) = bigSep Finset.univ fun p : Sub => ((d, o') : Loc nD τ sig) ↦[rows p]{fullShare} f from by
      rw [← pointsTo_biUnion Finset.univ (ℓ := ((d, o') : Loc nD τ sig)) rows rows_disjoint, rows_cover]; try rfl,
    ← bigSep_sep', ← bigSep_sep', bigSep_univ_prod]

theorem held_refs (d : Dev nD) (W : Valuation τ sig (Elt F)) {ft : S8192x128.Idx → Elt F .f32} {fl : S1x131072.Idx → Elt F .i32} {fo : S131072x128.Idx → Elt F .f32}
    (ht : W t' = ft) (hl : W l' = fl) (ho : W o' = fo) :
    (held (T d) refs W : sProp 𝕄)
      = bigSep Finset.univ fun c : Fin 2 => bigSep Finset.univ fun i : Fin 16 => (taskPts (F := F) site d (tile (c, i)) ft fl (share (c, i)) fo : sProp 𝕄) := by
  rw [parts, ← ht, ← hl, ← ho]
  unfold held refs
  rw [SparseCore.bigSep_insert' (by decide), SparseCore.bigSep_insert' (by decide), bigSep_singleton]

end C

/-! ## What the three gathers hand over -/

section

variable [FloatOps F] (a : Data F A.site) (b : Data F B.site) (c₀ : Data F C.site)

theorem nCore_eq (q : Fin 3) : (K (F := F)).nCore q = 2 := match q with | 0 | 1 | 2 => rfl
theorem nSub_eq (q : Fin 3) : (K (F := F)).nSub q = 16 := match q with | 0 | 1 | 2 => rfl

abbrev subOf {q : Fin 3} (c : Fin ((K (F := F)).nCore q)) (i : Fin ((K (F := F)).nSub q)) : Sub := (Fin.cast (nCore_eq q) c, Fin.cast (nSub_eq q) i)

/-- What a subcore takes of a gather, and what it gives back. -/
def goOf (q : Fin 3) (d : Dev nD) (p : Sub) : sProp 𝕄 :=
  match q with
    | 0 => part a a.fo d p
    | 1 => part b b.fo d p
    | 2 => part c₀ c₀.fo d p
def tdOf (q : Fin 3) (d : Dev nD) (p : Sub) : sProp 𝕄 :=
  match q with
    | 0 => part a a.want d p
    | 1 => part b b.want d p
    | 2 => part c₀ c₀.want d p

instance goOf_storable (q : Fin 3) (d : Dev nD) (p : Sub) : BI.Storable (upEmb : UEmb _ 𝕄) (goOf a b c₀ q d p) :=
  match q with
    | 0 => (inferInstance : BI.Storable (upEmb : UEmb _ 𝕄) (part a a.fo d p))
    | 1 => (inferInstance : BI.Storable (upEmb : UEmb _ 𝕄) (part b b.fo d p))
    | 2 => (inferInstance : BI.Storable (upEmb : UEmb _ 𝕄) (part c₀ c₀.fo d p))
instance tdOf_storable (q : Fin 3) (d : Dev nD) (p : Sub) : BI.Storable (upEmb : UEmb _ 𝕄) (tdOf a b c₀ q d p) :=
  match q with
    | 0 => (inferInstance : BI.Storable (upEmb : UEmb _ 𝕄) (part a a.want d p))
    | 1 => (inferInstance : BI.Storable (upEmb : UEmb _ 𝕄) (part b b.want d p))
    | 2 => (inferInstance : BI.Storable (upEmb : UEmb _ 𝕄) (part c₀ c₀.want d p))

/-- Each gather hands each SparseCore what its subcores take, and each subcore its part; the same comes back with the rows
    written. -/
def P : (K (F := F)).Pay (nD := nD) (Val := Elt F) (Name := ℕ) (U := UU) where
  st := fun q d c => bigSep Finset.univ fun i => goOf a b c₀ q d (subOf (F := F) c i)
  dn := fun q d c => bigSep Finset.univ fun i => tdOf a b c₀ q d (subOf (F := F) c i)
  go := fun q d c i => goOf a b c₀ q d (subOf (F := F) c i)
  td := fun q d c i => tdOf a b c₀ q d (subOf (F := F) c i)
  x := fun _ _ => iprop(emp)

instance P_storable : (P (F := F) a b c₀).IsStorable where
  st q d c := (inferInstance : BI.Storable (upEmb : UEmb _ 𝕄) (bigSep Finset.univ fun i => goOf a b c₀ q d (subOf (F := F) c i)))
  dn q d c := (inferInstance : BI.Storable (upEmb : UEmb _ 𝕄) (bigSep Finset.univ fun i => tdOf a b c₀ q d (subOf (F := F) c i)))
  go q d c i := goOf_storable a b c₀ q d (subOf (F := F) c i)
  td q d c i := tdOf_storable a b c₀ q d (subOf (F := F) c i)

theorem vecSplit (q : Fin 3) : (K (F := F)).VecSplit' (P a b c₀) q := by
  intro d c
  show (bigSep Finset.univ fun i : Fin ((K (F := F)).nSub q) => goOf a b c₀ q d (subOf (F := F) c i)) ⊢ |={Set.univ}=> iprop(
      (bigSep Finset.univ fun i : Fin ((K (F := F)).nSub q) => goOf a b c₀ q d (subOf (F := F) c i))
      ∗ ((bigSep Finset.univ fun i : Fin ((K (F := F)).nSub q) => tdOf a b c₀ q d (subOf (F := F) c i))
          -∗ bigSep Finset.univ fun i : Fin ((K (F := F)).nSub q) => tdOf a b c₀ q d (subOf (F := F) c i)))
  iintro H; imodintro
  isplitl [H]; · iexact H
  iintro H; iexact H

theorem vector_1 (c : Fin τ.nSC) (s : Fin τ.nSub) :
    defs₀ (F := F) (.scVector c s) 1 ()
      = SparseCore.onTile hcore1 hsub1 (fun c s => cc1_kern (coordsV c s)
          A.site.tab A.site.htab A.site.lst A.site.hlst A.site.out A.site.hout
          A.site.st0 A.site.hst0 A.site.vi A.site.st2 A.site.hst2 A.site.vo A.site.vg) ⟨⟩ c s := rfl

set_option maxRecDepth 16384 in
theorem tileObl_0 : (K (F := F)).TileObl (D (F := F)) 𝒱 (P a b c₀) v₀ 0 := by
  intro d c i O W hO _ _
  simp only [show (P a b c₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [vector_1]; simp only [SparseCore.onTile, hci, and_self, ↓reduceDIte]
  exact (tile_body A.site d (coordsV ⟨_, hci.1⟩ ⟨_, hci.2⟩) (a.ft d) (a.fl d) (a.fo d) A.ok facts (share (subOf (F := F) c i)) (a.inTable d) O W hO).trans
    (wp_mono frame _ _ fun _ => obl_post)

theorem goOf_0 (d : Dev nD) (p : Sub) : goOf a b c₀ 0 d p = part a a.fo d p := rfl
theorem tdOf_0 (d : Dev nD) (p : Sub) : tdOf a b c₀ 0 d p = part a a.want d p := rfl

theorem all_0 (d : Dev nD) :
    (bigSep Finset.univ fun c : Fin 2 => bigSep Finset.univ fun i : Fin 16 => (taskPts (F := F) A.site d (tile (c, i)) (a.ft d) (a.fl d) (share (c, i)) (a.fo d) : sProp 𝕄))
      ⊢ bigSep Finset.univ fun c : Fin ((K (F := F)).nCore 0) => (P a b c₀).st 0 d c := by
  have h := cast_all (nCore_eq (F := F) 0) (nSub_eq (F := F) 0) (goOf a b c₀ 0 d)
  simp only [goOf_0] at h
  refine Entails.of_eq (h.symm.trans ?_)
  unfold P
  dsimp only
  simp only [goOf_0]
theorem all_0' (d : Dev nD) :
    (bigSep Finset.univ fun c : Fin ((K (F := F)).nCore 0) => (P a b c₀).dn 0 d c)
      ⊢ bigSep Finset.univ fun c : Fin 2 => bigSep Finset.univ fun i : Fin 16 => (taskPts (F := F) A.site d (tile (c, i)) (a.ft d) (a.fl d) (share (c, i)) (a.want d) : sProp 𝕄) := by
  have h := cast_all (nCore_eq (F := F) 0) (nSub_eq (F := F) 0) (tdOf a b c₀ 0 d)
  simp only [tdOf_0] at h
  refine Entails.of_eq (Eq.trans ?_ h)
  unfold P
  dsimp only
  simp only [tdOf_0]

/-- The first gather as a step of the program. -/
theorem step_0 {κ : GSem nD τ sig → ℕ} {d : Dev nD} {V : Valuation τ sig (Elt F)} {R : sProp 𝕄} {Q : PUnit → sProp 𝕄}
    (ht : V A.t' = a.ft d) (hl : V A.l' = a.fl d) (ho : V A.o' = a.fo d)
    (h : Region.At (P a b c₀) κ 1 d (Function.update V A.o' (a.want d)) R ⊢ Q PUnit.unit) :
    Region.At (P a b c₀) κ 0 d V R ⊢ wp frame (wpE ((K (F := F)).defs (D (F := F))) 𝒱 (T d) none) Set.univ ((K (F := F)).run d 0) Q := by
  refine Region.step_sc 0 A.refs_sub (V' := Function.update V A.o' (a.want d)) ?_ ?_ (fun b hb => Function.update_of_ne (fun h => (Finset.mem_sdiff.mp hb).2 (by rw [h]; decide)) _ _) h
  · exact (Entails.of_eq (A.held_refs d V ht hl ho)).trans (all_0 a b c₀ d)
  · exact (all_0' a b c₀ d).trans (Entails.of_eq (A.held_refs d _ ((Function.update_of_ne (show A.t' ≠ A.o' by decide) _ _).trans ht)
      ((Function.update_of_ne (show A.l' ≠ A.o' by decide) _ _).trans hl) (Function.update_self _ _ _)).symm)

theorem vector_4 (c : Fin τ.nSC) (s : Fin τ.nSub) :
    defs₀ (F := F) (.scVector c s) 4 ()
      = SparseCore.onTile hcore4 hsub4 (fun c s => cc4_kern (coordsV c s)
          B.site.tab B.site.htab B.site.lst B.site.hlst B.site.out B.site.hout
          B.site.st0 B.site.hst0 B.site.vi B.site.st2 B.site.hst2 B.site.vo B.site.vg) ⟨⟩ c s := rfl

set_option maxRecDepth 16384 in
theorem tileObl_1 : (K (F := F)).TileObl (D (F := F)) 𝒱 (P a b c₀) v₀ 1 := by
  intro d c i O W hO _ _
  simp only [show (P a b c₀).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [vector_4]; simp only [SparseCore.onTile, Bodies.kern_four, hci, and_self, ↓reduceDIte]
  exact (tile_body B.site d (coordsV ⟨_, hci.1⟩ ⟨_, hci.2⟩) (b.ft d) (b.fl d) (b.fo d) B.ok facts (share (subOf (F := F) c i)) (b.inTable d) O W hO).trans
    (wp_mono frame _ _ fun _ => obl_post)

theorem goOf_1 (d : Dev nD) (p : Sub) : goOf a b c₀ 1 d p = part b b.fo d p := rfl
theorem tdOf_1 (d : Dev nD) (p : Sub) : tdOf a b c₀ 1 d p = part b b.want d p := rfl

theorem all_1 (d : Dev nD) :
    (bigSep Finset.univ fun c : Fin 2 => bigSep Finset.univ fun i : Fin 16 => (taskPts (F := F) B.site d (tile (c, i)) (b.ft d) (b.fl d) (share (c, i)) (b.fo d) : sProp 𝕄))
      ⊢ bigSep Finset.univ fun c : Fin ((K (F := F)).nCore 1) => (P a b c₀).st 1 d c := by
  have h := cast_all (nCore_eq (F := F) 1) (nSub_eq (F := F) 1) (goOf a b c₀ 1 d)
  simp only [goOf_1] at h
  refine Entails.of_eq (h.symm.trans ?_)
  unfold P
  dsimp only
  simp only [goOf_1]
theorem all_1' (d : Dev nD) :
    (bigSep Finset.univ fun c : Fin ((K (F := F)).nCore 1) => (P a b c₀).dn 1 d c)
      ⊢ bigSep Finset.univ fun c : Fin 2 => bigSep Finset.univ fun i : Fin 16 => (taskPts (F := F) B.site d (tile (c, i)) (b.ft d) (b.fl d) (share (c, i)) (b.want d) : sProp 𝕄) := by
  have h := cast_all (nCore_eq (F := F) 1) (nSub_eq (F := F) 1) (tdOf a b c₀ 1 d)
  simp only [tdOf_1] at h
  refine Entails.of_eq (Eq.trans ?_ h)
  unfold P
  dsimp only
  simp only [tdOf_1]

/-- The second gather as a step of the program. -/
theorem step_1 {κ : GSem nD τ sig → ℕ} {d : Dev nD} {V : Valuation τ sig (Elt F)} {R : sProp 𝕄} {Q : PUnit → sProp 𝕄}
    (ht : V B.t' = b.ft d) (hl : V B.l' = b.fl d) (ho : V B.o' = b.fo d)
    (h : Region.At (P a b c₀) κ 2 d (Function.update V B.o' (b.want d)) R ⊢ Q PUnit.unit) :
    Region.At (P a b c₀) κ 1 d V R ⊢ wp frame (wpE ((K (F := F)).defs (D (F := F))) 𝒱 (T d) none) Set.univ ((K (F := F)).run d 1) Q := by
  refine Region.step_sc 1 B.refs_sub (V' := Function.update V B.o' (b.want d)) ?_ ?_ (fun b hb => Function.update_of_ne (fun h => (Finset.mem_sdiff.mp hb).2 (by rw [h]; decide)) _ _) h
  · exact (Entails.of_eq (B.held_refs d V ht hl ho)).trans (all_1 a b c₀ d)
  · exact (all_1' a b c₀ d).trans (Entails.of_eq (B.held_refs d _ ((Function.update_of_ne (show B.t' ≠ B.o' by decide) _ _).trans ht)
      ((Function.update_of_ne (show B.l' ≠ B.o' by decide) _ _).trans hl) (Function.update_self _ _ _)).symm)

theorem vector_7 (c : Fin τ.nSC) (s : Fin τ.nSub) :
    defs₀ (F := F) (.scVector c s) 7 ()
      = SparseCore.onTile hcore7 hsub7 (fun c s => cc7_kern (coordsV c s)
          C.site.tab C.site.htab C.site.lst C.site.hlst C.site.out C.site.hout
          C.site.st0 C.site.hst0 C.site.vi C.site.st2 C.site.hst2 C.site.vo C.site.vg) ⟨⟩ c s := rfl

set_option maxRecDepth 16384 in
theorem tileObl_2 : (K (F := F)).TileObl (D (F := F)) 𝒱 (P a b c₀) v₀ 2 := by
  intro d c i O W hO _ _
  simp only [show (P a b c₀).ox = fun _ _ => 0 from rfl, add_zero]
  have hci : ((K (F := F)).core 2 c).val < grid7.bound 0 ∧ ((K (F := F)).sub 2 i).val < grid7.bound 1 := ⟨c.isLt, i.isLt⟩
  change _ ⊢ wp _ _ _ (Pipeline.liftProg (defs₀ (F := F) (.scVector ((K (F := F)).core 2 c) ((K (F := F)).sub 2 i)) 7 ())) _
  refine BI.Entails.trans ?_ (Pipeline.wp_liftProg (D (F := F)) (Pipeline.defs_kernel pcfgs defs₀) 𝒱₀ _ Set.univ none _ _)
  rw [vector_7]; simp only [SparseCore.onTile, Bodies.kern_seven, hci, and_self, ↓reduceDIte]
  exact (tile_body C.site d (coordsV ⟨_, hci.1⟩ ⟨_, hci.2⟩) (c₀.ft d) (c₀.fl d) (c₀.fo d) C.ok facts (share (subOf (F := F) c i)) (c₀.inTable d) O W hO).trans
    (wp_mono frame _ _ fun _ => obl_post)

theorem goOf_2 (d : Dev nD) (p : Sub) : goOf a b c₀ 2 d p = part c₀ c₀.fo d p := rfl
theorem tdOf_2 (d : Dev nD) (p : Sub) : tdOf a b c₀ 2 d p = part c₀ c₀.want d p := rfl

theorem all_2 (d : Dev nD) :
    (bigSep Finset.univ fun c : Fin 2 => bigSep Finset.univ fun i : Fin 16 => (taskPts (F := F) C.site d (tile (c, i)) (c₀.ft d) (c₀.fl d) (share (c, i)) (c₀.fo d) : sProp 𝕄))
      ⊢ bigSep Finset.univ fun c : Fin ((K (F := F)).nCore 2) => (P a b c₀).st 2 d c := by
  have h := cast_all (nCore_eq (F := F) 2) (nSub_eq (F := F) 2) (goOf a b c₀ 2 d)
  simp only [goOf_2] at h
  refine Entails.of_eq (h.symm.trans ?_)
  unfold P
  dsimp only
  simp only [goOf_2]
theorem all_2' (d : Dev nD) :
    (bigSep Finset.univ fun c : Fin ((K (F := F)).nCore 2) => (P a b c₀).dn 2 d c)
      ⊢ bigSep Finset.univ fun c : Fin 2 => bigSep Finset.univ fun i : Fin 16 => (taskPts (F := F) C.site d (tile (c, i)) (c₀.ft d) (c₀.fl d) (share (c, i)) (c₀.want d) : sProp 𝕄) := by
  have h := cast_all (nCore_eq (F := F) 2) (nSub_eq (F := F) 2) (tdOf a b c₀ 2 d)
  simp only [tdOf_2] at h
  refine Entails.of_eq (Eq.trans ?_ h)
  unfold P
  dsimp only
  simp only [tdOf_2]

/-- The third gather as a step of the program. -/
theorem step_2 {κ : GSem nD τ sig → ℕ} {d : Dev nD} {V : Valuation τ sig (Elt F)} {R : sProp 𝕄} {Q : PUnit → sProp 𝕄}
    (ht : V C.t' = c₀.ft d) (hl : V C.l' = c₀.fl d) (ho : V C.o' = c₀.fo d)
    (h : Region.At (P a b c₀) κ 3 d (Function.update V C.o' (c₀.want d)) R ⊢ Q PUnit.unit) :
    Region.At (P a b c₀) κ 2 d V R ⊢ wp frame (wpE ((K (F := F)).defs (D (F := F))) 𝒱 (T d) none) Set.univ ((K (F := F)).run d 2) Q := by
  refine Region.step_sc 2 C.refs_sub (V' := Function.update V C.o' (c₀.want d)) ?_ ?_ (fun b hb => Function.update_of_ne (fun h => (Finset.mem_sdiff.mp hb).2 (by rw [h]; decide)) _ _) h
  · exact (Entails.of_eq (C.held_refs d V ht hl ho)).trans (all_2 a b c₀ d)
  · exact (all_2' a b c₀ d).trans (Entails.of_eq (C.held_refs d _ ((Function.update_of_ne (show C.t' ≠ C.o' by decide) _ _).trans ht)
      ((Function.update_of_ne (show C.l' ≠ C.o' by decide) _ _).trans hl) (Function.update_self _ _ _)).symm)

theorem tileObl (q : Fin 3) : (K (F := F)).TileObl (D (F := F)) 𝒱 (P a b c₀) v₀ q :=
  match q with
  | 0 => tileObl_0 a b c₀
  | 1 => tileObl_1 a b c₀
  | 2 => tileObl_2 a b c₀

end

end Cert.Kernel.Sites

end
-- ==== Proof.Steps.lean ====
/-
  The program's steps: its host operations by the number of what each writes, and the buffers' contents from one step to the
  next.
-/
module

public import proofs.«01_k».proof.Proof.Sites

@[expose] public section

set_option maxRecDepth 16384

noncomputable section

namespace Cert.Kernel.Launch

open Cert.Kernel Cert.Kernel.Gen Cert.Kernel.Words Cert.Kernel.Slots Cert.Kernel.Moves Cert.Kernel.Trip Cert.Kernel.Kern Cert.Kernel.Setup Cert.Kernel.Tile Cert.Kernel.Region Cert.Kernel.Sites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs cellsGhost toksInit pin)
open Idealize.ShloMosaic.Tactic

variable {F : FTy → Type}

local notation "𝕄" => MT nD τ sig (HIx 3) (Elt F) ℕ UU ℕ

variable [FloatOps F]

/-! ## The host operations -/

abbrev op0 : HloOp τ sig (Elt F) := StableHlo.unary main_arg0 main_v0 ((transpose S2x4096x3 [0, 2, 1] · transposes_S2x3x4096_S2x4096x3_0_2_1) : (⟨S2x3x4096, .f32⟩ : BufTy).Contents (Elt F) → (⟨S2x4096x3, .f32⟩ : BufTy).Contents (Elt F))
abbrev op1 : HloOp τ sig (Elt F) := StableHlo.unary main_arg1 main_v1 ((transpose S2x4096x3 [0, 2, 1] · transposes_S2x3x4096_S2x4096x3_0_2_1) : (⟨S2x3x4096, .f32⟩ : BufTy).Contents (Elt F) → (⟨S2x4096x3, .f32⟩ : BufTy).Contents (Elt F))
abbrev op2 : HloOp τ sig (Elt F) := StableHlo.unary main_arg2 main_v2 ((transpose S2x4096x64 [0, 2, 1] · transposes_S2x64x4096_S2x4096x64_0_2_1) : (⟨S2x64x4096, .f32⟩ : BufTy).Contents (Elt F) → (⟨S2x4096x64, .f32⟩ : BufTy).Contents (Elt F))
abbrev op3 : HloOp τ sig (Elt F) := StableHlo.unary main_arg3 main_v3 ((transpose S2x4096x64 [0, 2, 1] · transposes_S2x64x4096_S2x4096x64_0_2_1) : (⟨S2x64x4096, .f32⟩ : BufTy).Contents (Elt F) → (⟨S2x4096x64, .f32⟩ : BufTy).Contents (Elt F))
abbrev op4 : HloOp τ sig (Elt F) := StableHlo.unary main_arg6 main_v4 ((extractStridedSlice S128x64 ![0, 0] · slices_S128x131_S128x64_0_0) : (⟨S128x131, .f32⟩ : BufTy).Contents (Elt F) → (⟨S128x64, .f32⟩ : BufTy).Contents (Elt F))
abbrev op5 : HloOp τ sig (Elt F) := StableHlo.unary main_v4 main_v5 ((transpose S64x128 [1, 0] · transposes_S128x64_S64x128_1_0) : (⟨S128x64, .f32⟩ : BufTy).Contents (Elt F) → (⟨S64x128, .f32⟩ : BufTy).Contents (Elt F))
abbrev op6 : HloOp τ sig (Elt F) := StableHlo.unary main_arg6 main_v6 ((extractStridedSlice S128x64 ![0, 64] · slices_S128x131_S128x64_0_64) : (⟨S128x131, .f32⟩ : BufTy).Contents (Elt F) → (⟨S128x64, .f32⟩ : BufTy).Contents (Elt F))
abbrev op7 : HloOp τ sig (Elt F) := StableHlo.unary main_v6 main_v7 ((transpose S64x128 [1, 0] · transposes_S128x64_S64x128_1_0) : (⟨S128x64, .f32⟩ : BufTy).Contents (Elt F) → (⟨S64x128, .f32⟩ : BufTy).Contents (Elt F))
abbrev op8 : HloOp τ sig (Elt F) := StableHlo.unary main_arg6 main_v8 ((extractStridedSlice S128x3 ![0, 128] · slices_S128x131_S128x3_0_128) : (⟨S128x131, .f32⟩ : BufTy).Contents (Elt F) → (⟨S128x3, .f32⟩ : BufTy).Contents (Elt F))
abbrev op9 : HloOp τ sig (Elt F) := StableHlo.unary main_v8 main_v9 ((transpose S3x128 [1, 0] · transposes_S128x3_S3x128_1_0) : (⟨S128x3, .f32⟩ : BufTy).Contents (Elt F) → (⟨S3x128, .f32⟩ : BufTy).Contents (Elt F))
abbrev op10 : HloOp τ sig (Elt F) := StableHlo.reshape main_arg7 main_v10 (rfl : (.f32 : EltTy) = .f32) shapeCasts_S128_S1x128
abbrev op12 : HloOp τ sig (Elt F) := StableHlo.reshape main_v11_1 main_v12 (rfl : (.f32 : EltTy) = .f32) shapeCasts_S2x4096x128_S8192x128
abbrev op13 : HloOp τ sig (Elt F) := StableHlo.reshape main_arg4 main_v13 (rfl : (.i32 : EltTy) = .i32) shapeCasts_S2x4096x16_S1x131072
abbrev op15 : HloOp τ sig (Elt F) := StableHlo.unary main_arg8 main_v15 ((transpose S128x128 [1, 0] · transposes_S128x128_S128x128_1_0) : (⟨S128x128, .f32⟩ : BufTy).Contents (Elt F) → (⟨S128x128, .f32⟩ : BufTy).Contents (Elt F))
abbrev op16 : HloOp τ sig (Elt F) := StableHlo.reshape main_arg9 main_v16 (rfl : (.f32 : EltTy) = .f32) shapeCasts_S128_S1x128
abbrev op17 : HloOp τ sig (Elt F) := StableHlo.unary main_arg10 main_v17 ((transpose S128x128 [1, 0] · transposes_S128x128_S128x128_1_0) : (⟨S128x128, .f32⟩ : BufTy).Contents (Elt F) → (⟨S128x128, .f32⟩ : BufTy).Contents (Elt F))
abbrev op18 : HloOp τ sig (Elt F) := StableHlo.reshape main_arg11 main_v18 (rfl : (.f32 : EltTy) = .f32) shapeCasts_S128_S1x128
abbrev op19 : HloOp τ sig (Elt F) := StableHlo.reshape main_v14 main_v19 (rfl : (.f32 : EltTy) = .f32) shapeCasts_S131072x128_S2x65536x128
abbrev op21 : HloOp τ sig (Elt F) := StableHlo.unary main_arg6 main_v21 ((extractStridedSlice S128x64 ![0, 0] · slices_S128x131_S128x64_0_0) : (⟨S128x131, .f32⟩ : BufTy).Contents (Elt F) → (⟨S128x64, .f32⟩ : BufTy).Contents (Elt F))
abbrev op22 : HloOp τ sig (Elt F) := StableHlo.unary main_v21 main_v22 ((transpose S64x128 [1, 0] · transposes_S128x64_S64x128_1_0) : (⟨S128x64, .f32⟩ : BufTy).Contents (Elt F) → (⟨S64x128, .f32⟩ : BufTy).Contents (Elt F))
abbrev op23 : HloOp τ sig (Elt F) := StableHlo.unary main_arg6 main_v23 ((extractStridedSlice S128x64 ![0, 64] · slices_S128x131_S128x64_0_64) : (⟨S128x131, .f32⟩ : BufTy).Contents (Elt F) → (⟨S128x64, .f32⟩ : BufTy).Contents (Elt F))
abbrev op24 : HloOp τ sig (Elt F) := StableHlo.unary main_v23 main_v24 ((transpose S64x128 [1, 0] · transposes_S128x64_S64x128_1_0) : (⟨S128x64, .f32⟩ : BufTy).Contents (Elt F) → (⟨S64x128, .f32⟩ : BufTy).Contents (Elt F))
abbrev op25 : HloOp τ sig (Elt F) := StableHlo.unary main_arg6 main_v25 ((extractStridedSlice S128x3 ![0, 128] · slices_S128x131_S128x3_0_128) : (⟨S128x131, .f32⟩ : BufTy).Contents (Elt F) → (⟨S128x3, .f32⟩ : BufTy).Contents (Elt F))
abbrev op26 : HloOp τ sig (Elt F) := StableHlo.unary main_v25 main_v26 ((transpose S3x128 [1, 0] · transposes_S128x3_S3x128_1_0) : (⟨S128x3, .f32⟩ : BufTy).Contents (Elt F) → (⟨S3x128, .f32⟩ : BufTy).Contents (Elt F))
abbrev op27 : HloOp τ sig (Elt F) := StableHlo.reshape main_arg7 main_v27 (rfl : (.f32 : EltTy) = .f32) shapeCasts_S128_S1x128
abbrev op29 : HloOp τ sig (Elt F) := StableHlo.reshape main_v28_1 main_v29 (rfl : (.f32 : EltTy) = .f32) shapeCasts_S2x4096x128_S8192x128
abbrev op30 : HloOp τ sig (Elt F) := StableHlo.reshape main_arg5 main_v30 (rfl : (.i32 : EltTy) = .i32) shapeCasts_S2x4096x16_S1x131072
abbrev op32 : HloOp τ sig (Elt F) := StableHlo.unary main_arg8 main_v32 ((transpose S128x128 [1, 0] · transposes_S128x128_S128x128_1_0) : (⟨S128x128, .f32⟩ : BufTy).Contents (Elt F) → (⟨S128x128, .f32⟩ : BufTy).Contents (Elt F))
abbrev op33 : HloOp τ sig (Elt F) := StableHlo.reshape main_arg9 main_v33 (rfl : (.f32 : EltTy) = .f32) shapeCasts_S128_S1x128
abbrev op34 : HloOp τ sig (Elt F) := StableHlo.unary main_arg10 main_v34 ((transpose S128x128 [1, 0] · transposes_S128x128_S128x128_1_0) : (⟨S128x128, .f32⟩ : BufTy).Contents (Elt F) → (⟨S128x128, .f32⟩ : BufTy).Contents (Elt F))
abbrev op35 : HloOp τ sig (Elt F) := StableHlo.reshape main_arg11 main_v35 (rfl : (.f32 : EltTy) = .f32) shapeCasts_S128_S1x128
abbrev op36 : HloOp τ sig (Elt F) := StableHlo.reshape main_v31 main_v36 (rfl : (.f32 : EltTy) = .f32) shapeCasts_S131072x128_S2x65536x128
abbrev op38 : HloOp τ sig (Elt F) := StableHlo.unary main_arg12 main_v38 ((extractStridedSlice S128x128 ![0, 0] · slices_S128x259_S128x128_0_0) : (⟨S128x259, .f32⟩ : BufTy).Contents (Elt F) → (⟨S128x128, .f32⟩ : BufTy).Contents (Elt F))
abbrev op39 : HloOp τ sig (Elt F) := StableHlo.unary main_v38 main_v39 ((transpose S128x128 [1, 0] · transposes_S128x128_S128x128_1_0) : (⟨S128x128, .f32⟩ : BufTy).Contents (Elt F) → (⟨S128x128, .f32⟩ : BufTy).Contents (Elt F))
abbrev op40 : HloOp τ sig (Elt F) := StableHlo.unary main_arg12 main_v40 ((extractStridedSlice S128x128 ![0, 128] · slices_S128x259_S128x128_0_128) : (⟨S128x259, .f32⟩ : BufTy).Contents (Elt F) → (⟨S128x128, .f32⟩ : BufTy).Contents (Elt F))
abbrev op41 : HloOp τ sig (Elt F) := StableHlo.unary main_v40 main_v41 ((transpose S128x128 [1, 0] · transposes_S128x128_S128x128_1_0) : (⟨S128x128, .f32⟩ : BufTy).Contents (Elt F) → (⟨S128x128, .f32⟩ : BufTy).Contents (Elt F))
abbrev op42 : HloOp τ sig (Elt F) := StableHlo.unary main_arg12 main_v42 ((extractStridedSlice S128x3 ![0, 256] · slices_S128x259_S128x3_0_256) : (⟨S128x259, .f32⟩ : BufTy).Contents (Elt F) → (⟨S128x3, .f32⟩ : BufTy).Contents (Elt F))
abbrev op43 : HloOp τ sig (Elt F) := StableHlo.unary main_v42 main_v43 ((transpose S3x128 [1, 0] · transposes_S128x3_S3x128_1_0) : (⟨S128x3, .f32⟩ : BufTy).Contents (Elt F) → (⟨S3x128, .f32⟩ : BufTy).Contents (Elt F))
abbrev op44 : HloOp τ sig (Elt F) := StableHlo.reshape main_arg13 main_v44 (rfl : (.f32 : EltTy) = .f32) shapeCasts_S128_S1x128
abbrev op46 : HloOp τ sig (Elt F) := StableHlo.reshape main_v45_1 main_v46 (rfl : (.f32 : EltTy) = .f32) shapeCasts_S2x4096x128_S8192x128
abbrev op47 : HloOp τ sig (Elt F) := StableHlo.reshape main_arg4 main_v47 (rfl : (.i32 : EltTy) = .i32) shapeCasts_S2x4096x16_S1x131072
abbrev op49 : HloOp τ sig (Elt F) := StableHlo.unary main_arg14 main_v49 ((transpose S128x128 [1, 0] · transposes_S128x128_S128x128_1_0) : (⟨S128x128, .f32⟩ : BufTy).Contents (Elt F) → (⟨S128x128, .f32⟩ : BufTy).Contents (Elt F))
abbrev op50 : HloOp τ sig (Elt F) := StableHlo.reshape main_arg15 main_v50 (rfl : (.f32 : EltTy) = .f32) shapeCasts_S128_S1x128
abbrev op51 : HloOp τ sig (Elt F) := StableHlo.reshape main_v48 main_v51 (rfl : (.f32 : EltTy) = .f32) shapeCasts_S131072x128_S2x65536x128

theorem op0_bufs : (op0 (F := F)).bufs ⊆ ucRefs τ sig := show ({Proc.devRef .tc (main_arg0 : Ref sig .tc), Proc.devRef .tc (main_v0 : Ref sig .tc)} : Finset (DevRef τ sig)) ⊆ _ from uc_two rfl rfl
theorem op1_bufs : (op1 (F := F)).bufs ⊆ ucRefs τ sig := show ({Proc.devRef .tc (main_arg1 : Ref sig .tc), Proc.devRef .tc (main_v1 : Ref sig .tc)} : Finset (DevRef τ sig)) ⊆ _ from uc_two rfl rfl
theorem op2_bufs : (op2 (F := F)).bufs ⊆ ucRefs τ sig := show ({Proc.devRef .tc (main_arg2 : Ref sig .tc), Proc.devRef .tc (main_v2 : Ref sig .tc)} : Finset (DevRef τ sig)) ⊆ _ from uc_two rfl rfl
theorem op3_bufs : (op3 (F := F)).bufs ⊆ ucRefs τ sig := show ({Proc.devRef .tc (main_arg3 : Ref sig .tc), Proc.devRef .tc (main_v3 : Ref sig .tc)} : Finset (DevRef τ sig)) ⊆ _ from uc_two rfl rfl
theorem op4_bufs : (op4 (F := F)).bufs ⊆ ucRefs τ sig := show ({Proc.devRef .tc (main_arg6 : Ref sig .tc), Proc.devRef .tc (main_v4 : Ref sig .tc)} : Finset (DevRef τ sig)) ⊆ _ from uc_two rfl rfl
theorem op5_bufs : (op5 (F := F)).bufs ⊆ ucRefs τ sig := show ({Proc.devRef .tc (main_v4 : Ref sig .tc), Proc.devRef .tc (main_v5 : Ref sig .tc)} : Finset (DevRef τ sig)) ⊆ _ from uc_two rfl rfl
theorem op6_bufs : (op6 (F := F)).bufs ⊆ ucRefs τ sig := show ({Proc.devRef .tc (main_arg6 : Ref sig .tc), Proc.devRef .tc (main_v6 : Ref sig .tc)} : Finset (DevRef τ sig)) ⊆ _ from uc_two rfl rfl
theorem op7_bufs : (op7 (F := F)).bufs ⊆ ucRefs τ sig := show ({Proc.devRef .tc (main_v6 : Ref sig .tc), Proc.devRef .tc (main_v7 : Ref sig .tc)} : Finset (DevRef τ sig)) ⊆ _ from uc_two rfl rfl
theorem op8_bufs : (op8 (F := F)).bufs ⊆ ucRefs τ sig := show ({Proc.devRef .tc (main_arg6 : Ref sig .tc), Proc.devRef .tc (main_v8 : Ref sig .tc)} : Finset (DevRef τ sig)) ⊆ _ from uc_two rfl rfl
theorem op9_bufs : (op9 (F := F)).bufs ⊆ ucRefs τ sig := show ({Proc.devRef .tc (main_v8 : Ref sig .tc), Proc.devRef .tc (main_v9 : Ref sig .tc)} : Finset (DevRef τ sig)) ⊆ _ from uc_two rfl rfl
theorem op10_bufs : (op10 (F := F)).bufs ⊆ ucRefs τ sig := show ({Proc.devRef .tc (main_arg7 : Ref sig .tc), Proc.devRef .tc (main_v10 : Ref sig .tc)} : Finset (DevRef τ sig)) ⊆ _ from uc_two rfl rfl
theorem op12_bufs : (op12 (F := F)).bufs ⊆ ucRefs τ sig := show ({Proc.devRef .tc (main_v11_1 : Ref sig .tc), Proc.devRef .tc (main_v12 : Ref sig .tc)} : Finset (DevRef τ sig)) ⊆ _ from uc_two rfl rfl
theorem op13_bufs : (op13 (F := F)).bufs ⊆ ucRefs τ sig := show ({Proc.devRef .tc (main_arg4 : Ref sig .tc), Proc.devRef .tc (main_v13 : Ref sig .tc)} : Finset (DevRef τ sig)) ⊆ _ from uc_two rfl rfl
theorem op15_bufs : (op15 (F := F)).bufs ⊆ ucRefs τ sig := show ({Proc.devRef .tc (main_arg8 : Ref sig .tc), Proc.devRef .tc (main_v15 : Ref sig .tc)} : Finset (DevRef τ sig)) ⊆ _ from uc_two rfl rfl
theorem op16_bufs : (op16 (F := F)).bufs ⊆ ucRefs τ sig := show ({Proc.devRef .tc (main_arg9 : Ref sig .tc), Proc.devRef .tc (main_v16 : Ref sig .tc)} : Finset (DevRef τ sig)) ⊆ _ from uc_two rfl rfl
theorem op17_bufs : (op17 (F := F)).bufs ⊆ ucRefs τ sig := show ({Proc.devRef .tc (main_arg10 : Ref sig .tc), Proc.devRef .tc (main_v17 : Ref sig .tc)} : Finset (DevRef τ sig)) ⊆ _ from uc_two rfl rfl
theorem op18_bufs : (op18 (F := F)).bufs ⊆ ucRefs τ sig := show ({Proc.devRef .tc (main_arg11 : Ref sig .tc), Proc.devRef .tc (main_v18 : Ref sig .tc)} : Finset (DevRef τ sig)) ⊆ _ from uc_two rfl rfl
theorem op19_bufs : (op19 (F := F)).bufs ⊆ ucRefs τ sig := show ({Proc.devRef .tc (main_v14 : Ref sig .tc), Proc.devRef .tc (main_v19 : Ref sig .tc)} : Finset (DevRef τ sig)) ⊆ _ from uc_two rfl rfl
theorem op21_bufs : (op21 (F := F)).bufs ⊆ ucRefs τ sig := show ({Proc.devRef .tc (main_arg6 : Ref sig .tc), Proc.devRef .tc (main_v21 : Ref sig .tc)} : Finset (DevRef τ sig)) ⊆ _ from uc_two rfl rfl
theorem op22_bufs : (op22 (F := F)).bufs ⊆ ucRefs τ sig := show ({Proc.devRef .tc (main_v21 : Ref sig .tc), Proc.devRef .tc (main_v22 : Ref sig .tc)} : Finset (DevRef τ sig)) ⊆ _ from uc_two rfl rfl
theorem op23_bufs : (op23 (F := F)).bufs ⊆ ucRefs τ sig := show ({Proc.devRef .tc (main_arg6 : Ref sig .tc), Proc.devRef .tc (main_v23 : Ref sig .tc)} : Finset (DevRef τ sig)) ⊆ _ from uc_two rfl rfl
theorem op24_bufs : (op24 (F := F)).bufs ⊆ ucRefs τ sig := show ({Proc.devRef .tc (main_v23 : Ref sig .tc), Proc.devRef .tc (main_v24 : Ref sig .tc)} : Finset (DevRef τ sig)) ⊆ _ from uc_two rfl rfl
theorem op25_bufs : (op25 (F := F)).bufs ⊆ ucRefs τ sig := show ({Proc.devRef .tc (main_arg6 : Ref sig .tc), Proc.devRef .tc (main_v25 : Ref sig .tc)} : Finset (DevRef τ sig)) ⊆ _ from uc_two rfl rfl
theorem op26_bufs : (op26 (F := F)).bufs ⊆ ucRefs τ sig := show ({Proc.devRef .tc (main_v25 : Ref sig .tc), Proc.devRef .tc (main_v26 : Ref sig .tc)} : Finset (DevRef τ sig)) ⊆ _ from uc_two rfl rfl
theorem op27_bufs : (op27 (F := F)).bufs ⊆ ucRefs τ sig := show ({Proc.devRef .tc (main_arg7 : Ref sig .tc), Proc.devRef .tc (main_v27 : Ref sig .tc)} : Finset (DevRef τ sig)) ⊆ _ from uc_two rfl rfl
theorem op29_bufs : (op29 (F := F)).bufs ⊆ ucRefs τ sig := show ({Proc.devRef .tc (main_v28_1 : Ref sig .tc), Proc.devRef .tc (main_v29 : Ref sig .tc)} : Finset (DevRef τ sig)) ⊆ _ from uc_two rfl rfl
theorem op30_bufs : (op30 (F := F)).bufs ⊆ ucRefs τ sig := show ({Proc.devRef .tc (main_arg5 : Ref sig .tc), Proc.devRef .tc (main_v30 : Ref sig .tc)} : Finset (DevRef τ sig)) ⊆ _ from uc_two rfl rfl
theorem op32_bufs : (op32 (F := F)).bufs ⊆ ucRefs τ sig := show ({Proc.devRef .tc (main_arg8 : Ref sig .tc), Proc.devRef .tc (main_v32 : Ref sig .tc)} : Finset (DevRef τ sig)) ⊆ _ from uc_two rfl rfl
theorem op33_bufs : (op33 (F := F)).bufs ⊆ ucRefs τ sig := show ({Proc.devRef .tc (main_arg9 : Ref sig .tc), Proc.devRef .tc (main_v33 : Ref sig .tc)} : Finset (DevRef τ sig)) ⊆ _ from uc_two rfl rfl
theorem op34_bufs : (op34 (F := F)).bufs ⊆ ucRefs τ sig := show ({Proc.devRef .tc (main_arg10 : Ref sig .tc), Proc.devRef .tc (main_v34 : Ref sig .tc)} : Finset (DevRef τ sig)) ⊆ _ from uc_two rfl rfl
theorem op35_bufs : (op35 (F := F)).bufs ⊆ ucRefs τ sig := show ({Proc.devRef .tc (main_arg11 : Ref sig .tc), Proc.devRef .tc (main_v35 : Ref sig .tc)} : Finset (DevRef τ sig)) ⊆ _ from uc_two rfl rfl
theorem op36_bufs : (op36 (F := F)).bufs ⊆ ucRefs τ sig := show ({Proc.devRef .tc (main_v31 : Ref sig .tc), Proc.devRef .tc (main_v36 : Ref sig .tc)} : Finset (DevRef τ sig)) ⊆ _ from uc_two rfl rfl
theorem op38_bufs : (op38 (F := F)).bufs ⊆ ucRefs τ sig := show ({Proc.devRef .tc (main_arg12 : Ref sig .tc), Proc.devRef .tc (main_v38 : Ref sig .tc)} : Finset (DevRef τ sig)) ⊆ _ from uc_two rfl rfl
theorem op39_bufs : (op39 (F := F)).bufs ⊆ ucRefs τ sig := show ({Proc.devRef .tc (main_v38 : Ref sig .tc), Proc.devRef .tc (main_v39 : Ref sig .tc)} : Finset (DevRef τ sig)) ⊆ _ from uc_two rfl rfl
theorem op40_bufs : (op40 (F := F)).bufs ⊆ ucRefs τ sig := show ({Proc.devRef .tc (main_arg12 : Ref sig .tc), Proc.devRef .tc (main_v40 : Ref sig .tc)} : Finset (DevRef τ sig)) ⊆ _ from uc_two rfl rfl
theorem op41_bufs : (op41 (F := F)).bufs ⊆ ucRefs τ sig := show ({Proc.devRef .tc (main_v40 : Ref sig .tc), Proc.devRef .tc (main_v41 : Ref sig .tc)} : Finset (DevRef τ sig)) ⊆ _ from uc_two rfl rfl
theorem op42_bufs : (op42 (F := F)).bufs ⊆ ucRefs τ sig := show ({Proc.devRef .tc (main_arg12 : Ref sig .tc), Proc.devRef .tc (main_v42 : Ref sig .tc)} : Finset (DevRef τ sig)) ⊆ _ from uc_two rfl rfl
theorem op43_bufs : (op43 (F := F)).bufs ⊆ ucRefs τ sig := show ({Proc.devRef .tc (main_v42 : Ref sig .tc), Proc.devRef .tc (main_v43 : Ref sig .tc)} : Finset (DevRef τ sig)) ⊆ _ from uc_two rfl rfl
theorem op44_bufs : (op44 (F := F)).bufs ⊆ ucRefs τ sig := show ({Proc.devRef .tc (main_arg13 : Ref sig .tc), Proc.devRef .tc (main_v44 : Ref sig .tc)} : Finset (DevRef τ sig)) ⊆ _ from uc_two rfl rfl
theorem op46_bufs : (op46 (F := F)).bufs ⊆ ucRefs τ sig := show ({Proc.devRef .tc (main_v45_1 : Ref sig .tc), Proc.devRef .tc (main_v46 : Ref sig .tc)} : Finset (DevRef τ sig)) ⊆ _ from uc_two rfl rfl
theorem op47_bufs : (op47 (F := F)).bufs ⊆ ucRefs τ sig := show ({Proc.devRef .tc (main_arg4 : Ref sig .tc), Proc.devRef .tc (main_v47 : Ref sig .tc)} : Finset (DevRef τ sig)) ⊆ _ from uc_two rfl rfl
theorem op49_bufs : (op49 (F := F)).bufs ⊆ ucRefs τ sig := show ({Proc.devRef .tc (main_arg14 : Ref sig .tc), Proc.devRef .tc (main_v49 : Ref sig .tc)} : Finset (DevRef τ sig)) ⊆ _ from uc_two rfl rfl
theorem op50_bufs : (op50 (F := F)).bufs ⊆ ucRefs τ sig := show ({Proc.devRef .tc (main_arg15 : Ref sig .tc), Proc.devRef .tc (main_v50 : Ref sig .tc)} : Finset (DevRef τ sig)) ⊆ _ from uc_two rfl rfl
theorem op51_bufs : (op51 (F := F)).bufs ⊆ ucRefs τ sig := show ({Proc.devRef .tc (main_v48 : Ref sig .tc), Proc.devRef .tc (main_v51 : Ref sig .tc)} : Finset (DevRef τ sig)) ⊆ _ from uc_two rfl rfl

/-! ## Stretches of host operations between two calls -/

def host1 (V : Valuation τ sig (Elt F)) : Valuation τ sig (Elt F) := (op10 (F := F)).result ((op9 (F := F)).result ((op8 (F := F)).result ((op7 (F := F)).result ((op6 (F := F)).result ((op5 (F := F)).result ((op4 (F := F)).result ((op3 (F := F)).result ((op2 (F := F)).result ((op1 (F := F)).result ((op0 (F := F)).result V))))))))))
theorem host1_keep {r : Ref sig .tc} (h : ∀ x ∈ ([main_v0, main_v1, main_v2, main_v3, main_v4, main_v5, main_v6, main_v7, main_v8, main_v9, main_v10] : List (Ref sig .tc)), r ≠ x) (V : Valuation τ sig (Elt F)) : host1 V (Proc.devRef .tc r) = V (Proc.devRef .tc r) := by
  simp only [List.forall_mem_cons] at h
  obtain ⟨h0, h1, h2, h3, h4, h5, h6, h7, h8, h9, h10, -⟩ := h
  unfold host1
  rw [StableHlo.reshape_result_ne (h := h10), StableHlo.unary_result_ne (h := h9), StableHlo.unary_result_ne (h := h8), StableHlo.unary_result_ne (h := h7), StableHlo.unary_result_ne (h := h6), StableHlo.unary_result_ne (h := h5), StableHlo.unary_result_ne (h := h4), StableHlo.unary_result_ne (h := h3), StableHlo.unary_result_ne (h := h2), StableHlo.unary_result_ne (h := h1), StableHlo.unary_result_ne (h := h0)]

def host2 (V : Valuation τ sig (Elt F)) : Valuation τ sig (Elt F) := (op13 (F := F)).result ((op12 (F := F)).result V)
theorem host2_keep {r : Ref sig .tc} (h : ∀ x ∈ ([main_v12, main_v13] : List (Ref sig .tc)), r ≠ x) (V : Valuation τ sig (Elt F)) : host2 V (Proc.devRef .tc r) = V (Proc.devRef .tc r) := by
  simp only [List.forall_mem_cons] at h
  obtain ⟨h12, h13, -⟩ := h
  unfold host2
  rw [StableHlo.reshape_result_ne (h := h13), StableHlo.reshape_result_ne (h := h12)]

def host3 (V : Valuation τ sig (Elt F)) : Valuation τ sig (Elt F) := (op19 (F := F)).result ((op18 (F := F)).result ((op17 (F := F)).result ((op16 (F := F)).result ((op15 (F := F)).result V))))
theorem host3_keep {r : Ref sig .tc} (h : ∀ x ∈ ([main_v15, main_v16, main_v17, main_v18, main_v19] : List (Ref sig .tc)), r ≠ x) (V : Valuation τ sig (Elt F)) : host3 V (Proc.devRef .tc r) = V (Proc.devRef .tc r) := by
  simp only [List.forall_mem_cons] at h
  obtain ⟨h15, h16, h17, h18, h19, -⟩ := h
  unfold host3
  rw [StableHlo.reshape_result_ne (h := h19), StableHlo.reshape_result_ne (h := h18), StableHlo.unary_result_ne (h := h17), StableHlo.reshape_result_ne (h := h16), StableHlo.unary_result_ne (h := h15)]

def host4 (V : Valuation τ sig (Elt F)) : Valuation τ sig (Elt F) := (op27 (F := F)).result ((op26 (F := F)).result ((op25 (F := F)).result ((op24 (F := F)).result ((op23 (F := F)).result ((op22 (F := F)).result ((op21 (F := F)).result V))))))
theorem host4_keep {r : Ref sig .tc} (h : ∀ x ∈ ([main_v21, main_v22, main_v23, main_v24, main_v25, main_v26, main_v27] : List (Ref sig .tc)), r ≠ x) (V : Valuation τ sig (Elt F)) : host4 V (Proc.devRef .tc r) = V (Proc.devRef .tc r) := by
  simp only [List.forall_mem_cons] at h
  obtain ⟨h21, h22, h23, h24, h25, h26, h27, -⟩ := h
  unfold host4
  rw [StableHlo.reshape_result_ne (h := h27), StableHlo.unary_result_ne (h := h26), StableHlo.unary_result_ne (h := h25), StableHlo.unary_result_ne (h := h24), StableHlo.unary_result_ne (h := h23), StableHlo.unary_result_ne (h := h22), StableHlo.unary_result_ne (h := h21)]

def host5 (V : Valuation τ sig (Elt F)) : Valuation τ sig (Elt F) := (op30 (F := F)).result ((op29 (F := F)).result V)
theorem host5_keep {r : Ref sig .tc} (h : ∀ x ∈ ([main_v29, main_v30] : List (Ref sig .tc)), r ≠ x) (V : Valuation τ sig (Elt F)) : host5 V (Proc.devRef .tc r) = V (Proc.devRef .tc r) := by
  simp only [List.forall_mem_cons] at h
  obtain ⟨h29, h30, -⟩ := h
  unfold host5
  rw [StableHlo.reshape_result_ne (h := h30), StableHlo.reshape_result_ne (h := h29)]

def host6 (V : Valuation τ sig (Elt F)) : Valuation τ sig (Elt F) := (op36 (F := F)).result ((op35 (F := F)).result ((op34 (F := F)).result ((op33 (F := F)).result ((op32 (F := F)).result V))))
theorem host6_keep {r : Ref sig .tc} (h : ∀ x ∈ ([main_v32, main_v33, main_v34, main_v35, main_v36] : List (Ref sig .tc)), r ≠ x) (V : Valuation τ sig (Elt F)) : host6 V (Proc.devRef .tc r) = V (Proc.devRef .tc r) := by
  simp only [List.forall_mem_cons] at h
  obtain ⟨h32, h33, h34, h35, h36, -⟩ := h
  unfold host6
  rw [StableHlo.reshape_result_ne (h := h36), StableHlo.reshape_result_ne (h := h35), StableHlo.unary_result_ne (h := h34), StableHlo.reshape_result_ne (h := h33), StableHlo.unary_result_ne (h := h32)]

def host7 (V : Valuation τ sig (Elt F)) : Valuation τ sig (Elt F) := (op44 (F := F)).result ((op43 (F := F)).result ((op42 (F := F)).result ((op41 (F := F)).result ((op40 (F := F)).result ((op39 (F := F)).result ((op38 (F := F)).result V))))))
theorem host7_keep {r : Ref sig .tc} (h : ∀ x ∈ ([main_v38, main_v39, main_v40, main_v41, main_v42, main_v43, main_v44] : List (Ref sig .tc)), r ≠ x) (V : Valuation τ sig (Elt F)) : host7 V (Proc.devRef .tc r) = V (Proc.devRef .tc r) := by
  simp only [List.forall_mem_cons] at h
  obtain ⟨h38, h39, h40, h41, h42, h43, h44, -⟩ := h
  unfold host7
  rw [StableHlo.reshape_result_ne (h := h44), StableHlo.unary_result_ne (h := h43), StableHlo.unary_result_ne (h := h42), StableHlo.unary_result_ne (h := h41), StableHlo.unary_result_ne (h := h40), StableHlo.unary_result_ne (h := h39), StableHlo.unary_result_ne (h := h38)]

def host8 (V : Valuation τ sig (Elt F)) : Valuation τ sig (Elt F) := (op47 (F := F)).result ((op46 (F := F)).result V)
theorem host8_keep {r : Ref sig .tc} (h : ∀ x ∈ ([main_v46, main_v47] : List (Ref sig .tc)), r ≠ x) (V : Valuation τ sig (Elt F)) : host8 V (Proc.devRef .tc r) = V (Proc.devRef .tc r) := by
  simp only [List.forall_mem_cons] at h
  obtain ⟨h46, h47, -⟩ := h
  unfold host8
  rw [StableHlo.reshape_result_ne (h := h47), StableHlo.reshape_result_ne (h := h46)]

def host9 (V : Valuation τ sig (Elt F)) : Valuation τ sig (Elt F) := (op51 (F := F)).result ((op50 (F := F)).result ((op49 (F := F)).result V))
theorem host9_keep {r : Ref sig .tc} (h : ∀ x ∈ ([main_v49, main_v50, main_v51] : List (Ref sig .tc)), r ≠ x) (V : Valuation τ sig (Elt F)) : host9 V (Proc.devRef .tc r) = V (Proc.devRef .tc r) := by
  simp only [List.forall_mem_cons] at h
  obtain ⟨h49, h50, h51, -⟩ := h
  unfold host9
  rw [StableHlo.reshape_result_ne (h := h51), StableHlo.reshape_result_ne (h := h50), StableHlo.unary_result_ne (h := h49)]

/-! ## The buffers' contents from one step to the next -/

variable (m : (ℓ : Loc nD τ sig) → Buf (Elt F) ℓ) (ρ : Dev nD → PrngReg)

abbrev iLoc (d : Dev nD) : Loc nD τ sig := (SparseCore.T d).loc main_arg4
abbrev jLoc (d : Dev nD) : Loc nD τ sig := (SparseCore.T d).loc main_arg5

/-- What the proof asks of the launch memory: every offset names a row of the table. -/
def PreOK : Prop := (∀ (d : Dev nD) (j : S2x4096x16.Idx), (m (iLoc d) j : BitVec 32).toNat < 8192) ∧ ∀ (d : Dev nD) (j : S2x4096x16.Idx), (m (jLoc d) j : BitVec 32).toNat < 8192

/-- At the launch. -/
def V0 (d : Dev nD) : Valuation τ sig (Elt F) := fun b => m (d, b)

def V1 (d : Dev nD) : Valuation τ sig (Elt F) := host1 (V0 m d)
theorem V1_keep (d : Dev nD) {r : Ref sig .tc} (h : ∀ x ∈ ([main_v0, main_v1, main_v2, main_v3, main_v4, main_v5, main_v6, main_v7, main_v8, main_v9, main_v10] : List (Ref sig .tc)), r ≠ x) : V1 m d (Proc.devRef .tc r) = V0 m d (Proc.devRef .tc r) := host1_keep h _

def V2 (d : Dev nD) : Valuation τ sig (Elt F) := afterAt 0 (V1 m d) 0 d
theorem V2_keep (d : Dev nD) {r : Ref sig .tc} (h : ∀ x ∈ ([main_v11_0, main_v11_1] : List (Ref sig .tc)), r ≠ x) : V2 m d (Proc.devRef .tc r) = V1 m d (Proc.devRef .tc r) := by
  simp only [List.forall_mem_cons] at h
  exact after_keep (good_0 (V1 m d) ((K (F := F)).Otc d 0) (8 * 0)) d (show ∀ w, (cfg0.win w).isOut = true → Pipeline.arrRef spec0 w = main_v11_0 ∨ Pipeline.arrRef spec0 w = main_v11_1 from by decide) h.1 h.2.1

def V3 (d : Dev nD) : Valuation τ sig (Elt F) := host2 (V2 m d)
theorem V3_keep (d : Dev nD) {r : Ref sig .tc} (h : ∀ x ∈ ([main_v12, main_v13] : List (Ref sig .tc)), r ≠ x) : V3 m d (Proc.devRef .tc r) = V2 m d (Proc.devRef .tc r) := host2_keep h _

theorem listA (hpre : PreOK m) (d : Dev nD) (y : S1x131072.Idx) : ((V3 m d A.l' : S1x131072.Idx → Elt F .i32) y : BitVec 32).toNat < 8192 := by
  have e : V3 m d A.l' = shapeCast S1x131072 (m ((SparseCore.T d).loc main_arg4)) shapeCasts_S2x4096x16_S1x131072 := by
    unfold V3 host2
    rw [StableHlo.reshape_result, StableHlo.reshape_result_ne (h := by decide), V2_keep m d (by decide), V1_keep m d (by decide)]
    rfl
  rw [e]; exact hpre.1 d _

/-- What the first gather takes. -/
def dataA (hpre : PreOK m) : Data F A.site where
  ft d := V3 m d A.t'
  fl d := V3 m d A.l'
  fo d := V3 m d A.o'
  inTable d := listA m hpre d
def V4 (hpre : PreOK m) (d : Dev nD) : Valuation τ sig (Elt F) := Function.update (V3 m d) A.o' ((dataA m hpre).want d)
theorem V4_keep (hpre : PreOK m) (d : Dev nD) {r : Ref sig .tc} (h : ∀ x ∈ ([main_v14] : List (Ref sig .tc)), r ≠ x) : V4 m hpre d (Proc.devRef .tc r) = V3 m d (Proc.devRef .tc r) := by
  simp only [List.forall_mem_cons] at h
  exact Function.update_of_ne (StableHlo.devRef_ne_of_ne h.1) _ _

def V5 (hpre : PreOK m) (d : Dev nD) : Valuation τ sig (Elt F) := host3 (V4 m hpre d)
theorem V5_keep (hpre : PreOK m) (d : Dev nD) {r : Ref sig .tc} (h : ∀ x ∈ ([main_v15, main_v16, main_v17, main_v18, main_v19] : List (Ref sig .tc)), r ≠ x) : V5 m hpre d (Proc.devRef .tc r) = V4 m hpre d (Proc.devRef .tc r) := host3_keep h _

def V6 (hpre : PreOK m) (d : Dev nD) : Valuation τ sig (Elt F) := afterAt 1 (V5 m hpre d) 1 d
theorem V6_keep (hpre : PreOK m) (d : Dev nD) {r : Ref sig .tc} (h : ∀ x ∈ ([main_v20_0, main_v20_1] : List (Ref sig .tc)), r ≠ x) : V6 m hpre d (Proc.devRef .tc r) = V5 m hpre d (Proc.devRef .tc r) := by
  simp only [List.forall_mem_cons] at h
  exact after_keep (good_1 (V5 m hpre d) ((K (F := F)).Otc d 1) (8 * 1)) d (show ∀ w, (cfg2.win w).isOut = true → Pipeline.arrRef spec2 w = main_v20_0 ∨ Pipeline.arrRef spec2 w = main_v20_1 from by decide) h.1 h.2.1

def V7 (hpre : PreOK m) (d : Dev nD) : Valuation τ sig (Elt F) := host4 (V6 m hpre d)
theorem V7_keep (hpre : PreOK m) (d : Dev nD) {r : Ref sig .tc} (h : ∀ x ∈ ([main_v21, main_v22, main_v23, main_v24, main_v25, main_v26, main_v27] : List (Ref sig .tc)), r ≠ x) : V7 m hpre d (Proc.devRef .tc r) = V6 m hpre d (Proc.devRef .tc r) := host4_keep h _

def V8 (hpre : PreOK m) (d : Dev nD) : Valuation τ sig (Elt F) := afterAt 2 (V7 m hpre d) 1 d
theorem V8_keep (hpre : PreOK m) (d : Dev nD) {r : Ref sig .tc} (h : ∀ x ∈ ([main_v28_0, main_v28_1] : List (Ref sig .tc)), r ≠ x) : V8 m hpre d (Proc.devRef .tc r) = V7 m hpre d (Proc.devRef .tc r) := by
  simp only [List.forall_mem_cons] at h
  exact after_keep (good_2 (V7 m hpre d) ((K (F := F)).Otc d 1) (8 * 1)) d (show ∀ w, (cfg3.win w).isOut = true → Pipeline.arrRef spec3 w = main_v28_0 ∨ Pipeline.arrRef spec3 w = main_v28_1 from by decide) h.1 h.2.1

def V9 (hpre : PreOK m) (d : Dev nD) : Valuation τ sig (Elt F) := host5 (V8 m hpre d)
theorem V9_keep (hpre : PreOK m) (d : Dev nD) {r : Ref sig .tc} (h : ∀ x ∈ ([main_v29, main_v30] : List (Ref sig .tc)), r ≠ x) : V9 m hpre d (Proc.devRef .tc r) = V8 m hpre d (Proc.devRef .tc r) := host5_keep h _

theorem listB (hpre : PreOK m) (d : Dev nD) (y : S1x131072.Idx) : ((V9 m hpre d B.l' : S1x131072.Idx → Elt F .i32) y : BitVec 32).toNat < 8192 := by
  have e : V9 m hpre d B.l' = shapeCast S1x131072 (m ((SparseCore.T d).loc main_arg5)) shapeCasts_S2x4096x16_S1x131072 := by
    unfold V9 host5
    rw [StableHlo.reshape_result, StableHlo.reshape_result_ne (h := by decide), V8_keep m hpre d (by decide), V7_keep m hpre d (by decide), V6_keep m hpre d (by decide), V5_keep m hpre d (by decide), V4_keep m hpre d (by decide), V3_keep m d (by decide), V2_keep m d (by decide), V1_keep m d (by decide)]
    rfl
  rw [e]; exact hpre.2 d _

/-- What the second gather takes. -/
def dataB (hpre : PreOK m) : Data F B.site where
  ft d := V9 m hpre d B.t'
  fl d := V9 m hpre d B.l'
  fo d := V9 m hpre d B.o'
  inTable d := listB m hpre d
def V10 (hpre : PreOK m) (d : Dev nD) : Valuation τ sig (Elt F) := Function.update (V9 m hpre d) B.o' ((dataB m hpre).want d)
theorem V10_keep (hpre : PreOK m) (d : Dev nD) {r : Ref sig .tc} (h : ∀ x ∈ ([main_v31] : List (Ref sig .tc)), r ≠ x) : V10 m hpre d (Proc.devRef .tc r) = V9 m hpre d (Proc.devRef .tc r) := by
  simp only [List.forall_mem_cons] at h
  exact Function.update_of_ne (StableHlo.devRef_ne_of_ne h.1) _ _

def V11 (hpre : PreOK m) (d : Dev nD) : Valuation τ sig (Elt F) := host6 (V10 m hpre d)
theorem V11_keep (hpre : PreOK m) (d : Dev nD) {r : Ref sig .tc} (h : ∀ x ∈ ([main_v32, main_v33, main_v34, main_v35, main_v36] : List (Ref sig .tc)), r ≠ x) : V11 m hpre d (Proc.devRef .tc r) = V10 m hpre d (Proc.devRef .tc r) := host6_keep h _

def V12 (hpre : PreOK m) (d : Dev nD) : Valuation τ sig (Elt F) := afterAt 3 (V11 m hpre d) 2 d
theorem V12_keep (hpre : PreOK m) (d : Dev nD) {r : Ref sig .tc} (h : ∀ x ∈ ([main_v37_0, main_v37_1] : List (Ref sig .tc)), r ≠ x) : V12 m hpre d (Proc.devRef .tc r) = V11 m hpre d (Proc.devRef .tc r) := by
  simp only [List.forall_mem_cons] at h
  exact after_keep (good_3 (V11 m hpre d) ((K (F := F)).Otc d 2) (8 * 2)) d (show ∀ w, (cfg5.win w).isOut = true → Pipeline.arrRef spec5 w = main_v37_0 ∨ Pipeline.arrRef spec5 w = main_v37_1 from by decide) h.1 h.2.1

def V13 (hpre : PreOK m) (d : Dev nD) : Valuation τ sig (Elt F) := host7 (V12 m hpre d)
theorem V13_keep (hpre : PreOK m) (d : Dev nD) {r : Ref sig .tc} (h : ∀ x ∈ ([main_v38, main_v39, main_v40, main_v41, main_v42, main_v43, main_v44] : List (Ref sig .tc)), r ≠ x) : V13 m hpre d (Proc.devRef .tc r) = V12 m hpre d (Proc.devRef .tc r) := host7_keep h _

def V14 (hpre : PreOK m) (d : Dev nD) : Valuation τ sig (Elt F) := afterAt 4 (V13 m hpre d) 2 d
theorem V14_keep (hpre : PreOK m) (d : Dev nD) {r : Ref sig .tc} (h : ∀ x ∈ ([main_v45_0, main_v45_1] : List (Ref sig .tc)), r ≠ x) : V14 m hpre d (Proc.devRef .tc r) = V13 m hpre d (Proc.devRef .tc r) := by
  simp only [List.forall_mem_cons] at h
  exact after_keep (good_4 (V13 m hpre d) ((K (F := F)).Otc d 2) (8 * 2)) d (show ∀ w, (cfg6.win w).isOut = true → Pipeline.arrRef spec6 w = main_v45_0 ∨ Pipeline.arrRef spec6 w = main_v45_1 from by decide) h.1 h.2.1

def V15 (hpre : PreOK m) (d : Dev nD) : Valuation τ sig (Elt F) := host8 (V14 m hpre d)
theorem V15_keep (hpre : PreOK m) (d : Dev nD) {r : Ref sig .tc} (h : ∀ x ∈ ([main_v46, main_v47] : List (Ref sig .tc)), r ≠ x) : V15 m hpre d (Proc.devRef .tc r) = V14 m hpre d (Proc.devRef .tc r) := host8_keep h _

theorem listC (hpre : PreOK m) (d : Dev nD) (y : S1x131072.Idx) : ((V15 m hpre d C.l' : S1x131072.Idx → Elt F .i32) y : BitVec 32).toNat < 8192 := by
  have e : V15 m hpre d C.l' = shapeCast S1x131072 (m ((SparseCore.T d).loc main_arg4)) shapeCasts_S2x4096x16_S1x131072 := by
    unfold V15 host8
    rw [StableHlo.reshape_result, StableHlo.reshape_result_ne (h := by decide), V14_keep m hpre d (by decide), V13_keep m hpre d (by decide), V12_keep m hpre d (by decide), V11_keep m hpre d (by decide), V10_keep m hpre d (by decide), V9_keep m hpre d (by decide), V8_keep m hpre d (by decide), V7_keep m hpre d (by decide), V6_keep m hpre d (by decide), V5_keep m hpre d (by decide), V4_keep m hpre d (by decide), V3_keep m d (by decide), V2_keep m d (by decide), V1_keep m d (by decide)]
    rfl
  rw [e]; exact hpre.1 d _

/-- What the third gather takes. -/
def dataC (hpre : PreOK m) : Data F C.site where
  ft d := V15 m hpre d C.t'
  fl d := V15 m hpre d C.l'
  fo d := V15 m hpre d C.o'
  inTable d := listC m hpre d
def V16 (hpre : PreOK m) (d : Dev nD) : Valuation τ sig (Elt F) := Function.update (V15 m hpre d) C.o' ((dataC m hpre).want d)
theorem V16_keep (hpre : PreOK m) (d : Dev nD) {r : Ref sig .tc} (h : ∀ x ∈ ([main_v48] : List (Ref sig .tc)), r ≠ x) : V16 m hpre d (Proc.devRef .tc r) = V15 m hpre d (Proc.devRef .tc r) := by
  simp only [List.forall_mem_cons] at h
  exact Function.update_of_ne (StableHlo.devRef_ne_of_ne h.1) _ _

def V17 (hpre : PreOK m) (d : Dev nD) : Valuation τ sig (Elt F) := host9 (V16 m hpre d)
theorem V17_keep (hpre : PreOK m) (d : Dev nD) {r : Ref sig .tc} (h : ∀ x ∈ ([main_v49, main_v50, main_v51] : List (Ref sig .tc)), r ≠ x) : V17 m hpre d (Proc.devRef .tc r) = V16 m hpre d (Proc.devRef .tc r) := host9_keep h _

def V18 (hpre : PreOK m) (d : Dev nD) : Valuation τ sig (Elt F) := afterAt 5 (V17 m hpre d) 3 d
theorem V18_keep (hpre : PreOK m) (d : Dev nD) {r : Ref sig .tc} (h : ∀ x ∈ ([main_v52_0, main_v52_1] : List (Ref sig .tc)), r ≠ x) : V18 m hpre d (Proc.devRef .tc r) = V17 m hpre d (Proc.devRef .tc r) := by
  simp only [List.forall_mem_cons] at h
  exact after_keep (good_5 (V17 m hpre d) ((K (F := F)).Otc d 3) (8 * 3)) d (show ∀ w, (cfg8.win w).isOut = true → Pipeline.arrRef spec8 w = main_v52_0 ∨ Pipeline.arrRef spec8 w = main_v52_1 from by decide) h.1 h.2.1

/-- A buffer no step of the program writes. -/
theorem keep_all (hpre : PreOK m) (d : Dev nD) {r : Ref sig .tc} (h : ∀ x ∈ ([main_v0, main_v1, main_v2, main_v3, main_v4, main_v5, main_v6, main_v7, main_v8, main_v9, main_v10, main_v12, main_v13, main_v15, main_v16, main_v17, main_v18, main_v19, main_v21, main_v22, main_v23, main_v24, main_v25, main_v26, main_v27, main_v29, main_v30, main_v32, main_v33, main_v34, main_v35, main_v36, main_v38, main_v39, main_v40, main_v41, main_v42, main_v43, main_v44, main_v46, main_v47, main_v49, main_v50, main_v51, main_v11_0, main_v11_1, main_v20_0, main_v20_1, main_v28_0, main_v28_1, main_v37_0, main_v37_1, main_v45_0, main_v45_1, main_v52_0, main_v52_1, main_v14, main_v31, main_v48] : List (Ref sig .tc)), r ≠ x) :
    V18 m hpre d (Proc.devRef .tc r) = m ((SparseCore.T d).loc r) := by
  rw [V18_keep (h := fun x hx => h x (by revert x; decide)), V17_keep (h := fun x hx => h x (by revert x; decide)), V16_keep (h := fun x hx => h x (by revert x; decide)), V15_keep (h := fun x hx => h x (by revert x; decide)), V14_keep (h := fun x hx => h x (by revert x; decide)), V13_keep (h := fun x hx => h x (by revert x; decide)), V12_keep (h := fun x hx => h x (by revert x; decide)), V11_keep (h := fun x hx => h x (by revert x; decide)), V10_keep (h := fun x hx => h x (by revert x; decide)), V9_keep (h := fun x hx => h x (by revert x; decide)), V8_keep (h := fun x hx => h x (by revert x; decide)), V7_keep (h := fun x hx => h x (by revert x; decide)), V6_keep (h := fun x hx => h x (by revert x; decide)), V5_keep (h := fun x hx => h x (by revert x; decide)), V4_keep (h := fun x hx => h x (by revert x; decide)), V3_keep (h := fun x hx => h x (by revert x; decide)), V2_keep (h := fun x hx => h x (by revert x; decide)), V1_keep (h := fun x hx => h x (by revert x; decide))]
  rfl

end Cert.Kernel.Launch

end
-- ==== Proof.Launch.lean ====
/-
  The program's run: every thread's part of it, and the buffers' contents at its end.
-/
module

public import proofs.«01_k».proof.Proof.Steps

@[expose] public section

set_option maxRecDepth 16384

noncomputable section

namespace Cert.Kernel.Launch

open Cert.Kernel Cert.Kernel.Gen Cert.Kernel.Words Cert.Kernel.Slots Cert.Kernel.Moves Cert.Kernel.Trip Cert.Kernel.Kern Cert.Kernel.Setup Cert.Kernel.Tile Cert.Kernel.Region Cert.Kernel.Sites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs cellsGhost toksInit pin)
open Idealize.ShloMosaic.Tactic

variable {F : FTy → Type}

local notation "𝕄" => MT nD τ sig (HIx 3) (Elt F) ℕ UU ℕ

variable [FloatOps F] (m : (ℓ : Loc nD τ sig) → Buf (Elt F) ℓ) (ρ : Dev nD → PrngReg)

/-- What the gathers hand over in this program. -/
abbrev PP (hpre : PreOK m) : (K (F := F)).Pay (nD := nD) (Val := Elt F) (Name := ℕ) (U := UU) := P (dataA m hpre) (dataB m hpre) (dataC m hpre)

/-! ## The launch's ghost state -/

def u₀ : UU := (initOf (K (F := F)).hsCells (K (F := F)).hsToks,
  (initOf (Pipeline.cells (pin (pcfgs (F := F)) adm) cells_inj) (Pipeline.launchToks (pin (pcfgs (F := F)) adm) cells_inj), 1))

/-- What the TensorCore calls take at the launch. -/
abbrev G (d : Dev nD) : sProp 𝕄 := iprop(Gh (F := F) 0 d ∗ Gh (F := F) 1 d ∗ Gh (F := F) 2 d ∗ Gh (F := F) 3 d ∗ Gh (F := F) 4 d ∗ Gh (F := F) 5 d)

omit [FloatOps F] in
theorem bigSep_six (f : Fin 6 → sProp 𝕄) : bigSep Finset.univ f = iprop(f 0 ∗ f 1 ∗ f 2 ∗ f 3 ∗ f 4 ∗ f 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

omit [FloatOps F] in
theorem bigSep_emp' {I : Type} (s : Finset I) : (bigSep s fun _ => iprop(emp)) = (iprop(emp) : sProp 𝕄) := bigSep_emp_const s

omit [FloatOps F] in
theorem G_eq (d : Dev nD) : G (F := F) d = iprop((bigSep Finset.univ fun p : Fin 6 => cellsGhost (pin (pcfgs (F := F)) adm) EP p d) ∗ bigSep Finset.univ fun p : Fin 6 => toksInit (pin (pcfgs (F := F)) adm) EP p d) := by
  rw [← bigSep_sep', bigSep_six]

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (PP m hpre).x q thr) := by
  unfold u₀
  iintro Hu
  ihave H := (ownU_pair (initOf (K (F := F)).hsCells (K (F := F)).hsToks) ((initOf (Pipeline.cells (pin (pcfgs (F := F)) adm) cells_inj) (Pipeline.launchToks (pin (pcfgs (F := F)) adm) cells_inj), (1 : Counters)) : UP × Counters)) $$ Hu
  icases H with ⟨HH, HP⟩
  ihave H := (own_pair_emb (embR : Emb (UP × Counters) 𝕄) (initOf (Pipeline.cells (pin (pcfgs (F := F)) adm) cells_inj) (Pipeline.launchToks (pin (pcfgs (F := F)) adm) cells_inj)) (1 : Counters)) $$ HP
  icases H with ⟨HP, -⟩
  imod (Pipeline.fund_ghost (pin (pcfgs (F := F)) adm) EP cells_inj) $$ HP with ⟨Hg, Ht⟩
  imodintro
  isplitl [HH]; · iexact HH
  isplitl [Hg Ht]
  · simp only [G_eq, bigSep_sep']
    isplitl [Hg]; · iexact Hg
    iexact Ht
  rw [show (bigSep Finset.univ fun thr : Thread nD τ => bigSep Finset.univ fun q : Fin 3 => (PP (F := F) m hpre).x q thr) = bigSep Finset.univ fun _ => iprop(emp) from
    bigSep_congr fun _ _ => bigSep_emp' _, bigSep_emp']
  iempintro

/-! ## @main on the TensorCore -/

abbrev FIN (hpre : PreOK m) (d : Dev nD) : sProp 𝕄 := held (T d) (ucRefs τ sig) (V18 m hpre d)

abbrev sems (d : Dev nD) : sProp 𝕄 := (K (F := F)).tcSems0 d

abbrev Wp (d : Dev nD) (e : Prog (TpuEff nD τ sig (Elt F) (SparseCore.Sig (ΛP (F := F)) 3) .tc) PUnit) (Q : PUnit → sProp 𝕄) : sProp 𝕄 :=
  wp frame (wpE ((K (F := F)).defs (D (F := F))) 𝒱 (T d) none) Set.univ e Q

theorem steps (hpre : PreOK m) (κ : GSem nD τ sig → ℕ) (d : Dev nD) :
    At (PP m hpre) κ 0 d (V0 m d) iprop(Gh (F := F) 0 d ∗ Gh (F := F) 1 d ∗ Gh (F := F) 2 d ∗ Gh (F := F) 3 d ∗ Gh (F := F) 4 d ∗ Gh (F := F) 5 d ∗ sems (F := F) d)
      ⊢ Wp d (main d) fun _ => iprop(At (PP m hpre) κ 3 d (V18 m hpre d) (sems (F := F) d)) := by
  unfold Wp
  simp only [main, wp_bind, wp_pure]
  refine step_host (op := op0) op0_bufs rfl ?_
  refine step_host (op := op1) op1_bufs rfl ?_
  refine step_host (op := op2) op2_bufs rfl ?_
  refine step_host (op := op3) op3_bufs rfl ?_
  refine step_host (op := op4) op4_bufs rfl ?_
  refine step_host (op := op5) op5_bufs rfl ?_
  refine step_host (op := op6) op6_bufs rfl ?_
  refine step_host (op := op7) op7_bufs rfl ?_
  refine step_host (op := op8) op8_bufs rfl ?_
  refine step_host (op := op9) op9_bufs rfl ?_
  refine step_host (op := op10) op10_bufs rfl ?_
  change At _ κ _ d (V1 m d) _ ⊢ _
  refine step_tc (good_0 (V1 m d) ((K (F := F)).Otc d 0) (8 * 0)) ?_
  change At _ κ _ d (V2 m d) _ ⊢ _
  refine step_host (op := op12) op12_bufs rfl ?_
  refine step_host (op := op13) op13_bufs rfl ?_
  change At _ κ _ d (V3 m d) _ ⊢ _
  refine step_0 (dataA m hpre) (dataB m hpre) (dataC m hpre) rfl rfl rfl ?_
  change At _ κ _ d (V4 m hpre d) _ ⊢ _
  refine step_host (op := op15) op15_bufs rfl ?_
  refine step_host (op := op16) op16_bufs rfl ?_
  refine step_host (op := op17) op17_bufs rfl ?_
  refine step_host (op := op18) op18_bufs rfl ?_
  refine step_host (op := op19) op19_bufs rfl ?_
  change At _ κ _ d (V5 m hpre d) _ ⊢ _
  refine step_tc (good_1 (V5 m hpre d) ((K (F := F)).Otc d 1) (8 * 1)) ?_
  change At _ κ _ d (V6 m hpre d) _ ⊢ _
  refine step_host (op := op21) op21_bufs rfl ?_
  refine step_host (op := op22) op22_bufs rfl ?_
  refine step_host (op := op23) op23_bufs rfl ?_
  refine step_host (op := op24) op24_bufs rfl ?_
  refine step_host (op := op25) op25_bufs rfl ?_
  refine step_host (op := op26) op26_bufs rfl ?_
  refine step_host (op := op27) op27_bufs rfl ?_
  change At _ κ _ d (V7 m hpre d) _ ⊢ _
  refine step_tc (good_2 (V7 m hpre d) ((K (F := F)).Otc d 1) (8 * 1)) ?_
  change At _ κ _ d (V8 m hpre d) _ ⊢ _
  refine step_host (op := op29) op29_bufs rfl ?_
  refine step_host (op := op30) op30_bufs rfl ?_
  change At _ κ _ d (V9 m hpre d) _ ⊢ _
  refine step_1 (dataA m hpre) (dataB m hpre) (dataC m hpre) rfl rfl rfl ?_
  change At _ κ _ d (V10 m hpre d) _ ⊢ _
  refine step_host (op := op32) op32_bufs rfl ?_
  refine step_host (op := op33) op33_bufs rfl ?_
  refine step_host (op := op34) op34_bufs rfl ?_
  refine step_host (op := op35) op35_bufs rfl ?_
  refine step_host (op := op36) op36_bufs rfl ?_
  change At _ κ _ d (V11 m hpre d) _ ⊢ _
  refine step_tc (good_3 (V11 m hpre d) ((K (F := F)).Otc d 2) (8 * 2)) ?_
  change At _ κ _ d (V12 m hpre d) _ ⊢ _
  refine step_host (op := op38) op38_bufs rfl ?_
  refine step_host (op := op39) op39_bufs rfl ?_
  refine step_host (op := op40) op40_bufs rfl ?_
  refine step_host (op := op41) op41_bufs rfl ?_
  refine step_host (op := op42) op42_bufs rfl ?_
  refine step_host (op := op43) op43_bufs rfl ?_
  refine step_host (op := op44) op44_bufs rfl ?_
  change At _ κ _ d (V13 m hpre d) _ ⊢ _
  refine step_tc (good_4 (V13 m hpre d) ((K (F := F)).Otc d 2) (8 * 2)) ?_
  change At _ κ _ d (V14 m hpre d) _ ⊢ _
  refine step_host (op := op46) op46_bufs rfl ?_
  refine step_host (op := op47) op47_bufs rfl ?_
  change At _ κ _ d (V15 m hpre d) _ ⊢ _
  refine step_2 (dataA m hpre) (dataB m hpre) (dataC m hpre) rfl rfl rfl ?_
  change At _ κ _ d (V16 m hpre d) _ ⊢ _
  refine step_host (op := op49) op49_bufs rfl ?_
  refine step_host (op := op50) op50_bufs rfl ?_
  refine step_host (op := op51) op51_bufs rfl ?_
  change At _ κ _ d (V17 m hpre d) _ ⊢ _
  refine step_tc (good_5 (V17 m hpre d) ((K (F := F)).Otc d 3) (8 * 3)) ?_
  change At _ κ _ d (V18 m hpre d) _ ⊢ _
  iintro H; imodintro; iexact H

theorem hmain (hpre : PreOK m) (κ : GSem nD τ sig → ℕ) (d : Dev nD) :
    iprop((K (F := F)).ctx EH (PP m hpre) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 3 ∗ FIN m hpre d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from Pipeline.unscopedBufs_held d (V0 m d)]
  have h : iprop((K (F := F)).ctx EH (PP m hpre) κ ∗ (K (F := F)).tcSt EH d 0 ∗ (boundary (SparseCore.T d) ∗ held (SparseCore.T d) (ucRefs τ sig) (V0 m d) ∗ (K (F := F)).tcSems0 d ∗ prngReg d (ρ d)) ∗ G d)
      ⊢ At (PP m hpre) κ 0 d (V0 m d) iprop(Gh (F := F) 0 d ∗ Gh (F := F) 1 d ∗ Gh (F := F) 2 d ∗ Gh (F := F) 3 d ∗ Gh (F := F) 4 d ∗ Gh (F := F) 5 d ∗ sems (F := F) d) := by
    iintro ⟨Hctx, Hst, ⟨Hb, Hheld, Hts, -⟩, H0, H1, H2, H3, H4, H5⟩
    isplitl [Hctx]; · iexact Hctx
    isplitl [Hst]; · iexact Hst
    isplitl [Hb]; · iexact Hb
    isplitl [Hheld]; · iexact Hheld
    isplitl [H0]; · iexact H0
    isplitl [H1]; · iexact H1
    isplitl [H2]; · iexact H2
    isplitl [H3]; · iexact H3
    isplitl [H4]; · iexact H4
    isplitl [H5]; · iexact H5
    iexact Hts
  have h' : At (PP m hpre) κ 3 d (V18 m hpre d) (sems (F := F) d) ⊢ iprop((K (F := F)).tcSt EH d 3 ∗ FIN m hpre d ∗ (boundary (SparseCore.T d) ∗ (K (F := F)).tcSems0 d)) := by
    iintro ⟨-, Hst, Hb, Hheld, Hts⟩
    isplitl [Hst]; · iexact Hst
    isplitl [Hheld]; · iexact Hheld
    isplitl [Hb]; · iexact Hb
    iexact Hts
  exact h.trans ((steps m hpre κ d).trans (wp_mono frame _ _ fun _ => h'))

def fq (hpre : PreOK m) (d : Dev nD) (s' : Phys nD τ sig (Elt F)) : Prop :=
  ∀ b ∈ ucRefs τ sig, s'.mem.mem (d, b) = V18 m hpre d b

theorem hfin (hpre : PreOK m) (d : Dev nD) (s' : Phys nD τ sig (Elt F)) : iprop(FIN m hpre d ∗ SI s') ⊢ (⌜fq m hpre d s'⌝ : sProp 𝕄) :=
  (pointsTo_read_all (ucRefs τ sig) (fun b => ((d, b) : Loc nD τ sig)) (fun b => V18 m hpre d b) s').trans sep_elim_left

/-! ## The program's run -/

def QC (hpre : PreOK m) : PUnit × MemSt nD τ sig (Elt F) → Prop :=
  fun r => (∀ c : Dev nD, ∀ b ∈ ucRefs τ sig, r.2.mem (c, b) = V18 m hpre c b) ∧ r.2.sem = fun _ => 0

theorem run_main [∀ e, Nonempty (Elt F e)] (hpre : PreOK m) :
    θ_run (Cert.Kernel.defs (F := F)) (Cert.Kernel.threads (F := F)) ⟨m, fun _ => 0, ρ⟩ (QC m hpre) :=
  SparseCore.Cfg.θ_run_sc_quiescent (K := K (F := F)) (D := D (F := F)) (𝒱 := 𝒱) (EH := EH) (P := PP m hpre) (A := ∅) facts v₀
    (fun q hq => match q with | 0 => nomatch hq | 1 => nomatch hq | 2 => nomatch hq)
    (fun q _ => tileObl (dataA m hpre) (dataB m hpre) (dataC m hpre) q)
    (fun q _ => SparseCore.Cfg.VecSplit.of_plain (vecSplit (dataA m hpre) (dataB m hpre) (dataC m hpre) q))
    m ρ main (fun d => G d) (FIN m hpre) (u₀ (F := F)) (sep_elim_left.trans (hu₀ m hpre)) (hmain m ρ hpre) (fq m hpre) (hfin m hpre) (QC m hpre) (fun _ h hz => ⟨h, hz⟩)

/-- A buffer no step of the program writes, after the run. -/
theorem kept {m : (ℓ : Loc nD τ sig) → Buf (Elt F) ℓ} {hpre : PreOK m} {r : PUnit × MemSt nD τ sig (Elt F)} (e : QC m hpre r) (c : Dev nD)
    {b : Ref sig .tc} (h : ∀ x ∈ ([main_v0, main_v1, main_v2, main_v3, main_v4, main_v5, main_v6, main_v7, main_v8, main_v9, main_v10, main_v12, main_v13, main_v15, main_v16, main_v17, main_v18, main_v19, main_v21, main_v22, main_v23, main_v24, main_v25, main_v26, main_v27, main_v29, main_v30, main_v32, main_v33, main_v34, main_v35, main_v36, main_v38, main_v39, main_v40, main_v41, main_v42, main_v43, main_v44, main_v46, main_v47, main_v49, main_v50, main_v51, main_v11_0, main_v11_1, main_v20_0, main_v20_1, main_v28_0, main_v28_1, main_v37_0, main_v37_1, main_v45_0, main_v45_1, main_v52_0, main_v52_1, main_v14, main_v31, main_v48] : List (Ref sig .tc)), b ≠ x)
    (hu : b.isScoped = false) : r.2.mem ((c.tc : Thread nD τ).loc b) = m ((c.tc : Thread nD τ).loc b) :=
  (e.1 c _ (uc_mem hu)).trans (keep_all m hpre c h)

theorem kept_args {m : (ℓ : Loc nD τ sig) → Buf (Elt F) ℓ} {hpre : PreOK m} {r : PUnit × MemSt nD τ sig (Elt F)} (e : QC m hpre r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) :=
  ⟨kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl, kept e c (by decide) rfl⟩

end Cert.Kernel.Launch

end
-- ==== Proof.SamePrep.lean ====
/-
  Two of the TensorCore bodies as the idealization has them are the kernel's.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem row_0 (a) : @Cert.KernelIdeal.defs₀ F _ _ .tc (⟨0, by decide⟩ : Fin 9) a = @Cert.Kernel.defs₀ F _ _ .tc (⟨0, by decide⟩ : Fin 9) a := rfl

theorem row_3 (a) : @Cert.KernelIdeal.defs₀ F _ _ .tc (⟨3, by decide⟩ : Fin 9) a = @Cert.Kernel.defs₀ F _ _ .tc (⟨3, by decide⟩ : Fin 9) a := rfl

end Cert.Same

end
-- ==== Proof.SameMlp.lean ====
/-
  Two of the TensorCore bodies as the idealization has them are the kernel's.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem row_2 (a) : @Cert.KernelIdeal.defs₀ F _ _ .tc (⟨2, by decide⟩ : Fin 9) a = @Cert.Kernel.defs₀ F _ _ .tc (⟨2, by decide⟩ : Fin 9) a := rfl

theorem row_5 (a) : @Cert.KernelIdeal.defs₀ F _ _ .tc (⟨5, by decide⟩ : Fin 9) a = @Cert.Kernel.defs₀ F _ _ .tc (⟨5, by decide⟩ : Fin 9) a := rfl

end Cert.Same

end
-- ==== Proof.SameWide.lean ====
/-
  Two of the TensorCore bodies as the idealization has them are the kernel's.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem row_6 (a) : @Cert.KernelIdeal.defs₀ F _ _ .tc (⟨6, by decide⟩ : Fin 9) a = @Cert.Kernel.defs₀ F _ _ .tc (⟨6, by decide⟩ : Fin 9) a := rfl

theorem row_8 (a) : @Cert.KernelIdeal.defs₀ F _ _ .tc (⟨8, by decide⟩ : Fin 9) a = @Cert.Kernel.defs₀ F _ _ .tc (⟨8, by decide⟩ : Fin 9) a := rfl

end Cert.Same

end
-- ==== Proof.SameGather.lean ====
/-
  The gather as the idealization has it is the kernel's, each of its three times.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem row_1 (c s) (a) : @Cert.KernelIdeal.defs₀ F _ _ (.scVector c s) (⟨1, by decide⟩ : Fin 9) a = @Cert.Kernel.defs₀ F _ _ (.scVector c s) (⟨1, by decide⟩ : Fin 9) a := rfl

theorem row_4 (c s) (a) : @Cert.KernelIdeal.defs₀ F _ _ (.scVector c s) (⟨4, by decide⟩ : Fin 9) a = @Cert.Kernel.defs₀ F _ _ (.scVector c s) (⟨4, by decide⟩ : Fin 9) a := rfl

theorem row_7 (c s) (a) : @Cert.KernelIdeal.defs₀ F _ _ (.scVector c s) (⟨7, by decide⟩ : Fin 9) a = @Cert.Kernel.defs₀ F _ _ (.scVector c s) (⟨7, by decide⟩ : Fin 9) a := rfl

end Cert.Same

end
-- ==== Proof.SameScalar.lean ====
/-
  What the idealization gives a sequencer to run is what the kernel does.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem scalar_0 (c) (a) : @Cert.KernelIdeal.defs₀ F _ _ (.scScalar c) (⟨0, by decide⟩ : Fin 9) a = @Cert.Kernel.defs₀ F _ _ (.scScalar c) (⟨0, by decide⟩ : Fin 9) a := rfl

theorem scalar_1 (c) (a) : @Cert.KernelIdeal.defs₀ F _ _ (.scScalar c) (⟨1, by decide⟩ : Fin 9) a = @Cert.Kernel.defs₀ F _ _ (.scScalar c) (⟨1, by decide⟩ : Fin 9) a := rfl

theorem scalar_2 (c) (a) : @Cert.KernelIdeal.defs₀ F _ _ (.scScalar c) (⟨2, by decide⟩ : Fin 9) a = @Cert.Kernel.defs₀ F _ _ (.scScalar c) (⟨2, by decide⟩ : Fin 9) a := rfl

theorem scalar_3 (c) (a) : @Cert.KernelIdeal.defs₀ F _ _ (.scScalar c) (⟨3, by decide⟩ : Fin 9) a = @Cert.Kernel.defs₀ F _ _ (.scScalar c) (⟨3, by decide⟩ : Fin 9) a := rfl

theorem scalar_4 (c) (a) : @Cert.KernelIdeal.defs₀ F _ _ (.scScalar c) (⟨4, by decide⟩ : Fin 9) a = @Cert.Kernel.defs₀ F _ _ (.scScalar c) (⟨4, by decide⟩ : Fin 9) a := rfl

end Cert.Same

end
-- ==== Proof.SameScalarRest.lean ====
/-
  What the idealization gives a sequencer to run is what the kernel does, the later calls.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem scalar_5 (c) (a) : @Cert.KernelIdeal.defs₀ F _ _ (.scScalar c) (⟨5, by decide⟩ : Fin 9) a = @Cert.Kernel.defs₀ F _ _ (.scScalar c) (⟨5, by decide⟩ : Fin 9) a := rfl

theorem scalar_6 (c) (a) : @Cert.KernelIdeal.defs₀ F _ _ (.scScalar c) (⟨6, by decide⟩ : Fin 9) a = @Cert.Kernel.defs₀ F _ _ (.scScalar c) (⟨6, by decide⟩ : Fin 9) a := rfl

theorem scalar_7 (c) (a) : @Cert.KernelIdeal.defs₀ F _ _ (.scScalar c) (⟨7, by decide⟩ : Fin 9) a = @Cert.Kernel.defs₀ F _ _ (.scScalar c) (⟨7, by decide⟩ : Fin 9) a := rfl

theorem scalar_8 (c) (a) : @Cert.KernelIdeal.defs₀ F _ _ (.scScalar c) (⟨8, by decide⟩ : Fin 9) a = @Cert.Kernel.defs₀ F _ _ (.scScalar c) (⟨8, by decide⟩ : Fin 9) a := rfl

end Cert.Same

end
-- ==== Proof.SameVector.lean ====
/-
  What the idealization gives a vector subcore to run outside the gathers is what the kernel does.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem vector_0 (c s) (a) : @Cert.KernelIdeal.defs₀ F _ _ (.scVector c s) (⟨0, by decide⟩ : Fin 9) a = @Cert.Kernel.defs₀ F _ _ (.scVector c s) (⟨0, by decide⟩ : Fin 9) a := rfl

theorem vector_2 (c s) (a) : @Cert.KernelIdeal.defs₀ F _ _ (.scVector c s) (⟨2, by decide⟩ : Fin 9) a = @Cert.Kernel.defs₀ F _ _ (.scVector c s) (⟨2, by decide⟩ : Fin 9) a := rfl

theorem vector_3 (c s) (a) : @Cert.KernelIdeal.defs₀ F _ _ (.scVector c s) (⟨3, by decide⟩ : Fin 9) a = @Cert.Kernel.defs₀ F _ _ (.scVector c s) (⟨3, by decide⟩ : Fin 9) a := rfl

theorem vector_5 (c s) (a) : @Cert.KernelIdeal.defs₀ F _ _ (.scVector c s) (⟨5, by decide⟩ : Fin 9) a = @Cert.Kernel.defs₀ F _ _ (.scVector c s) (⟨5, by decide⟩ : Fin 9) a := rfl

theorem vector_6 (c s) (a) : @Cert.KernelIdeal.defs₀ F _ _ (.scVector c s) (⟨6, by decide⟩ : Fin 9) a = @Cert.Kernel.defs₀ F _ _ (.scVector c s) (⟨6, by decide⟩ : Fin 9) a := rfl

theorem vector_8 (c s) (a) : @Cert.KernelIdeal.defs₀ F _ _ (.scVector c s) (⟨8, by decide⟩ : Fin 9) a = @Cert.Kernel.defs₀ F _ _ (.scVector c s) (⟨8, by decide⟩ : Fin 9) a := rfl

end Cert.Same

end
-- ==== Proof.SameTensor.lean ====
/-
  What the idealization gives the TensorCore to run at the gathers is what the kernel does.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem tensor_1 (a) : @Cert.KernelIdeal.defs₀ F _ _ .tc (⟨1, by decide⟩ : Fin 9) a = @Cert.Kernel.defs₀ F _ _ .tc (⟨1, by decide⟩ : Fin 9) a := rfl

theorem tensor_4 (a) : @Cert.KernelIdeal.defs₀ F _ _ .tc (⟨4, by decide⟩ : Fin 9) a = @Cert.Kernel.defs₀ F _ _ .tc (⟨4, by decide⟩ : Fin 9) a := rfl

theorem tensor_7 (a) : @Cert.KernelIdeal.defs₀ F _ _ .tc (⟨7, by decide⟩ : Fin 9) a = @Cert.Kernel.defs₀ F _ _ .tc (⟨7, by decide⟩ : Fin 9) a := rfl

end Cert.Same

end
-- ==== Proof.Same.lean ====
/-
  The idealization rewrites nothing: its program is the kernel's, the same text read twice. So what is proved of the one's
  run, at any instance, is proved of the other's.
-/
module

public import proofs.«01_k».proof.Proof.Gen.Kernel
public import proofs.«01_k».proof.Proof.Gen.KernelIdeal
public import proofs.«01_k».proof.Proof.SamePrep
public import proofs.«01_k».proof.Proof.SameMlp
public import proofs.«01_k».proof.Proof.SameWide
public import proofs.«01_k».proof.Proof.SameGather
public import proofs.«01_k».proof.Proof.SameScalar
public import proofs.«01_k».proof.Proof.SameScalarRest
public import proofs.«01_k».proof.Proof.SameVector
public import proofs.«01_k».proof.Proof.SameTensor

@[expose] public section

set_option maxRecDepth 100000
set_option maxHeartbeats 0

noncomputable section

namespace Cert.Same

open Idealize.ShloMosaic

variable {F : FTy → Type} [FloatOps F]

theorem defs₀_eq : @Cert.KernelIdeal.defs₀ F _ _ = @Cert.Kernel.defs₀ F _ _ := by
  funext p ℓ a
  rcases p with _ | c | ⟨c, s⟩
  ·
    match ℓ, a with
    | ⟨0, _⟩, a => exact row_0 a
    | ⟨1, _⟩, a => exact tensor_1 a
    | ⟨2, _⟩, a => exact row_2 a
    | ⟨3, _⟩, a => exact row_3 a
    | ⟨4, _⟩, a => exact tensor_4 a
    | ⟨5, _⟩, a => exact row_5 a
    | ⟨6, _⟩, a => exact row_6 a
    | ⟨7, _⟩, a => exact tensor_7 a
    | ⟨8, _⟩, a => exact row_8 a
  ·
    match ℓ, a with
    | ⟨0, _⟩, a => exact scalar_0 c a
    | ⟨1, _⟩, a => exact scalar_1 c a
    | ⟨2, _⟩, a => exact scalar_2 c a
    | ⟨3, _⟩, a => exact scalar_3 c a
    | ⟨4, _⟩, a => exact scalar_4 c a
    | ⟨5, _⟩, a => exact scalar_5 c a
    | ⟨6, _⟩, a => exact scalar_6 c a
    | ⟨7, _⟩, a => exact scalar_7 c a
    | ⟨8, _⟩, a => exact scalar_8 c a
  ·
    match ℓ, a with
    | ⟨0, _⟩, a => exact vector_0 c s a
    | ⟨1, _⟩, a => exact row_1 c s a
    | ⟨2, _⟩, a => exact vector_2 c s a
    | ⟨3, _⟩, a => exact vector_3 c s a
    | ⟨4, _⟩, a => exact row_4 c s a
    | ⟨5, _⟩, a => exact vector_5 c s a
    | ⟨6, _⟩, a => exact vector_6 c s a
    | ⟨7, _⟩, a => exact row_7 c s a
    | ⟨8, _⟩, a => exact vector_8 c s a

theorem defs_eq : @Cert.KernelIdeal.defs F _ _ = @Cert.Kernel.defs F _ _ := by
  unfold Cert.KernelIdeal.defs
  rw [defs₀_eq]
  rfl

end Cert.Same

end
-- ==== Proof.SameMain.lean ====
/-
  The host's program as the idealization has it is the kernel's.
-/
module

public import proofs.«01_k».proof.Proof.Gen.Kernel
public import proofs.«01_k».proof.Proof.Gen.KernelIdeal

@[expose] public section

set_option maxRecDepth 100000
set_option maxHeartbeats 0

noncomputable section

namespace Cert.Same

open Idealize.ShloMosaic

variable {F : FTy → Type} [FloatOps F]

theorem main_eq : @Cert.KernelIdeal.main F _ = @Cert.Kernel.main F _ := rfl

end Cert.Same

end
-- ==== Proof.SameThreads.lean ====
/-
  The idealization starts the threads the kernel does.
-/
module

public import proofs.«01_k».proof.Proof.Gen.Kernel
public import proofs.«01_k».proof.Proof.Gen.KernelIdeal
public import proofs.«01_k».proof.Proof.SameMain

@[expose] public section

set_option maxRecDepth 100000
set_option maxHeartbeats 0

noncomputable section

namespace Cert.Same

open Idealize.ShloMosaic

variable {F : FTy → Type} [FloatOps F]

theorem threads_eq : @Cert.KernelIdeal.threads F _ = @Cert.Kernel.threads F _ := by
  unfold Cert.KernelIdeal.threads Cert.Kernel.threads
  rw [main_eq]
  rfl

end Cert.Same

end
-- ==== Proof.Pre.lean ====
/-
  What the preconditions say: every entry of the neighbour lists names a row of the table, and the points and the weights
  that meet them are real numbers.
-/
module

public import proofs.«01_k».proof.Proof.Gen.Pre_rows_in_table
public import proofs.«01_k».proof.Proof.Gen.Pre_rows_in_table_finite
public import Idealize.ShloMosaic.Lib.ReduceAll
public import Idealize.ShloMosaic.Lib.Pointwise

@[expose] public section

noncomputable section

namespace Cert.Pre

open Idealize.ShloMosaic

theorem word_lt (v : BitVec 32) (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem both (x y : BitVec 1) (e : IntOp.andi x y = 1#1) : x = 1#1 ∧ y = 1#1 := by
  revert x y; decide

/-- An extended real below plus infinity in absolute value is a real number. -/
theorem real_of_abs (v : EReal) (e : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at e
  have h : max v (-v) < ⊤ := by
    by_contra h
    simp [Ideal.cmp, h] at e
  induction v with
  | bot => simp at h
  | top => simp at h
  | coe r => exact ⟨r, rfl⟩

theorem in_table {F : FTy → Type} [FloatOps F] (a0 : FVec F Cert.Pre_rows_in_table.S2x3x4096 .f32) (a1 : FVec F Cert.Pre_rows_in_table.S2x3x4096 .f32) (a2 : FVec F Cert.Pre_rows_in_table.S2x64x4096 .f32) (a3 : FVec F Cert.Pre_rows_in_table.S2x64x4096 .f32) (a4 : IVec Cert.Pre_rows_in_table.S2x4096x16 32) (a5 : IVec Cert.Pre_rows_in_table.S2x4096x16 32) (a6 : FVec F Cert.Pre_rows_in_table.S128x131 .f32) (a7 : FVec F Cert.Pre_rows_in_table.S128 .f32) (a8 : FVec F Cert.Pre_rows_in_table.S128x128 .f32) (a9 : FVec F Cert.Pre_rows_in_table.S128 .f32) (a10 : FVec F Cert.Pre_rows_in_table.S128x128 .f32) (a11 : FVec F Cert.Pre_rows_in_table.S128 .f32) (a12 : FVec F Cert.Pre_rows_in_table.S128x259 .f32) (a13 : FVec F Cert.Pre_rows_in_table.S128 .f32) (a14 : FVec F Cert.Pre_rows_in_table.S128x128 .f32) (a15 : FVec F Cert.Pre_rows_in_table.S128 .f32)
    (h : Cert.Pre_rows_in_table.fn a0 a1 a2 a3 a4 a5 a6 a7 a8 a9 a10 a11 a12 a13 a14 a15 = fun _ => 1#1) :
    (∀ j, (a4 j).toNat < 8192) ∧ ∀ j, (a5 j).toNat < 8192 := by
  have e := congrFun h (fun a => a.elim0)
  have : Subsingleton Cert.Pre_rows_in_table.S_.Idx := ⟨fun a b => funext fun k => k.elim0⟩
  obtain ⟨e4, e5⟩ := both _ _ e
  exact ⟨fun j => word_lt (a4 j) (Host.reduce_andi_all _ _ _ _ _ e4 j), fun j => word_lt (a5 j) (Host.reduce_andi_all _ _ _ _ _ e5 j)⟩

section Finite
open Cert.Pre_rows_in_table_finite

theorem in_table_finite (a0 : FVec Ideal S2x3x4096 .f32) (a1 : FVec Ideal S2x3x4096 .f32) (a2 : FVec Ideal S2x64x4096 .f32) (a3 : FVec Ideal S2x64x4096 .f32) (a4 : IVec S2x4096x16 32) (a5 : IVec S2x4096x16 32) (a6 : FVec Ideal S128x131 .f32) (a7 : FVec Ideal S128 .f32) (a8 : FVec Ideal S128x128 .f32) (a9 : FVec Ideal S128 .f32) (a10 : FVec Ideal S128x128 .f32) (a11 : FVec Ideal S128 .f32) (a12 : FVec Ideal S128x259 .f32) (a13 : FVec Ideal S128 .f32) (a14 : FVec Ideal S128x128 .f32) (a15 : FVec Ideal S128 .f32)
    (h : fn a0 a1 a2 a3 a4 a5 a6 a7 a8 a9 a10 a11 a12 a13 a14 a15 = fun _ => 1#1) :
    (∀ j, (a4 j).toNat < 8192) ∧ (∀ j, (a5 j).toNat < 8192) ∧ (∀ j, ∃ r : ℝ, a0 j = (r : EReal)) ∧ (∀ j, ∃ r : ℝ, a1 j = (r : EReal))
      ∧ (∀ (l : Fin 128) (k : Fin 3), ∃ r : ℝ, a6 (ix2 l ⟨128 + k.val, by omega⟩) = (r : EReal))
      ∧ ∀ (l : Fin 128) (k : Fin 3), ∃ r : ℝ, a12 (ix2 l ⟨256 + k.val, by omega⟩) = (r : EReal) := by
  have e := congrFun h (fun a => a.elim0)
  have : Subsingleton S_.Idx := ⟨fun a b => funext fun k => k.elim0⟩
  obtain ⟨e, e12⟩ := both _ _ e
  obtain ⟨e, e6⟩ := both _ _ e
  obtain ⟨e, e1⟩ := both _ _ e
  obtain ⟨e, e0⟩ := both _ _ e
  obtain ⟨e4, e5⟩ := both _ _ e
  refine ⟨fun j => word_lt (a4 j) (Host.reduce_andi_all _ _ _ _ _ e4 j), fun j => word_lt (a5 j) (Host.reduce_andi_all _ _ _ _ _ e5 j),
    fun j => real_of_abs _ (Host.reduce_andi_all _ _ _ _ _ e0 j), fun j => real_of_abs _ (Host.reduce_andi_all _ _ _ _ _ e1 j),
    fun l k => real_of_abs _ ?_, fun l k => real_of_abs _ ?_⟩
  · have e' : extractStridedSlice S128x3 ![0, 128] a6 Facts.slices_S128x131_S128x3_0_128 (ix2 l k) = a6 (ix2 l ⟨128 + k.val, by omega⟩) := by
      pointwise
    rw [← e']
    exact Host.reduce_andi_all _ _ _ _ _ e6 (ix2 l k)
  · have e' : extractStridedSlice S128x3 ![0, 256] a12 Facts.slices_S128x259_S128x3_0_256 (ix2 l k) = a12 (ix2 l ⟨256 + k.val, by omega⟩) := by
      pointwise
    rw [← e']
    exact Host.reduce_andi_all _ _ _ _ _ e12 (ix2 l k)

end Finite

end Cert.Pre

end
-- ==== Proof.Spec.lean ====
/-
  The layer of the network and the sum that the two texts split differently, over the extended reals.
-/
module

public import Idealize.ShloMosaic.Lib.Pointwise

@[expose] public section

noncomputable section

namespace Cert.Spec

open Idealize.ShloMosaic

/-- The leaky unit: a value that is not positive is scaled. -/
def leaky (v : EReal) : EReal := if 0 < v then v else Ideal.ofBits .f32 0x3DCCCCCD#32 * v

/-- One layer: the products with a row of the weights summed, the bias added, the leaky unit. -/
def layer {K : ℕ} (w : Fin 128 → Fin K → EReal) (b : Fin 128 → EReal) (a : Fin K → EReal) (l : Fin 128) : EReal :=
  leaky (∑ k, a k * w l k + b l)

/-- The greatest of the 16 neighbours' values. -/
def best (a : Fin 16 → EReal) : EReal := Finset.univ.fold max (Ideal.ofBits .f32 0xFF800000#32) a

theorem best_congr {a b : Fin 16 → EReal} (h : ∀ n, a n = b n) : best a = best b := by
  rw [show a = b from funext h]

theorem layer_congr {K : ℕ} {w w' : Fin 128 → Fin K → EReal} {b b' : Fin 128 → EReal} {a a' : Fin K → EReal} {l : Fin 128}
    (hw : ∀ l k, w l k = w' l k) (hb : ∀ l, b l = b' l) (ha : ∀ k, a k = a' k) : layer w b a l = layer w' b' a' l := by
  rw [show w = w' from funext fun l => funext (hw l), show b = b' from funext hb, show a = a' from funext ha]

/-- A difference of finite values distributes over a finite weight. -/
theorem sub_mul_finite (x y w : ℝ) : ((x : EReal) - y) * w = x * w + -((y : EReal) * w) := by
  rw [← EReal.coe_sub, ← EReal.coe_mul, ← EReal.coe_mul, ← EReal.coe_mul, ← EReal.coe_neg, ← EReal.coe_add]
  congr 1; ring

/-- The first layer's sum, split into what depends on the query and what depends on the neighbour. -/
theorem split_sum (A B b : EReal) (x y w : Fin 3 → ℝ) :
    A + (B + ((((y 0 : EReal) - x 0) * w 0 + ((y 1 : EReal) - x 1) * w 1) + ((y 2 : EReal) - x 2) * w 2)) + b
      = (B + (((y 0 : EReal) * w 0 + (y 1 : EReal) * w 1) + (y 2 : EReal) * w 2))
        + (A - (((x 0 : EReal) * w 0 + (x 1 : EReal) * w 1) + (x 2 : EReal) * w 2) + b) := by
  rw [sub_mul_finite, sub_mul_finite, sub_mul_finite, sub_eq_add_neg]
  simp only [← EReal.coe_mul, ← EReal.coe_add, ← EReal.coe_neg]
  rw [show ((y 0 * w 0 + -(x 0 * w 0) + (y 1 * w 1 + -(x 1 * w 1)) + (y 2 * w 2 + -(x 2 * w 2)) : ℝ) : EReal)
      = ((y 0 * w 0 + y 1 * w 1 + y 2 * w 2 : ℝ) : EReal) + ((-(x 0 * w 0 + x 1 * w 1 + x 2 * w 2) : ℝ) : EReal) by
    rw [← EReal.coe_add]; congr 1; ring]
  abel

end Cert.Spec

end
-- ==== Proof.Stages.lean ====
/-
  The three stages as functions of the program's arguments, over the extended reals.
-/
module

public import proofs.«01_k».proof.Proof.Spec

@[expose] public section

noncomputable section

namespace Cert.Spec

open Idealize.ShloMosaic

/-- A vector at each point of each cloud. -/
abbrev Pts (D : ℕ) := Fin 2 → Fin 4096 → Fin D → EReal

/-- The vector at a row of both clouds one after the other. -/
def atRow {D : ℕ} (p : Pts D) (r : Fin 8192) : Fin D → EReal := p ⟨r.val / 4096, by omega⟩ ⟨r.val % 4096, by omega⟩

/-- Three products summed. -/
def dot3 (x w : Fin 3 → EReal) : EReal := x 0 * w 0 + x 1 * w 1 + x 2 * w 2

/-- The part of the first layer's sum that depends on the query. -/
def querySum {D : ℕ} (p : Pts D) (x : Pts 3) (wa : Fin 128 → Fin D → EReal) (wc : Fin 128 → Fin 3 → EReal) (b : Fin 128 → EReal) : Pts 128 :=
  fun i j l => (∑ k, p i j k * wa l k) - dot3 (x i j) (wc l) + b l

/-- The part that depends on the neighbour. -/
def tableSum {D : ℕ} (p : Pts D) (x : Pts 3) (wb : Fin 128 → Fin D → EReal) (wc : Fin 128 → Fin 3 → EReal) : Pts 128 :=
  fun i j l => (∑ k, p i j k * wb l k) + dot3 (x i j) (wc l)

/-- The first layer's sum at a query and the row of a neighbour. -/
def firstSum {D : ℕ} (p1 p2 : Pts D) (x1 x2 : Pts 3) (wa wb : Fin 128 → Fin D → EReal) (wc : Fin 128 → Fin 3 → EReal) (b : Fin 128 → EReal)
    (i : Fin 2) (j : Fin 4096) (r : Fin 8192) (l : Fin 128) : EReal :=
  ((∑ k, p1 i j k * wa l k) + ((∑ k, atRow p2 r k * wb l k) + dot3 (fun k => atRow x2 r k - x1 i j k) (wc l))) + b l

/-- Finite vectors. -/
def Real {D : ℕ} {α β : Type} (x : α → β → Fin D → EReal) : Prop := ∀ i j k, ∃ r : ℝ, x i j k = r

/-- The first layer's sum is the neighbour's part and the query's part. -/
theorem firstSum_eq {D : ℕ} (p1 p2 : Pts D) {x1 x2 : Pts 3} (wa wb : Fin 128 → Fin D → EReal) {wc : Fin 128 → Fin 3 → EReal} (b : Fin 128 → EReal)
    (h1 : Real x1) (h2 : Real x2) (hw : ∀ l k, ∃ r : ℝ, wc l k = r) (i : Fin 2) (j : Fin 4096) (r : Fin 8192) (l : Fin 128) :
    atRow (tableSum p2 x2 wb wc) r l + querySum p1 x1 wa wc b i j l = firstSum p1 p2 x1 x2 wa wb wc b i j r l := by
  choose x hx using h1 i j
  choose y hy using h2 ⟨r.val / 4096, by omega⟩ ⟨r.val % 4096, by omega⟩
  choose w hw using hw l
  unfold firstSum querySum atRow tableSum dot3
  dsimp only
  rw [hx 0, hx 1, hx 2, hy 0, hy 1, hy 2, hw 0, hw 1, hw 2]
  exact (split_sum _ _ _ x y w).symm

/-- Two layers on the first layer's sum at each neighbour, and the greatest over the neighbours. -/
def stageTwo (first : Fin 2 → Fin 4096 → Fin 8192 → Fin 128 → EReal) (y : Fin 2 → Fin 4096 → Fin 16 → Fin 8192)
    (w1 : Fin 128 → Fin 128 → EReal) (b1 : Fin 128 → EReal) (w2 : Fin 128 → Fin 128 → EReal) (b2 : Fin 128 → EReal) : Pts 128 :=
  fun i j l => best fun n => layer w2 b2 (layer w1 b1 fun k => leaky (first i j (y i j n) k)) l

/-- One layer on it, and the greatest over the neighbours. -/
def stageOne (first : Fin 2 → Fin 4096 → Fin 8192 → Fin 128 → EReal) (y : Fin 2 → Fin 4096 → Fin 16 → Fin 8192)
    (w1 : Fin 128 → Fin 128 → EReal) (b1 : Fin 128 → EReal) : Pts 128 :=
  fun i j l => best fun n => layer w1 b1 (fun k => leaky (first i j (y i j n) k)) l

/-! ## The arguments -/

/-- The program's arguments. -/
structure Args where
  x1 : Vec Ideal ⟨3, ![2, 3, 4096]⟩ .f32
  x2 : Vec Ideal ⟨3, ![2, 3, 4096]⟩ .f32
  p1 : Vec Ideal ⟨3, ![2, 64, 4096]⟩ .f32
  p2 : Vec Ideal ⟨3, ![2, 64, 4096]⟩ .f32
  y12 : IVec ⟨3, ![2, 4096, 16]⟩ 32
  y21 : IVec ⟨3, ![2, 4096, 16]⟩ 32
  w0 : Vec Ideal ⟨2, ![128, 131]⟩ .f32
  b0 : Vec Ideal ⟨1, ![128]⟩ .f32
  w1 : Vec Ideal ⟨2, ![128, 128]⟩ .f32
  b1 : Vec Ideal ⟨1, ![128]⟩ .f32
  w2 : Vec Ideal ⟨2, ![128, 128]⟩ .f32
  b2 : Vec Ideal ⟨1, ![128]⟩ .f32
  u0 : Vec Ideal ⟨2, ![128, 259]⟩ .f32
  c0 : Vec Ideal ⟨1, ![128]⟩ .f32
  u1 : Vec Ideal ⟨2, ![128, 128]⟩ .f32
  c1 : Vec Ideal ⟨1, ![128]⟩ .f32

/-- The vectors of an argument that has them along its second axis. -/
def pts {D : ℕ} (x : Vec Ideal ⟨3, ![2, D, 4096]⟩ .f32) : Pts D := fun i j k => x (ix3 i k j)

/-- The vectors of an array that has them along its last axis. -/
def nc {D : ℕ} (x : Vec Ideal ⟨3, ![2, 4096, D]⟩ .f32) : Pts D := fun i j k => x (ix3 i j k)

/-- The first columns of a weight matrix. -/
def head {N : ℕ} (w : Vec Ideal ⟨2, ![128, N]⟩ .f32) (D : ℕ) (h : D ≤ N) : Fin 128 → Fin D → EReal := fun l k => w (ix2 l ⟨k.val, by omega⟩)

/-- Columns of a weight matrix from one on. -/
def part {N : ℕ} (w : Vec Ideal ⟨2, ![128, N]⟩ .f32) (o D : ℕ) (h : o + D ≤ N) : Fin 128 → Fin D → EReal := fun l k => w (ix2 l ⟨o + k.val, by omega⟩)

def mat (w : Vec Ideal ⟨2, ![128, 128]⟩ .f32) : Fin 128 → Fin 128 → EReal := fun l k => w (ix2 l k)
def vec (b : Vec Ideal ⟨1, ![128]⟩ .f32) : Fin 128 → EReal := fun l => b (ix1 l)

/-- The row a neighbour list names. -/
def rowAt (y : IVec ⟨3, ![2, 4096, 16]⟩ 32) (i : Fin 2) (j : Fin 4096) (n : Fin 16) : Fin 8192 := ⟨(y (ix3 i j n)).toNat % 8192, by omega⟩

theorem rowAt_eq (y : IVec ⟨3, ![2, 4096, 16]⟩ 32) (i : Fin 2) (j : Fin 4096) (n : Fin 16) (h : (y (ix3 i j n)).toNat < 8192) :
    rowAt y i j n = ⟨(y (ix3 i j n)).toNat, h⟩ := Fin.ext (Nat.mod_eq_of_lt h)

/-! ## The results -/

namespace Args
variable (A : Args)

/-- The first stage: the first cloud's features from the second's. -/
def one : Pts 128 :=
  stageTwo (firstSum (pts A.p1) (pts A.p2) (pts A.x1) (pts A.x2) (head A.w0 64 (by omega)) (part A.w0 64 64 (by omega)) (part A.w0 128 3 (by omega)) (vec A.b0))
    (rowAt A.y12) (mat A.w1) (vec A.b1) (mat A.w2) (vec A.b2)

/-- The second stage: the second cloud's features from the first's. -/
def two : Pts 128 :=
  stageTwo (firstSum (pts A.p2) (pts A.p1) (pts A.x2) (pts A.x1) (head A.w0 64 (by omega)) (part A.w0 64 64 (by omega)) (part A.w0 128 3 (by omega)) (vec A.b0))
    (rowAt A.y21) (mat A.w1) (vec A.b1) (mat A.w2) (vec A.b2)

/-- The third stage, from the first two. -/
def three : Pts 128 :=
  stageOne (firstSum A.one A.two (pts A.x1) (pts A.x2) (head A.u0 128 (by omega)) (part A.u0 128 128 (by omega)) (part A.u0 256 3 (by omega)) (vec A.c0))
    (rowAt A.y12) (mat A.u1) (vec A.c1)

/-- Every entry of the lists names a row. -/
def InTable : Prop := (∀ j, (A.y12 j).toNat < 8192) ∧ ∀ j, (A.y21 j).toNat < 8192

/-- The points and the weights that meet them are real numbers. -/
structure Finite : Prop where
  x1 : Real (pts A.x1)
  x2 : Real (pts A.x2)
  w0 : ∀ l k, ∃ r : ℝ, part A.w0 128 3 (by omega) l k = r
  u0 : ∀ l k, ∃ r : ℝ, part A.u0 256 3 (by omega) l k = r

end Args

end Cert.Spec

end
-- ==== Proof.Pays.lean ====
/-
  What the calls before the gathers compute, entry by entry: the bodies on their blocks, and the arrays the calls leave.
-/
module

public import proofs.«01_k».proof.Proof.Stages
public import proofs.«01_k».proof.Proof.Calls
public import Idealize.ShloMosaic.Lib.Pointwise
public import Idealize.ShloMosaic.Lib.Pipeline.ValueKit

@[expose] public section

set_option maxRecDepth 16384

noncomputable section

namespace Cert.Kernel.Pays

open Cert.Kernel Cert.Kernel.Gen Cert.Kernel.Calls Idealize.ShloMosaic Idealize.ShloMosaic.TcCoe Idealize.SL.Sem
open Idealize.ShloMosaic.SparseCore.Cfg (HIx)
open Cert.Spec

/-! ## The bodies -/

theorem query_apply (v0 : Vec Ideal S3x128 .f32) (v4 : Vec Ideal S1x1024x64 .f32) (v6 : Vec Ideal S64x128 .f32)
    (v11 : Vec Ideal S1x1024x3 .f32) (v33 : Vec Ideal S1x128 .f32) (r : Fin 1024) (l : Fin 128) :
    k0_pay1 (k0_pay4 v0 v4 v6 v11 v33) (ix3 0 r l)
      = (∑ k, v4 (ix3 0 r k) * v6 (ix2 k l))
          - (v11 (ix3 0 r 0) * v0 (ix2 0 l) + v11 (ix3 0 r 1) * v0 (ix2 1 l) + v11 (ix3 0 r 2) * v0 (ix2 2 l)) + v33 (ix2 0 l) := by
  pointwise [k0_pay1, k0_pay4, k0_pay3]

theorem table_apply (v0 : Vec Ideal S3x128 .f32) (v4 : Vec Ideal S1x1024x64 .f32) (v6 : Vec Ideal S64x128 .f32)
    (v11 : Vec Ideal S1x1024x3 .f32) (r : Fin 1024) (l : Fin 128) :
    k0_pay2 (k0_pay3 v0) (k0_pay5 v4) v6 v11 (ix3 0 r l)
      = (∑ k, v4 (ix3 0 r k) * v6 (ix2 k l))
          + (v11 (ix3 0 r 0) * v0 (ix2 0 l) + v11 (ix3 0 r 1) * v0 (ix2 1 l) + v11 (ix3 0 r 2) * v0 (ix2 2 l)) := by
  pointwise [k0_pay2, k0_pay5, k0_pay3]

theorem wide_query_apply (v0 : Vec Ideal S3x128 .f32) (v4 : Vec Ideal S1x1024x128 .f32) (v6 : Vec Ideal S128x128 .f32)
    (v11 : Vec Ideal S1x1024x3 .f32) (v33 : Vec Ideal S1x128 .f32) (r : Fin 1024) (l : Fin 128) :
    k6_pay1 (k6_pay4 v0 v4 v6 v11 v33) (ix3 0 r l)
      = (∑ k, v4 (ix3 0 r k) * v6 (ix2 k l))
          - (v11 (ix3 0 r 0) * v0 (ix2 0 l) + v11 (ix3 0 r 1) * v0 (ix2 1 l) + v11 (ix3 0 r 2) * v0 (ix2 2 l)) + v33 (ix2 0 l) := by
  pointwise [k6_pay1, k6_pay4, k6_pay3]

theorem wide_table_apply (v0 : Vec Ideal S3x128 .f32) (v4 : Vec Ideal S1x1024x128 .f32) (v6 : Vec Ideal S128x128 .f32)
    (v11 : Vec Ideal S1x1024x3 .f32) (r : Fin 1024) (l : Fin 128) :
    k6_pay2 (k6_pay3 v0) (k6_pay5 v4) v6 v11 (ix3 0 r l)
      = (∑ k, v4 (ix3 0 r k) * v6 (ix2 k l))
          + (v11 (ix3 0 r 0) * v0 (ix2 0 l) + v11 (ix3 0 r 1) * v0 (ix2 1 l) + v11 (ix3 0 r 2) * v0 (ix2 2 l)) := by
  pointwise [k6_pay2, k6_pay5, k6_pay3]

/-! ## The arrays -/

/-- The part of the first layer's sum that depends on the query. -/
def queryOf {D : ℕ} (p : Vec Ideal ⟨3, ![2, 4096, D]⟩ .f32) (wa : Vec Ideal ⟨2, ![D, 128]⟩ .f32) (x : Vec Ideal S2x4096x3 .f32) (wc : Vec Ideal S3x128 .f32)
    (b : Vec Ideal S1x128 .f32) : Vec Ideal S2x4096x128 .f32 := fun i =>
  (∑ k : Fin D, p (ix3 (i 0) (i 1) k) * wa (ix2 k (i 2)))
    - (x (ix3 (i 0) (i 1) 0) * wc (ix2 0 (i 2)) + x (ix3 (i 0) (i 1) 1) * wc (ix2 1 (i 2)) + x (ix3 (i 0) (i 1) 2) * wc (ix2 2 (i 2)))
    + b (ix2 0 (i 2))

/-- The part of the first layer's sum that depends on the neighbour. -/
def tableOf {D : ℕ} (p : Vec Ideal ⟨3, ![2, 4096, D]⟩ .f32) (wb : Vec Ideal ⟨2, ![D, 128]⟩ .f32) (x : Vec Ideal S2x4096x3 .f32) (wc : Vec Ideal S3x128 .f32) :
    Vec Ideal S2x4096x128 .f32 := fun i =>
  (∑ k : Fin D, p (ix3 (i 0) (i 1) k) * wb (ix2 k (i 2)))
    + (x (ix3 (i 0) (i 1) 0) * wc (ix2 0 (i 2)) + x (ix3 (i 0) (i 1) 1) * wc (ix2 1 (i 2)) + x (ix3 (i 0) (i 1) 2) * wc (ix2 2 (i 2)))

theorem queryOf_eq {D : ℕ} {p : Vec Ideal ⟨3, ![2, 4096, D]⟩ .f32} {wa : Vec Ideal ⟨2, ![D, 128]⟩ .f32} {x : Vec Ideal S2x4096x3 .f32}
    {wc : Vec Ideal S3x128 .f32} {b : Vec Ideal S1x128 .f32} {P : Pts D} {X : Pts 3} {WA : Fin 128 → Fin D → EReal} {WC : Fin 128 → Fin 3 → EReal}
    {B : Fin 128 → EReal} (hp : ∀ i j k, p (ix3 i j k) = P i j k) (hwa : ∀ l k, wa (ix2 k l) = WA l k) (hx : ∀ i j k, x (ix3 i j k) = X i j k)
    (hwc : ∀ l k, wc (ix2 k l) = WC l k) (hb : ∀ l, b (ix2 0 l) = B l) (i : Fin 2) (j : Fin 4096) (l : Fin 128) :
    queryOf p wa x wc b (ix3 i j l) = querySum P X WA WC B i j l := by
  show (∑ k : Fin D, p (ix3 i j k) * wa (ix2 k l))
    - (x (ix3 i j 0) * wc (ix2 0 l) + x (ix3 i j 1) * wc (ix2 1 l) + x (ix3 i j 2) * wc (ix2 2 l)) + b (ix2 0 l) = _
  unfold querySum dot3
  rw [hx, hx, hx, hwc, hwc, hwc, hb]
  exact congrArg (fun s : EReal => s - _ + _) (Finset.sum_congr rfl fun k _ => by rw [hp, hwa])

theorem tableOf_eq {D : ℕ} {p : Vec Ideal ⟨3, ![2, 4096, D]⟩ .f32} {wb : Vec Ideal ⟨2, ![D, 128]⟩ .f32} {x : Vec Ideal S2x4096x3 .f32}
    {wc : Vec Ideal S3x128 .f32} {P : Pts D} {X : Pts 3} {WB : Fin 128 → Fin D → EReal} {WC : Fin 128 → Fin 3 → EReal}
    (hp : ∀ i j k, p (ix3 i j k) = P i j k) (hwb : ∀ l k, wb (ix2 k l) = WB l k) (hx : ∀ i j k, x (ix3 i j k) = X i j k)
    (hwc : ∀ l k, wc (ix2 k l) = WC l k) (i : Fin 2) (j : Fin 4096) (l : Fin 128) :
    tableOf p wb x wc (ix3 i j l) = tableSum P X WB WC i j l := by
  show (∑ k : Fin D, p (ix3 i j k) * wb (ix2 k l))
    + (x (ix3 i j 0) * wc (ix2 0 l) + x (ix3 i j 1) * wc (ix2 1 l) + x (ix3 i j 2) * wc (ix2 2 l)) = _
  unfold tableSum dot3
  rw [hx, hx, hx, hwc, hwc, hwc]
  exact congrArg (fun s : EReal => s + _) (Finset.sum_congr rfl fun k _ => by rw [hp, hwb])

/-- What the body makes of its blocks for the queries. -/
def blockQuery {D : ℕ} (x0 : Vec Ideal ⟨3, ![1, 1024, D]⟩ .f32) (x4 : Vec Ideal ⟨2, ![D, 128]⟩ .f32) (x2 : Vec Ideal S1x1024x3 .f32) (x6 : Vec Ideal S3x128 .f32)
    (x7 : Vec Ideal S1x128 .f32) (r : Fin 1024) (l : Fin 128) : EReal :=
  (∑ k, x0 (ix3 0 r k) * x4 (ix2 k l))
    - (x2 (ix3 0 r 0) * x6 (ix2 0 l) + x2 (ix3 0 r 1) * x6 (ix2 1 l) + x2 (ix3 0 r 2) * x6 (ix2 2 l)) + x7 (ix2 0 l)

/-- What the body makes of its blocks for the table. -/
def blockTable {D : ℕ} (x1 : Vec Ideal ⟨3, ![1, 1024, D]⟩ .f32) (x5 : Vec Ideal ⟨2, ![D, 128]⟩ .f32) (x3 : Vec Ideal S1x1024x3 .f32) (x6 : Vec Ideal S3x128 .f32)
    (r : Fin 1024) (l : Fin 128) : EReal :=
  (∑ k, x1 (ix3 0 r k) * x5 (ix2 k l))
    + (x3 (ix3 0 r 0) * x6 (ix2 0 l) + x3 (ix3 0 r 1) * x6 (ix2 1 l) + x3 (ix3 0 r 2) * x6 (ix2 2 l))

theorem blockQuery_eq {D : ℕ} {x0 : Vec Ideal ⟨3, ![1, 1024, D]⟩ .f32} {x4 : Vec Ideal ⟨2, ![D, 128]⟩ .f32} {x2 : Vec Ideal S1x1024x3 .f32} {x6 : Vec Ideal S3x128 .f32}
    {x7 : Vec Ideal S1x128 .f32} {p : Vec Ideal ⟨3, ![2, 4096, D]⟩ .f32} {wa : Vec Ideal ⟨2, ![D, 128]⟩ .f32} {x : Vec Ideal S2x4096x3 .f32}
    {wc : Vec Ideal S3x128 .f32} {b : Vec Ideal S1x128 .f32} {r : Fin 1024} {l : Fin 128} {z : S2x4096x128.Idx} (hl : z 2 = l)
    (h0 : ∀ k, x0 (ix3 0 r k) = p (ix3 (z 0) (z 1) k)) (h4 : ∀ k, x4 (ix2 k l) = wa (ix2 k l)) (h2 : ∀ k, x2 (ix3 0 r k) = x (ix3 (z 0) (z 1) k))
    (h6 : ∀ k, x6 (ix2 k l) = wc (ix2 k l)) (h7 : x7 (ix2 0 l) = b (ix2 0 l)) :
    blockQuery x0 x4 x2 x6 x7 r l = queryOf p wa x wc b z := by
  unfold blockQuery queryOf
  rw [hl, h2, h2, h2, h6, h6, h6, h7]
  exact congrArg (fun s : EReal => s - _ + _) (Finset.sum_congr rfl fun k _ => by rw [h0, h4])

theorem blockTable_eq {D : ℕ} {x1 : Vec Ideal ⟨3, ![1, 1024, D]⟩ .f32} {x5 : Vec Ideal ⟨2, ![D, 128]⟩ .f32} {x3 : Vec Ideal S1x1024x3 .f32} {x6 : Vec Ideal S3x128 .f32}
    {p : Vec Ideal ⟨3, ![2, 4096, D]⟩ .f32} {wb : Vec Ideal ⟨2, ![D, 128]⟩ .f32} {x : Vec Ideal S2x4096x3 .f32}
    {wc : Vec Ideal S3x128 .f32} {r : Fin 1024} {l : Fin 128} {z : S2x4096x128.Idx} (hl : z 2 = l)
    (h1 : ∀ k, x1 (ix3 0 r k) = p (ix3 (z 0) (z 1) k)) (h5 : ∀ k, x5 (ix2 k l) = wb (ix2 k l)) (h3 : ∀ k, x3 (ix3 0 r k) = x (ix3 (z 0) (z 1) k))
    (h6 : ∀ k, x6 (ix2 k l) = wc (ix2 k l)) :
    blockTable x1 x5 x3 x6 r l = tableOf p wb x wc z := by
  unfold blockTable tableOf
  rw [hl, h3, h3, h3, h6, h6, h6]
  exact congrArg (fun s : EReal => s + _) (Finset.sum_congr rfl fun k _ => by rw [h1, h5])

/-- Where a block's entry lies in its array. -/
theorem place3 {n0 n1 n2 b1 b2 : ℕ} {z : (⟨3, ![n0, n1, n2]⟩ : Shape).Idx} {ix sz : Fin 3 → ℕ} {p q : ℕ} {r : Fin b1} {k : Fin b2}
    (hz : ∀ a : Fin 3, (z a : ℕ) = ix a * sz a + ((ix3 (0 : Fin 1) r k : (⟨3, ![1, b1, b2]⟩ : Shape).Idx) a : ℕ)) (hs : sz = ![1, b1, b2]) (hx : ix = ![p, q, 0]) :
    (z 0 : ℕ) = p ∧ (z 1 : ℕ) = q * b1 + r.val ∧ (z 2 : ℕ) = k.val := by
  subst hs hx
  exact ⟨(hz 0).trans (by show p * 1 + 0 = p; omega), hz 1, (hz 2).trans (by show 0 * b2 + k.val = k.val; omega)⟩

theorem read3 {n0 n1 n2 b1 b2 : ℕ} {z : (⟨3, ![n0, n1, n2]⟩ : Shape).Idx} {ix sz : Fin 3 → ℕ} {p q : ℕ} {r : Fin b1} {k : Fin b2}
    (hz : ∀ a : Fin 3, (z a : ℕ) = ix a * sz a + ((ix3 (0 : Fin 1) r k : (⟨3, ![1, b1, b2]⟩ : Shape).Idx) a : ℕ)) (hs : sz = ![1, b1, b2]) (hx : ix = ![p, q, 0])
    {i : Fin n0} {j : Fin n1} {k' : Fin n2} (hi : (i : ℕ) = p) (hj : (j : ℕ) = q * b1 + r.val) (hk : (k' : ℕ) = k.val) : z = ix3 i j k' := by
  obtain ⟨h0, h1, h2⟩ := place3 hz hs hx
  funext a
  match a with
  | ⟨0, _⟩ => exact Fin.ext (h0.trans hi.symm)
  | ⟨1, _⟩ => exact Fin.ext (h1.trans hj.symm)
  | ⟨2, _⟩ => exact Fin.ext (h2.trans hk.symm)

variable (V : Valuation τ sig (Elt Ideal)) (O : CellTallies nD τ sig (HIx 3)) (Rec : Set (SemLoc sig × HIx 3))

theorem index0 : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![0, 0] ∧ win0_5.index t = ![0, 0] ∧ win0_6.index t = ![0, 0] ∧ win0_7.index t = ![0, 0]
    ∧ win0_8.index t = ![(grid0.coords t 0).val, (grid0.coords t 1).val, 0]
    ∧ win0_9.index t = ![(grid0.coords t 0).val, (grid0.coords t 1).val, 0] := by
  decide +kernel

theorem queriesA (c : Dev nD) :
    (PrepA.dat V O Rec c).arrAt 8 cfg0.N = queryOf (D := 64) (V (Proc.devRef .tc (main_v2 : Ref sig .tc))) (V (Proc.devRef .tc (main_v5 : Ref sig .tc)))
      (V (Proc.devRef .tc (main_v0 : Ref sig .tc))) (V (Proc.devRef .tc (main_v9 : Ref sig .tc))) (V (Proc.devRef .tc (main_v10 : Ref sig .tc))) := by
  refine (PrepA.dat V O Rec c).arrAt_eq_of_covers 8 _ (by decide +kernel) fun t hf y => ?_
  blk_simp
  rw [PrepA.after_8]
  unfold Prep.out_8 Prep.pay_8
  frame_out
  obtain ⟨r, l, rfl⟩ : ∃ (r : Fin 1024) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (query_apply _ _ _ _ _ r l).trans ?_
  obtain ⟨e0, e1, e2⟩ := place3 (fun a => Pipeline.Window.rect_emb_val win0_8 t (ix3 (0 : Fin 1) r l) a) rfl (index0 t).2.2.2.2.2.2.2.2.1
  refine blockQuery_eq (D := 64) (Fin.ext e2) (fun k => ?_) (fun k => ?_) (fun k => ?_) (fun k => ?_) ?_
  · exact congrArg (V (Proc.devRef .tc (main_v2 : Ref sig .tc))) (read3 (fun a => Pipeline.Window.rect_emb_val win0_0 t _ a) rfl (index0 t).1 e0 e1 rfl)
  · blk_ext [iblk, index0 t]
  · exact congrArg (V (Proc.devRef .tc (main_v0 : Ref sig .tc))) (read3 (fun a => Pipeline.Window.rect_emb_val win0_2 t _ a) rfl (index0 t).2.2.1 e0 e1 rfl)
  · blk_ext [iblk, index0 t]
  · blk_ext [iblk, index0 t]

theorem tablesA (c : Dev nD) :
    (PrepA.dat V O Rec c).arrAt 9 cfg0.N = tableOf (D := 64) (V (Proc.devRef .tc (main_v3 : Ref sig .tc))) (V (Proc.devRef .tc (main_v7 : Ref sig .tc)))
      (V (Proc.devRef .tc (main_v1 : Ref sig .tc))) (V (Proc.devRef .tc (main_v9 : Ref sig .tc))) := by
  refine (PrepA.dat V O Rec c).arrAt_eq_of_covers 9 _ (by decide +kernel) fun t hf y => ?_
  blk_simp
  rw [PrepA.after_9]
  unfold Prep.out_9 Prep.pay_9
  frame_out
  obtain ⟨r, l, rfl⟩ : ∃ (r : Fin 1024) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (table_apply _ _ _ _ r l).trans ?_
  obtain ⟨e0, e1, e2⟩ := place3 (fun a => Pipeline.Window.rect_emb_val win0_9 t (ix3 (0 : Fin 1) r l) a) rfl (index0 t).2.2.2.2.2.2.2.2.2
  refine blockTable_eq (D := 64) (Fin.ext e2) (fun k => ?_) (fun k => ?_) (fun k => ?_) (fun k => ?_)
  · exact congrArg (V (Proc.devRef .tc (main_v3 : Ref sig .tc))) (read3 (fun a => Pipeline.Window.rect_emb_val win0_1 t _ a) rfl (index0 t).2.1 e0 e1 rfl)
  · blk_ext [iblk, index0 t]
  · exact congrArg (V (Proc.devRef .tc (main_v1 : Ref sig .tc))) (read3 (fun a => Pipeline.Window.rect_emb_val win0_3 t _ a) rfl (index0 t).2.2.2.1 e0 e1 rfl)
  · blk_ext [iblk, index0 t]

theorem index3 : ∀ t : Fin cfg3.N, win3_0.index t = ![(grid3.coords t 0).val, (grid3.coords t 1).val, 0]
    ∧ win3_1.index t = ![(grid3.coords t 0).val, (grid3.coords t 1).val, 0]
    ∧ win3_2.index t = ![(grid3.coords t 0).val, (grid3.coords t 1).val, 0]
    ∧ win3_3.index t = ![(grid3.coords t 0).val, (grid3.coords t 1).val, 0]
    ∧ win3_4.index t = ![0, 0] ∧ win3_5.index t = ![0, 0] ∧ win3_6.index t = ![0, 0] ∧ win3_7.index t = ![0, 0]
    ∧ win3_8.index t = ![(grid3.coords t 0).val, (grid3.coords t 1).val, 0]
    ∧ win3_9.index t = ![(grid3.coords t 0).val, (grid3.coords t 1).val, 0] := by
  decide +kernel

theorem queriesB (c : Dev nD) :
    (PrepB.dat V O Rec c).arrAt 8 cfg3.N = queryOf (D := 64) (V (Proc.devRef .tc (main_v3 : Ref sig .tc))) (V (Proc.devRef .tc (main_v22 : Ref sig .tc)))
      (V (Proc.devRef .tc (main_v1 : Ref sig .tc))) (V (Proc.devRef .tc (main_v26 : Ref sig .tc))) (V (Proc.devRef .tc (main_v27 : Ref sig .tc))) := by
  refine (PrepB.dat V O Rec c).arrAt_eq_of_covers 8 _ (by decide +kernel) fun t hf y => ?_
  blk_simp
  rw [PrepB.after_8]
  unfold Prep.out_8 Prep.pay_8
  frame_out
  obtain ⟨r, l, rfl⟩ : ∃ (r : Fin 1024) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (query_apply _ _ _ _ _ r l).trans ?_
  obtain ⟨e0, e1, e2⟩ := place3 (fun a => Pipeline.Window.rect_emb_val win3_8 t (ix3 (0 : Fin 1) r l) a) rfl (index3 t).2.2.2.2.2.2.2.2.1
  refine blockQuery_eq (D := 64) (Fin.ext e2) (fun k => ?_) (fun k => ?_) (fun k => ?_) (fun k => ?_) ?_
  · exact congrArg (V (Proc.devRef .tc (main_v3 : Ref sig .tc))) (read3 (fun a => Pipeline.Window.rect_emb_val win3_0 t _ a) rfl (index3 t).1 e0 e1 rfl)
  · blk_ext [iblk, index3 t]
  · exact congrArg (V (Proc.devRef .tc (main_v1 : Ref sig .tc))) (read3 (fun a => Pipeline.Window.rect_emb_val win3_2 t _ a) rfl (index3 t).2.2.1 e0 e1 rfl)
  · blk_ext [iblk, index3 t]
  · blk_ext [iblk, index3 t]

theorem tablesB (c : Dev nD) :
    (PrepB.dat V O Rec c).arrAt 9 cfg3.N = tableOf (D := 64) (V (Proc.devRef .tc (main_v2 : Ref sig .tc))) (V (Proc.devRef .tc (main_v24 : Ref sig .tc)))
      (V (Proc.devRef .tc (main_v0 : Ref sig .tc))) (V (Proc.devRef .tc (main_v26 : Ref sig .tc))) := by
  refine (PrepB.dat V O Rec c).arrAt_eq_of_covers 9 _ (by decide +kernel) fun t hf y => ?_
  blk_simp
  rw [PrepB.after_9]
  unfold Prep.out_9 Prep.pay_9
  frame_out
  obtain ⟨r, l, rfl⟩ : ∃ (r : Fin 1024) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (table_apply _ _ _ _ r l).trans ?_
  obtain ⟨e0, e1, e2⟩ := place3 (fun a => Pipeline.Window.rect_emb_val win3_9 t (ix3 (0 : Fin 1) r l) a) rfl (index3 t).2.2.2.2.2.2.2.2.2
  refine blockTable_eq (D := 64) (Fin.ext e2) (fun k => ?_) (fun k => ?_) (fun k => ?_) (fun k => ?_)
  · exact congrArg (V (Proc.devRef .tc (main_v2 : Ref sig .tc))) (read3 (fun a => Pipeline.Window.rect_emb_val win3_1 t _ a) rfl (index3 t).2.1 e0 e1 rfl)
  · blk_ext [iblk, index3 t]
  · exact congrArg (V (Proc.devRef .tc (main_v0 : Ref sig .tc))) (read3 (fun a => Pipeline.Window.rect_emb_val win3_3 t _ a) rfl (index3 t).2.2.2.1 e0 e1 rfl)
  · blk_ext [iblk, index3 t]

theorem index6 : ∀ t : Fin cfg6.N, win6_0.index t = ![(grid6.coords t 0).val, (grid6.coords t 1).val, 0]
    ∧ win6_1.index t = ![(grid6.coords t 0).val, (grid6.coords t 1).val, 0]
    ∧ win6_2.index t = ![(grid6.coords t 0).val, (grid6.coords t 1).val, 0]
    ∧ win6_3.index t = ![(grid6.coords t 0).val, (grid6.coords t 1).val, 0]
    ∧ win6_4.index t = ![0, 0] ∧ win6_5.index t = ![0, 0] ∧ win6_6.index t = ![0, 0] ∧ win6_7.index t = ![0, 0]
    ∧ win6_8.index t = ![(grid6.coords t 0).val, (grid6.coords t 1).val, 0]
    ∧ win6_9.index t = ![(grid6.coords t 0).val, (grid6.coords t 1).val, 0] := by
  decide +kernel

theorem queriesC (c : Dev nD) :
    (PrepC.dat V O Rec c).arrAt 8 cfg6.N = queryOf (D := 128) (V (Proc.devRef .tc (main_v20_0 : Ref sig .tc))) (V (Proc.devRef .tc (main_v39 : Ref sig .tc)))
      (V (Proc.devRef .tc (main_v0 : Ref sig .tc))) (V (Proc.devRef .tc (main_v43 : Ref sig .tc))) (V (Proc.devRef .tc (main_v44 : Ref sig .tc))) := by
  refine (PrepC.dat V O Rec c).arrAt_eq_of_covers 8 _ (by decide +kernel) fun t hf y => ?_
  blk_simp
  rw [PrepC.after_8]
  unfold PrepWide.out_8 PrepWide.pay_8
  frame_out
  obtain ⟨r, l, rfl⟩ : ∃ (r : Fin 1024) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (wide_query_apply _ _ _ _ _ r l).trans ?_
  obtain ⟨e0, e1, e2⟩ := place3 (fun a => Pipeline.Window.rect_emb_val win6_8 t (ix3 (0 : Fin 1) r l) a) rfl (index6 t).2.2.2.2.2.2.2.2.1
  refine blockQuery_eq (D := 128) (Fin.ext e2) (fun k => ?_) (fun k => ?_) (fun k => ?_) (fun k => ?_) ?_
  · exact congrArg (V (Proc.devRef .tc (main_v20_0 : Ref sig .tc))) (read3 (fun a => Pipeline.Window.rect_emb_val win6_0 t _ a) rfl (index6 t).1 e0 e1 rfl)
  · blk_ext [iblk, index6 t]
  · exact congrArg (V (Proc.devRef .tc (main_v0 : Ref sig .tc))) (read3 (fun a => Pipeline.Window.rect_emb_val win6_2 t _ a) rfl (index6 t).2.2.1 e0 e1 rfl)
  · blk_ext [iblk, index6 t]
  · blk_ext [iblk, index6 t]

theorem tablesC (c : Dev nD) :
    (PrepC.dat V O Rec c).arrAt 9 cfg6.N = tableOf (D := 128) (V (Proc.devRef .tc (main_v37_0 : Ref sig .tc))) (V (Proc.devRef .tc (main_v41 : Ref sig .tc)))
      (V (Proc.devRef .tc (main_v1 : Ref sig .tc))) (V (Proc.devRef .tc (main_v43 : Ref sig .tc))) := by
  refine (PrepC.dat V O Rec c).arrAt_eq_of_covers 9 _ (by decide +kernel) fun t hf y => ?_
  blk_simp
  rw [PrepC.after_9]
  unfold PrepWide.out_9 PrepWide.pay_9
  frame_out
  obtain ⟨r, l, rfl⟩ : ∃ (r : Fin 1024) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (wide_table_apply _ _ _ _ r l).trans ?_
  obtain ⟨e0, e1, e2⟩ := place3 (fun a => Pipeline.Window.rect_emb_val win6_9 t (ix3 (0 : Fin 1) r l) a) rfl (index6 t).2.2.2.2.2.2.2.2.2
  refine blockTable_eq (D := 128) (Fin.ext e2) (fun k => ?_) (fun k => ?_) (fun k => ?_) (fun k => ?_)
  · exact congrArg (V (Proc.devRef .tc (main_v37_0 : Ref sig .tc))) (read3 (fun a => Pipeline.Window.rect_emb_val win6_1 t _ a) rfl (index6 t).2.1 e0 e1 rfl)
  · blk_ext [iblk, index6 t]
  · exact congrArg (V (Proc.devRef .tc (main_v1 : Ref sig .tc))) (read3 (fun a => Pipeline.Window.rect_emb_val win6_3 t _ a) rfl (index6 t).2.2.2.1 e0 e1 rfl)
  · blk_ext [iblk, index6 t]

end Cert.Kernel.Pays

end
-- ==== Proof.Nets.lean ====
/-
  The arrays the calls after the gathers leave, entry by entry.
-/
module

public import proofs.«01_k».proof.Proof.Stages
public import proofs.«01_k».proof.Proof.Calls
public import Idealize.ShloMosaic.Lib.Pointwise
public import Idealize.ShloMosaic.Lib.Pipeline.ValueKit

@[expose] public section

set_option maxRecDepth 16384

noncomputable section

namespace Cert.Kernel.Nets

open Cert.Kernel Cert.Kernel.Gen Cert.Kernel.Calls Idealize.ShloMosaic Idealize.ShloMosaic.TcCoe Idealize.SL.Sem
open Idealize.ShloMosaic.SparseCore.Cfg (HIx)
open Cert.Spec

/-! ## The bodies -/

/-- Two layers on a block of gathered rows and a block of queries, and the greatest over each query's 16 rows. -/
def block2 (v0 : Vec Ideal S1x4096x128 .f32) (v2 : Vec Ideal S1x256x128 .f32) (v14 : Vec Ideal S128x128 .f32)
    (v16 : Vec Ideal S1x128 .f32) (v28 : Vec Ideal S128x128 .f32) (v30 : Vec Ideal S1x128 .f32) (r : Fin 256) (l : Fin 128) : EReal :=
  best fun n => layer (fun l k => v28 (ix2 k l)) (fun l => v30 (ix2 0 l))
    (layer (fun l k => v14 (ix2 k l)) (fun l => v16 (ix2 0 l))
      fun k => leaky (v0 (ix3 0 ⟨r.val * 16 + n.val, by omega⟩ k) + v2 (ix3 0 r k))) l

/-- The same with one layer. -/
def block1 (v0 : Vec Ideal S1x4096x128 .f32) (v2 : Vec Ideal S1x256x128 .f32) (v14 : Vec Ideal S128x128 .f32)
    (v16 : Vec Ideal S1x128 .f32) (r : Fin 256) (l : Fin 128) : EReal :=
  best fun n => layer (fun l k => v14 (ix2 k l)) (fun l => v16 (ix2 0 l))
    (fun k => leaky (v0 (ix3 0 ⟨r.val * 16 + n.val, by omega⟩ k) + v2 (ix3 0 r k))) l

theorem mlp_apply (v0 : Vec Ideal S1x4096x128 .f32) (v2 : Vec Ideal S1x256x128 .f32) (v14 : Vec Ideal S128x128 .f32)
    (v16 : Vec Ideal S1x128 .f32) (v28 : Vec Ideal S128x128 .f32) (v30 : Vec Ideal S1x128 .f32) (r : Fin 256) (l : Fin 128) :
    k2_pay3 (k2_pay4 v0 v2 v14 v16 v28 v30) (Scalar.ofBits .f32 0x00000000#32) (ix3 0 l r)
      = block2 v0 v2 v14 v16 v28 v30 r l := by
  unfold block2
  pointwise [k2_pay3, k2_pay1, k2_pay4]
  rfl

theorem mlp_rows_apply (v0 : Vec Ideal S1x4096x128 .f32) (v2 : Vec Ideal S1x256x128 .f32) (v14 : Vec Ideal S128x128 .f32)
    (v16 : Vec Ideal S1x128 .f32) (v28 : Vec Ideal S128x128 .f32) (v30 : Vec Ideal S1x128 .f32) (r : Fin 256) (l : Fin 128) :
    k2_pay2 (k2_pay4 v0 v2 v14 v16 v28 v30) (Scalar.ofBits .f32 0x00000000#32) (ix3 0 r l)
      = block2 v0 v2 v14 v16 v28 v30 r l := by
  unfold block2
  pointwise [k2_pay2, k2_pay1, k2_pay4]
  rfl

theorem mlp_one_apply (v0 : Vec Ideal S1x4096x128 .f32) (v2 : Vec Ideal S1x256x128 .f32) (v14 : Vec Ideal S128x128 .f32)
    (v16 : Vec Ideal S1x128 .f32) (r : Fin 256) (l : Fin 128) :
    k8_pay1 (k8_pay4 v0 v2 v14 v16) (ix3 0 l r)
      = block1 v0 v2 v14 v16 r l := by
  unfold block1
  pointwise [k8_pay1, k8_pay2, k8_pay4]
  rfl

/-! ## The arrays -/

/-- A neighbour's row of the gathered rows and the query's, summed. -/
def meet (g : Vec Ideal S2x65536x128 .f32) (q : Vec Ideal S2x4096x128 .f32) (i : Fin 2) (j : Fin 4096) (n : Fin 16) (k : Fin 128) : EReal :=
  g (ix3 i ⟨j.val * 16 + n.val, by omega⟩ k) + q (ix3 i j k)

/-- Two layers on each neighbour, and the greatest over the neighbours. -/
def net2 (g : Vec Ideal S2x65536x128 .f32) (q : Vec Ideal S2x4096x128 .f32) (w1 : Vec Ideal S128x128 .f32) (b1 : Vec Ideal S1x128 .f32)
    (w2 : Vec Ideal S128x128 .f32) (b2 : Vec Ideal S1x128 .f32) : Pts 128 := fun i j l =>
  best fun n => layer (fun l k => w2 (ix2 k l)) (fun l => b2 (ix2 0 l))
    (layer (fun l k => w1 (ix2 k l)) (fun l => b1 (ix2 0 l)) fun k => leaky (meet g q i j n k)) l

/-- One layer on each neighbour, and the greatest over the neighbours. -/
def net1 (g : Vec Ideal S2x65536x128 .f32) (q : Vec Ideal S2x4096x128 .f32) (w1 : Vec Ideal S128x128 .f32) (b1 : Vec Ideal S1x128 .f32) : Pts 128 :=
  fun i j l => best fun n => layer (fun l k => w1 (ix2 k l)) (fun l => b1 (ix2 0 l)) (fun k => leaky (meet g q i j n k)) l

/-- Vectors laid along the last axis. -/
def rows (p : Pts 128) : Vec Ideal S2x4096x128 .f32 := fun i => p (i 0) (i 1) (i 2)

/-- Vectors laid along the second axis. -/
def columns (p : Pts 128) : Vec Ideal S2x128x4096 .f32 := fun i => p (i 0) (i 2) (i 1)

variable (V : Valuation τ sig (Elt Ideal)) (O : CellTallies nD τ sig (HIx 3)) (Rec : Set (SemLoc sig × HIx 3))

section A

theorem index2 : ∀ t : Fin cfg2.N, win2_0.index t = ![(grid2.coords t 0).val, (grid2.coords t 1).val, 0]
    ∧ win2_1.index t = ![(grid2.coords t 0).val, (grid2.coords t 1).val, 0]
    ∧ win2_2.index t = ![0, 0] ∧ win2_3.index t = ![0, 0] ∧ win2_4.index t = ![0, 0] ∧ win2_5.index t = ![0, 0]
    ∧ win2_6.index t = ![(grid2.coords t 0).val, (grid2.coords t 1).val, 0]
    ∧ win2_7.index t = ![(grid2.coords t 0).val, 0, (grid2.coords t 1).val] := by
  decide +kernel

theorem read_rows2 (t : Fin cfg2.N) (y : Fin 4096) (k : Fin 128) (a : Fin 2) (b : Fin 65536) (ha : (a : ℕ) = (grid2.coords t 0).val)
    (hb : (b : ℕ) = (grid2.coords t 1).val * 4096 + y.val) :
    (iblk cfg2 V 0 t (ix3 (0 : Fin 1) y k) : EReal) = V (Proc.devRef .tc (main_v19 : Ref sig .tc)) (ix3 a b k) := by
  refine congrArg (V (Proc.devRef .tc (main_v19 : Ref sig .tc))) (funext fun x => Fin.ext ?_)
  match x with
  | ⟨0, _⟩ =>
    refine (Pipeline.Window.rect_emb_val win2_0 t _ _).trans ?_
    rw [(index2 t).1]
    exact (Nat.mul_one _).trans ha.symm
  | ⟨1, _⟩ =>
    refine (Pipeline.Window.rect_emb_val win2_0 t _ _).trans ?_
    rw [(index2 t).1]
    exact hb.symm
  | ⟨2, _⟩ =>
    refine (Pipeline.Window.rect_emb_val win2_0 t _ _).trans ?_
    rw [(index2 t).1]
    exact (congrArg (· + k.val) (Nat.zero_mul 128)).trans (Nat.zero_add _)

theorem read_query2 (t : Fin cfg2.N) (y : Fin 256) (k : Fin 128) (a : Fin 2) (b : Fin 4096) (ha : (a : ℕ) = (grid2.coords t 0).val)
    (hb : (b : ℕ) = (grid2.coords t 1).val * 256 + y.val) :
    (iblk cfg2 V 1 t (ix3 (0 : Fin 1) y k) : EReal) = V (Proc.devRef .tc (main_v11_0 : Ref sig .tc)) (ix3 a b k) := by
  refine congrArg (V (Proc.devRef .tc (main_v11_0 : Ref sig .tc))) (funext fun x => Fin.ext ?_)
  match x with
  | ⟨0, _⟩ =>
    refine (Pipeline.Window.rect_emb_val win2_1 t _ _).trans ?_
    rw [(index2 t).2.1]
    exact (Nat.mul_one _).trans ha.symm
  | ⟨1, _⟩ =>
    refine (Pipeline.Window.rect_emb_val win2_1 t _ _).trans ?_
    rw [(index2 t).2.1]
    exact hb.symm
  | ⟨2, _⟩ =>
    refine (Pipeline.Window.rect_emb_val win2_1 t _ _).trans ?_
    rw [(index2 t).2.1]
    exact (congrArg (· + k.val) (Nat.zero_mul 128)).trans (Nat.zero_add _)

/-- What the body leaves of a query's blocks is the network at the query. -/
theorem point2 (t : Fin cfg2.N) (r : Fin 256) (l : Fin 128) (i : Fin 2) (j : Fin 4096) (hi : (i : ℕ) = (grid2.coords t 0).val)
    (hj : (j : ℕ) = (grid2.coords t 1).val * 256 + r.val) :
    block2 (iblk cfg2 V 0 t) (iblk cfg2 V 1 t) (iblk cfg2 V 2 t) (iblk cfg2 V 3 t) (iblk cfg2 V 4 t) (iblk cfg2 V 5 t) r l
    = net2 (V (Proc.devRef .tc (main_v19 : Ref sig .tc))) (V (Proc.devRef .tc (main_v11_0 : Ref sig .tc)))
      (V (Proc.devRef .tc (main_v15 : Ref sig .tc))) (V (Proc.devRef .tc (main_v16 : Ref sig .tc)))
      (V (Proc.devRef .tc (main_v17 : Ref sig .tc))) (V (Proc.devRef .tc (main_v18 : Ref sig .tc))) i j l := by
  unfold block2 net2 meet
  refine best_congr fun n => ?_
  refine layer_congr (fun l k => ?_) (fun l => ?_) (fun k => layer_congr (fun l k => ?_) (fun l => ?_) (fun k => congrArg leaky ?_))
  · blk_ext [iblk, index2 t]
  · blk_ext [iblk, index2 t]
  · blk_ext [iblk, index2 t]
  · blk_ext [iblk, index2 t]
  · refine congrArg₂ (fun u v : EReal => u + v) (read_rows2 V t _ k _ _ hi ?_) (read_query2 V t _ k _ _ hi hj)
    show j.val * 16 + n.val = (grid2.coords t 1).val * 4096 + (r.val * 16 + n.val)
    rw [hj]
    omega

theorem columnsA (c : Dev nD) :
    (MlpA.dat V O Rec c).arrAt 7 cfg2.N = columns (net2 (V (Proc.devRef .tc (main_v19 : Ref sig .tc))) (V (Proc.devRef .tc (main_v11_0 : Ref sig .tc)))
      (V (Proc.devRef .tc (main_v15 : Ref sig .tc))) (V (Proc.devRef .tc (main_v16 : Ref sig .tc)))
      (V (Proc.devRef .tc (main_v17 : Ref sig .tc))) (V (Proc.devRef .tc (main_v18 : Ref sig .tc)))) := by
  refine (MlpA.dat V O Rec c).arrAt_eq_of_covers 7 _ (by decide +kernel) fun t hf y => ?_
  blk_simp
  rw [MlpA.after_7]
  unfold Mlp.out_7 Mlp.pay_7
  frame_out
  obtain ⟨l, r, rfl⟩ : ∃ (l : Fin 128) (r : Fin 256), y = ix3 (0 : Fin 1) l r :=
    ⟨y 1, y 2, by funext a; match a with | ⟨0, _⟩ => exact Subsingleton.elim (α := Fin 1) _ _ | ⟨1, _⟩ => rfl | ⟨2, _⟩ => rfl⟩
  refine (mlp_apply _ _ _ _ _ _ r l).trans ?_
  have e0 : (((win2_7.blk t).view.emb (ix3 (0 : Fin 1) l r)) 0 : ℕ) = (grid2.coords t 0).val := by
    blk_simp [(index2 t).2.2.2.2.2.2.2]
    exact Nat.add_zero _
  have e1 : ((win2_7.blk t).view.emb (ix3 (0 : Fin 1) l r)) 1 = l := by
    apply Fin.ext
    blk_simp [(index2 t).2.2.2.2.2.2.2]
  have e2 : (((win2_7.blk t).view.emb (ix3 (0 : Fin 1) l r)) 2 : ℕ) = (grid2.coords t 1).val * 256 + r.val := by
    blk_simp [(index2 t).2.2.2.2.2.2.2]
  unfold columns
  rw [e1]
  exact point2 V t r l _ _ e0 e2

theorem rowsA (c : Dev nD) :
    (MlpA.dat V O Rec c).arrAt 6 cfg2.N = rows (net2 (V (Proc.devRef .tc (main_v19 : Ref sig .tc))) (V (Proc.devRef .tc (main_v11_0 : Ref sig .tc)))
      (V (Proc.devRef .tc (main_v15 : Ref sig .tc))) (V (Proc.devRef .tc (main_v16 : Ref sig .tc)))
      (V (Proc.devRef .tc (main_v17 : Ref sig .tc))) (V (Proc.devRef .tc (main_v18 : Ref sig .tc)))) := by
  refine (MlpA.dat V O Rec c).arrAt_eq_of_covers 6 _ (by decide +kernel) fun t hf y => ?_
  blk_simp
  rw [MlpA.after_6]
  unfold Mlp.out_6 Mlp.pay_6
  frame_out
  obtain ⟨r, l, rfl⟩ : ∃ (r : Fin 256) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (mlp_rows_apply _ _ _ _ _ _ r l).trans ?_
  have e0 : (((win2_6.blk t).view.emb (ix3 (0 : Fin 1) r l)) 0 : ℕ) = (grid2.coords t 0).val := by
    blk_simp [(index2 t).2.2.2.2.2.2.1]
    exact Nat.add_zero _
  have e1 : (((win2_6.blk t).view.emb (ix3 (0 : Fin 1) r l)) 1 : ℕ) = (grid2.coords t 1).val * 256 + r.val := by
    blk_simp [(index2 t).2.2.2.2.2.2.1]
  have e2 : ((win2_6.blk t).view.emb (ix3 (0 : Fin 1) r l)) 2 = l := by
    apply Fin.ext
    blk_simp [(index2 t).2.2.2.2.2.2.1]
  unfold rows
  rw [e2]
  exact point2 V t r l _ _ e0 e1

end A

end Cert.Kernel.Nets

end
-- ==== Proof.NetsB.lean ====
/-
  The arrays the second stage's call after its gather leaves, entry by entry.
-/
module

public import proofs.«01_k».proof.Proof.Nets

@[expose] public section

set_option maxRecDepth 16384

noncomputable section

namespace Cert.Kernel.Nets

open Cert.Kernel Cert.Kernel.Gen Cert.Kernel.Calls Idealize.ShloMosaic Idealize.ShloMosaic.TcCoe Idealize.SL.Sem
open Idealize.ShloMosaic.SparseCore.Cfg (HIx)
open Cert.Spec

variable (V : Valuation τ sig (Elt Ideal)) (O : CellTallies nD τ sig (HIx 3)) (Rec : Set (SemLoc sig × HIx 3))

theorem index5 : ∀ t : Fin cfg5.N, win5_0.index t = ![(grid5.coords t 0).val, (grid5.coords t 1).val, 0]
    ∧ win5_1.index t = ![(grid5.coords t 0).val, (grid5.coords t 1).val, 0]
    ∧ win5_2.index t = ![0, 0] ∧ win5_3.index t = ![0, 0] ∧ win5_4.index t = ![0, 0] ∧ win5_5.index t = ![0, 0]
    ∧ win5_6.index t = ![(grid5.coords t 0).val, (grid5.coords t 1).val, 0]
    ∧ win5_7.index t = ![(grid5.coords t 0).val, 0, (grid5.coords t 1).val] := by
  decide +kernel

theorem read_rows5 (t : Fin cfg5.N) (y : Fin 4096) (k : Fin 128) (a : Fin 2) (b : Fin 65536) (ha : (a : ℕ) = (grid5.coords t 0).val)
    (hb : (b : ℕ) = (grid5.coords t 1).val * 4096 + y.val) :
    (iblk cfg5 V 0 t (ix3 (0 : Fin 1) y k) : EReal) = V (Proc.devRef .tc (main_v36 : Ref sig .tc)) (ix3 a b k) := by
  refine congrArg (V (Proc.devRef .tc (main_v36 : Ref sig .tc))) (funext fun x => Fin.ext ?_)
  match x with
  | ⟨0, _⟩ =>
    refine (Pipeline.Window.rect_emb_val win5_0 t _ _).trans ?_
    rw [(index5 t).1]
    exact (Nat.mul_one _).trans ha.symm
  | ⟨1, _⟩ =>
    refine (Pipeline.Window.rect_emb_val win5_0 t _ _).trans ?_
    rw [(index5 t).1]
    exact hb.symm
  | ⟨2, _⟩ =>
    refine (Pipeline.Window.rect_emb_val win5_0 t _ _).trans ?_
    rw [(index5 t).1]
    exact (congrArg (· + k.val) (Nat.zero_mul 128)).trans (Nat.zero_add _)

theorem read_query5 (t : Fin cfg5.N) (y : Fin 256) (k : Fin 128) (a : Fin 2) (b : Fin 4096) (ha : (a : ℕ) = (grid5.coords t 0).val)
    (hb : (b : ℕ) = (grid5.coords t 1).val * 256 + y.val) :
    (iblk cfg5 V 1 t (ix3 (0 : Fin 1) y k) : EReal) = V (Proc.devRef .tc (main_v28_0 : Ref sig .tc)) (ix3 a b k) := by
  refine congrArg (V (Proc.devRef .tc (main_v28_0 : Ref sig .tc))) (funext fun x => Fin.ext ?_)
  match x with
  | ⟨0, _⟩ =>
    refine (Pipeline.Window.rect_emb_val win5_1 t _ _).trans ?_
    rw [(index5 t).2.1]
    exact (Nat.mul_one _).trans ha.symm
  | ⟨1, _⟩ =>
    refine (Pipeline.Window.rect_emb_val win5_1 t _ _).trans ?_
    rw [(index5 t).2.1]
    exact hb.symm
  | ⟨2, _⟩ =>
    refine (Pipeline.Window.rect_emb_val win5_1 t _ _).trans ?_
    rw [(index5 t).2.1]
    exact (congrArg (· + k.val) (Nat.zero_mul 128)).trans (Nat.zero_add _)

/-- What the body leaves of a query's blocks is the network at the query. -/
theorem point5 (t : Fin cfg5.N) (r : Fin 256) (l : Fin 128) (i : Fin 2) (j : Fin 4096) (hi : (i : ℕ) = (grid5.coords t 0).val)
    (hj : (j : ℕ) = (grid5.coords t 1).val * 256 + r.val) :
    block2 (iblk cfg5 V 0 t) (iblk cfg5 V 1 t) (iblk cfg5 V 2 t) (iblk cfg5 V 3 t) (iblk cfg5 V 4 t) (iblk cfg5 V 5 t) r l
    = net2 (V (Proc.devRef .tc (main_v36 : Ref sig .tc))) (V (Proc.devRef .tc (main_v28_0 : Ref sig .tc)))
      (V (Proc.devRef .tc (main_v32 : Ref sig .tc))) (V (Proc.devRef .tc (main_v33 : Ref sig .tc)))
      (V (Proc.devRef .tc (main_v34 : Ref sig .tc))) (V (Proc.devRef .tc (main_v35 : Ref sig .tc))) i j l := by
  unfold block2 net2 meet
  refine best_congr fun n => ?_
  refine layer_congr (fun l k => ?_) (fun l => ?_) (fun k => layer_congr (fun l k => ?_) (fun l => ?_) (fun k => congrArg leaky ?_))
  · blk_ext [iblk, index5 t]
  · blk_ext [iblk, index5 t]
  · blk_ext [iblk, index5 t]
  · blk_ext [iblk, index5 t]
  · refine congrArg₂ (fun u v : EReal => u + v) (read_rows5 V t _ k _ _ hi ?_) (read_query5 V t _ k _ _ hi hj)
    show j.val * 16 + n.val = (grid5.coords t 1).val * 4096 + (r.val * 16 + n.val)
    rw [hj]
    omega

theorem columnsB (c : Dev nD) :
    (MlpB.dat V O Rec c).arrAt 7 cfg5.N = columns (net2 (V (Proc.devRef .tc (main_v36 : Ref sig .tc))) (V (Proc.devRef .tc (main_v28_0 : Ref sig .tc)))
      (V (Proc.devRef .tc (main_v32 : Ref sig .tc))) (V (Proc.devRef .tc (main_v33 : Ref sig .tc)))
      (V (Proc.devRef .tc (main_v34 : Ref sig .tc))) (V (Proc.devRef .tc (main_v35 : Ref sig .tc)))) := by
  refine (MlpB.dat V O Rec c).arrAt_eq_of_covers 7 _ (by decide +kernel) fun t hf y => ?_
  blk_simp
  rw [MlpB.after_7]
  unfold Mlp.out_7 Mlp.pay_7
  frame_out
  obtain ⟨l, r, rfl⟩ : ∃ (l : Fin 128) (r : Fin 256), y = ix3 (0 : Fin 1) l r :=
    ⟨y 1, y 2, by funext a; match a with | ⟨0, _⟩ => exact Subsingleton.elim (α := Fin 1) _ _ | ⟨1, _⟩ => rfl | ⟨2, _⟩ => rfl⟩
  refine (mlp_apply _ _ _ _ _ _ r l).trans ?_
  have e0 : (((win5_7.blk t).view.emb (ix3 (0 : Fin 1) l r)) 0 : ℕ) = (grid5.coords t 0).val := by
    blk_simp [(index5 t).2.2.2.2.2.2.2]
    exact Nat.add_zero _
  have e1 : ((win5_7.blk t).view.emb (ix3 (0 : Fin 1) l r)) 1 = l := by
    apply Fin.ext
    blk_simp [(index5 t).2.2.2.2.2.2.2]
  have e2 : (((win5_7.blk t).view.emb (ix3 (0 : Fin 1) l r)) 2 : ℕ) = (grid5.coords t 1).val * 256 + r.val := by
    blk_simp [(index5 t).2.2.2.2.2.2.2]
  unfold columns
  rw [e1]
  exact point5 V t r l _ _ e0 e2

theorem rowsB (c : Dev nD) :
    (MlpB.dat V O Rec c).arrAt 6 cfg5.N = rows (net2 (V (Proc.devRef .tc (main_v36 : Ref sig .tc))) (V (Proc.devRef .tc (main_v28_0 : Ref sig .tc)))
      (V (Proc.devRef .tc (main_v32 : Ref sig .tc))) (V (Proc.devRef .tc (main_v33 : Ref sig .tc)))
      (V (Proc.devRef .tc (main_v34 : Ref sig .tc))) (V (Proc.devRef .tc (main_v35 : Ref sig .tc)))) := by
  refine (MlpB.dat V O Rec c).arrAt_eq_of_covers 6 _ (by decide +kernel) fun t hf y => ?_
  blk_simp
  rw [MlpB.after_6]
  unfold Mlp.out_6 Mlp.pay_6
  frame_out
  obtain ⟨r, l, rfl⟩ : ∃ (r : Fin 256) (l : Fin 128), y = ix3 (0 : Fin 1) r l :=
    ⟨y 1, y 2, by funext a; match a with | ⟨0, _⟩ => exact Subsingleton.elim (α := Fin 1) _ _ | ⟨1, _⟩ => rfl | ⟨2, _⟩ => rfl⟩
  refine (mlp_rows_apply _ _ _ _ _ _ r l).trans ?_
  have e0 : (((win5_6.blk t).view.emb (ix3 (0 : Fin 1) r l)) 0 : ℕ) = (grid5.coords t 0).val := by
    blk_simp [(index5 t).2.2.2.2.2.2.1]
    exact Nat.add_zero _
  have e1 : (((win5_6.blk t).view.emb (ix3 (0 : Fin 1) r l)) 1 : ℕ) = (grid5.coords t 1).val * 256 + r.val := by
    blk_simp [(index5 t).2.2.2.2.2.2.1]
  have e2 : ((win5_6.blk t).view.emb (ix3 (0 : Fin 1) r l)) 2 = l := by
    apply Fin.ext
    blk_simp [(index5 t).2.2.2.2.2.2.1]
  unfold rows
  rw [e2]
  exact point5 V t r l _ _ e0 e1

end Cert.Kernel.Nets

end
-- ==== Proof.NetsC.lean ====
/-
  The array the third stage's call after its gather leaves, entry by entry.
-/
module

public import proofs.«01_k».proof.Proof.Nets

@[expose] public section

set_option maxRecDepth 16384

noncomputable section

namespace Cert.Kernel.Nets

open Cert.Kernel Cert.Kernel.Gen Cert.Kernel.Calls Idealize.ShloMosaic Idealize.ShloMosaic.TcCoe Idealize.SL.Sem
open Idealize.ShloMosaic.SparseCore.Cfg (HIx)
open Cert.Spec

variable (V : Valuation τ sig (Elt Ideal)) (O : CellTallies nD τ sig (HIx 3)) (Rec : Set (SemLoc sig × HIx 3))

theorem index8 : ∀ t : Fin cfg8.N, win8_0.index t = ![(grid8.coords t 0).val, (grid8.coords t 1).val, 0]
    ∧ win8_1.index t = ![(grid8.coords t 0).val, (grid8.coords t 1).val, 0]
    ∧ win8_2.index t = ![0, 0] ∧ win8_3.index t = ![0, 0]
    ∧ win8_4.index t = ![(grid8.coords t 0).val, (grid8.coords t 1).val, 0]
    ∧ win8_5.index t = ![(grid8.coords t 0).val, 0, (grid8.coords t 1).val] := by
  decide +kernel

theorem read_rows8 (t : Fin cfg8.N) (y : Fin 4096) (k : Fin 128) (a : Fin 2) (b : Fin 65536) (ha : (a : ℕ) = (grid8.coords t 0).val)
    (hb : (b : ℕ) = (grid8.coords t 1).val * 4096 + y.val) :
    (iblk cfg8 V 0 t (ix3 (0 : Fin 1) y k) : EReal) = V (Proc.devRef .tc (main_v51 : Ref sig .tc)) (ix3 a b k) := by
  refine congrArg (V (Proc.devRef .tc (main_v51 : Ref sig .tc))) (funext fun x => Fin.ext ?_)
  match x with
  | ⟨0, _⟩ =>
    refine (Pipeline.Window.rect_emb_val win8_0 t _ _).trans ?_
    rw [(index8 t).1]
    exact (Nat.mul_one _).trans ha.symm
  | ⟨1, _⟩ =>
    refine (Pipeline.Window.rect_emb_val win8_0 t _ _).trans ?_
    rw [(index8 t).1]
    exact hb.symm
  | ⟨2, _⟩ =>
    refine (Pipeline.Window.rect_emb_val win8_0 t _ _).trans ?_
    rw [(index8 t).1]
    exact (congrArg (· + k.val) (Nat.zero_mul 128)).trans (Nat.zero_add _)

theorem read_query8 (t : Fin cfg8.N) (y : Fin 256) (k : Fin 128) (a : Fin 2) (b : Fin 4096) (ha : (a : ℕ) = (grid8.coords t 0).val)
    (hb : (b : ℕ) = (grid8.coords t 1).val * 256 + y.val) :
    (iblk cfg8 V 1 t (ix3 (0 : Fin 1) y k) : EReal) = V (Proc.devRef .tc (main_v45_0 : Ref sig .tc)) (ix3 a b k) := by
  refine congrArg (V (Proc.devRef .tc (main_v45_0 : Ref sig .tc))) (funext fun x => Fin.ext ?_)
  match x with
  | ⟨0, _⟩ =>
    refine (Pipeline.Window.rect_emb_val win8_1 t _ _).trans ?_
    rw [(index8 t).2.1]
    exact (Nat.mul_one _).trans ha.symm
  | ⟨1, _⟩ =>
    refine (Pipeline.Window.rect_emb_val win8_1 t _ _).trans ?_
    rw [(index8 t).2.1]
    exact hb.symm
  | ⟨2, _⟩ =>
    refine (Pipeline.Window.rect_emb_val win8_1 t _ _).trans ?_
    rw [(index8 t).2.1]
    exact (congrArg (· + k.val) (Nat.zero_mul 128)).trans (Nat.zero_add _)

/-- What the body leaves of a query's blocks is the layer at the query. -/
theorem point8 (t : Fin cfg8.N) (r : Fin 256) (l : Fin 128) (i : Fin 2) (j : Fin 4096) (hi : (i : ℕ) = (grid8.coords t 0).val)
    (hj : (j : ℕ) = (grid8.coords t 1).val * 256 + r.val) :
    block1 (iblk cfg8 V 0 t) (iblk cfg8 V 1 t) (iblk cfg8 V 2 t) (iblk cfg8 V 3 t) r l
    = net1 (V (Proc.devRef .tc (main_v51 : Ref sig .tc))) (V (Proc.devRef .tc (main_v45_0 : Ref sig .tc)))
      (V (Proc.devRef .tc (main_v49 : Ref sig .tc))) (V (Proc.devRef .tc (main_v50 : Ref sig .tc))) i j l := by
  unfold block1 net1 meet
  refine best_congr fun n => ?_
  refine layer_congr (fun l k => ?_) (fun l => ?_) (fun k => congrArg leaky ?_)
  · blk_ext [iblk, index8 t]
  · blk_ext [iblk, index8 t]
  · refine congrArg₂ (fun u v : EReal => u + v) (read_rows8 V t _ k _ _ hi ?_) (read_query8 V t _ k _ _ hi hj)
    show j.val * 16 + n.val = (grid8.coords t 1).val * 4096 + (r.val * 16 + n.val)
    rw [hj]
    omega

theorem columnsC (c : Dev nD) :
    (MlpC.dat V O Rec c).arrAt 5 cfg8.N = columns (net1 (V (Proc.devRef .tc (main_v51 : Ref sig .tc))) (V (Proc.devRef .tc (main_v45_0 : Ref sig .tc)))
      (V (Proc.devRef .tc (main_v49 : Ref sig .tc))) (V (Proc.devRef .tc (main_v50 : Ref sig .tc)))) := by
  refine (MlpC.dat V O Rec c).arrAt_eq_of_covers 5 _ (by decide +kernel) fun t hf y => ?_
  blk_simp
  rw [MlpC.after_5]
  unfold MlpOne.out_5 MlpOne.pay_5
  frame_out
  obtain ⟨l, r, rfl⟩ : ∃ (l : Fin 128) (r : Fin 256), y = ix3 (0 : Fin 1) l r :=
    ⟨y 1, y 2, by funext a; match a with | ⟨0, _⟩ => exact Subsingleton.elim (α := Fin 1) _ _ | ⟨1, _⟩ => rfl | ⟨2, _⟩ => rfl⟩
  refine (mlp_one_apply _ _ _ _ r l).trans ?_
  have e0 : (((win8_5.blk t).view.emb (ix3 (0 : Fin 1) l r)) 0 : ℕ) = (grid8.coords t 0).val := by
    blk_simp [(index8 t).2.2.2.2.2]
    exact Nat.add_zero _
  have e1 : ((win8_5.blk t).view.emb (ix3 (0 : Fin 1) l r)) 1 = l := by
    apply Fin.ext
    blk_simp [(index8 t).2.2.2.2.2]
  have e2 : (((win8_5.blk t).view.emb (ix3 (0 : Fin 1) l r)) 2 : ℕ) = (grid8.coords t 1).val * 256 + r.val := by
    blk_simp [(index8 t).2.2.2.2.2]
  unfold columns
  rw [e1]
  exact point8 V t r l _ _ e0 e2

end Cert.Kernel.Nets

end
-- ==== Proof.Entries.lean ====
/-
  The host's moves between the calls, entry by entry, and what a stage's calls make together.
-/
module

public import proofs.«01_k».proof.Proof.Pays
public import proofs.«01_k».proof.Proof.NetsB
public import proofs.«01_k».proof.Proof.NetsC

@[expose] public section

set_option maxRecDepth 16384

noncomputable section

namespace Cert.Kernel.Entries

open Cert.Kernel Cert.Kernel.Gen Cert.Kernel.Pays Cert.Kernel.Nets
open Idealize.ShloMosaic Idealize.ShloMosaic.TcCoe Idealize.SL.Sem
open Cert.Spec

/-! ## The host's moves -/

theorem features (p : Vec Ideal S2x64x4096 .f32) (i : Fin 2) (j : Fin 4096) (k : Fin 64) :
    transpose S2x4096x64 [0, 2, 1] p transposes_S2x64x4096_S2x4096x64_0_2_1 (ix3 i j k) = pts (D := 64) p i j k := by
  unfold pts; pointwise

theorem points (x : Vec Ideal S2x3x4096 .f32) (i : Fin 2) (j : Fin 4096) (k : Fin 3) :
    transpose S2x4096x3 [0, 2, 1] x transposes_S2x3x4096_S2x4096x3_0_2_1 (ix3 i j k) = pts (D := 3) x i j k := by
  unfold pts; pointwise

theorem weights_a (w : Vec Ideal S128x131 .f32) (l : Fin 128) (k : Fin 64) :
    transpose S64x128 [1, 0] (extractStridedSlice S128x64 ![0, 0] w slices_S128x131_S128x64_0_0) transposes_S128x64_S64x128_1_0 (ix2 k l)
      = Cert.Spec.head (N := 131) w 64 (by omega) l k := by
  unfold Cert.Spec.head; pointwise

theorem weights_b (w : Vec Ideal S128x131 .f32) (l : Fin 128) (k : Fin 64) :
    transpose S64x128 [1, 0] (extractStridedSlice S128x64 ![0, 64] w slices_S128x131_S128x64_0_64) transposes_S128x64_S64x128_1_0 (ix2 k l)
      = part (N := 131) w 64 64 (by omega) l k := by
  unfold part; pointwise

theorem weights_c (w : Vec Ideal S128x131 .f32) (l : Fin 128) (k : Fin 3) :
    transpose S3x128 [1, 0] (extractStridedSlice S128x3 ![0, 128] w slices_S128x131_S128x3_0_128) transposes_S128x3_S3x128_1_0 (ix2 k l)
      = part (N := 131) w 128 3 (by omega) l k := by
  unfold part; pointwise

theorem wide_a (w : Vec Ideal S128x259 .f32) (l : Fin 128) (k : Fin 128) :
    transpose S128x128 [1, 0] (extractStridedSlice S128x128 ![0, 0] w slices_S128x259_S128x128_0_0) transposes_S128x128_S128x128_1_0 (ix2 k l)
      = Cert.Spec.head (N := 259) w 128 (by omega) l k := by
  unfold Cert.Spec.head; pointwise

theorem wide_b (w : Vec Ideal S128x259 .f32) (l : Fin 128) (k : Fin 128) :
    transpose S128x128 [1, 0] (extractStridedSlice S128x128 ![0, 128] w slices_S128x259_S128x128_0_128) transposes_S128x128_S128x128_1_0 (ix2 k l)
      = part (N := 259) w 128 128 (by omega) l k := by
  unfold part; pointwise

theorem wide_c (w : Vec Ideal S128x259 .f32) (l : Fin 128) (k : Fin 3) :
    transpose S3x128 [1, 0] (extractStridedSlice S128x3 ![0, 256] w slices_S128x259_S128x3_0_256) transposes_S128x3_S3x128_1_0 (ix2 k l)
      = part (N := 259) w 256 3 (by omega) l k := by
  unfold part; pointwise

theorem net_weights (w : Vec Ideal S128x128 .f32) (l k : Fin 128) :
    transpose S128x128 [1, 0] w transposes_S128x128_S128x128_1_0 (ix2 k l) = mat w l k := by
  unfold mat; pointwise

theorem net_bias (b : Vec Ideal S128 .f32) (l : Fin 128) : shapeCast S1x128 b shapeCasts_S128_S1x128 (ix2 0 l) = vec b l := by
  unfold vec; pointwise

theorem list_entry (y : IVec S2x4096x16 32) (i : Fin 2) (j : Fin 4096) (n : Fin 16) (s : Fin 131072) (hs : s.val = i.val * 65536 + (j.val * 16 + n.val)) :
    shapeCast S1x131072 y shapeCasts_S2x4096x16_S1x131072 (ix2 0 s) = y (ix3 i j n) := by
  refine shapeCast_apply _ shapeCasts_S2x4096x16_S1x131072 (ix2 0 s) (ix3 i j n) ?_
  rw [Shape.rowMajor_val_three, Shape.rowMajor_val_two]
  show (i.val * 4096 + j.val) * 16 + n.val = 0 * 131072 + s.val
  omega

theorem rows_entry (g : Vec Ideal S131072x128 .f32) (i : Fin 2) (r : Fin 65536) (k : Fin 128) (s : Fin 131072) (hs : s.val = i.val * 65536 + r.val) :
    shapeCast S2x65536x128 g shapeCasts_S131072x128_S2x65536x128 (ix3 i r k) = g (ix2 s k) := by
  refine shapeCast_apply _ shapeCasts_S131072x128_S2x65536x128 (ix3 i r k) (ix2 s k) ?_
  rw [Shape.rowMajor_val_three, Shape.rowMajor_val_two]
  show s.val * 128 + k.val = (i.val * 65536 + r.val) * 128 + k.val
  omega

theorem table_entry (t : Vec Ideal S2x4096x128 .f32) (r : Fin 8192) (l : Fin 128) :
    shapeCast S8192x128 t shapeCasts_S2x4096x128_S8192x128 (ix2 r l) = t (ix3 ⟨r.val / 4096, by omega⟩ ⟨r.val % 4096, by omega⟩ l) := by
  refine shapeCast_apply _ shapeCasts_S2x4096x128_S8192x128 (ix2 r l) (ix3 ⟨r.val / 4096, by omega⟩ ⟨r.val % 4096, by omega⟩ l) ?_
  rw [Shape.rowMajor_val_three, Shape.rowMajor_val_two]
  show (r.val / 4096 * 4096 + r.val % 4096) * 128 + l.val = r.val * 128 + l.val
  omega

/-! ## A stage -/

/-- The gathered rows, at a neighbour of a query: the table's row that the list names. -/
theorem gathered_entry {t : Vec Ideal S2x4096x128 .f32} {y : IVec S2x4096x16 32} {ft : Vec Ideal S8192x128 .f32} {fl : IVec S1x131072 32}
    {g : Vec Ideal S131072x128 .f32} {T : Pts 128} (hT : ∀ i j l, t (ix3 i j l) = T i j l)
    (hft : ft = shapeCast S8192x128 t shapeCasts_S2x4096x128_S8192x128) (hfl : fl = shapeCast S1x131072 y shapeCasts_S2x4096x16_S1x131072)
    (hg : ∀ (s : Fin 131072) (l : Fin 128) (r : Fin 8192), (fl (ix2 0 s)).toNat = r.val → g (ix2 s l) = ft (ix2 r l))
    (hy : ∀ j, (y j).toNat < 8192) (i : Fin 2) (j : Fin 4096) (n : Fin 16) (k : Fin 128) :
    shapeCast S2x65536x128 g shapeCasts_S131072x128_S2x65536x128 (ix3 i ⟨j.val * 16 + n.val, by omega⟩ k) = atRow T (rowAt y i j n) k := by
  have hs : i.val * 65536 + (j.val * 16 + n.val) < 131072 := by omega
  refine (rows_entry g i ⟨j.val * 16 + n.val, by omega⟩ k ⟨i.val * 65536 + (j.val * 16 + n.val), hs⟩ rfl).trans ?_
  refine (hg _ k (rowAt y i j n) ?_).trans ?_
  · rw [hfl, list_entry y i j n _ rfl, rowAt_eq y i j n (hy _)]
  · rw [hft, table_entry, hT]
    rfl

theorem net2_eq {g : Vec Ideal S2x65536x128 .f32} {q : Vec Ideal S2x4096x128 .f32} {w1 : Vec Ideal S128x128 .f32} {b1 : Vec Ideal S1x128 .f32}
    {w2 : Vec Ideal S128x128 .f32} {b2 : Vec Ideal S1x128 .f32} {T Q : Pts 128} {y : Fin 2 → Fin 4096 → Fin 16 → Fin 8192}
    {first : Fin 2 → Fin 4096 → Fin 8192 → Fin 128 → EReal} {W1 W2 : Fin 128 → Fin 128 → EReal} {B1 B2 : Fin 128 → EReal}
    (hg : ∀ i j n k, g (ix3 i ⟨j.val * 16 + n.val, by omega⟩ k) = atRow T (y i j n) k) (hq : ∀ i j k, q (ix3 i j k) = Q i j k)
    (hf : ∀ i j r l, atRow T r l + Q i j l = first i j r l)
    (h1 : ∀ l k, w1 (ix2 k l) = W1 l k) (c1 : ∀ l, b1 (ix2 0 l) = B1 l) (h2 : ∀ l k, w2 (ix2 k l) = W2 l k) (c2 : ∀ l, b2 (ix2 0 l) = B2 l) :
    net2 g q w1 b1 w2 b2 = stageTwo first y W1 B1 W2 B2 := by
  funext i j l
  unfold net2 stageTwo meet
  exact best_congr fun n => layer_congr h2 c2 fun k => layer_congr h1 c1 fun k => congrArg leaky (by rw [hg, hq, hf])

theorem net1_eq {g : Vec Ideal S2x65536x128 .f32} {q : Vec Ideal S2x4096x128 .f32} {w1 : Vec Ideal S128x128 .f32} {b1 : Vec Ideal S1x128 .f32}
    {T Q : Pts 128} {y : Fin 2 → Fin 4096 → Fin 16 → Fin 8192}
    {first : Fin 2 → Fin 4096 → Fin 8192 → Fin 128 → EReal} {W1 : Fin 128 → Fin 128 → EReal} {B1 : Fin 128 → EReal}
    (hg : ∀ i j n k, g (ix3 i ⟨j.val * 16 + n.val, by omega⟩ k) = atRow T (y i j n) k) (hq : ∀ i j k, q (ix3 i j k) = Q i j k)
    (hf : ∀ i j r l, atRow T r l + Q i j l = first i j r l)
    (h1 : ∀ l k, w1 (ix2 k l) = W1 l k) (c1 : ∀ l, b1 (ix2 0 l) = B1 l) :
    net1 g q w1 b1 = stageOne first y W1 B1 := by
  funext i j l
  unfold net1 stageOne meet
  exact best_congr fun n => layer_congr h1 c1 fun k => congrArg leaky (by rw [hg, hq, hf])

end Cert.Kernel.Entries

end
-- ==== Proof.Hosts.lean ====
/-
  What the host makes of the program's arguments, for each call.
-/
module

public import proofs.«01_k».proof.Proof.Entries
public import proofs.«01_k».proof.Proof.Launch

@[expose] public section

set_option maxRecDepth 16384

noncomputable section

namespace Cert.Kernel.Final

open Cert.Kernel Cert.Kernel.Gen Cert.Kernel.Moves Cert.Kernel.Kern Cert.Kernel.Setup Cert.Kernel.Region Cert.Kernel.Launch Cert.Kernel.Pays Cert.Kernel.Nets Cert.Kernel.Entries Cert.Kernel.Sites
open Idealize.ShloMosaic Idealize.ShloMosaic.TcCoe Idealize.SL.Sem
open Cert.Spec

variable (m : (ℓ : Loc nD τ sig) → Buf (Elt Ideal) ℓ) (hpre : PreOK m) (d : Dev nD)

/-- What a buffer holds at the launch. -/
abbrev at' (r : Ref sig .tc) : Buf (Elt Ideal) (d, (Proc.devRef .tc r : DevRef τ sig)) := m (d, Proc.devRef .tc r)

/-- The program's arguments. -/
def args : Args where
  x1 := at' m d main_arg0
  x2 := at' m d main_arg1
  p1 := at' m d main_arg2
  p2 := at' m d main_arg3
  y12 := at' m d main_arg4
  y21 := at' m d main_arg5
  w0 := at' m d main_arg6
  b0 := at' m d main_arg7
  w1 := at' m d main_arg8
  b1 := at' m d main_arg9
  w2 := at' m d main_arg10
  b2 := at' m d main_arg11
  u0 := at' m d main_arg12
  c0 := at' m d main_arg13
  u1 := at' m d main_arg14
  c1 := at' m d main_arg15

/-- A buffer no step of the program writes. -/
abbrev Untouched (r : Ref sig .tc) : Prop := ∀ x ∈ ([main_v0, main_v1, main_v2, main_v3, main_v4, main_v5, main_v6, main_v7, main_v8, main_v9, main_v10, main_v12, main_v13, main_v15, main_v16, main_v17, main_v18, main_v19, main_v21, main_v22, main_v23, main_v24, main_v25, main_v26, main_v27, main_v29, main_v30, main_v32, main_v33, main_v34, main_v35, main_v36, main_v38, main_v39, main_v40, main_v41, main_v42, main_v43, main_v44, main_v46, main_v47, main_v49, main_v50, main_v51, main_v11_0, main_v11_1, main_v20_0, main_v20_1, main_v28_0, main_v28_1, main_v37_0, main_v37_1, main_v45_0, main_v45_1, main_v52_0, main_v52_1, main_v14, main_v31, main_v48] : List (Ref sig .tc)), r ≠ x

theorem V2_at {r : Ref sig .tc} (h : Untouched r) : V2 m d (Proc.devRef .tc r) = at' m d r := by
  rw [V2_keep (h := fun x hx => h x (by revert x; decide)), V1_keep (h := fun x hx => h x (by revert x; decide))]
  rfl
theorem V4_at {r : Ref sig .tc} (h : Untouched r) : V4 m hpre d (Proc.devRef .tc r) = at' m d r := by
  rw [V4_keep (h := fun x hx => h x (by revert x; decide)), V3_keep (h := fun x hx => h x (by revert x; decide))]
  exact V2_at m d h
theorem V6_at {r : Ref sig .tc} (h : Untouched r) : V6 m hpre d (Proc.devRef .tc r) = at' m d r := by
  rw [V6_keep (h := fun x hx => h x (by revert x; decide)), V5_keep (h := fun x hx => h x (by revert x; decide))]
  exact V4_at m hpre d h
theorem V8_at {r : Ref sig .tc} (h : Untouched r) : V8 m hpre d (Proc.devRef .tc r) = at' m d r := by
  rw [V8_keep (h := fun x hx => h x (by revert x; decide)), V7_keep (h := fun x hx => h x (by revert x; decide))]
  exact V6_at m hpre d h
theorem V10_at {r : Ref sig .tc} (h : Untouched r) : V10 m hpre d (Proc.devRef .tc r) = at' m d r := by
  rw [V10_keep (h := fun x hx => h x (by revert x; decide)), V9_keep (h := fun x hx => h x (by revert x; decide))]
  exact V8_at m hpre d h
theorem V12_at {r : Ref sig .tc} (h : Untouched r) : V12 m hpre d (Proc.devRef .tc r) = at' m d r := by
  rw [V12_keep (h := fun x hx => h x (by revert x; decide)), V11_keep (h := fun x hx => h x (by revert x; decide))]
  exact V10_at m hpre d h
theorem V14_at {r : Ref sig .tc} (h : Untouched r) : V14 m hpre d (Proc.devRef .tc r) = at' m d r := by
  rw [V14_keep (h := fun x hx => h x (by revert x; decide)), V13_keep (h := fun x hx => h x (by revert x; decide))]
  exact V12_at m hpre d h
theorem V16_at {r : Ref sig .tc} (h : Untouched r) : V16 m hpre d (Proc.devRef .tc r) = at' m d r := by
  rw [V16_keep (h := fun x hx => h x (by revert x; decide)), V15_keep (h := fun x hx => h x (by revert x; decide))]
  exact V14_at m hpre d h

/-! ## The first stage -/

theorem V1_v0 : V1 m d (Proc.devRef .tc (main_v0 : Ref sig .tc))
    = transpose S2x4096x3 [0, 2, 1] (at' m d main_arg0) transposes_S2x3x4096_S2x4096x3_0_2_1 := by
  unfold V1 host1; after_results_simp; all_goals rfl
theorem V1_v1 : V1 m d (Proc.devRef .tc (main_v1 : Ref sig .tc))
    = transpose S2x4096x3 [0, 2, 1] (at' m d main_arg1) transposes_S2x3x4096_S2x4096x3_0_2_1 := by
  unfold V1 host1; after_results_simp; all_goals rfl
theorem V1_v2 : V1 m d (Proc.devRef .tc (main_v2 : Ref sig .tc))
    = transpose S2x4096x64 [0, 2, 1] (at' m d main_arg2) transposes_S2x64x4096_S2x4096x64_0_2_1 := by
  unfold V1 host1; after_results_simp; all_goals rfl
theorem V1_v3 : V1 m d (Proc.devRef .tc (main_v3 : Ref sig .tc))
    = transpose S2x4096x64 [0, 2, 1] (at' m d main_arg3) transposes_S2x64x4096_S2x4096x64_0_2_1 := by
  unfold V1 host1; after_results_simp; all_goals rfl
theorem V1_v5 : V1 m d (Proc.devRef .tc (main_v5 : Ref sig .tc))
    = transpose S64x128 [1, 0] (extractStridedSlice S128x64 ![0, 0] (at' m d main_arg6) slices_S128x131_S128x64_0_0) transposes_S128x64_S64x128_1_0 := by
  unfold V1 host1; after_results_simp; all_goals rfl
theorem V1_v7 : V1 m d (Proc.devRef .tc (main_v7 : Ref sig .tc))
    = transpose S64x128 [1, 0] (extractStridedSlice S128x64 ![0, 64] (at' m d main_arg6) slices_S128x131_S128x64_0_64) transposes_S128x64_S64x128_1_0 := by
  unfold V1 host1; after_results_simp; all_goals rfl
theorem V1_v9 : V1 m d (Proc.devRef .tc (main_v9 : Ref sig .tc))
    = transpose S3x128 [1, 0] (extractStridedSlice S128x3 ![0, 128] (at' m d main_arg6) slices_S128x131_S128x3_0_128) transposes_S128x3_S3x128_1_0 := by
  unfold V1 host1; after_results_simp; all_goals rfl
theorem V1_v10 : V1 m d (Proc.devRef .tc (main_v10 : Ref sig .tc))
    = shapeCast S1x128 (at' m d main_arg7) shapeCasts_S128_S1x128 := by
  unfold V1 host1; after_results_simp; all_goals rfl
theorem V3_v13 : V3 m d (Proc.devRef .tc (main_v13 : Ref sig .tc))
    = shapeCast S1x131072 (at' m d main_arg4) shapeCasts_S2x4096x16_S1x131072 := by
  rw [← V2_at m d (show Untouched main_arg4 by decide)]
  unfold V3 host2; after_results_simp; all_goals rfl
theorem V5_v15 : V5 m hpre d (Proc.devRef .tc (main_v15 : Ref sig .tc))
    = transpose S128x128 [1, 0] (at' m d main_arg8) transposes_S128x128_S128x128_1_0 := by
  rw [← V4_at m hpre d (show Untouched main_arg8 by decide)]
  unfold V5 host3; after_results_simp; all_goals rfl
theorem V5_v16 : V5 m hpre d (Proc.devRef .tc (main_v16 : Ref sig .tc))
    = shapeCast S1x128 (at' m d main_arg9) shapeCasts_S128_S1x128 := by
  rw [← V4_at m hpre d (show Untouched main_arg9 by decide)]
  unfold V5 host3; after_results_simp; all_goals rfl
theorem V5_v17 : V5 m hpre d (Proc.devRef .tc (main_v17 : Ref sig .tc))
    = transpose S128x128 [1, 0] (at' m d main_arg10) transposes_S128x128_S128x128_1_0 := by
  rw [← V4_at m hpre d (show Untouched main_arg10 by decide)]
  unfold V5 host3; after_results_simp; all_goals rfl
theorem V5_v18 : V5 m hpre d (Proc.devRef .tc (main_v18 : Ref sig .tc))
    = shapeCast S1x128 (at' m d main_arg11) shapeCasts_S128_S1x128 := by
  rw [← V4_at m hpre d (show Untouched main_arg11 by decide)]
  unfold V5 host3; after_results_simp; all_goals rfl

/-! ## The second stage -/

theorem V7_v22 : V7 m hpre d (Proc.devRef .tc (main_v22 : Ref sig .tc))
    = transpose S64x128 [1, 0] (extractStridedSlice S128x64 ![0, 0] (at' m d main_arg6) slices_S128x131_S128x64_0_0) transposes_S128x64_S64x128_1_0 := by
  rw [← V6_at m hpre d (show Untouched main_arg6 by decide)]
  unfold V7 host4; after_results_simp; all_goals rfl
theorem V7_v24 : V7 m hpre d (Proc.devRef .tc (main_v24 : Ref sig .tc))
    = transpose S64x128 [1, 0] (extractStridedSlice S128x64 ![0, 64] (at' m d main_arg6) slices_S128x131_S128x64_0_64) transposes_S128x64_S64x128_1_0 := by
  rw [← V6_at m hpre d (show Untouched main_arg6 by decide)]
  unfold V7 host4; after_results_simp; all_goals rfl
theorem V7_v26 : V7 m hpre d (Proc.devRef .tc (main_v26 : Ref sig .tc))
    = transpose S3x128 [1, 0] (extractStridedSlice S128x3 ![0, 128] (at' m d main_arg6) slices_S128x131_S128x3_0_128) transposes_S128x3_S3x128_1_0 := by
  rw [← V6_at m hpre d (show Untouched main_arg6 by decide)]
  unfold V7 host4; after_results_simp; all_goals rfl
theorem V7_v27 : V7 m hpre d (Proc.devRef .tc (main_v27 : Ref sig .tc))
    = shapeCast S1x128 (at' m d main_arg7) shapeCasts_S128_S1x128 := by
  rw [← V6_at m hpre d (show Untouched main_arg7 by decide)]
  unfold V7 host4; after_results_simp; all_goals rfl
theorem V7_v0 : V7 m hpre d (Proc.devRef .tc (main_v0 : Ref sig .tc)) = V1 m d (Proc.devRef .tc (main_v0 : Ref sig .tc)) := by
  rw [V7_keep m hpre d (by decide), V6_keep m hpre d (by decide), V5_keep m hpre d (by decide), V4_keep m hpre d (by decide), V3_keep m d (by decide), V2_keep m d (by decide)]
theorem V7_v1 : V7 m hpre d (Proc.devRef .tc (main_v1 : Ref sig .tc)) = V1 m d (Proc.devRef .tc (main_v1 : Ref sig .tc)) := by
  rw [V7_keep m hpre d (by decide), V6_keep m hpre d (by decide), V5_keep m hpre d (by decide), V4_keep m hpre d (by decide), V3_keep m d (by decide), V2_keep m d (by decide)]
theorem V7_v2 : V7 m hpre d (Proc.devRef .tc (main_v2 : Ref sig .tc)) = V1 m d (Proc.devRef .tc (main_v2 : Ref sig .tc)) := by
  rw [V7_keep m hpre d (by decide), V6_keep m hpre d (by decide), V5_keep m hpre d (by decide), V4_keep m hpre d (by decide), V3_keep m d (by decide), V2_keep m d (by decide)]
theorem V7_v3 : V7 m hpre d (Proc.devRef .tc (main_v3 : Ref sig .tc)) = V1 m d (Proc.devRef .tc (main_v3 : Ref sig .tc)) := by
  rw [V7_keep m hpre d (by decide), V6_keep m hpre d (by decide), V5_keep m hpre d (by decide), V4_keep m hpre d (by decide), V3_keep m d (by decide), V2_keep m d (by decide)]
theorem V9_v30 : V9 m hpre d (Proc.devRef .tc (main_v30 : Ref sig .tc))
    = shapeCast S1x131072 (at' m d main_arg5) shapeCasts_S2x4096x16_S1x131072 := by
  rw [← V8_at m hpre d (show Untouched main_arg5 by decide)]
  unfold V9 host5; after_results_simp; all_goals rfl
theorem V11_v32 : V11 m hpre d (Proc.devRef .tc (main_v32 : Ref sig .tc))
    = transpose S128x128 [1, 0] (at' m d main_arg8) transposes_S128x128_S128x128_1_0 := by
  rw [← V10_at m hpre d (show Untouched main_arg8 by decide)]
  unfold V11 host6; after_results_simp; all_goals rfl
theorem V11_v33 : V11 m hpre d (Proc.devRef .tc (main_v33 : Ref sig .tc))
    = shapeCast S1x128 (at' m d main_arg9) shapeCasts_S128_S1x128 := by
  rw [← V10_at m hpre d (show Untouched main_arg9 by decide)]
  unfold V11 host6; after_results_simp; all_goals rfl
theorem V11_v34 : V11 m hpre d (Proc.devRef .tc (main_v34 : Ref sig .tc))
    = transpose S128x128 [1, 0] (at' m d main_arg10) transposes_S128x128_S128x128_1_0 := by
  rw [← V10_at m hpre d (show Untouched main_arg10 by decide)]
  unfold V11 host6; after_results_simp; all_goals rfl
theorem V11_v35 : V11 m hpre d (Proc.devRef .tc (main_v35 : Ref sig .tc))
    = shapeCast S1x128 (at' m d main_arg11) shapeCasts_S128_S1x128 := by
  rw [← V10_at m hpre d (show Untouched main_arg11 by decide)]
  unfold V11 host6; after_results_simp; all_goals rfl

/-! ## The third stage -/

theorem V13_v39 : V13 m hpre d (Proc.devRef .tc (main_v39 : Ref sig .tc))
    = transpose S128x128 [1, 0] (extractStridedSlice S128x128 ![0, 0] (at' m d main_arg12) slices_S128x259_S128x128_0_0) transposes_S128x128_S128x128_1_0 := by
  rw [← V12_at m hpre d (show Untouched main_arg12 by decide)]
  unfold V13 host7; after_results_simp; all_goals rfl
theorem V13_v41 : V13 m hpre d (Proc.devRef .tc (main_v41 : Ref sig .tc))
    = transpose S128x128 [1, 0] (extractStridedSlice S128x128 ![0, 128] (at' m d main_arg12) slices_S128x259_S128x128_0_128) transposes_S128x128_S128x128_1_0 := by
  rw [← V12_at m hpre d (show Untouched main_arg12 by decide)]
  unfold V13 host7; after_results_simp; all_goals rfl
theorem V13_v43 : V13 m hpre d (Proc.devRef .tc (main_v43 : Ref sig .tc))
    = transpose S3x128 [1, 0] (extractStridedSlice S128x3 ![0, 256] (at' m d main_arg12) slices_S128x259_S128x3_0_256) transposes_S128x3_S3x128_1_0 := by
  rw [← V12_at m hpre d (show Untouched main_arg12 by decide)]
  unfold V13 host7; after_results_simp; all_goals rfl
theorem V13_v44 : V13 m hpre d (Proc.devRef .tc (main_v44 : Ref sig .tc))
    = shapeCast S1x128 (at' m d main_arg13) shapeCasts_S128_S1x128 := by
  rw [← V12_at m hpre d (show Untouched main_arg13 by decide)]
  unfold V13 host7; after_results_simp; all_goals rfl
theorem V13_v0 : V13 m hpre d (Proc.devRef .tc (main_v0 : Ref sig .tc)) = V1 m d (Proc.devRef .tc (main_v0 : Ref sig .tc)) := by
  rw [V13_keep m hpre d (by decide), V12_keep m hpre d (by decide), V11_keep m hpre d (by decide), V10_keep m hpre d (by decide), V9_keep m hpre d (by decide), V8_keep m hpre d (by decide)]
  exact V7_v0 m hpre d
theorem V13_v1 : V13 m hpre d (Proc.devRef .tc (main_v1 : Ref sig .tc)) = V1 m d (Proc.devRef .tc (main_v1 : Ref sig .tc)) := by
  rw [V13_keep m hpre d (by decide), V12_keep m hpre d (by decide), V11_keep m hpre d (by decide), V10_keep m hpre d (by decide), V9_keep m hpre d (by decide), V8_keep m hpre d (by decide)]
  exact V7_v1 m hpre d
theorem V13_v20_0 : V13 m hpre d (Proc.devRef .tc (main_v20_0 : Ref sig .tc)) = V6 m hpre d (Proc.devRef .tc (main_v20_0 : Ref sig .tc)) := by
  rw [V13_keep m hpre d (by decide), V12_keep m hpre d (by decide), V11_keep m hpre d (by decide), V10_keep m hpre d (by decide), V9_keep m hpre d (by decide), V8_keep m hpre d (by decide), V7_keep m hpre d (by decide)]
theorem V13_v37_0 : V13 m hpre d (Proc.devRef .tc (main_v37_0 : Ref sig .tc)) = V12 m hpre d (Proc.devRef .tc (main_v37_0 : Ref sig .tc)) := by
  rw [V13_keep m hpre d (by decide)]
theorem V15_v47 : V15 m hpre d (Proc.devRef .tc (main_v47 : Ref sig .tc))
    = shapeCast S1x131072 (at' m d main_arg4) shapeCasts_S2x4096x16_S1x131072 := by
  rw [← V14_at m hpre d (show Untouched main_arg4 by decide)]
  unfold V15 host8; after_results_simp; all_goals rfl
theorem V17_v49 : V17 m hpre d (Proc.devRef .tc (main_v49 : Ref sig .tc))
    = transpose S128x128 [1, 0] (at' m d main_arg14) transposes_S128x128_S128x128_1_0 := by
  rw [← V16_at m hpre d (show Untouched main_arg14 by decide)]
  unfold V17 host9; after_results_simp; all_goals rfl
theorem V17_v50 : V17 m hpre d (Proc.devRef .tc (main_v50 : Ref sig .tc))
    = shapeCast S1x128 (at' m d main_arg15) shapeCasts_S128_S1x128 := by
  rw [← V16_at m hpre d (show Untouched main_arg15 by decide)]
  unfold V17 host9; after_results_simp; all_goals rfl

/-! ## What later calls leave of a result -/

theorem V18_v20_1 : V18 m hpre d (Proc.devRef .tc (main_v20_1 : Ref sig .tc)) = V6 m hpre d (Proc.devRef .tc (main_v20_1 : Ref sig .tc)) := by
  rw [V18_keep m hpre d (by decide), V17_keep m hpre d (by decide), V16_keep m hpre d (by decide), V15_keep m hpre d (by decide), V14_keep m hpre d (by decide), V13_keep m hpre d (by decide), V12_keep m hpre d (by decide), V11_keep m hpre d (by decide), V10_keep m hpre d (by decide), V9_keep m hpre d (by decide), V8_keep m hpre d (by decide), V7_keep m hpre d (by decide)]
theorem V18_v37_1 : V18 m hpre d (Proc.devRef .tc (main_v37_1 : Ref sig .tc)) = V12 m hpre d (Proc.devRef .tc (main_v37_1 : Ref sig .tc)) := by
  rw [V18_keep m hpre d (by decide), V17_keep m hpre d (by decide), V16_keep m hpre d (by decide), V15_keep m hpre d (by decide), V14_keep m hpre d (by decide), V13_keep m hpre d (by decide)]

end Cert.Kernel.Final

end
-- ==== Proof.FinalA.lean ====
/-
  The first stage: what its calls leave.
-/
module

public import proofs.«01_k».proof.Proof.Hosts

@[expose] public section

set_option maxRecDepth 16384

noncomputable section

namespace Cert.Kernel.Final

open Cert.Kernel Cert.Kernel.Gen Cert.Kernel.Moves Cert.Kernel.Kern Cert.Kernel.Setup Cert.Kernel.Region Cert.Kernel.Launch Cert.Kernel.Pays Cert.Kernel.Nets Cert.Kernel.Entries Cert.Kernel.Sites
open Idealize.ShloMosaic Idealize.ShloMosaic.TcCoe Idealize.SL.Sem
open Cert.Spec

variable (m : (ℓ : Loc nD τ sig) → Buf (Elt Ideal) ℓ) (hpre : PreOK m) (d : Dev nD)

/-! ## What the first call leaves -/

theorem V2_v11_0 : V2 m d (Proc.devRef .tc (main_v11_0 : Ref sig .tc))
    = queryOf (D := 64) (V1 m d (Proc.devRef .tc (main_v2 : Ref sig .tc))) (V1 m d (Proc.devRef .tc (main_v5 : Ref sig .tc))) (V1 m d (Proc.devRef .tc (main_v0 : Ref sig .tc))) (V1 m d (Proc.devRef .tc (main_v9 : Ref sig .tc))) (V1 m d (Proc.devRef .tc (main_v10 : Ref sig .tc))) := by
  have h := Pipeline.afterRegion_arr (dats (V1 m d) ((K (F := Ideal)).Otc d 0) (8 * 0) 0 d) (V1 m d)
    (good_0 (V1 m d) ((K (F := Ideal)).Otc d 0) (8 * 0)).kit.win.arr_inj (8 : Fin 10)
  exact h.trans (queriesA (V1 m d) ((K (F := Ideal)).Otc d 0) (recs (F := Ideal) (8 * 0) d) d)
theorem V2_v11_1 : V2 m d (Proc.devRef .tc (main_v11_1 : Ref sig .tc))
    = tableOf (D := 64) (V1 m d (Proc.devRef .tc (main_v3 : Ref sig .tc))) (V1 m d (Proc.devRef .tc (main_v7 : Ref sig .tc))) (V1 m d (Proc.devRef .tc (main_v1 : Ref sig .tc))) (V1 m d (Proc.devRef .tc (main_v9 : Ref sig .tc))) := by
  have h := Pipeline.afterRegion_arr (dats (V1 m d) ((K (F := Ideal)).Otc d 0) (8 * 0) 0 d) (V1 m d)
    (good_0 (V1 m d) ((K (F := Ideal)).Otc d 0) (8 * 0)).kit.win.arr_inj (9 : Fin 10)
  exact h.trans (tablesA (V1 m d) ((K (F := Ideal)).Otc d 0) (recs (F := Ideal) (8 * 0) d) d)

theorem queriesA_apply (i : Fin 2) (j : Fin 4096) (l : Fin 128) : V2 m d (Proc.devRef .tc (main_v11_0 : Ref sig .tc)) (ix3 i j l) = querySum (pts (args m d).p1) (pts (args m d).x1) (Spec.head (args m d).w0 64 (by omega)) (part (args m d).w0 128 3 (by omega)) (vec (args m d).b0) i j l := by
  rw [V2_v11_0, V1_v2, V1_v5, V1_v0, V1_v9, V1_v10]
  exact queryOf_eq (features _) (weights_a _) (points _) (weights_c _) (net_bias _) i j l

theorem tablesA_apply (i : Fin 2) (j : Fin 4096) (l : Fin 128) : V2 m d (Proc.devRef .tc (main_v11_1 : Ref sig .tc)) (ix3 i j l) = tableSum (pts (args m d).p2) (pts (args m d).x2) (part (args m d).w0 64 64 (by omega)) (part (args m d).w0 128 3 (by omega)) i j l := by
  rw [V2_v11_1, V1_v3, V1_v7, V1_v1, V1_v9]
  exact tableOf_eq (features _) (weights_b _) (points _) (weights_c _) i j l

/-! ## The gathered rows -/

theorem V3_v12 : V3 m d (Proc.devRef .tc (main_v12 : Ref sig .tc)) = shapeCast S8192x128 (V2 m d (Proc.devRef .tc (main_v11_1 : Ref sig .tc))) shapeCasts_S2x4096x128_S8192x128 := by
  unfold V3 host2; after_results_simp; all_goals rfl

theorem wantA_apply (s : Fin 131072) (l : Fin 128) (r : Fin 8192) (hr : (V3 m d (Proc.devRef .tc (main_v13 : Ref sig .tc)) (ix2 0 s) : BitVec 32).toNat = r.val) :
    (dataA m hpre).want d (ix2 s l) = V3 m d (Proc.devRef .tc (main_v12 : Ref sig .tc)) (ix2 r l) := by
  have e : A.site.out.view.emb (ix2 s l) = ix2 s l := rfl
  have h := View.write_emb_of_mem (Val := Elt Ideal) (v := A.site.out.view) ((dataA m hpre).fo d)
    (gathered (F := Ideal) A.site.tab A.site.lst ((dataA m hpre).ft d) ((dataA m hpre).fl d) ((dataA m hpre).inTable d)) (Finset.mem_univ (ix2 s l))
  rw [e] at h
  refine h.trans ?_
  show V3 m d (Proc.devRef .tc (main_v12 : Ref sig .tc)) (ix2 (⟨(V3 m d (Proc.devRef .tc (main_v13 : Ref sig .tc)) (ix2 0 s) : BitVec 32).toNat, _⟩ : Fin 8192) l) = _
  exact congrArg (fun r : Fin 8192 => V3 m d (Proc.devRef .tc (main_v12 : Ref sig .tc)) (ix2 r l)) (Fin.ext hr)

theorem V5_v19 : V5 m hpre d (Proc.devRef .tc (main_v19 : Ref sig .tc)) = shapeCast S2x65536x128 ((dataA m hpre).want d) shapeCasts_S131072x128_S2x65536x128 := by
  rw [← show V4 m hpre d A.o' = (dataA m hpre).want d from Function.update_self _ _ _]
  unfold V5 host3; after_results_simp; all_goals rfl

theorem V5_v11_0 : V5 m hpre d (Proc.devRef .tc (main_v11_0 : Ref sig .tc)) = V2 m d (Proc.devRef .tc (main_v11_0 : Ref sig .tc)) := by
  rw [V5_keep m hpre d (by decide), V4_keep m hpre d (by decide), V3_keep m d (by decide)]

/-! ## The stage's value -/

theorem V6_v20_1 : V6 m hpre d (Proc.devRef .tc (main_v20_1 : Ref sig .tc))
    = columns (net2 (V5 m hpre d (Proc.devRef .tc (main_v19 : Ref sig .tc))) (V5 m hpre d (Proc.devRef .tc (main_v11_0 : Ref sig .tc))) (V5 m hpre d (Proc.devRef .tc (main_v15 : Ref sig .tc))) (V5 m hpre d (Proc.devRef .tc (main_v16 : Ref sig .tc))) (V5 m hpre d (Proc.devRef .tc (main_v17 : Ref sig .tc))) (V5 m hpre d (Proc.devRef .tc (main_v18 : Ref sig .tc)))) := by
  have h := Pipeline.afterRegion_arr (dats (V5 m hpre d) ((K (F := Ideal)).Otc d 1) (8 * 1) 1 d) (V5 m hpre d)
    (good_1 (V5 m hpre d) ((K (F := Ideal)).Otc d 1) (8 * 1)).kit.win.arr_inj (7 : Fin 8)
  exact h.trans (columnsA (V5 m hpre d) ((K (F := Ideal)).Otc d 1) (recs (F := Ideal) (8 * 1) d) d)
theorem V6_v20_0 : V6 m hpre d (Proc.devRef .tc (main_v20_0 : Ref sig .tc))
    = rows (net2 (V5 m hpre d (Proc.devRef .tc (main_v19 : Ref sig .tc))) (V5 m hpre d (Proc.devRef .tc (main_v11_0 : Ref sig .tc))) (V5 m hpre d (Proc.devRef .tc (main_v15 : Ref sig .tc))) (V5 m hpre d (Proc.devRef .tc (main_v16 : Ref sig .tc))) (V5 m hpre d (Proc.devRef .tc (main_v17 : Ref sig .tc))) (V5 m hpre d (Proc.devRef .tc (main_v18 : Ref sig .tc)))) := by
  have h := Pipeline.afterRegion_arr (dats (V5 m hpre d) ((K (F := Ideal)).Otc d 1) (8 * 1) 1 d) (V5 m hpre d)
    (good_1 (V5 m hpre d) ((K (F := Ideal)).Otc d 1) (8 * 1)).kit.win.arr_inj (6 : Fin 8)
  exact h.trans (rowsA (V5 m hpre d) ((K (F := Ideal)).Otc d 1) (recs (F := Ideal) (8 * 1) d) d)

theorem netA_eq (hf : (args m d).Finite) : net2 (V5 m hpre d (Proc.devRef .tc (main_v19 : Ref sig .tc))) (V5 m hpre d (Proc.devRef .tc (main_v11_0 : Ref sig .tc))) (V5 m hpre d (Proc.devRef .tc (main_v15 : Ref sig .tc))) (V5 m hpre d (Proc.devRef .tc (main_v16 : Ref sig .tc))) (V5 m hpre d (Proc.devRef .tc (main_v17 : Ref sig .tc))) (V5 m hpre d (Proc.devRef .tc (main_v18 : Ref sig .tc))) = (args m d).one := by
  rw [V5_v19, V5_v11_0, V5_v15, V5_v16, V5_v17, V5_v18]
  exact net2_eq (gathered_entry (tablesA_apply m d) (V3_v12 m d) (V3_v13 m d) (wantA_apply m hpre d) (hpre.1 d))
    (queriesA_apply m d) (firstSum_eq _ _ _ _ _ hf.x1 hf.x2 hf.w0) (net_weights _) (net_bias _) (net_weights _) (net_bias _)

theorem V6_v20_1_eq (hf : (args m d).Finite) : V6 m hpre d (Proc.devRef .tc (main_v20_1 : Ref sig .tc)) = columns (args m d).one := by
  rw [V6_v20_1, netA_eq m hpre d hf]

theorem V6_v20_0_eq (hf : (args m d).Finite) : V6 m hpre d (Proc.devRef .tc (main_v20_0 : Ref sig .tc)) = rows (args m d).one := by
  rw [V6_v20_0, netA_eq m hpre d hf]

end Cert.Kernel.Final

end
-- ==== Proof.FinalB.lean ====
/-
  The second stage: what its calls leave.
-/
module

public import proofs.«01_k».proof.Proof.Hosts

@[expose] public section

set_option maxRecDepth 16384

noncomputable section

namespace Cert.Kernel.Final

open Cert.Kernel Cert.Kernel.Gen Cert.Kernel.Moves Cert.Kernel.Kern Cert.Kernel.Setup Cert.Kernel.Region Cert.Kernel.Launch Cert.Kernel.Pays Cert.Kernel.Nets Cert.Kernel.Entries Cert.Kernel.Sites
open Idealize.ShloMosaic Idealize.ShloMosaic.TcCoe Idealize.SL.Sem
open Cert.Spec

variable (m : (ℓ : Loc nD τ sig) → Buf (Elt Ideal) ℓ) (hpre : PreOK m) (d : Dev nD)

/-! ## What the first call leaves -/

theorem V8_v28_0 : V8 m hpre d (Proc.devRef .tc (main_v28_0 : Ref sig .tc))
    = queryOf (D := 64) (V7 m hpre d (Proc.devRef .tc (main_v3 : Ref sig .tc))) (V7 m hpre d (Proc.devRef .tc (main_v22 : Ref sig .tc))) (V7 m hpre d (Proc.devRef .tc (main_v1 : Ref sig .tc))) (V7 m hpre d (Proc.devRef .tc (main_v26 : Ref sig .tc))) (V7 m hpre d (Proc.devRef .tc (main_v27 : Ref sig .tc))) := by
  have h := Pipeline.afterRegion_arr (dats (V7 m hpre d) ((K (F := Ideal)).Otc d 1) (8 * 1) 2 d) (V7 m hpre d)
    (good_2 (V7 m hpre d) ((K (F := Ideal)).Otc d 1) (8 * 1)).kit.win.arr_inj (8 : Fin 10)
  exact h.trans (queriesB (V7 m hpre d) ((K (F := Ideal)).Otc d 1) (recs (F := Ideal) (8 * 1) d) d)
theorem V8_v28_1 : V8 m hpre d (Proc.devRef .tc (main_v28_1 : Ref sig .tc))
    = tableOf (D := 64) (V7 m hpre d (Proc.devRef .tc (main_v2 : Ref sig .tc))) (V7 m hpre d (Proc.devRef .tc (main_v24 : Ref sig .tc))) (V7 m hpre d (Proc.devRef .tc (main_v0 : Ref sig .tc))) (V7 m hpre d (Proc.devRef .tc (main_v26 : Ref sig .tc))) := by
  have h := Pipeline.afterRegion_arr (dats (V7 m hpre d) ((K (F := Ideal)).Otc d 1) (8 * 1) 2 d) (V7 m hpre d)
    (good_2 (V7 m hpre d) ((K (F := Ideal)).Otc d 1) (8 * 1)).kit.win.arr_inj (9 : Fin 10)
  exact h.trans (tablesB (V7 m hpre d) ((K (F := Ideal)).Otc d 1) (recs (F := Ideal) (8 * 1) d) d)

theorem queriesB_apply (i : Fin 2) (j : Fin 4096) (l : Fin 128) : V8 m hpre d (Proc.devRef .tc (main_v28_0 : Ref sig .tc)) (ix3 i j l) = querySum (pts (args m d).p2) (pts (args m d).x2) (Spec.head (args m d).w0 64 (by omega)) (part (args m d).w0 128 3 (by omega)) (vec (args m d).b0) i j l := by
  rw [V8_v28_0, V7_v3, V1_v3, V7_v22, V7_v1, V1_v1, V7_v26, V7_v27]
  exact queryOf_eq (features _) (weights_a _) (points _) (weights_c _) (net_bias _) i j l

theorem tablesB_apply (i : Fin 2) (j : Fin 4096) (l : Fin 128) : V8 m hpre d (Proc.devRef .tc (main_v28_1 : Ref sig .tc)) (ix3 i j l) = tableSum (pts (args m d).p1) (pts (args m d).x1) (part (args m d).w0 64 64 (by omega)) (part (args m d).w0 128 3 (by omega)) i j l := by
  rw [V8_v28_1, V7_v2, V1_v2, V7_v24, V7_v0, V1_v0, V7_v26]
  exact tableOf_eq (features _) (weights_b _) (points _) (weights_c _) i j l

/-! ## The gathered rows -/

theorem V9_v29 : V9 m hpre d (Proc.devRef .tc (main_v29 : Ref sig .tc)) = shapeCast S8192x128 (V8 m hpre d (Proc.devRef .tc (main_v28_1 : Ref sig .tc))) shapeCasts_S2x4096x128_S8192x128 := by
  unfold V9 host5; after_results_simp; all_goals rfl

theorem wantB_apply (s : Fin 131072) (l : Fin 128) (r : Fin 8192) (hr : (V9 m hpre d (Proc.devRef .tc (main_v30 : Ref sig .tc)) (ix2 0 s) : BitVec 32).toNat = r.val) :
    (dataB m hpre).want d (ix2 s l) = V9 m hpre d (Proc.devRef .tc (main_v29 : Ref sig .tc)) (ix2 r l) := by
  have e : B.site.out.view.emb (ix2 s l) = ix2 s l := rfl
  have h := View.write_emb_of_mem (Val := Elt Ideal) (v := B.site.out.view) ((dataB m hpre).fo d)
    (gathered (F := Ideal) B.site.tab B.site.lst ((dataB m hpre).ft d) ((dataB m hpre).fl d) ((dataB m hpre).inTable d)) (Finset.mem_univ (ix2 s l))
  rw [e] at h
  refine h.trans ?_
  show V9 m hpre d (Proc.devRef .tc (main_v29 : Ref sig .tc)) (ix2 (⟨(V9 m hpre d (Proc.devRef .tc (main_v30 : Ref sig .tc)) (ix2 0 s) : BitVec 32).toNat, _⟩ : Fin 8192) l) = _
  exact congrArg (fun r : Fin 8192 => V9 m hpre d (Proc.devRef .tc (main_v29 : Ref sig .tc)) (ix2 r l)) (Fin.ext hr)

theorem V11_v36 : V11 m hpre d (Proc.devRef .tc (main_v36 : Ref sig .tc)) = shapeCast S2x65536x128 ((dataB m hpre).want d) shapeCasts_S131072x128_S2x65536x128 := by
  rw [← show V10 m hpre d B.o' = (dataB m hpre).want d from Function.update_self _ _ _]
  unfold V11 host6; after_results_simp; all_goals rfl

theorem V11_v28_0 : V11 m hpre d (Proc.devRef .tc (main_v28_0 : Ref sig .tc)) = V8 m hpre d (Proc.devRef .tc (main_v28_0 : Ref sig .tc)) := by
  rw [V11_keep m hpre d (by decide), V10_keep m hpre d (by decide), V9_keep m hpre d (by decide)]

/-! ## The stage's value -/

theorem V12_v37_1 : V12 m hpre d (Proc.devRef .tc (main_v37_1 : Ref sig .tc))
    = columns (net2 (V11 m hpre d (Proc.devRef .tc (main_v36 : Ref sig .tc))) (V11 m hpre d (Proc.devRef .tc (main_v28_0 : Ref sig .tc))) (V11 m hpre d (Proc.devRef .tc (main_v32 : Ref sig .tc))) (V11 m hpre d (Proc.devRef .tc (main_v33 : Ref sig .tc))) (V11 m hpre d (Proc.devRef .tc (main_v34 : Ref sig .tc))) (V11 m hpre d (Proc.devRef .tc (main_v35 : Ref sig .tc)))) := by
  have h := Pipeline.afterRegion_arr (dats (V11 m hpre d) ((K (F := Ideal)).Otc d 2) (8 * 2) 3 d) (V11 m hpre d)
    (good_3 (V11 m hpre d) ((K (F := Ideal)).Otc d 2) (8 * 2)).kit.win.arr_inj (7 : Fin 8)
  exact h.trans (columnsB (V11 m hpre d) ((K (F := Ideal)).Otc d 2) (recs (F := Ideal) (8 * 2) d) d)
theorem V12_v37_0 : V12 m hpre d (Proc.devRef .tc (main_v37_0 : Ref sig .tc))
    = rows (net2 (V11 m hpre d (Proc.devRef .tc (main_v36 : Ref sig .tc))) (V11 m hpre d (Proc.devRef .tc (main_v28_0 : Ref sig .tc))) (V11 m hpre d (Proc.devRef .tc (main_v32 : Ref sig .tc))) (V11 m hpre d (Proc.devRef .tc (main_v33 : Ref sig .tc))) (V11 m hpre d (Proc.devRef .tc (main_v34 : Ref sig .tc))) (V11 m hpre d (Proc.devRef .tc (main_v35 : Ref sig .tc)))) := by
  have h := Pipeline.afterRegion_arr (dats (V11 m hpre d) ((K (F := Ideal)).Otc d 2) (8 * 2) 3 d) (V11 m hpre d)
    (good_3 (V11 m hpre d) ((K (F := Ideal)).Otc d 2) (8 * 2)).kit.win.arr_inj (6 : Fin 8)
  exact h.trans (rowsB (V11 m hpre d) ((K (F := Ideal)).Otc d 2) (recs (F := Ideal) (8 * 2) d) d)

theorem netB_eq (hf : (args m d).Finite) : net2 (V11 m hpre d (Proc.devRef .tc (main_v36 : Ref sig .tc))) (V11 m hpre d (Proc.devRef .tc (main_v28_0 : Ref sig .tc))) (V11 m hpre d (Proc.devRef .tc (main_v32 : Ref sig .tc))) (V11 m hpre d (Proc.devRef .tc (main_v33 : Ref sig .tc))) (V11 m hpre d (Proc.devRef .tc (main_v34 : Ref sig .tc))) (V11 m hpre d (Proc.devRef .tc (main_v35 : Ref sig .tc))) = (args m d).two := by
  rw [V11_v36, V11_v28_0, V11_v32, V11_v33, V11_v34, V11_v35]
  exact net2_eq (gathered_entry (tablesB_apply m hpre d) (V9_v29 m hpre d) (V9_v30 m hpre d) (wantB_apply m hpre d) (hpre.2 d))
    (queriesB_apply m hpre d) (firstSum_eq _ _ _ _ _ hf.x2 hf.x1 hf.w0) (net_weights _) (net_bias _) (net_weights _) (net_bias _)

theorem V12_v37_1_eq (hf : (args m d).Finite) : V12 m hpre d (Proc.devRef .tc (main_v37_1 : Ref sig .tc)) = columns (args m d).two := by
  rw [V12_v37_1, netB_eq m hpre d hf]

theorem V12_v37_0_eq (hf : (args m d).Finite) : V12 m hpre d (Proc.devRef .tc (main_v37_0 : Ref sig .tc)) = rows (args m d).two := by
  rw [V12_v37_0, netB_eq m hpre d hf]

end Cert.Kernel.Final

end
-- ==== Proof.FinalC.lean ====
/-
  The third stage: what its calls leave.
-/
module

public import proofs.«01_k».proof.Proof.FinalA
public import proofs.«01_k».proof.Proof.FinalB

@[expose] public section

set_option maxRecDepth 16384

noncomputable section

namespace Cert.Kernel.Final

open Cert.Kernel Cert.Kernel.Gen Cert.Kernel.Moves Cert.Kernel.Kern Cert.Kernel.Setup Cert.Kernel.Region Cert.Kernel.Launch Cert.Kernel.Pays Cert.Kernel.Nets Cert.Kernel.Entries Cert.Kernel.Sites
open Idealize.ShloMosaic Idealize.ShloMosaic.TcCoe Idealize.SL.Sem
open Cert.Spec

variable (m : (ℓ : Loc nD τ sig) → Buf (Elt Ideal) ℓ) (hpre : PreOK m) (d : Dev nD)

/-! ## What the first call leaves -/

theorem V14_v45_0 : V14 m hpre d (Proc.devRef .tc (main_v45_0 : Ref sig .tc))
    = queryOf (D := 128) (V13 m hpre d (Proc.devRef .tc (main_v20_0 : Ref sig .tc))) (V13 m hpre d (Proc.devRef .tc (main_v39 : Ref sig .tc))) (V13 m hpre d (Proc.devRef .tc (main_v0 : Ref sig .tc))) (V13 m hpre d (Proc.devRef .tc (main_v43 : Ref sig .tc))) (V13 m hpre d (Proc.devRef .tc (main_v44 : Ref sig .tc))) := by
  have h := Pipeline.afterRegion_arr (dats (V13 m hpre d) ((K (F := Ideal)).Otc d 2) (8 * 2) 4 d) (V13 m hpre d)
    (good_4 (V13 m hpre d) ((K (F := Ideal)).Otc d 2) (8 * 2)).kit.win.arr_inj (8 : Fin 10)
  exact h.trans (queriesC (V13 m hpre d) ((K (F := Ideal)).Otc d 2) (recs (F := Ideal) (8 * 2) d) d)
theorem V14_v45_1 : V14 m hpre d (Proc.devRef .tc (main_v45_1 : Ref sig .tc))
    = tableOf (D := 128) (V13 m hpre d (Proc.devRef .tc (main_v37_0 : Ref sig .tc))) (V13 m hpre d (Proc.devRef .tc (main_v41 : Ref sig .tc))) (V13 m hpre d (Proc.devRef .tc (main_v1 : Ref sig .tc))) (V13 m hpre d (Proc.devRef .tc (main_v43 : Ref sig .tc))) := by
  have h := Pipeline.afterRegion_arr (dats (V13 m hpre d) ((K (F := Ideal)).Otc d 2) (8 * 2) 4 d) (V13 m hpre d)
    (good_4 (V13 m hpre d) ((K (F := Ideal)).Otc d 2) (8 * 2)).kit.win.arr_inj (9 : Fin 10)
  exact h.trans (tablesC (V13 m hpre d) ((K (F := Ideal)).Otc d 2) (recs (F := Ideal) (8 * 2) d) d)

theorem queriesC_apply (hf : (args m d).Finite) (i : Fin 2) (j : Fin 4096) (l : Fin 128) : V14 m hpre d (Proc.devRef .tc (main_v45_0 : Ref sig .tc)) (ix3 i j l) = querySum (args m d).one (pts (args m d).x1) (Spec.head (args m d).u0 128 (by omega)) (part (args m d).u0 256 3 (by omega)) (vec (args m d).c0) i j l := by
  rw [V14_v45_0, V13_v20_0, V6_v20_0_eq m hpre d hf, V13_v39, V13_v0, V1_v0, V13_v43, V13_v44]
  exact queryOf_eq (fun _ _ _ => rfl) (wide_a _) (points _) (wide_c _) (net_bias _) i j l

theorem tablesC_apply (hf : (args m d).Finite) (i : Fin 2) (j : Fin 4096) (l : Fin 128) : V14 m hpre d (Proc.devRef .tc (main_v45_1 : Ref sig .tc)) (ix3 i j l) = tableSum (args m d).two (pts (args m d).x2) (part (args m d).u0 128 128 (by omega)) (part (args m d).u0 256 3 (by omega)) i j l := by
  rw [V14_v45_1, V13_v37_0, V12_v37_0_eq m hpre d hf, V13_v41, V13_v1, V1_v1, V13_v43]
  exact tableOf_eq (fun _ _ _ => rfl) (wide_b _) (points _) (wide_c _) i j l

/-! ## The gathered rows -/

theorem V15_v46 : V15 m hpre d (Proc.devRef .tc (main_v46 : Ref sig .tc)) = shapeCast S8192x128 (V14 m hpre d (Proc.devRef .tc (main_v45_1 : Ref sig .tc))) shapeCasts_S2x4096x128_S8192x128 := by
  unfold V15 host8; after_results_simp; all_goals rfl

theorem wantC_apply (s : Fin 131072) (l : Fin 128) (r : Fin 8192) (hr : (V15 m hpre d (Proc.devRef .tc (main_v47 : Ref sig .tc)) (ix2 0 s) : BitVec 32).toNat = r.val) :
    (dataC m hpre).want d (ix2 s l) = V15 m hpre d (Proc.devRef .tc (main_v46 : Ref sig .tc)) (ix2 r l) := by
  have e : C.site.out.view.emb (ix2 s l) = ix2 s l := rfl
  have h := View.write_emb_of_mem (Val := Elt Ideal) (v := C.site.out.view) ((dataC m hpre).fo d)
    (gathered (F := Ideal) C.site.tab C.site.lst ((dataC m hpre).ft d) ((dataC m hpre).fl d) ((dataC m hpre).inTable d)) (Finset.mem_univ (ix2 s l))
  rw [e] at h
  refine h.trans ?_
  show V15 m hpre d (Proc.devRef .tc (main_v46 : Ref sig .tc)) (ix2 (⟨(V15 m hpre d (Proc.devRef .tc (main_v47 : Ref sig .tc)) (ix2 0 s) : BitVec 32).toNat, _⟩ : Fin 8192) l) = _
  exact congrArg (fun r : Fin 8192 => V15 m hpre d (Proc.devRef .tc (main_v46 : Ref sig .tc)) (ix2 r l)) (Fin.ext hr)

theorem V17_v51 : V17 m hpre d (Proc.devRef .tc (main_v51 : Ref sig .tc)) = shapeCast S2x65536x128 ((dataC m hpre).want d) shapeCasts_S131072x128_S2x65536x128 := by
  rw [← show V16 m hpre d C.o' = (dataC m hpre).want d from Function.update_self _ _ _]
  unfold V17 host9; after_results_simp; all_goals rfl

theorem V17_v45_0 : V17 m hpre d (Proc.devRef .tc (main_v45_0 : Ref sig .tc)) = V14 m hpre d (Proc.devRef .tc (main_v45_0 : Ref sig .tc)) := by
  rw [V17_keep m hpre d (by decide), V16_keep m hpre d (by decide), V15_keep m hpre d (by decide)]

/-! ## The stage's value -/

theorem V18_v52_1 : V18 m hpre d (Proc.devRef .tc (main_v52_1 : Ref sig .tc))
    = columns (net1 (V17 m hpre d (Proc.devRef .tc (main_v51 : Ref sig .tc))) (V17 m hpre d (Proc.devRef .tc (main_v45_0 : Ref sig .tc))) (V17 m hpre d (Proc.devRef .tc (main_v49 : Ref sig .tc))) (V17 m hpre d (Proc.devRef .tc (main_v50 : Ref sig .tc)))) := by
  have h := Pipeline.afterRegion_arr (dats (V17 m hpre d) ((K (F := Ideal)).Otc d 3) (8 * 3) 5 d) (V17 m hpre d)
    (good_5 (V17 m hpre d) ((K (F := Ideal)).Otc d 3) (8 * 3)).kit.win.arr_inj (5 : Fin 6)
  exact h.trans (columnsC (V17 m hpre d) ((K (F := Ideal)).Otc d 3) (recs (F := Ideal) (8 * 3) d) d)

theorem netC_eq (hf : (args m d).Finite) : net1 (V17 m hpre d (Proc.devRef .tc (main_v51 : Ref sig .tc))) (V17 m hpre d (Proc.devRef .tc (main_v45_0 : Ref sig .tc))) (V17 m hpre d (Proc.devRef .tc (main_v49 : Ref sig .tc))) (V17 m hpre d (Proc.devRef .tc (main_v50 : Ref sig .tc))) = (args m d).three := by
  rw [V17_v51, V17_v45_0, V17_v49, V17_v50]
  exact net1_eq (gathered_entry (tablesC_apply m hpre d hf) (V15_v46 m hpre d) (V15_v47 m hpre d) (wantC_apply m hpre d) (hpre.1 d))
    (queriesC_apply m hpre d hf) (firstSum_eq _ _ _ _ _ hf.x1 hf.x2 hf.u0) (net_weights _) (net_bias _)

theorem V18_v52_1_eq (hf : (args m d).Finite) : V18 m hpre d (Proc.devRef .tc (main_v52_1 : Ref sig .tc)) = columns (args m d).three := by
  rw [V18_v52_1, netC_eq m hpre d hf]

/-! ## The three results at the end -/

theorem result_one (hf : (args m d).Finite) : V18 m hpre d (Proc.devRef .tc (main_v20_1 : Ref sig .tc)) = columns (args m d).one := (V18_v20_1 m hpre d).trans (V6_v20_1_eq m hpre d hf)

theorem result_two (hf : (args m d).Finite) : V18 m hpre d (Proc.devRef .tc (main_v37_1 : Ref sig .tc)) = columns (args m d).two := (V18_v37_1 m hpre d).trans (V12_v37_1_eq m hpre d hf)

end Cert.Kernel.Final

end
-- ==== Proof.Ref.lean ====
/-
  The reference's value, entry by entry.
-/
module

public import proofs.«01_k».proof.Proof.Stages
public import proofs.«01_k».proof.Proof.Gen.ReferenceIdeal.Run
public import Idealize.ShloMosaic.Lib.Pointwise
public import Idealize.ShloMosaic.Lib.Pipeline.Value

@[expose] public section

set_option maxRecDepth 16384

noncomputable section

namespace Cert.Ref

open Cert.ReferenceIdeal Cert.ReferenceIdeal.Gen Idealize.ShloMosaic Idealize.ShloMosaic.TcCoe Idealize.SL.Sem
open Cert.Spec

theorem sum_parts (f : Fin 131 → EReal) :
    ∑ k, f k = (∑ k : Fin 64, f ⟨k.val, by omega⟩) + ((∑ k : Fin 64, f ⟨64 + k.val, by omega⟩) + (f 128 + f 129 + f 130)) := by
  rw [Fin.sum_univ_two_halves 64 67 rfl, Fin.sum_univ_two_halves (N := 67) 64 3 rfl, Fin.sum_univ_three]
  rfl

theorem layer0_apply (a b : Vec Ideal S2x4096x16x64 .f32) (x : Vec Ideal S2x4096x16x3 .f32) (W : Vec Ideal S128x131 .f32) (bias : Vec Ideal S128 .f32)
    (i : Fin 2) (j : Fin 4096) (n : Fin 16) (l : Fin 128) :
    addf (Host.dotGeneral (F := Ideal) (φ₁ := .f32) (φ₂ := .f32) dot_S2x4096x16x131_S128x131_S2x4096x16x128_3_1_012_0_n_n none
      ((concatenate S2x4096x16x131 3 [⟨S2x4096x16x64, (a : (⟨S2x4096x16x64, .f32⟩ : BufTy).Contents (Elt Ideal))⟩, ⟨S2x4096x16x64, (b : (⟨S2x4096x16x64, .f32⟩ : BufTy).Contents (Elt Ideal))⟩, ⟨S2x4096x16x3, (x : (⟨S2x4096x16x3, .f32⟩ : BufTy).Contents (Elt Ideal))⟩] concatenates_S2x4096x16x64_S2x4096x16x64_S2x4096x16x3_S2x4096x16x131_d3 : (⟨S2x4096x16x131, .f32⟩ : BufTy).Contents (Elt Ideal))) W)
      (broadcastInDim S2x4096x16x128 ![0, 1, 2, 3] bcast_S1x1x1x128_S2x4096x16x128_0_1_2_3 (broadcastInDim S1x1x1x128 ![3] bcast_S128_S1x1x1x128_3 bias)) (ix4 i j n l)
     = ((∑ k : Fin 64, a (ix4 i j n k) * W (ix2 l ⟨k.val, by omega⟩))
        + ((∑ k : Fin 64, b (ix4 i j n k) * W (ix2 l ⟨64 + k.val, by omega⟩))
          + (x (ix4 i j n 0) * W (ix2 l 128) + x (ix4 i j n 1) * W (ix2 l 129) + x (ix4 i j n 2) * W (ix2 l 130)))) + bias (ix1 l) := by
  pointwise
  congr 1
  refine (sum_parts _).trans (congrArg₂ (· + ·) (Finset.sum_congr rfl fun k _ => ?_) (congrArg₂ (· + ·) (Finset.sum_congr rfl fun k _ => ?_) ?_))
  · rw [dif_pos k.isLt]
  · rw [dif_neg (by simp), dif_pos (by simp)]
    congr 3
    exact Fin.ext (Nat.add_sub_cancel_left 64 k.val)
  · rfl

theorem sum_partsWide (f : Fin 259 → EReal) :
    ∑ k, f k = (∑ k : Fin 128, f ⟨k.val, by omega⟩) + ((∑ k : Fin 128, f ⟨128 + k.val, by omega⟩) + (f 256 + f 257 + f 258)) := by
  rw [Fin.sum_univ_two_halves 128 131 rfl, Fin.sum_univ_two_halves (N := 131) 128 3 rfl, Fin.sum_univ_three]
  rfl

theorem layer0Wide_apply (a b : Vec Ideal S2x4096x16x128 .f32) (x : Vec Ideal S2x4096x16x3 .f32) (W : Vec Ideal S128x259 .f32) (bias : Vec Ideal S128 .f32)
    (i : Fin 2) (j : Fin 4096) (n : Fin 16) (l : Fin 128) :
    addf (Host.dotGeneral (F := Ideal) (φ₁ := .f32) (φ₂ := .f32) dot_S2x4096x16x259_S128x259_S2x4096x16x128_3_1_012_0_n_n none
      ((concatenate S2x4096x16x259 3 [⟨S2x4096x16x128, (a : (⟨S2x4096x16x128, .f32⟩ : BufTy).Contents (Elt Ideal))⟩, ⟨S2x4096x16x128, (b : (⟨S2x4096x16x128, .f32⟩ : BufTy).Contents (Elt Ideal))⟩, ⟨S2x4096x16x3, (x : (⟨S2x4096x16x3, .f32⟩ : BufTy).Contents (Elt Ideal))⟩] concatenates_S2x4096x16x128_S2x4096x16x128_S2x4096x16x3_S2x4096x16x259_d3 : (⟨S2x4096x16x259, .f32⟩ : BufTy).Contents (Elt Ideal))) W)
      (broadcastInDim S2x4096x16x128 ![0, 1, 2, 3] bcast_S1x1x1x128_S2x4096x16x128_0_1_2_3 (broadcastInDim S1x1x1x128 ![3] bcast_S128_S1x1x1x128_3 bias)) (ix4 i j n l)
     = ((∑ k : Fin 128, a (ix4 i j n k) * W (ix2 l ⟨k.val, by omega⟩))
        + ((∑ k : Fin 128, b (ix4 i j n k) * W (ix2 l ⟨128 + k.val, by omega⟩))
          + (x (ix4 i j n 0) * W (ix2 l 256) + x (ix4 i j n 1) * W (ix2 l 257) + x (ix4 i j n 2) * W (ix2 l 258)))) + bias (ix1 l) := by
  pointwise
  congr 1
  refine (sum_partsWide _).trans (congrArg₂ (· + ·) (Finset.sum_congr rfl fun k _ => ?_) (congrArg₂ (· + ·) (Finset.sum_congr rfl fun k _ => ?_) ?_))
  · rw [dif_pos k.isLt]
  · rw [dif_neg (by simp), dif_pos (by simp)]
    congr 3
    exact Fin.ext (Nat.add_sub_cancel_left 128 k.val)
  · rfl

def leakyV (x : FVec Ideal S2x4096x16x128 .f32) : FVec Ideal S2x4096x16x128 .f32 :=
  select (cmpf .ogt x (broadcastInDim S2x4096x16x128 ![] bcast_S_S2x4096x16x128 (constant S_ .f32 0x00000000#32))) x
    (mulf (broadcastInDim S2x4096x16x128 ![] bcast_S_S2x4096x16x128 (constant S_ .f32 0x3DCCCCCD#32)) x)

theorem leakyV_apply (x : FVec Ideal S2x4096x16x128 .f32) (i : Fin 2) (j : Fin 4096) (n : Fin 16) (l : Fin 128) :
    leakyV x (ix4 i j n l) = leaky (x (ix4 i j n l)) := by
  pointwise [leakyV]
  rfl

def layerV (x : FVec Ideal S2x4096x16x128 .f32) (W : FVec Ideal S128x128 .f32) (b : FVec Ideal S128 .f32) : FVec Ideal S2x4096x16x128 .f32 :=
  leakyV (addf (Host.dotGeneral dot_S2x4096x16x128_S128x128_S2x4096x16x128_3_1_012_0_n_n none x W)
    (broadcastInDim S2x4096x16x128 ![0, 1, 2, 3] bcast_S1x1x1x128_S2x4096x16x128_0_1_2_3 (broadcastInDim S1x1x1x128 ![3] bcast_S128_S1x1x1x128_3 b)))

theorem layerV_apply (x : FVec Ideal S2x4096x16x128 .f32) (W : FVec Ideal S128x128 .f32) (b : FVec Ideal S128 .f32) (i : Fin 2) (j : Fin 4096) (n : Fin 16) (l : Fin 128) :
    layerV x W b (ix4 i j n l) = layer (fun l k => W (ix2 l k)) (fun l => b (ix1 l)) (fun k => x (ix4 i j n k)) l := by
  unfold layerV
  rw [leakyV_apply]
  unfold layer
  congr 1
  pointwise

theorem top_apply (x : FVec Ideal S2x4096x16x128 .f32) (i : Fin 2) (j : Fin 4096) (l : Fin 128) :
    transpose S2x128x4096 [0, 2, 1] (Host.reduce FloatOps.maximumf x (constant (F := Ideal) S_ .f32 0xFF800000#32) reducesTo_S2x4096x16x128_S2x4096x128_d2 h_S_)
      transposes_S2x4096x128_S2x128x4096_0_2_1 (ix3 i l j) = best fun n => x (ix4 i j n l) := by
  pointwise
  rfl

/-- A neighbour list as the reference takes it, with what it adds to an entry below zero. -/
def entriesV (y : IVec S2x4096x16 32) : IVec S2x4096x16x1 32 :=
  broadcastInDim S2x4096x16x1 ![0, 1, 2] bcast_S2x4096x16_S2x4096x16x1_0_1_2
    (select (cmpi .slt y (broadcastInDim S2x4096x16 ![] bcast_S_S2x4096x16 (constantI S_ 32 0#32)))
      (addi y (broadcastInDim S2x4096x16 ![] bcast_S_S2x4096x16 (constantI S_ 32 8192#32))) y)

theorem entriesV_apply (y : IVec S2x4096x16 32) (i : Fin 2) (j : Fin 4096) (n : Fin 16) (h : (y (ix3 i j n)).toNat < 8192) :
    entriesV y (ix4 i j n 0) = y (ix3 i j n) := by
  pointwise [entriesV]
  have e : IntOp.cmpi .slt (y (ix3 i j n)) 0#32 = 0#1 := by
    simp only [IntOp.cmpi, BitVec.slt_eq_decide, BitVec.toInt_eq_toNat_cond, BitVec.toNat_ofNat, Nat.reducePow, Nat.reduceMod]
    rw [decide_eq_false (by omega)]
    rfl
  rw [e]
  rfl

section Rows
variable {α : Type}

abbrev rowDims (N C : Nat) (wf : GatherDims.WF ⟨2, ![N, C]⟩ ⟨4, ![2, 4096, 16, 1]⟩ ⟨4, ![2, 4096, 16, C]⟩ [3] [0] [] [0] [] 3 ![1, C]) :
    GatherDims ⟨2, ![N, C]⟩ ⟨4, ![2, 4096, 16, 1]⟩ ⟨4, ![2, 4096, 16, C]⟩ where
  offsetDims := [3]
  collapsedSliceDims := [0]
  operandBatchingDims := []
  startIndicesBatchingDims := []
  startIndexMap := [0]
  indexVectorDim := 3
  sliceSizes := ![1, C]
  wf := wf

/-- A gathered row is the operand's row at the start index, held between 0 and the last row. -/
theorem gather_rows_apply {N C w : Nat} (hN : 0 < N)
    (wf : GatherDims.WF ⟨2, ![N, C]⟩ ⟨4, ![2, 4096, 16, 1]⟩ ⟨4, ![2, 4096, 16, C]⟩ [3] [0] [] [0] [] 3 ![1, C])
    (x : (⟨2, ![N, C]⟩ : Shape).Idx → α) (idx : IVec ⟨4, ![2, 4096, 16, 1]⟩ w) (y : (⟨4, ![2, 4096, 16, C]⟩ : Shape).Idx) :
    Host.gather (rowDims N C wf) x idx y = x (ix2 ⟨min (idx (ix4 (y 0) (y 1) (y 2) 0)).toInt.toNat (N - 1), by omega⟩ (y 3)) := by
  unfold Host.gather
  congr 1
  funext a
  refine Fin.ext ?_
  show (rowDims N C wf).start y idx a + (rowDims N C wf).batchCoord y a + (rowDims N C wf).offCoord y a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C wf).startIndexMap from List.mem_singleton.mpr rfl)]
    have hsi : (rowDims N C wf).siIdx y ⟨List.idxOf (0 : Fin 2) (rowDims N C wf).startIndexMap,
        List.idxOf_lt_length_iff.2 (List.mem_singleton.mpr rfl)⟩ = ix4 (y 0) (y 1) (y 2) 0 := by
      funext b; refine Fin.ext ?_
      match b with
      | ⟨0, _⟩ => rfl
      | ⟨1, _⟩ => rfl
      | ⟨2, _⟩ => rfl
      | ⟨3, _⟩ => rfl
    rw [hsi]
    rfl
  · unfold GatherDims.start
    rw [dif_neg (show (1 : Fin 2) ∉ (rowDims N C wf).startIndexMap from fun h => absurd (List.mem_singleton.mp h) (Fin.succ_ne_zero (0 : Fin 1))), Nat.zero_add]
    unfold GatherDims.offCoord
    rw [dif_pos ((GatherDims.mem_sKept _ _).mpr ⟨fun h => absurd (List.mem_singleton.mp h) (Fin.succ_ne_zero (0 : Fin 1)), List.not_mem_nil⟩)]
    rfl

end Rows

theorem row_lt (y : IVec S2x4096x16 32) (i : Fin 2) (j : Fin 4096) (n : Fin 16) (h : (y (ix3 i j n)).toNat < 8192) :
    min (entriesV y (ix4 i j n 0)).toInt.toNat (8192 - 1) = (rowAt y i j n).val := by
  rw [entriesV_apply y i j n h, rowAt_eq y i j n h, BitVec.toInt_eq_toNat_cond]
  show min (if 2 * (y (ix3 i j n)).toNat < 2 ^ 32 then _ else _ : Int).toNat _ = (y (ix3 i j n)).toNat
  omega

theorem feat_apply (x : FVec Ideal S8192x64 .f32) (y : IVec S2x4096x16 32) (i : Fin 2) (j : Fin 4096) (n : Fin 16) (k : Fin 64)
    (h : (y (ix3 i j n)).toNat < 8192) :
    Host.gather gather_S8192x64_S2x4096x16x1_S2x4096x16x64_3_0_n_n_0_3_164 x (entriesV y) (ix4 i j n k) = x (ix2 (rowAt y i j n) k) :=
  (gather_rows_apply (N := 8192) (C := 64) (by decide) gather_S8192x64_S2x4096x16x1_S2x4096x16x64_3_0_n_n_0_3_164_wf x (entriesV y) (ix4 i j n k)).trans
    (congrArg (fun r => x (ix2 r k)) (Fin.ext (row_lt y i j n h)))

theorem wideFeat_apply (x : FVec Ideal S8192x128 .f32) (y : IVec S2x4096x16 32) (i : Fin 2) (j : Fin 4096) (n : Fin 16) (k : Fin 128)
    (h : (y (ix3 i j n)).toNat < 8192) :
    Host.gather gather_S8192x128_S2x4096x16x1_S2x4096x16x128_3_0_n_n_0_3_1128 x (entriesV y) (ix4 i j n k) = x (ix2 (rowAt y i j n) k) :=
  (gather_rows_apply (N := 8192) (C := 128) (by decide) gather_S8192x128_S2x4096x16x1_S2x4096x16x128_3_0_n_n_0_3_1128_wf x (entriesV y) (ix4 i j n k)).trans
    (congrArg (fun r => x (ix2 r k)) (Fin.ext (row_lt y i j n h)))

theorem point_apply (x : FVec Ideal S8192x3 .f32) (y : IVec S2x4096x16 32) (i : Fin 2) (j : Fin 4096) (n : Fin 16) (k : Fin 3)
    (h : (y (ix3 i j n)).toNat < 8192) :
    Host.gather gather_S8192x3_S2x4096x16x1_S2x4096x16x3_3_0_n_n_0_3_13 x (entriesV y) (ix4 i j n k) = x (ix2 (rowAt y i j n) k) :=
  (gather_rows_apply (N := 8192) (C := 3) (by decide) gather_S8192x3_S2x4096x16x1_S2x4096x16x3_3_0_n_n_0_3_13_wf x (entriesV y) (ix4 i j n k)).trans
    (congrArg (fun r => x (ix2 r k)) (Fin.ext (row_lt y i j n h)))

theorem own_feature (p : Vec Ideal S2x4096x64 .f32) (i : Fin 2) (j : Fin 4096) (n : Fin 16) (k : Fin 64) :
    broadcastInDim S2x4096x16x64 ![0, 1, 2, 3] bcast_S2x4096x1x64_S2x4096x16x64_0_1_2_3 (broadcastInDim S2x4096x1x64 ![0, 1, 3] bcast_S2x4096x64_S2x4096x1x64_0_1_3 p) (ix4 i j n k)
      = p (ix3 i j k) := by
  pointwise

theorem own_wide (p : Vec Ideal S2x4096x128 .f32) (i : Fin 2) (j : Fin 4096) (n : Fin 16) (k : Fin 128) :
    broadcastInDim S2x4096x16x128 ![0, 1, 2, 3] bcast_S2x4096x1x128_S2x4096x16x128_0_1_2_3 (broadcastInDim S2x4096x1x128 ![0, 1, 3] bcast_S2x4096x128_S2x4096x1x128_0_1_3 p) (ix4 i j n k)
      = p (ix3 i j k) := by
  pointwise

theorem own_place (p : Vec Ideal S2x4096x3 .f32) (i : Fin 2) (j : Fin 4096) (n : Fin 16) (k : Fin 3) :
    broadcastInDim S2x4096x16x3 ![0, 1, 2, 3] bcast_S2x4096x1x3_S2x4096x16x3_0_1_2_3 (broadcastInDim S2x4096x1x3 ![0, 1, 3] bcast_S2x4096x3_S2x4096x1x3_0_1_3 p) (ix4 i j n k)
      = p (ix3 i j k) := by
  pointwise

theorem feature_eq (p : Vec Ideal S2x4096x64 .f32) (r : Fin 8192) (k : Fin 64) :
    shapeCast S8192x64 p shapeCasts_S2x4096x64_S8192x64 (ix2 r k) = p (ix3 ⟨r.val / 4096, by omega⟩ ⟨r.val % 4096, by omega⟩ k) := by
  refine shapeCast_apply _ shapeCasts_S2x4096x64_S8192x64 (ix2 r k) (ix3 ⟨r.val / 4096, by omega⟩ ⟨r.val % 4096, by omega⟩ k) ?_
  rw [Shape.rowMajor_val_three, Shape.rowMajor_val_two]
  show (r.val / 4096 * 4096 + r.val % 4096) * 64 + k.val = r.val * 64 + k.val
  omega

theorem wide_eq (p : Vec Ideal S2x4096x128 .f32) (r : Fin 8192) (k : Fin 128) :
    shapeCast S8192x128 p shapeCasts_S2x4096x128_S8192x128 (ix2 r k) = p (ix3 ⟨r.val / 4096, by omega⟩ ⟨r.val % 4096, by omega⟩ k) := by
  refine shapeCast_apply _ shapeCasts_S2x4096x128_S8192x128 (ix2 r k) (ix3 ⟨r.val / 4096, by omega⟩ ⟨r.val % 4096, by omega⟩ k) ?_
  rw [Shape.rowMajor_val_three, Shape.rowMajor_val_two]
  show (r.val / 4096 * 4096 + r.val % 4096) * 128 + k.val = r.val * 128 + k.val
  omega

theorem place_eq (p : Vec Ideal S2x4096x3 .f32) (r : Fin 8192) (k : Fin 3) :
    shapeCast S8192x3 p shapeCasts_S2x4096x3_S8192x3 (ix2 r k) = p (ix3 ⟨r.val / 4096, by omega⟩ ⟨r.val % 4096, by omega⟩ k) := by
  refine shapeCast_apply _ shapeCasts_S2x4096x3_S8192x3 (ix2 r k) (ix3 ⟨r.val / 4096, by omega⟩ ⟨r.val % 4096, by omega⟩ k) ?_
  rw [Shape.rowMajor_val_three, Shape.rowMajor_val_two]
  show (r.val / 4096 * 4096 + r.val % 4096) * 3 + k.val = r.val * 3 + k.val
  omega

theorem features (p : Vec Ideal S2x64x4096 .f32) (i : Fin 2) (j : Fin 4096) (k : Fin 64) :
    transpose S2x4096x64 [0, 2, 1] p transposes_S2x64x4096_S2x4096x64_0_2_1 (ix3 i j k) = pts (D := 64) p i j k := by
  unfold pts; pointwise

theorem wides (p : Vec Ideal S2x128x4096 .f32) (i : Fin 2) (j : Fin 4096) (k : Fin 128) :
    transpose S2x4096x128 [0, 2, 1] p transposes_S2x128x4096_S2x4096x128_0_2_1 (ix3 i j k) = p (ix3 i k j) := by
  pointwise

theorem points (x : Vec Ideal S2x3x4096 .f32) (i : Fin 2) (j : Fin 4096) (k : Fin 3) :
    transpose S2x4096x3 [0, 2, 1] x transposes_S2x3x4096_S2x4096x3_0_2_1 (ix3 i j k) = pts (D := 3) x i j k := by
  unfold pts; pointwise

/-- A neighbour's place from the query's. -/
def awayV (x1 x2 : FVec Ideal S2x3x4096 .f32) (y : IVec S2x4096x16 32) : FVec Ideal S2x4096x16x3 .f32 :=
  subf (F := Ideal) (φ := .f32) (Host.gather gather_S8192x3_S2x4096x16x1_S2x4096x16x3_3_0_n_n_0_3_13 (shapeCast _ (transpose S2x4096x3 [0, 2, 1] x2 transposes_S2x3x4096_S2x4096x3_0_2_1) shapeCasts_S2x4096x3_S8192x3) (entriesV y))
    (broadcastInDim S2x4096x16x3 ![0, 1, 2, 3] bcast_S2x4096x1x3_S2x4096x16x3_0_1_2_3 (broadcastInDim S2x4096x1x3 ![0, 1, 3] bcast_S2x4096x3_S2x4096x1x3_0_1_3 (transpose S2x4096x3 [0, 2, 1] x1 transposes_S2x3x4096_S2x4096x3_0_2_1)))

theorem awayV_apply (x1 x2 : Vec Ideal S2x3x4096 .f32) (y : IVec S2x4096x16 32) (i : Fin 2) (j : Fin 4096) (n : Fin 16) (k : Fin 3) (h : (y (ix3 i j n)).toNat < 8192) :
    awayV x1 x2 y (ix4 i j n k) = atRow (pts (D := 3) x2) (rowAt y i j n) k - pts (D := 3) x1 i j k :=
  congrArg₂ (fun u v : EReal => u - v) ((point_apply _ y i j n k h).trans ((place_eq _ _ k).trans (points x2 _ _ k))) ((own_place _ i j n k).trans (points x1 i j k))

/-- The first layer's sum, from the features of both clouds. -/
def firstV (p1 p2 : FVec Ideal S2x4096x64 .f32) (x1 x2 : FVec Ideal S2x3x4096 .f32) (y : IVec S2x4096x16 32) (W : FVec Ideal S128x131 .f32)
    (b : FVec Ideal S128 .f32) : FVec Ideal S2x4096x16x128 .f32 :=
    addf (Host.dotGeneral (F := Ideal) (φ₁ := .f32) (φ₂ := .f32) dot_S2x4096x16x131_S128x131_S2x4096x16x128_3_1_012_0_n_n none ((concatenate S2x4096x16x131 3 [⟨S2x4096x16x64, ((broadcastInDim S2x4096x16x64 ![0, 1, 2, 3] bcast_S2x4096x1x64_S2x4096x16x64_0_1_2_3 (broadcastInDim S2x4096x1x64 ![0, 1, 3] bcast_S2x4096x64_S2x4096x1x64_0_1_3 p1)) : (⟨S2x4096x16x64, .f32⟩ : BufTy).Contents (Elt Ideal))⟩,
      ⟨S2x4096x16x64, ((Host.gather gather_S8192x64_S2x4096x16x1_S2x4096x16x64_3_0_n_n_0_3_164 (shapeCast _ p2 shapeCasts_S2x4096x64_S8192x64) (entriesV y)) : (⟨S2x4096x16x64, .f32⟩ : BufTy).Contents (Elt Ideal))⟩,
      ⟨S2x4096x16x3, (awayV x1 x2 y : (⟨S2x4096x16x3, .f32⟩ : BufTy).Contents (Elt Ideal))⟩] concatenates_S2x4096x16x64_S2x4096x16x64_S2x4096x16x3_S2x4096x16x131_d3 : (⟨S2x4096x16x131, .f32⟩ : BufTy).Contents (Elt Ideal))) W)
      (broadcastInDim S2x4096x16x128 ![0, 1, 2, 3] bcast_S1x1x1x128_S2x4096x16x128_0_1_2_3 (broadcastInDim S1x1x1x128 ![3] bcast_S128_S1x1x1x128_3 b))

theorem firstV_apply {p1 p2 : Vec Ideal S2x4096x64 .f32} {P1 P2 : Pts 64} (h1 : ∀ i j k, p1 (ix3 i j k) = P1 i j k) (h2 : ∀ i j k, p2 (ix3 i j k) = P2 i j k)
    (x1 x2 : Vec Ideal S2x3x4096 .f32) {y : IVec S2x4096x16 32} (hy : ∀ j, (y j).toNat < 8192) (W : Vec Ideal S128x131 .f32) (b : Vec Ideal S128 .f32)
    (i : Fin 2) (j : Fin 4096) (n : Fin 16) (l : Fin 128) :
    firstV p1 p2 x1 x2 y W b (ix4 i j n l)
      = firstSum P1 P2 (pts (D := 3) x1) (pts (D := 3) x2) (Spec.head (N := 131) W 64 (by omega)) (part (N := 131) W 64 64 (by omega)) (part (N := 131) W 128 3 (by omega)) (vec b) i j (rowAt y i j n) l := by
  refine (layer0_apply _ _ _ W b i j n l).trans ?_
  rw [awayV_apply x1 x2 y i j n 0 (hy _), awayV_apply x1 x2 y i j n 1 (hy _), awayV_apply x1 x2 y i j n 2 (hy _)]
  unfold firstSum
  refine congrArg (· + b (ix1 l)) (congrArg₂ (· + ·) (Finset.sum_congr rfl fun k _ => ?_) (congrArg₂ (· + ·) (Finset.sum_congr rfl fun k _ => ?_) rfl))
  · rw [own_feature, h1]; rfl
  · rw [feat_apply _ y i j n k (hy _), feature_eq, h2]; rfl

/-- The first layer's sum, from the features of both clouds. -/
def firstVWide (p1 p2 : FVec Ideal S2x4096x128 .f32) (x1 x2 : FVec Ideal S2x3x4096 .f32) (y : IVec S2x4096x16 32) (W : FVec Ideal S128x259 .f32)
    (b : FVec Ideal S128 .f32) : FVec Ideal S2x4096x16x128 .f32 :=
    addf (Host.dotGeneral (F := Ideal) (φ₁ := .f32) (φ₂ := .f32) dot_S2x4096x16x259_S128x259_S2x4096x16x128_3_1_012_0_n_n none ((concatenate S2x4096x16x259 3 [⟨S2x4096x16x128, ((broadcastInDim S2x4096x16x128 ![0, 1, 2, 3] bcast_S2x4096x1x128_S2x4096x16x128_0_1_2_3 (broadcastInDim S2x4096x1x128 ![0, 1, 3] bcast_S2x4096x128_S2x4096x1x128_0_1_3 p1)) : (⟨S2x4096x16x128, .f32⟩ : BufTy).Contents (Elt Ideal))⟩,
      ⟨S2x4096x16x128, ((Host.gather gather_S8192x128_S2x4096x16x1_S2x4096x16x128_3_0_n_n_0_3_1128 (shapeCast _ p2 shapeCasts_S2x4096x128_S8192x128) (entriesV y)) : (⟨S2x4096x16x128, .f32⟩ : BufTy).Contents (Elt Ideal))⟩,
      ⟨S2x4096x16x3, (awayV x1 x2 y : (⟨S2x4096x16x3, .f32⟩ : BufTy).Contents (Elt Ideal))⟩] concatenates_S2x4096x16x128_S2x4096x16x128_S2x4096x16x3_S2x4096x16x259_d3 : (⟨S2x4096x16x259, .f32⟩ : BufTy).Contents (Elt Ideal))) W)
      (broadcastInDim S2x4096x16x128 ![0, 1, 2, 3] bcast_S1x1x1x128_S2x4096x16x128_0_1_2_3 (broadcastInDim S1x1x1x128 ![3] bcast_S128_S1x1x1x128_3 b))

theorem firstVWide_apply {p1 p2 : Vec Ideal S2x4096x128 .f32} {P1 P2 : Pts 128} (h1 : ∀ i j k, p1 (ix3 i j k) = P1 i j k) (h2 : ∀ i j k, p2 (ix3 i j k) = P2 i j k)
    (x1 x2 : Vec Ideal S2x3x4096 .f32) {y : IVec S2x4096x16 32} (hy : ∀ j, (y j).toNat < 8192) (W : Vec Ideal S128x259 .f32) (b : Vec Ideal S128 .f32)
    (i : Fin 2) (j : Fin 4096) (n : Fin 16) (l : Fin 128) :
    firstVWide p1 p2 x1 x2 y W b (ix4 i j n l)
      = firstSum P1 P2 (pts (D := 3) x1) (pts (D := 3) x2) (Spec.head (N := 259) W 128 (by omega)) (part (N := 259) W 128 128 (by omega)) (part (N := 259) W 256 3 (by omega)) (vec b) i j (rowAt y i j n) l := by
  refine (layer0Wide_apply _ _ _ W b i j n l).trans ?_
  rw [awayV_apply x1 x2 y i j n 0 (hy _), awayV_apply x1 x2 y i j n 1 (hy _), awayV_apply x1 x2 y i j n 2 (hy _)]
  unfold firstSum
  refine congrArg (· + b (ix1 l)) (congrArg₂ (· + ·) (Finset.sum_congr rfl fun k _ => ?_) (congrArg₂ (· + ·) (Finset.sum_congr rfl fun k _ => ?_) rfl))
  · rw [own_wide, h1]; rfl
  · rw [wideFeat_apply _ y i j n k (hy _), wide_eq, h2]; rfl

/-- The greatest over the neighbours, with the queries last. -/
def topV (x : FVec Ideal S2x4096x16x128 .f32) : FVec Ideal S2x128x4096 .f32 :=
  transpose S2x128x4096 [0, 2, 1] (Host.reduce FloatOps.maximumf x (constant (F := Ideal) S_ .f32 0xFF800000#32) reducesTo_S2x4096x16x128_S2x4096x128_d2 h_S_)
    transposes_S2x4096x128_S2x128x4096_0_2_1

theorem two_apply {x : FVec Ideal S2x4096x16x128 .f32} {first : Fin 2 → Fin 4096 → Fin 8192 → Fin 128 → EReal} {y : Fin 2 → Fin 4096 → Fin 16 → Fin 8192}
    (hx : ∀ i j n l, x (ix4 i j n l) = first i j (y i j n) l) (W1 : FVec Ideal S128x128 .f32) (b1 : FVec Ideal S128 .f32) (W2 : FVec Ideal S128x128 .f32) (b2 : FVec Ideal S128 .f32)
    (i : Fin 2) (l : Fin 128) (j : Fin 4096) :
    topV (layerV (layerV (leakyV x) W1 b1) W2 b2) (ix3 i l j) = stageTwo first y (mat W1) (vec b1) (mat W2) (vec b2) i j l := by
  refine (top_apply _ i j l).trans (best_congr fun n => ?_)
  refine (layerV_apply _ _ _ i j n l).trans ?_
  refine layer_congr (fun _ _ => rfl) (fun _ => rfl) fun k => ?_
  refine (layerV_apply _ _ _ i j n k).trans ?_
  refine layer_congr (fun _ _ => rfl) (fun _ => rfl) fun k => ?_
  exact (leakyV_apply _ i j n k).trans (congrArg leaky (hx i j n k))

theorem one_apply {x : FVec Ideal S2x4096x16x128 .f32} {first : Fin 2 → Fin 4096 → Fin 8192 → Fin 128 → EReal} {y : Fin 2 → Fin 4096 → Fin 16 → Fin 8192}
    (hx : ∀ i j n l, x (ix4 i j n l) = first i j (y i j n) l) (W1 : FVec Ideal S128x128 .f32) (b1 : FVec Ideal S128 .f32)
    (i : Fin 2) (l : Fin 128) (j : Fin 4096) :
    topV (layerV (leakyV x) W1 b1) (ix3 i l j) = stageOne first y (mat W1) (vec b1) i j l := by
  refine (top_apply _ i j l).trans (best_congr fun n => ?_)
  refine (layerV_apply _ _ _ i j n l).trans ?_
  refine layer_congr (fun _ _ => rfl) (fun _ => rfl) fun k => ?_
  exact (leakyV_apply _ i j n k).trans (congrArg leaky (hx i j n k))

variable (V0 : Valuation τ sig (Elt Ideal))

/-- The reference's arguments. -/
def args : Args where
  x1 := V0 (Proc.devRef .tc main_arg0)
  x2 := V0 (Proc.devRef .tc main_arg1)
  p1 := V0 (Proc.devRef .tc main_arg2)
  p2 := V0 (Proc.devRef .tc main_arg3)
  y12 := V0 (Proc.devRef .tc main_arg4)
  y21 := V0 (Proc.devRef .tc main_arg5)
  w0 := V0 (Proc.devRef .tc main_arg6)
  b0 := V0 (Proc.devRef .tc main_arg7)
  w1 := V0 (Proc.devRef .tc main_arg8)
  b1 := V0 (Proc.devRef .tc main_arg9)
  w2 := V0 (Proc.devRef .tc main_arg10)
  b2 := V0 (Proc.devRef .tc main_arg11)
  u0 := V0 (Proc.devRef .tc main_arg12)
  c0 := V0 (Proc.devRef .tc main_arg13)
  u1 := V0 (Proc.devRef .tc main_arg14)
  c1 := V0 (Proc.devRef .tc main_arg15)

theorem first_one : Value.res_main_v29 V0 = firstV (transpose S2x4096x64 [0, 2, 1] (args V0).p1 transposes_S2x64x4096_S2x4096x64_0_2_1)
    (transpose S2x4096x64 [0, 2, 1] (args V0).p2 transposes_S2x64x4096_S2x4096x64_0_2_1) (args V0).x1 (args V0).x2 (args V0).y12 (args V0).w0 (args V0).b0 := rfl

theorem first_two : Value.res_main_v84 V0 = firstV (transpose S2x4096x64 [0, 2, 1] (args V0).p2 transposes_S2x64x4096_S2x4096x64_0_2_1)
    (transpose S2x4096x64 [0, 2, 1] (args V0).p1 transposes_S2x64x4096_S2x4096x64_0_2_1) (args V0).x2 (args V0).x1 (args V0).y21 (args V0).w0 (args V0).b0 := rfl

/-- The first result. -/
def outOne : FVec Ideal S2x128x4096 .f32 := topV (layerV (layerV (leakyV (Value.res_main_v29 V0)) (args V0).w1 (args V0).b1) (args V0).w2 (args V0).b2)
/-- The second result. -/
def outTwo : FVec Ideal S2x128x4096 .f32 := topV (layerV (layerV (leakyV (Value.res_main_v84 V0)) (args V0).w1 (args V0).b1) (args V0).w2 (args V0).b2)
/-- The third result. -/
def outThree : FVec Ideal S2x128x4096 .f32 := topV (layerV (leakyV (Value.res_main_v139 V0)) (args V0).u1 (args V0).c1)

theorem outOne_eq : topV (leakyV (Value.res_main_v47 V0)) = outOne V0 := rfl
theorem outTwo_eq : topV (leakyV (Value.res_main_v102 V0)) = outTwo V0 := rfl
theorem outThree_eq : topV (leakyV (Value.res_main_v148 V0)) = outThree V0 := rfl

theorem first_three : Value.res_main_v139 V0 = firstVWide (transpose S2x4096x128 [0, 2, 1] (outOne V0) transposes_S2x128x4096_S2x4096x128_0_2_1)
    (transpose S2x4096x128 [0, 2, 1] (outTwo V0) transposes_S2x128x4096_S2x4096x128_0_2_1) (args V0).x1 (args V0).x2 (args V0).y12 (args V0).u0 (args V0).c0 := rfl

theorem outOne_apply (h : (args V0).InTable) (i : Fin 2) (l : Fin 128) (j : Fin 4096) : outOne V0 (ix3 i l j) = (args V0).one i j l := by
  unfold outOne
  rw [first_one]
  exact two_apply (firstV_apply (features _) (features _) _ _ h.1 _ _) _ _ _ _ i l j

theorem outTwo_apply (h : (args V0).InTable) (i : Fin 2) (l : Fin 128) (j : Fin 4096) : outTwo V0 (ix3 i l j) = (args V0).two i j l := by
  unfold outTwo
  rw [first_two]
  exact two_apply (firstV_apply (features _) (features _) _ _ h.2 _ _) _ _ _ _ i l j

theorem outThree_apply (h : (args V0).InTable) (i : Fin 2) (l : Fin 128) (j : Fin 4096) : outThree V0 (ix3 i l j) = (args V0).three i j l := by
  unfold outThree
  rw [first_three]
  exact one_apply (firstVWide_apply (fun i j k => (wides _ i j k).trans (outOne_apply V0 h i k j)) (fun i j k => (wides _ i j k).trans (outTwo_apply V0 h i k j)) _ _ h.1 _ _) _ _ i l j

end Cert.Ref

end
-- ==== Proof.Agree.lean ====
/-
  The program's results and the reference's are the same, where the lists name rows of the table and the points and the weights
  that meet them are real numbers.
-/
module

public import proofs.«01_k».proof.Proof.FinalC
public import proofs.«01_k».proof.Proof.Ref

@[expose] public section

set_option maxRecDepth 16384

noncomputable section

namespace Cert.Agree

open Idealize.ShloMosaic Idealize.ShloMosaic.TcCoe Idealize.SL.Sem
open Cert.Spec Cert.Kernel.Launch

theorem args_congr {a b : Args} (e0 : a.x1 = b.x1) (e1 : a.x2 = b.x2) (e2 : a.p1 = b.p1) (e3 : a.p2 = b.p2) (e4 : a.y12 = b.y12) (e5 : a.y21 = b.y21) (e6 : a.w0 = b.w0) (e7 : a.b0 = b.b0) (e8 : a.w1 = b.w1) (e9 : a.b1 = b.b1) (e10 : a.w2 = b.w2) (e11 : a.b2 = b.b2) (e12 : a.u0 = b.u0) (e13 : a.c0 = b.c0) (e14 : a.u1 = b.u1) (e15 : a.c1 = b.c1) : a = b := by
  cases a; cases b
  dsimp only at e0 e1 e2 e3 e4 e5 e6 e7 e8 e9 e10 e11 e12 e13 e14 e15
  subst e0 e1 e2 e3 e4 e5 e6 e7 e8 e9 e10 e11 e12 e13 e14 e15
  rfl

variable (m : (ℓ : Loc Cert.Kernel.nD Cert.Kernel.τ Cert.Kernel.sig) → Buf (Elt Ideal) ℓ) (hpre : PreOK m) (c : Dev Cert.Kernel.nD)
  (V : Valuation Cert.ReferenceIdeal.τ Cert.ReferenceIdeal.sig (Elt Ideal))

include hpre in
theorem in_table : (Cert.Kernel.Final.args m c).InTable := ⟨hpre.1 c, hpre.2 c⟩

/-- An array with the queries last is known by its entries. -/
theorem columns_eq {x : Vec Ideal Cert.Kernel.S2x128x4096 .f32} {p : Pts 128} (h : ∀ i l j, x (ix3 i l j) = p i j l) : x = Cert.Kernel.Nets.columns p := by
  funext z
  obtain ⟨i, l, j, rfl⟩ : ∃ (i : Fin 2) (l : Fin 128) (j : Fin 4096), z = ix3 i l j := ⟨z 0, z 1, z 2, by
    funext a
    match a with
    | ⟨0, _⟩ => rfl
    | ⟨1, _⟩ => rfl
    | ⟨2, _⟩ => rfl⟩
  exact h i l j

section
variable (hf : (Cert.Kernel.Final.args m c).Finite) (ha : Cert.Ref.args V = Cert.Kernel.Final.args m c)
include hf ha

theorem one_eq : Cert.Ref.outOne V = V18 m hpre c (Proc.devRef .tc (Cert.Kernel.main_v20_1 : Ref Cert.Kernel.sig .tc)) :=
  (columns_eq fun i l j => (Cert.Ref.outOne_apply V (ha ▸ in_table m hpre c) i l j).trans (by rw [ha])).trans (Cert.Kernel.Final.result_one m hpre c hf).symm

theorem two_eq : Cert.Ref.outTwo V = V18 m hpre c (Proc.devRef .tc (Cert.Kernel.main_v37_1 : Ref Cert.Kernel.sig .tc)) :=
  (columns_eq fun i l j => (Cert.Ref.outTwo_apply V (ha ▸ in_table m hpre c) i l j).trans (by rw [ha])).trans (Cert.Kernel.Final.result_two m hpre c hf).symm

theorem three_eq : Cert.Ref.outThree V = V18 m hpre c (Proc.devRef .tc (Cert.Kernel.main_v52_1 : Ref Cert.Kernel.sig .tc)) :=
  (columns_eq fun i l j => (Cert.Ref.outThree_apply V (ha ▸ in_table m hpre c) i l j).trans (by rw [ha])).trans (Cert.Kernel.Final.V18_v52_1_eq m hpre c hf).symm

end

end Cert.Agree

end
-- ==== Proof.lean ====
/- The proof of the certificate's claim: the program runs and leaves its arguments alone, at both instances, and so does its
   reference; the idealization rewrites nothing; and at the ideal instance the program's results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_in_table
public import proofs.«01_k».proof.Proof.Gen.Pre_rows_in_table_finite
public import proofs.«01_k».proof.Proof.Launch
public import proofs.«01_k».proof.Proof.Same
public import proofs.«01_k».proof.Proof.SameThreads
public import proofs.«01_k».proof.Proof.Pre
public import proofs.«01_k».proof.Proof.Agree
public import Idealize.ShloMosaic.Lib.Quiescent

@[expose] public section

set_option maxHeartbeats 0
set_option maxRecDepth 100000

noncomputable section

namespace Cert.Proof

open Idealize.ShloMosaic Idealize.SL.Sem

/-- The contents of the idealization's memory. -/
abbrev MemIdeal := (ℓ : Loc Cert.KernelIdeal.nD Cert.KernelIdeal.τ Cert.KernelIdeal.sig) → Buf (Elt Ideal) ℓ

theorem ok (m : (ℓ : Loc Cert.Kernel.nD Cert.Kernel.τ Cert.Kernel.sig) → Buf (Elt Bits) ℓ) (h : Cert.Pre_Kernel m) : Cert.Kernel.Launch.PreOK (F := Bits) m :=
  ⟨fun d j => (Cert.Pre.in_table _ _ _ _ _ _ _ _ _ _ _ _ _ _ _ _ (h d)).1 j, fun d j => (Cert.Pre.in_table _ _ _ _ _ _ _ _ _ _ _ _ _ _ _ _ (h d)).2 j⟩

theorem okIdeal (m : MemIdeal) (h : Cert.Pre_KernelIdeal m) : Cert.Kernel.Launch.PreOK (F := Ideal) m :=
  ⟨fun d j => (Cert.Pre.in_table _ _ _ _ _ _ _ _ _ _ _ _ _ _ _ _ (h d)).1 j, fun d j => (Cert.Pre.in_table _ _ _ _ _ _ _ _ _ _ _ _ _ _ _ _ (h d)).2 j⟩

theorem okFinite (m : MemIdeal) (h : Cert.Pre_KernelIdeal_rows_in_table_finite m) : Cert.Kernel.Launch.PreOK (F := Ideal) m :=
  ⟨fun d j => (Cert.Pre.in_table_finite _ _ _ _ _ _ _ _ _ _ _ _ _ _ _ _ (h d)).1 j, fun d j => (Cert.Pre.in_table_finite _ _ _ _ _ _ _ _ _ _ _ _ _ _ _ _ (h d)).2.1 j⟩

theorem finite (m : MemIdeal) (h : Cert.Pre_KernelIdeal_rows_in_table_finite m) (c : Dev Cert.Kernel.nD) : (Cert.Kernel.Final.args m c).Finite :=
  have f := (Cert.Pre.in_table_finite _ _ _ _ _ _ _ _ _ _ _ _ _ _ _ _ (h c)).2.2
  ⟨fun i j k => f.1 (ix3 i k j), fun i j k => f.2.1 (ix3 i k j), f.2.2.1, f.2.2.2⟩

/-- Equal programs with equal bodies run alike. -/
theorem run_congr {Λ : Labels} {d d' : Defs Cert.KernelIdeal.nD Cert.KernelIdeal.τ Cert.KernelIdeal.sig (Elt Ideal) Λ}
    {p p' : (c : Thread Cert.KernelIdeal.nD Cert.KernelIdeal.τ) → Prog (TpuEff Cert.KernelIdeal.nD Cert.KernelIdeal.τ Cert.KernelIdeal.sig (Elt Ideal) Λ c.2) PUnit}
    (hd : d = d') (hp : p = p') {s : MemSt Cert.KernelIdeal.nD Cert.KernelIdeal.τ Cert.KernelIdeal.sig (Elt Ideal)} {Q} (h : θ_run d' p' s Q) : θ_run d p s Q := by
  subst hd hp
  exact h

/-- The idealization runs as the kernel does. -/
theorem run_ideal (m : MemIdeal) (g : Dev Cert.KernelIdeal.nD → PrngReg) (hpre : Cert.Kernel.Launch.PreOK (F := Ideal) m) :
    θ_run (Cert.KernelIdeal.defs (F := Ideal)) (Cert.KernelIdeal.threads (F := Ideal)) ⟨m, fun _ => 0, g⟩ (Cert.Kernel.Launch.QC m hpre) :=
  run_congr Cert.Same.defs_eq Cert.Same.threads_eq (Cert.Kernel.Launch.run_main m g hpre)

theorem frame : Cert.quiescent_Kernel := fun m g h =>
  (θ_run Cert.Kernel.defs _ _).mono (fun _ e => ⟨fun c => Cert.Kernel.Launch.kept_args e c, e.2⟩) (Cert.Kernel.Launch.run_main m g (ok m h))

theorem frameIdeal : Cert.quiescent_KernelIdeal := fun m g h =>
  (θ_run Cert.KernelIdeal.defs _ _).mono (fun _ e => ⟨fun c => Cert.Kernel.Launch.kept_args e c, e.2⟩) (run_ideal m g (okIdeal m h))

theorem frameFinite : Cert.quiescent_KernelIdeal_pre_rows_in_table_finite := fun m g h =>
  (θ_run Cert.KernelIdeal.defs _ _).mono (fun _ e => ⟨fun c => Cert.Kernel.Launch.kept_args e c, e.2⟩) (run_ideal m g (okFinite m h))

theorem frameReference : Cert.quiescent_ReferenceIdeal := fun m g _ =>
  (θ_run Cert.ReferenceIdeal.defs _ _).mono (fun r e => ⟨fun c => (e c).2.2.2, sem_eq_zero_of_no_sems (by decide) r.2⟩) (Cert.ReferenceIdeal.Value.run m g)

theorem frameReferenceFinite : Cert.quiescent_ReferenceIdeal_pre_rows_in_table_finite := fun m g _ =>
  (θ_run Cert.ReferenceIdeal.defs _ _).mono (fun r e => ⟨fun c => (e c).2.2.2, sem_eq_zero_of_no_sems (by decide) r.2⟩) (Cert.ReferenceIdeal.Value.run m g)

/-- The program's results are the reference's. -/
theorem algebraic : Cert.algebraic_KernelIdeal_ReferenceIdeal_pre_rows_in_table_finite := fun m g m' g' h hm => by
  have ha (c : Dev Cert.Kernel.nD) : Cert.Ref.args (StableHlo.launchContents m' c) = Cert.Kernel.Final.args m c := by
    obtain ⟨e0, e1, e2, e3, e4, e5, e6, e7, e8, e9, e10, e11, e12, e13, e14, e15⟩ := hm c
    exact Cert.Agree.args_congr e0 e1 e2 e3 e4 e5 e6 e7 e8 e9 e10 e11 e12 e13 e14 e15
  refine ⟨fun c => Cert.Kernel.Launch.V18 m (okFinite m h) c (Proc.devRef .tc (Cert.Kernel.main_v20_1 : Ref Cert.Kernel.sig .tc)),
    fun c => Cert.Kernel.Launch.V18 m (okFinite m h) c (Proc.devRef .tc (Cert.Kernel.main_v37_1 : Ref Cert.Kernel.sig .tc)),
    fun c => Cert.Kernel.Launch.V18 m (okFinite m h) c (Proc.devRef .tc (Cert.Kernel.main_v52_1 : Ref Cert.Kernel.sig .tc)),
    (θ_run Cert.KernelIdeal.defs Cert.KernelIdeal.threads _).mono
      (fun _ e c => ⟨e.1 c _ (Cert.Kernel.Region.uc_mem rfl), e.1 c _ (Cert.Kernel.Region.uc_mem rfl), e.1 c _ (Cert.Kernel.Region.uc_mem rfl), Cert.Kernel.Launch.kept_args e c⟩)
      (run_ideal m g (okFinite m h)),
    (θ_run Cert.ReferenceIdeal.defs _ _).mono (fun _ e c => ⟨?_, ?_, ?_, (e c).2.2.2⟩) (Cert.ReferenceIdeal.Value.run m' g')⟩
  · exact (e c).1.trans ((Cert.Ref.outOne_eq (StableHlo.launchContents m' c)).trans (Cert.Agree.one_eq m (okFinite m h) c (StableHlo.launchContents m' c) (finite m h c) (ha c)))
  · exact (e c).2.1.trans ((Cert.Ref.outTwo_eq (StableHlo.launchContents m' c)).trans (Cert.Agree.two_eq m (okFinite m h) c (StableHlo.launchContents m' c) (finite m h c) (ha c)))
  · exact (e c).2.2.1.trans ((Cert.Ref.outThree_eq (StableHlo.launchContents m' c)).trans (Cert.Agree.three_eq m (okFinite m h) c (StableHlo.launchContents m' c) (finite m h c) (ha c)))

theorem claim : Cert.Claim :=
  ⟨Cert.Kernel.Gen.facts, Cert.KernelIdeal.Gen.facts, Cert.ReferenceIdeal.Gen.facts, Cert.Pre_rows_in_table.Gen.facts, Cert.Pre_rows_in_table_finite.Gen.facts,
    frame, frameIdeal, frameFinite, frameReference, frameReferenceFinite, trivial, algebraic⟩

end Cert.Proof

end
